-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Expert [hPre_experts_in_range : Cert.Pre_experts_in_range.Facts] (m : (ℓ : Loc Cert.Expert.nD Cert.Expert.τ Cert.Expert.sig) → Buf (Elt Bits) ℓ) : Prop :=
  ∀ c : Dev Cert.Expert.nD,
    (Cert.Pre_experts_in_range.fn (F := Bits) (m ((c.tc : Thread Cert.Expert.nD Cert.Expert.τ).loc Cert.Expert.main_arg0)) (m ((c.tc : Thread Cert.Expert.nD Cert.Expert.τ).loc Cert.Expert.main_arg1)) (m ((c.tc : Thread Cert.Expert.nD Cert.Expert.τ).loc Cert.Expert.main_arg2)) (m ((c.tc : Thread Cert.Expert.nD Cert.Expert.τ).loc Cert.Expert.main_arg3)) (m ((c.tc : Thread Cert.Expert.nD Cert.Expert.τ).loc Cert.Expert.main_arg4)) (m ((c.tc : Thread Cert.Expert.nD Cert.Expert.τ).loc Cert.Expert.main_arg5))) = (fun _ => 1#1)

def Pre_ExpertIdeal [hPre_experts_in_range : Cert.Pre_experts_in_range.Facts] (m : (ℓ : Loc Cert.ExpertIdeal.nD Cert.ExpertIdeal.τ Cert.ExpertIdeal.sig) → Buf (Elt Ideal) ℓ) : Prop :=
  ∀ c : Dev Cert.ExpertIdeal.nD,
    (Cert.Pre_experts_in_range.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4)) (m ((c.tc : Thread Cert.ExpertIdeal.nD Cert.ExpertIdeal.τ).loc Cert.ExpertIdeal.main_arg5))) = (fun _ => 1#1)

def Pre_ExpertReferenceIdeal (m : (ℓ : Loc Cert.ExpertReferenceIdeal.nD Cert.ExpertReferenceIdeal.τ Cert.ExpertReferenceIdeal.sig) → Buf (Elt Ideal) ℓ) : Prop :=
  True

def Pre_ExpertReferenceIdeal_experts_in_range [hPre_experts_in_range : Cert.Pre_experts_in_range.Facts] (m : (ℓ : Loc Cert.ExpertReferenceIdeal.nD Cert.ExpertReferenceIdeal.τ Cert.ExpertReferenceIdeal.sig) → Buf (Elt Ideal) ℓ) : Prop :=
  ∀ c : Dev Cert.ExpertReferenceIdeal.nD,
    (Cert.Pre_experts_in_range.fn (F := Ideal) (m ((c.tc : Thread Cert.ExpertReferenceIdeal.nD Cert.ExpertReferenceIdeal.τ).loc Cert.ExpertReferenceIdeal.main_arg0)) (m ((c.tc : Thread Cert.ExpertReferenceIdeal.nD Cert.ExpertReferenceIdeal.τ).loc Cert.ExpertReferenceIdeal.main_arg1)) (m ((c.tc : Thread Cert.ExpertReferenceIdeal.nD Cert.ExpertReferenceIdeal.τ).loc Cert.ExpertReferenceIdeal.main_arg2)) (m ((c.tc : Thread Cert.ExpertReferenceIdeal.nD Cert.ExpertReferenceIdeal.τ).loc Cert.ExpertReferenceIdeal.main_arg3)) (m ((c.tc : Thread Cert.ExpertReferenceIdeal.nD Cert.ExpertReferenceIdeal.τ).loc Cert.ExpertReferenceIdeal.main_arg4)) (m ((c.tc : Thread Cert.ExpertReferenceIdeal.nD Cert.ExpertReferenceIdeal.τ).loc Cert.ExpertReferenceIdeal.main_arg5))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectSample (m : (ℓ : Loc Cert.ProjectSample.nD Cert.ProjectSample.τ Cert.ProjectSample.sig) → Buf (Elt Bits) ℓ) : Prop :=
  True

def Pre_ProjectSampleIdeal (m : (ℓ : Loc Cert.ProjectSampleIdeal.nD Cert.ProjectSampleIdeal.τ Cert.ProjectSampleIdeal.sig) → Buf (Elt Ideal) ℓ) : Prop :=
  True

def Pre_ProjectSampleReferenceIdeal (m : (ℓ : Loc Cert.ProjectSampleReferenceIdeal.nD Cert.ProjectSampleReferenceIdeal.τ Cert.ProjectSampleReferenceIdeal.sig) → Buf (Elt Ideal) ℓ) : Prop :=
  True

def Pre_ProjectNorm (m : (ℓ : Loc Cert.ProjectNorm.nD Cert.ProjectNorm.τ Cert.ProjectNorm.sig) → Buf (Elt Bits) ℓ) : Prop :=
  True

def Pre_ProjectNormIdeal (m : (ℓ : Loc Cert.ProjectNormIdeal.nD Cert.ProjectNormIdeal.τ Cert.ProjectNormIdeal.sig) → Buf (Elt Ideal) ℓ) : Prop :=
  True

def Pre_ProjectNormIdeal_queries_finite [hPre_queries_finite : Cert.Pre_queries_finite.Facts] (m : (ℓ : Loc Cert.ProjectNormIdeal.nD Cert.ProjectNormIdeal.τ Cert.ProjectNormIdeal.sig) → Buf (Elt Ideal) ℓ) : Prop :=
  ∀ c : Dev Cert.ProjectNormIdeal.nD,
    (Cert.Pre_queries_finite.fn (F := Ideal) (m ((c.tc : Thread Cert.ProjectNormIdeal.nD Cert.ProjectNormIdeal.τ).loc Cert.ProjectNormIdeal.main_arg0)) (m ((c.tc : Thread Cert.ProjectNormIdeal.nD Cert.ProjectNormIdeal.τ).loc Cert.ProjectNormIdeal.main_arg1)) (m ((c.tc : Thread Cert.ProjectNormIdeal.nD Cert.ProjectNormIdeal.τ).loc Cert.ProjectNormIdeal.main_arg2)) (m ((c.tc : Thread Cert.ProjectNormIdeal.nD Cert.ProjectNormIdeal.τ).loc Cert.ProjectNormIdeal.main_arg3)) (m ((c.tc : Thread Cert.ProjectNormIdeal.nD Cert.ProjectNormIdeal.τ).loc Cert.ProjectNormIdeal.main_arg4)) (m ((c.tc : Thread Cert.ProjectNormIdeal.nD Cert.ProjectNormIdeal.τ).loc Cert.ProjectNormIdeal.main_arg5)) (m ((c.tc : Thread Cert.ProjectNormIdeal.nD Cert.ProjectNormIdeal.τ).loc Cert.ProjectNormIdeal.main_arg6))).1 = (fun _ => 1#1)
    ∧ (Cert.Pre_queries_finite.fn (F := Ideal) (m ((c.tc : Thread Cert.ProjectNormIdeal.nD Cert.ProjectNormIdeal.τ).loc Cert.ProjectNormIdeal.main_arg0)) (m ((c.tc : Thread Cert.ProjectNormIdeal.nD Cert.ProjectNormIdeal.τ).loc Cert.ProjectNormIdeal.main_arg1)) (m ((c.tc : Thread Cert.ProjectNormIdeal.nD Cert.ProjectNormIdeal.τ).loc Cert.ProjectNormIdeal.main_arg2)) (m ((c.tc : Thread Cert.ProjectNormIdeal.nD Cert.ProjectNormIdeal.τ).loc Cert.ProjectNormIdeal.main_arg3)) (m ((c.tc : Thread Cert.ProjectNormIdeal.nD Cert.ProjectNormIdeal.τ).loc Cert.ProjectNormIdeal.main_arg4)) (m ((c.tc : Thread Cert.ProjectNormIdeal.nD Cert.ProjectNormIdeal.τ).loc Cert.ProjectNormIdeal.main_arg5)) (m ((c.tc : Thread Cert.ProjectNormIdeal.nD Cert.ProjectNormIdeal.τ).loc Cert.ProjectNormIdeal.main_arg6))).2.1 = (fun _ => 1#1)
    ∧ (Cert.Pre_queries_finite.fn (F := Ideal) (m ((c.tc : Thread Cert.ProjectNormIdeal.nD Cert.ProjectNormIdeal.τ).loc Cert.ProjectNormIdeal.main_arg0)) (m ((c.tc : Thread Cert.ProjectNormIdeal.nD Cert.ProjectNormIdeal.τ).loc Cert.ProjectNormIdeal.main_arg1)) (m ((c.tc : Thread Cert.ProjectNormIdeal.nD Cert.ProjectNormIdeal.τ).loc Cert.ProjectNormIdeal.main_arg2)) (m ((c.tc : Thread Cert.ProjectNormIdeal.nD Cert.ProjectNormIdeal.τ).loc Cert.ProjectNormIdeal.main_arg3)) (m ((c.tc : Thread Cert.ProjectNormIdeal.nD Cert.ProjectNormIdeal.τ).loc Cert.ProjectNormIdeal.main_arg4)) (m ((c.tc : Thread Cert.ProjectNormIdeal.nD Cert.ProjectNormIdeal.τ).loc Cert.ProjectNormIdeal.main_arg5)) (m ((c.tc : Thread Cert.ProjectNormIdeal.nD Cert.ProjectNormIdeal.τ).loc Cert.ProjectNormIdeal.main_arg6))).2.2.1 = (fun _ => 1#1)
    ∧ (Cert.Pre_queries_finite.fn (F := Ideal) (m ((c.tc : Thread Cert.ProjectNormIdeal.nD Cert.ProjectNormIdeal.τ).loc Cert.ProjectNormIdeal.main_arg0)) (m ((c.tc : Thread Cert.ProjectNormIdeal.nD Cert.ProjectNormIdeal.τ).loc Cert.ProjectNormIdeal.main_arg1)) (m ((c.tc : Thread Cert.ProjectNormIdeal.nD Cert.ProjectNormIdeal.τ).loc Cert.ProjectNormIdeal.main_arg2)) (m ((c.tc : Thread Cert.ProjectNormIdeal.nD Cert.ProjectNormIdeal.τ).loc Cert.ProjectNormIdeal.main_arg3)) (m ((c.tc : Thread Cert.ProjectNormIdeal.nD Cert.ProjectNormIdeal.τ).loc Cert.ProjectNormIdeal.main_arg4)) (m ((c.tc : Thread Cert.ProjectNormIdeal.nD Cert.ProjectNormIdeal.τ).loc Cert.ProjectNormIdeal.main_arg5)) (m ((c.tc : Thread Cert.ProjectNormIdeal.nD Cert.ProjectNormIdeal.τ).loc Cert.ProjectNormIdeal.main_arg6))).2.2.2 = (fun _ => 1#1)

def Pre_ProjectNormReferenceIdeal (m : (ℓ : Loc Cert.ProjectNormReferenceIdeal.nD Cert.ProjectNormReferenceIdeal.τ Cert.ProjectNormReferenceIdeal.sig) → Buf (Elt Ideal) ℓ) : Prop :=
  True

def Pre_ProjectNormReferenceIdeal_queries_finite [hPre_queries_finite : Cert.Pre_queries_finite.Facts] (m : (ℓ : Loc Cert.ProjectNormReferenceIdeal.nD Cert.ProjectNormReferenceIdeal.τ Cert.ProjectNormReferenceIdeal.sig) → Buf (Elt Ideal) ℓ) : Prop :=
  ∀ c : Dev Cert.ProjectNormReferenceIdeal.nD,
    (Cert.Pre_queries_finite.fn (F := Ideal) (m ((c.tc : Thread Cert.ProjectNormReferenceIdeal.nD Cert.ProjectNormReferenceIdeal.τ).loc Cert.ProjectNormReferenceIdeal.main_arg0)) (m ((c.tc : Thread Cert.ProjectNormReferenceIdeal.nD Cert.ProjectNormReferenceIdeal.τ).loc Cert.ProjectNormReferenceIdeal.main_arg1)) (m ((c.tc : Thread Cert.ProjectNormReferenceIdeal.nD Cert.ProjectNormReferenceIdeal.τ).loc Cert.ProjectNormReferenceIdeal.main_arg2)) (m ((c.tc : Thread Cert.ProjectNormReferenceIdeal.nD Cert.ProjectNormReferenceIdeal.τ).loc Cert.ProjectNormReferenceIdeal.main_arg3)) (m ((c.tc : Thread Cert.ProjectNormReferenceIdeal.nD Cert.ProjectNormReferenceIdeal.τ).loc Cert.ProjectNormReferenceIdeal.main_arg4)) (m ((c.tc : Thread Cert.ProjectNormReferenceIdeal.nD Cert.ProjectNormReferenceIdeal.τ).loc Cert.ProjectNormReferenceIdeal.main_arg5)) (m ((c.tc : Thread Cert.ProjectNormReferenceIdeal.nD Cert.ProjectNormReferenceIdeal.τ).loc Cert.ProjectNormReferenceIdeal.main_arg6))).1 = (fun _ => 1#1)
    ∧ (Cert.Pre_queries_finite.fn (F := Ideal) (m ((c.tc : Thread Cert.ProjectNormReferenceIdeal.nD Cert.ProjectNormReferenceIdeal.τ).loc Cert.ProjectNormReferenceIdeal.main_arg0)) (m ((c.tc : Thread Cert.ProjectNormReferenceIdeal.nD Cert.ProjectNormReferenceIdeal.τ).loc Cert.ProjectNormReferenceIdeal.main_arg1)) (m ((c.tc : Thread Cert.ProjectNormReferenceIdeal.nD Cert.ProjectNormReferenceIdeal.τ).loc Cert.ProjectNormReferenceIdeal.main_arg2)) (m ((c.tc : Thread Cert.ProjectNormReferenceIdeal.nD Cert.ProjectNormReferenceIdeal.τ).loc Cert.ProjectNormReferenceIdeal.main_arg3)) (m ((c.tc : Thread Cert.ProjectNormReferenceIdeal.nD Cert.ProjectNormReferenceIdeal.τ).loc Cert.ProjectNormReferenceIdeal.main_arg4)) (m ((c.tc : Thread Cert.ProjectNormReferenceIdeal.nD Cert.ProjectNormReferenceIdeal.τ).loc Cert.ProjectNormReferenceIdeal.main_arg5)) (m ((c.tc : Thread Cert.ProjectNormReferenceIdeal.nD Cert.ProjectNormReferenceIdeal.τ).loc Cert.ProjectNormReferenceIdeal.main_arg6))).2.1 = (fun _ => 1#1)
    ∧ (Cert.Pre_queries_finite.fn (F := Ideal) (m ((c.tc : Thread Cert.ProjectNormReferenceIdeal.nD Cert.ProjectNormReferenceIdeal.τ).loc Cert.ProjectNormReferenceIdeal.main_arg0)) (m ((c.tc : Thread Cert.ProjectNormReferenceIdeal.nD Cert.ProjectNormReferenceIdeal.τ).loc Cert.ProjectNormReferenceIdeal.main_arg1)) (m ((c.tc : Thread Cert.ProjectNormReferenceIdeal.nD Cert.ProjectNormReferenceIdeal.τ).loc Cert.ProjectNormReferenceIdeal.main_arg2)) (m ((c.tc : Thread Cert.ProjectNormReferenceIdeal.nD Cert.ProjectNormReferenceIdeal.τ).loc Cert.ProjectNormReferenceIdeal.main_arg3)) (m ((c.tc : Thread Cert.ProjectNormReferenceIdeal.nD Cert.ProjectNormReferenceIdeal.τ).loc Cert.ProjectNormReferenceIdeal.main_arg4)) (m ((c.tc : Thread Cert.ProjectNormReferenceIdeal.nD Cert.ProjectNormReferenceIdeal.τ).loc Cert.ProjectNormReferenceIdeal.main_arg5)) (m ((c.tc : Thread Cert.ProjectNormReferenceIdeal.nD Cert.ProjectNormReferenceIdeal.τ).loc Cert.ProjectNormReferenceIdeal.main_arg6))).2.2.1 = (fun _ => 1#1)
    ∧ (Cert.Pre_queries_finite.fn (F := Ideal) (m ((c.tc : Thread Cert.ProjectNormReferenceIdeal.nD Cert.ProjectNormReferenceIdeal.τ).loc Cert.ProjectNormReferenceIdeal.main_arg0)) (m ((c.tc : Thread Cert.ProjectNormReferenceIdeal.nD Cert.ProjectNormReferenceIdeal.τ).loc Cert.ProjectNormReferenceIdeal.main_arg1)) (m ((c.tc : Thread Cert.ProjectNormReferenceIdeal.nD Cert.ProjectNormReferenceIdeal.τ).loc Cert.ProjectNormReferenceIdeal.main_arg2)) (m ((c.tc : Thread Cert.ProjectNormReferenceIdeal.nD Cert.ProjectNormReferenceIdeal.τ).loc Cert.ProjectNormReferenceIdeal.main_arg3)) (m ((c.tc : Thread Cert.ProjectNormReferenceIdeal.nD Cert.ProjectNormReferenceIdeal.τ).loc Cert.ProjectNormReferenceIdeal.main_arg4)) (m ((c.tc : Thread Cert.ProjectNormReferenceIdeal.nD Cert.ProjectNormReferenceIdeal.τ).loc Cert.ProjectNormReferenceIdeal.main_arg5)) (m ((c.tc : Thread Cert.ProjectNormReferenceIdeal.nD Cert.ProjectNormReferenceIdeal.τ).loc Cert.ProjectNormReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Expert [hExpert : Cert.Expert.Facts] [hPre_experts_in_range : Cert.Pre_experts_in_range.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3)
      ∧ r.2.mem ((c.tc : Thread Cert.Expert.nD Cert.Expert.τ).loc Cert.Expert.main_arg4) = m ((c.tc : Thread Cert.Expert.nD Cert.Expert.τ).loc Cert.Expert.main_arg4)
      ∧ r.2.mem ((c.tc : Thread Cert.Expert.nD Cert.Expert.τ).loc Cert.Expert.main_arg5) = m ((c.tc : Thread Cert.Expert.nD Cert.Expert.τ).loc Cert.Expert.main_arg5))
      ∧ r.2.sem = fun _ => 0)

def quiescent_ExpertIdeal [hExpertIdeal : Cert.ExpertIdeal.Facts] [hPre_experts_in_range : Cert.Pre_experts_in_range.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
      ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5))
      ∧ r.2.sem = fun _ => 0)

def quiescent_ExpertReferenceIdeal [hExpertReferenceIdeal : Cert.ExpertReferenceIdeal.Facts] : Prop :=
  ∀ (m : (ℓ : Loc Cert.ExpertReferenceIdeal.nD Cert.ExpertReferenceIdeal.τ Cert.ExpertReferenceIdeal.sig) → Buf (Elt Ideal) ℓ) (g : Dev Cert.ExpertReferenceIdeal.nD → PrngReg), Pre_ExpertReferenceIdeal m →
    θ_run (Cert.ExpertReferenceIdeal.defs (F := Ideal)) (onTc (τ := Cert.ExpertReferenceIdeal.τ) (Cert.ExpertReferenceIdeal.main (F := Ideal))) ⟨m, fun _ => 0, g⟩ (fun r => (∀ c : Dev Cert.ExpertReferenceIdeal.nD,
      r.2.mem ((c.tc : Thread Cert.ExpertReferenceIdeal.nD Cert.ExpertReferenceIdeal.τ).loc Cert.ExpertReferenceIdeal.main_arg0) = m ((c.tc : Thread Cert.ExpertReferenceIdeal.nD Cert.ExpertReferenceIdeal.τ).loc Cert.ExpertReferenceIdeal.main_arg0)
      ∧ r.2.mem ((c.tc : Thread Cert.ExpertReferenceIdeal.nD Cert.ExpertReferenceIdeal.τ).loc Cert.ExpertReferenceIdeal.main_arg1) = m ((c.tc : Thread Cert.ExpertReferenceIdeal.nD Cert.ExpertReferenceIdeal.τ).loc Cert.ExpertReferenceIdeal.main_arg1)
      ∧ r.2.mem ((c.tc : Thread Cert.ExpertReferenceIdeal.nD Cert.ExpertReferenceIdeal.τ).loc Cert.ExpertReferenceIdeal.main_arg2) = m ((c.tc : Thread Cert.ExpertReferenceIdeal.nD Cert.ExpertReferenceIdeal.τ).loc Cert.ExpertReferenceIdeal.main_arg2)
      ∧ r.2.mem ((c.tc : Thread Cert.ExpertReferenceIdeal.nD Cert.ExpertReferenceIdeal.τ).loc Cert.ExpertReferenceIdeal.main_arg3) = m ((c.tc : Thread Cert.ExpertReferenceIdeal.nD Cert.ExpertReferenceIdeal.τ).loc Cert.ExpertReferenceIdeal.main_arg3)
      ∧ r.2.mem ((c.tc : Thread Cert.ExpertReferenceIdeal.nD Cert.ExpertReferenceIdeal.τ).loc Cert.ExpertReferenceIdeal.main_arg4) = m ((c.tc : Thread Cert.ExpertReferenceIdeal.nD Cert.ExpertReferenceIdeal.τ).loc Cert.ExpertReferenceIdeal.main_arg4)
      ∧ r.2.mem ((c.tc : Thread Cert.ExpertReferenceIdeal.nD Cert.ExpertReferenceIdeal.τ).loc Cert.ExpertReferenceIdeal.main_arg5) = m ((c.tc : Thread Cert.ExpertReferenceIdeal.nD Cert.ExpertReferenceIdeal.τ).loc Cert.ExpertReferenceIdeal.main_arg5))
      ∧ r.2.sem = fun _ => 0)

def quiescent_ExpertReferenceIdeal_pre_experts_in_range [hExpertReferenceIdeal : Cert.ExpertReferenceIdeal.Facts] [hPre_experts_in_range : Cert.Pre_experts_in_range.Facts] : Prop :=
  ∀ (m : (ℓ : Loc Cert.ExpertReferenceIdeal.nD Cert.ExpertReferenceIdeal.τ Cert.ExpertReferenceIdeal.sig) → Buf (Elt Ideal) ℓ) (g : Dev Cert.ExpertReferenceIdeal.nD → PrngReg), Pre_ExpertReferenceIdeal_experts_in_range m →
    θ_run (Cert.ExpertReferenceIdeal.defs (F := Ideal)) (onTc (τ := Cert.ExpertReferenceIdeal.τ) (Cert.ExpertReferenceIdeal.main (F := Ideal))) ⟨m, fun _ => 0, g⟩ (fun r => (∀ c : Dev Cert.ExpertReferenceIdeal.nD,
      r.2.mem ((c.tc : Thread Cert.ExpertReferenceIdeal.nD Cert.ExpertReferenceIdeal.τ).loc Cert.ExpertReferenceIdeal.main_arg0) = m ((c.tc : Thread Cert.ExpertReferenceIdeal.nD Cert.ExpertReferenceIdeal.τ).loc Cert.ExpertReferenceIdeal.main_arg0)
      ∧ r.2.mem ((c.tc : Thread Cert.ExpertReferenceIdeal.nD Cert.ExpertReferenceIdeal.τ).loc Cert.ExpertReferenceIdeal.main_arg1) = m ((c.tc : Thread Cert.ExpertReferenceIdeal.nD Cert.ExpertReferenceIdeal.τ).loc Cert.ExpertReferenceIdeal.main_arg1)
      ∧ r.2.mem ((c.tc : Thread Cert.ExpertReferenceIdeal.nD Cert.ExpertReferenceIdeal.τ).loc Cert.ExpertReferenceIdeal.main_arg2) = m ((c.tc : Thread Cert.ExpertReferenceIdeal.nD Cert.ExpertReferenceIdeal.τ).loc Cert.ExpertReferenceIdeal.main_arg2)
      ∧ r.2.mem ((c.tc : Thread Cert.ExpertReferenceIdeal.nD Cert.ExpertReferenceIdeal.τ).loc Cert.ExpertReferenceIdeal.main_arg3) = m ((c.tc : Thread Cert.ExpertReferenceIdeal.nD Cert.ExpertReferenceIdeal.τ).loc Cert.ExpertReferenceIdeal.main_arg3)
      ∧ r.2.mem ((c.tc : Thread Cert.ExpertReferenceIdeal.nD Cert.ExpertReferenceIdeal.τ).loc Cert.ExpertReferenceIdeal.main_arg4) = m ((c.tc : Thread Cert.ExpertReferenceIdeal.nD Cert.ExpertReferenceIdeal.τ).loc Cert.ExpertReferenceIdeal.main_arg4)
      ∧ r.2.mem ((c.tc : Thread Cert.ExpertReferenceIdeal.nD Cert.ExpertReferenceIdeal.τ).loc Cert.ExpertReferenceIdeal.main_arg5) = m ((c.tc : Thread Cert.ExpertReferenceIdeal.nD Cert.ExpertReferenceIdeal.τ).loc Cert.ExpertReferenceIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7)
      ∧ r.2.mem ((c.tc : Thread Cert.Dense.nD Cert.Dense.τ).loc Cert.Dense.main_arg8) = m ((c.tc : Thread Cert.Dense.nD Cert.Dense.τ).loc Cert.Dense.main_arg8)
      ∧ r.2.mem ((c.tc : Thread Cert.Dense.nD Cert.Dense.τ).loc Cert.Dense.main_arg9) = m ((c.tc : Thread Cert.Dense.nD Cert.Dense.τ).loc Cert.Dense.main_arg9)
      ∧ r.2.mem ((c.tc : Thread Cert.Dense.nD Cert.Dense.τ).loc Cert.Dense.main_arg10) = m ((c.tc : Thread Cert.Dense.nD Cert.Dense.τ).loc Cert.Dense.main_arg10)
      ∧ r.2.mem ((c.tc : Thread Cert.Dense.nD Cert.Dense.τ).loc Cert.Dense.main_arg11) = m ((c.tc : Thread Cert.Dense.nD Cert.Dense.τ).loc Cert.Dense.main_arg11)
      ∧ r.2.mem ((c.tc : Thread Cert.Dense.nD Cert.Dense.τ).loc Cert.Dense.main_arg12) = m ((c.tc : Thread Cert.Dense.nD Cert.Dense.τ).loc Cert.Dense.main_arg12)
      ∧ r.2.mem ((c.tc : Thread Cert.Dense.nD Cert.Dense.τ).loc Cert.Dense.main_arg13) = m ((c.tc : Thread Cert.Dense.nD Cert.Dense.τ).loc Cert.Dense.main_arg13))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
      ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
      ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9)
      ∧ r.2.mem ((c.tc : Thread Cert.DenseIdeal.nD Cert.DenseIdeal.τ).loc Cert.DenseIdeal.main_arg10) = m ((c.tc : Thread Cert.DenseIdeal.nD Cert.DenseIdeal.τ).loc Cert.DenseIdeal.main_arg10)
      ∧ r.2.mem ((c.tc : Thread Cert.DenseIdeal.nD Cert.DenseIdeal.τ).loc Cert.DenseIdeal.main_arg11) = m ((c.tc : Thread Cert.DenseIdeal.nD Cert.DenseIdeal.τ).loc Cert.DenseIdeal.main_arg11)
      ∧ r.2.mem ((c.tc : Thread Cert.DenseIdeal.nD Cert.DenseIdeal.τ).loc Cert.DenseIdeal.main_arg12) = m ((c.tc : Thread Cert.DenseIdeal.nD Cert.DenseIdeal.τ).loc Cert.DenseIdeal.main_arg12)
      ∧ r.2.mem ((c.tc : Thread Cert.DenseIdeal.nD Cert.DenseIdeal.τ).loc Cert.DenseIdeal.main_arg13) = m ((c.tc : Thread Cert.DenseIdeal.nD Cert.DenseIdeal.τ).loc Cert.DenseIdeal.main_arg13))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6)
      ∧ r.2.mem ((c.tc : Thread Cert.DenseReferenceIdeal.nD Cert.DenseReferenceIdeal.τ).loc Cert.DenseReferenceIdeal.main_arg7) = m ((c.tc : Thread Cert.DenseReferenceIdeal.nD Cert.DenseReferenceIdeal.τ).loc Cert.DenseReferenceIdeal.main_arg7)
      ∧ r.2.mem ((c.tc : Thread Cert.DenseReferenceIdeal.nD Cert.DenseReferenceIdeal.τ).loc Cert.DenseReferenceIdeal.main_arg8) = m ((c.tc : Thread Cert.DenseReferenceIdeal.nD Cert.DenseReferenceIdeal.τ).loc Cert.DenseReferenceIdeal.main_arg8)
      ∧ r.2.mem ((c.tc : Thread Cert.DenseReferenceIdeal.nD Cert.DenseReferenceIdeal.τ).loc Cert.DenseReferenceIdeal.main_arg9) = m ((c.tc : Thread Cert.DenseReferenceIdeal.nD Cert.DenseReferenceIdeal.τ).loc Cert.DenseReferenceIdeal.main_arg9)
      ∧ r.2.mem ((c.tc : Thread Cert.DenseReferenceIdeal.nD Cert.DenseReferenceIdeal.τ).loc Cert.DenseReferenceIdeal.main_arg10) = m ((c.tc : Thread Cert.DenseReferenceIdeal.nD Cert.DenseReferenceIdeal.τ).loc Cert.DenseReferenceIdeal.main_arg10)
      ∧ r.2.mem ((c.tc : Thread Cert.DenseReferenceIdeal.nD Cert.DenseReferenceIdeal.τ).loc Cert.DenseReferenceIdeal.main_arg11) = m ((c.tc : Thread Cert.DenseReferenceIdeal.nD Cert.DenseReferenceIdeal.τ).loc Cert.DenseReferenceIdeal.main_arg11)
      ∧ r.2.mem ((c.tc : Thread Cert.DenseReferenceIdeal.nD Cert.DenseReferenceIdeal.τ).loc Cert.DenseReferenceIdeal.main_arg12) = m ((c.tc : Thread Cert.DenseReferenceIdeal.nD Cert.DenseReferenceIdeal.τ).loc Cert.DenseReferenceIdeal.main_arg12)
      ∧ r.2.mem ((c.tc : Thread Cert.DenseReferenceIdeal.nD Cert.DenseReferenceIdeal.τ).loc Cert.DenseReferenceIdeal.main_arg13) = m ((c.tc : Thread Cert.DenseReferenceIdeal.nD Cert.DenseReferenceIdeal.τ).loc Cert.DenseReferenceIdeal.main_arg13))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4))
      ∧ r.2.sem = fun _ => 0)

def quiescent_ProjectSample [hProjectSample : Cert.ProjectSample.Facts] : Prop :=
  ∀ (m : (ℓ : Loc Cert.ProjectSample.nD Cert.ProjectSample.τ Cert.ProjectSample.sig) → Buf (Elt Bits) ℓ) (g : Dev Cert.ProjectSample.nD → PrngReg), Pre_ProjectSample m →
    θ_run (Cert.ProjectSample.defs (F := Bits)) (onTc (τ := Cert.ProjectSample.τ) (Cert.ProjectSample.main (F := Bits))) ⟨m, fun _ => 0, g⟩ (fun r => (∀ c : Dev Cert.ProjectSample.nD,
      r.2.mem ((c.tc : Thread Cert.ProjectSample.nD Cert.ProjectSample.τ).loc Cert.ProjectSample.main_arg0) = m ((c.tc : Thread Cert.ProjectSample.nD Cert.ProjectSample.τ).loc Cert.ProjectSample.main_arg0)
      ∧ r.2.mem ((c.tc : Thread Cert.ProjectSample.nD Cert.ProjectSample.τ).loc Cert.ProjectSample.main_arg1) = m ((c.tc : Thread Cert.ProjectSample.nD Cert.ProjectSample.τ).loc Cert.ProjectSample.main_arg1)
      ∧ r.2.mem ((c.tc : Thread Cert.ProjectSample.nD Cert.ProjectSample.τ).loc Cert.ProjectSample.main_arg2) = m ((c.tc : Thread Cert.ProjectSample.nD Cert.ProjectSample.τ).loc Cert.ProjectSample.main_arg2)
      ∧ r.2.mem ((c.tc : Thread Cert.ProjectSample.nD Cert.ProjectSample.τ).loc Cert.ProjectSample.main_arg3) = m ((c.tc : Thread Cert.ProjectSample.nD Cert.ProjectSample.τ).loc Cert.ProjectSample.main_arg3)
      ∧ r.2.mem ((c.tc : Thread Cert.ProjectSample.nD Cert.ProjectSample.τ).loc Cert.ProjectSample.main_arg4) = m ((c.tc : Thread Cert.ProjectSample.nD Cert.ProjectSample.τ).loc Cert.ProjectSample.main_arg4))
      ∧ r.2.sem = fun _ => 0)

def quiescent_ProjectSampleIdeal [hProjectSampleIdeal : Cert.ProjectSampleIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg), Pre_ProjectSampleIdeal m →
    θ_run (Cert.ProjectSampleIdeal.defs (F := Ideal)) (onTc (τ := Cert.ProjectSampleIdeal.τ) (Cert.ProjectSampleIdeal.main (F := Ideal))) ⟨m, fun _ => 0, g⟩ (fun r => (∀ c : Dev Cert.ProjectSampleIdeal.nD,
      r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
      ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
      ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2)
      ∧ r.2.mem ((c.tc : Thread Cert.ProjectSampleIdeal.nD Cert.ProjectSampleIdeal.τ).loc Cert.ProjectSampleIdeal.main_arg3) = m ((c.tc : Thread Cert.ProjectSampleIdeal.nD Cert.ProjectSampleIdeal.τ).loc Cert.ProjectSampleIdeal.main_arg3)
      ∧ r.2.mem ((c.tc : Thread Cert.ProjectSampleIdeal.nD Cert.ProjectSampleIdeal.τ).loc Cert.ProjectSampleIdeal.main_arg4) = m ((c.tc : Thread Cert.ProjectSampleIdeal.nD Cert.ProjectSampleIdeal.τ).loc Cert.ProjectSampleIdeal.main_arg4))
      ∧ r.2.sem = fun _ => 0)

def quiescent_ProjectSampleReferenceIdeal [hProjectSampleReferenceIdeal : Cert.ProjectSampleReferenceIdeal.Facts] : Prop :=
  ∀ (m : (ℓ : Loc Cert.ProjectSampleReferenceIdeal.nD Cert.ProjectSampleReferenceIdeal.τ Cert.ProjectSampleReferenceIdeal.sig) → Buf (Elt Ideal) ℓ) (g : Dev Cert.ProjectSampleReferenceIdeal.nD → PrngReg), Pre_ProjectSampleReferenceIdeal m →
    θ_run (Cert.ProjectSampleReferenceIdeal.defs (F := Ideal)) (onTc (τ := Cert.ProjectSampleReferenceIdeal.τ) (Cert.ProjectSampleReferenceIdeal.main (F := Ideal))) ⟨m, fun _ => 0, g⟩ (fun r => (∀ c : Dev Cert.ProjectSampleReferenceIdeal.nD,
      r.2.mem ((c.tc : Thread Cert.ProjectSampleReferenceIdeal.nD Cert.ProjectSampleReferenceIdeal.τ).loc Cert.ProjectSampleReferenceIdeal.main_arg0) = m ((c.tc : Thread Cert.ProjectSampleReferenceIdeal.nD Cert.ProjectSampleReferenceIdeal.τ).loc Cert.ProjectSampleReferenceIdeal.main_arg0)
      ∧ r.2.mem ((c.tc : Thread Cert.ProjectSampleReferenceIdeal.nD Cert.ProjectSampleReferenceIdeal.τ).loc Cert.ProjectSampleReferenceIdeal.main_arg1) = m ((c.tc : Thread Cert.ProjectSampleReferenceIdeal.nD Cert.ProjectSampleReferenceIdeal.τ).loc Cert.ProjectSampleReferenceIdeal.main_arg1)
      ∧ r.2.mem ((c.tc : Thread Cert.ProjectSampleReferenceIdeal.nD Cert.ProjectSampleReferenceIdeal.τ).loc Cert.ProjectSampleReferenceIdeal.main_arg2) = m ((c.tc : Thread Cert.ProjectSampleReferenceIdeal.nD Cert.ProjectSampleReferenceIdeal.τ).loc Cert.ProjectSampleReferenceIdeal.main_arg2)
      ∧ r.2.mem ((c.tc : Thread Cert.ProjectSampleReferenceIdeal.nD Cert.ProjectSampleReferenceIdeal.τ).loc Cert.ProjectSampleReferenceIdeal.main_arg3) = m ((c.tc : Thread Cert.ProjectSampleReferenceIdeal.nD Cert.ProjectSampleReferenceIdeal.τ).loc Cert.ProjectSampleReferenceIdeal.main_arg3)
      ∧ r.2.mem ((c.tc : Thread Cert.ProjectSampleReferenceIdeal.nD Cert.ProjectSampleReferenceIdeal.τ).loc Cert.ProjectSampleReferenceIdeal.main_arg4) = m ((c.tc : Thread Cert.ProjectSampleReferenceIdeal.nD Cert.ProjectSampleReferenceIdeal.τ).loc Cert.ProjectSampleReferenceIdeal.main_arg4))
      ∧ r.2.sem = fun _ => 0)

def quiescent_ProjectNorm [hProjectNorm : Cert.ProjectNorm.Facts] : Prop :=
  ∀ (m : (ℓ : Loc Cert.ProjectNorm.nD Cert.ProjectNorm.τ Cert.ProjectNorm.sig) → Buf (Elt Bits) ℓ) (g : Dev Cert.ProjectNorm.nD → PrngReg), Pre_ProjectNorm m →
    θ_run (Cert.ProjectNorm.defs (F := Bits)) (onTc (τ := Cert.ProjectNorm.τ) (Cert.ProjectNorm.main (F := Bits))) ⟨m, fun _ => 0, g⟩ (fun r => (∀ c : Dev Cert.ProjectNorm.nD,
      r.2.mem ((c.tc : Thread Cert.ProjectNorm.nD Cert.ProjectNorm.τ).loc Cert.ProjectNorm.main_arg0) = m ((c.tc : Thread Cert.ProjectNorm.nD Cert.ProjectNorm.τ).loc Cert.ProjectNorm.main_arg0)
      ∧ r.2.mem ((c.tc : Thread Cert.ProjectNorm.nD Cert.ProjectNorm.τ).loc Cert.ProjectNorm.main_arg1) = m ((c.tc : Thread Cert.ProjectNorm.nD Cert.ProjectNorm.τ).loc Cert.ProjectNorm.main_arg1)
      ∧ r.2.mem ((c.tc : Thread Cert.ProjectNorm.nD Cert.ProjectNorm.τ).loc Cert.ProjectNorm.main_arg2) = m ((c.tc : Thread Cert.ProjectNorm.nD Cert.ProjectNorm.τ).loc Cert.ProjectNorm.main_arg2)
      ∧ r.2.mem ((c.tc : Thread Cert.ProjectNorm.nD Cert.ProjectNorm.τ).loc Cert.ProjectNorm.main_arg3) = m ((c.tc : Thread Cert.ProjectNorm.nD Cert.ProjectNorm.τ).loc Cert.ProjectNorm.main_arg3)
      ∧ r.2.mem ((c.tc : Thread Cert.ProjectNorm.nD Cert.ProjectNorm.τ).loc Cert.ProjectNorm.main_arg4) = m ((c.tc : Thread Cert.ProjectNorm.nD Cert.ProjectNorm.τ).loc Cert.ProjectNorm.main_arg4)
      ∧ r.2.mem ((c.tc : Thread Cert.ProjectNorm.nD Cert.ProjectNorm.τ).loc Cert.ProjectNorm.main_arg5) = m ((c.tc : Thread Cert.ProjectNorm.nD Cert.ProjectNorm.τ).loc Cert.ProjectNorm.main_arg5)
      ∧ r.2.mem ((c.tc : Thread Cert.ProjectNorm.nD Cert.ProjectNorm.τ).loc Cert.ProjectNorm.main_arg6) = m ((c.tc : Thread Cert.ProjectNorm.nD Cert.ProjectNorm.τ).loc Cert.ProjectNorm.main_arg6))
      ∧ r.2.sem = fun _ => 0)

def quiescent_ProjectNormIdeal [hProjectNormIdeal : Cert.ProjectNormIdeal.Facts] : Prop :=
  ∀ (m : (ℓ : Loc Cert.ProjectNormIdeal.nD Cert.ProjectNormIdeal.τ Cert.ProjectNormIdeal.sig) → Buf (Elt Ideal) ℓ) (g : Dev Cert.ProjectNormIdeal.nD → PrngReg), Pre_ProjectNormIdeal m →
    θ_run (Cert.ProjectNormIdeal.defs (F := Ideal)) (onTc (τ := Cert.ProjectNormIdeal.τ) (Cert.ProjectNormIdeal.main (F := Ideal))) ⟨m, fun _ => 0, g⟩ (fun r => (∀ c : Dev Cert.ProjectNormIdeal.nD,
      r.2.mem ((c.tc : Thread Cert.ProjectNormIdeal.nD Cert.ProjectNormIdeal.τ).loc Cert.ProjectNormIdeal.main_arg0) = m ((c.tc : Thread Cert.ProjectNormIdeal.nD Cert.ProjectNormIdeal.τ).loc Cert.ProjectNormIdeal.main_arg0)
      ∧ r.2.mem ((c.tc : Thread Cert.ProjectNormIdeal.nD Cert.ProjectNormIdeal.τ).loc Cert.ProjectNormIdeal.main_arg1) = m ((c.tc : Thread Cert.ProjectNormIdeal.nD Cert.ProjectNormIdeal.τ).loc Cert.ProjectNormIdeal.main_arg1)
      ∧ r.2.mem ((c.tc : Thread Cert.ProjectNormIdeal.nD Cert.ProjectNormIdeal.τ).loc Cert.ProjectNormIdeal.main_arg2) = m ((c.tc : Thread Cert.ProjectNormIdeal.nD Cert.ProjectNormIdeal.τ).loc Cert.ProjectNormIdeal.main_arg2)
      ∧ r.2.mem ((c.tc : Thread Cert.ProjectNormIdeal.nD Cert.ProjectNormIdeal.τ).loc Cert.ProjectNormIdeal.main_arg3) = m ((c.tc : Thread Cert.ProjectNormIdeal.nD Cert.ProjectNormIdeal.τ).loc Cert.ProjectNormIdeal.main_arg3)
      ∧ r.2.mem ((c.tc : Thread Cert.ProjectNormIdeal.nD Cert.ProjectNormIdeal.τ).loc Cert.ProjectNormIdeal.main_arg4) = m ((c.tc : Thread Cert.ProjectNormIdeal.nD Cert.ProjectNormIdeal.τ).loc Cert.ProjectNormIdeal.main_arg4)
      ∧ r.2.mem ((c.tc : Thread Cert.ProjectNormIdeal.nD Cert.ProjectNormIdeal.τ).loc Cert.ProjectNormIdeal.main_arg5) = m ((c.tc : Thread Cert.ProjectNormIdeal.nD Cert.ProjectNormIdeal.τ).loc Cert.ProjectNormIdeal.main_arg5)
      ∧ r.2.mem ((c.tc : Thread Cert.ProjectNormIdeal.nD Cert.ProjectNormIdeal.τ).loc Cert.ProjectNormIdeal.main_arg6) = m ((c.tc : Thread Cert.ProjectNormIdeal.nD Cert.ProjectNormIdeal.τ).loc Cert.ProjectNormIdeal.main_arg6))
      ∧ r.2.sem = fun _ => 0)

def quiescent_ProjectNormIdeal_pre_queries_finite [hProjectNormIdeal : Cert.ProjectNormIdeal.Facts] [hPre_queries_finite : Cert.Pre_queries_finite.Facts] : Prop :=
  ∀ (m : (ℓ : Loc Cert.ProjectNormIdeal.nD Cert.ProjectNormIdeal.τ Cert.ProjectNormIdeal.sig) → Buf (Elt Ideal) ℓ) (g : Dev Cert.ProjectNormIdeal.nD → PrngReg), Pre_ProjectNormIdeal_queries_finite m →
    θ_run (Cert.ProjectNormIdeal.defs (F := Ideal)) (onTc (τ := Cert.ProjectNormIdeal.τ) (Cert.ProjectNormIdeal.main (F := Ideal))) ⟨m, fun _ => 0, g⟩ (fun r => (∀ c : Dev Cert.ProjectNormIdeal.nD,
      r.2.mem ((c.tc : Thread Cert.ProjectNormIdeal.nD Cert.ProjectNormIdeal.τ).loc Cert.ProjectNormIdeal.main_arg0) = m ((c.tc : Thread Cert.ProjectNormIdeal.nD Cert.ProjectNormIdeal.τ).loc Cert.ProjectNormIdeal.main_arg0)
      ∧ r.2.mem ((c.tc : Thread Cert.ProjectNormIdeal.nD Cert.ProjectNormIdeal.τ).loc Cert.ProjectNormIdeal.main_arg1) = m ((c.tc : Thread Cert.ProjectNormIdeal.nD Cert.ProjectNormIdeal.τ).loc Cert.ProjectNormIdeal.main_arg1)
      ∧ r.2.mem ((c.tc : Thread Cert.ProjectNormIdeal.nD Cert.ProjectNormIdeal.τ).loc Cert.ProjectNormIdeal.main_arg2) = m ((c.tc : Thread Cert.ProjectNormIdeal.nD Cert.ProjectNormIdeal.τ).loc Cert.ProjectNormIdeal.main_arg2)
      ∧ r.2.mem ((c.tc : Thread Cert.ProjectNormIdeal.nD Cert.ProjectNormIdeal.τ).loc Cert.ProjectNormIdeal.main_arg3) = m ((c.tc : Thread Cert.ProjectNormIdeal.nD Cert.ProjectNormIdeal.τ).loc Cert.ProjectNormIdeal.main_arg3)
      ∧ r.2.mem ((c.tc : Thread Cert.ProjectNormIdeal.nD Cert.ProjectNormIdeal.τ).loc Cert.ProjectNormIdeal.main_arg4) = m ((c.tc : Thread Cert.ProjectNormIdeal.nD Cert.ProjectNormIdeal.τ).loc Cert.ProjectNormIdeal.main_arg4)
      ∧ r.2.mem ((c.tc : Thread Cert.ProjectNormIdeal.nD Cert.ProjectNormIdeal.τ).loc Cert.ProjectNormIdeal.main_arg5) = m ((c.tc : Thread Cert.ProjectNormIdeal.nD Cert.ProjectNormIdeal.τ).loc Cert.ProjectNormIdeal.main_arg5)
      ∧ r.2.mem ((c.tc : Thread Cert.ProjectNormIdeal.nD Cert.ProjectNormIdeal.τ).loc Cert.ProjectNormIdeal.main_arg6) = m ((c.tc : Thread Cert.ProjectNormIdeal.nD Cert.ProjectNormIdeal.τ).loc Cert.ProjectNormIdeal.main_arg6))
      ∧ r.2.sem = fun _ => 0)

def quiescent_ProjectNormReferenceIdeal [hProjectNormReferenceIdeal : Cert.ProjectNormReferenceIdeal.Facts] : Prop :=
  ∀ (m : (ℓ : Loc Cert.ProjectNormReferenceIdeal.nD Cert.ProjectNormReferenceIdeal.τ Cert.ProjectNormReferenceIdeal.sig) → Buf (Elt Ideal) ℓ) (g : Dev Cert.ProjectNormReferenceIdeal.nD → PrngReg), Pre_ProjectNormReferenceIdeal m →
    θ_run (Cert.ProjectNormReferenceIdeal.defs (F := Ideal)) (onTc (τ := Cert.ProjectNormReferenceIdeal.τ) (Cert.ProjectNormReferenceIdeal.main (F := Ideal))) ⟨m, fun _ => 0, g⟩ (fun r => (∀ c : Dev Cert.ProjectNormReferenceIdeal.nD,
      r.2.mem ((c.tc : Thread Cert.ProjectNormReferenceIdeal.nD Cert.ProjectNormReferenceIdeal.τ).loc Cert.ProjectNormReferenceIdeal.main_arg0) = m ((c.tc : Thread Cert.ProjectNormReferenceIdeal.nD Cert.ProjectNormReferenceIdeal.τ).loc Cert.ProjectNormReferenceIdeal.main_arg0)
      ∧ r.2.mem ((c.tc : Thread Cert.ProjectNormReferenceIdeal.nD Cert.ProjectNormReferenceIdeal.τ).loc Cert.ProjectNormReferenceIdeal.main_arg1) = m ((c.tc : Thread Cert.ProjectNormReferenceIdeal.nD Cert.ProjectNormReferenceIdeal.τ).loc Cert.ProjectNormReferenceIdeal.main_arg1)
      ∧ r.2.mem ((c.tc : Thread Cert.ProjectNormReferenceIdeal.nD Cert.ProjectNormReferenceIdeal.τ).loc Cert.ProjectNormReferenceIdeal.main_arg2) = m ((c.tc : Thread Cert.ProjectNormReferenceIdeal.nD Cert.ProjectNormReferenceIdeal.τ).loc Cert.ProjectNormReferenceIdeal.main_arg2)
      ∧ r.2.mem ((c.tc : Thread Cert.ProjectNormReferenceIdeal.nD Cert.ProjectNormReferenceIdeal.τ).loc Cert.ProjectNormReferenceIdeal.main_arg3) = m ((c.tc : Thread Cert.ProjectNormReferenceIdeal.nD Cert.ProjectNormReferenceIdeal.τ).loc Cert.ProjectNormReferenceIdeal.main_arg3)
      ∧ r.2.mem ((c.tc : Thread Cert.ProjectNormReferenceIdeal.nD Cert.ProjectNormReferenceIdeal.τ).loc Cert.ProjectNormReferenceIdeal.main_arg4) = m ((c.tc : Thread Cert.ProjectNormReferenceIdeal.nD Cert.ProjectNormReferenceIdeal.τ).loc Cert.ProjectNormReferenceIdeal.main_arg4)
      ∧ r.2.mem ((c.tc : Thread Cert.ProjectNormReferenceIdeal.nD Cert.ProjectNormReferenceIdeal.τ).loc Cert.ProjectNormReferenceIdeal.main_arg5) = m ((c.tc : Thread Cert.ProjectNormReferenceIdeal.nD Cert.ProjectNormReferenceIdeal.τ).loc Cert.ProjectNormReferenceIdeal.main_arg5)
      ∧ r.2.mem ((c.tc : Thread Cert.ProjectNormReferenceIdeal.nD Cert.ProjectNormReferenceIdeal.τ).loc Cert.ProjectNormReferenceIdeal.main_arg6) = m ((c.tc : Thread Cert.ProjectNormReferenceIdeal.nD Cert.ProjectNormReferenceIdeal.τ).loc Cert.ProjectNormReferenceIdeal.main_arg6))
      ∧ r.2.sem = fun _ => 0)

def quiescent_ProjectNormReferenceIdeal_pre_queries_finite [hProjectNormReferenceIdeal : Cert.ProjectNormReferenceIdeal.Facts] [hPre_queries_finite : Cert.Pre_queries_finite.Facts] : Prop :=
  ∀ (m : (ℓ : Loc Cert.ProjectNormReferenceIdeal.nD Cert.ProjectNormReferenceIdeal.τ Cert.ProjectNormReferenceIdeal.sig) → Buf (Elt Ideal) ℓ) (g : Dev Cert.ProjectNormReferenceIdeal.nD → PrngReg), Pre_ProjectNormReferenceIdeal_queries_finite m →
    θ_run (Cert.ProjectNormReferenceIdeal.defs (F := Ideal)) (onTc (τ := Cert.ProjectNormReferenceIdeal.τ) (Cert.ProjectNormReferenceIdeal.main (F := Ideal))) ⟨m, fun _ => 0, g⟩ (fun r => (∀ c : Dev Cert.ProjectNormReferenceIdeal.nD,
      r.2.mem ((c.tc : Thread Cert.ProjectNormReferenceIdeal.nD Cert.ProjectNormReferenceIdeal.τ).loc Cert.ProjectNormReferenceIdeal.main_arg0) = m ((c.tc : Thread Cert.ProjectNormReferenceIdeal.nD Cert.ProjectNormReferenceIdeal.τ).loc Cert.ProjectNormReferenceIdeal.main_arg0)
      ∧ r.2.mem ((c.tc : Thread Cert.ProjectNormReferenceIdeal.nD Cert.ProjectNormReferenceIdeal.τ).loc Cert.ProjectNormReferenceIdeal.main_arg1) = m ((c.tc : Thread Cert.ProjectNormReferenceIdeal.nD Cert.ProjectNormReferenceIdeal.τ).loc Cert.ProjectNormReferenceIdeal.main_arg1)
      ∧ r.2.mem ((c.tc : Thread Cert.ProjectNormReferenceIdeal.nD Cert.ProjectNormReferenceIdeal.τ).loc Cert.ProjectNormReferenceIdeal.main_arg2) = m ((c.tc : Thread Cert.ProjectNormReferenceIdeal.nD Cert.ProjectNormReferenceIdeal.τ).loc Cert.ProjectNormReferenceIdeal.main_arg2)
      ∧ r.2.mem ((c.tc : Thread Cert.ProjectNormReferenceIdeal.nD Cert.ProjectNormReferenceIdeal.τ).loc Cert.ProjectNormReferenceIdeal.main_arg3) = m ((c.tc : Thread Cert.ProjectNormReferenceIdeal.nD Cert.ProjectNormReferenceIdeal.τ).loc Cert.ProjectNormReferenceIdeal.main_arg3)
      ∧ r.2.mem ((c.tc : Thread Cert.ProjectNormReferenceIdeal.nD Cert.ProjectNormReferenceIdeal.τ).loc Cert.ProjectNormReferenceIdeal.main_arg4) = m ((c.tc : Thread Cert.ProjectNormReferenceIdeal.nD Cert.ProjectNormReferenceIdeal.τ).loc Cert.ProjectNormReferenceIdeal.main_arg4)
      ∧ r.2.mem ((c.tc : Thread Cert.ProjectNormReferenceIdeal.nD Cert.ProjectNormReferenceIdeal.τ).loc Cert.ProjectNormReferenceIdeal.main_arg5) = m ((c.tc : Thread Cert.ProjectNormReferenceIdeal.nD Cert.ProjectNormReferenceIdeal.τ).loc Cert.ProjectNormReferenceIdeal.main_arg5)
      ∧ r.2.mem ((c.tc : Thread Cert.ProjectNormReferenceIdeal.nD Cert.ProjectNormReferenceIdeal.τ).loc Cert.ProjectNormReferenceIdeal.main_arg6) = m ((c.tc : Thread Cert.ProjectNormReferenceIdeal.nD Cert.ProjectNormReferenceIdeal.τ).loc Cert.ProjectNormReferenceIdeal.main_arg6))
      ∧ r.2.sem = fun _ => 0)

def preserves_Kernel_KernelIdeal : Prop :=
  True

def preserves_Expert_ExpertIdeal : Prop :=
  True

def algebraic_ExpertIdeal_ExpertReferenceIdeal [hExpertIdeal : Cert.ExpertIdeal.Facts] [hExpertReferenceIdeal : Cert.ExpertReferenceIdeal.Facts] [hPre_experts_in_range : Cert.Pre_experts_in_range.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertReferenceIdeal.nD Cert.ExpertReferenceIdeal.τ Cert.ExpertReferenceIdeal.sig) → Buf (Elt Ideal) ℓ) (g' : Dev Cert.ExpertReferenceIdeal.nD → PrngReg), Pre_ExpertIdeal m →
    (∀ c : Dev Cert.ExpertIdeal.nD,
      m' ((c.tc : Thread Cert.ExpertReferenceIdeal.nD Cert.ExpertReferenceIdeal.τ).loc Cert.ExpertReferenceIdeal.main_arg0) = m ((c.tc : Thread Cert.ExpertIdeal.nD Cert.ExpertIdeal.τ).loc Cert.ExpertIdeal.main_arg0)
      ∧ m' ((c.tc : Thread Cert.ExpertReferenceIdeal.nD Cert.ExpertReferenceIdeal.τ).loc Cert.ExpertReferenceIdeal.main_arg1) = m ((c.tc : Thread Cert.ExpertIdeal.nD Cert.ExpertIdeal.τ).loc Cert.ExpertIdeal.main_arg1)
      ∧ m' ((c.tc : Thread Cert.ExpertReferenceIdeal.nD Cert.ExpertReferenceIdeal.τ).loc Cert.ExpertReferenceIdeal.main_arg2) = m ((c.tc : Thread Cert.ExpertIdeal.nD Cert.ExpertIdeal.τ).loc Cert.ExpertIdeal.main_arg2)
      ∧ m' ((c.tc : Thread Cert.ExpertReferenceIdeal.nD Cert.ExpertReferenceIdeal.τ).loc Cert.ExpertReferenceIdeal.main_arg3) = m ((c.tc : Thread Cert.ExpertIdeal.nD Cert.ExpertIdeal.τ).loc Cert.ExpertIdeal.main_arg3)
      ∧ m' ((c.tc : Thread Cert.ExpertReferenceIdeal.nD Cert.ExpertReferenceIdeal.τ).loc Cert.ExpertReferenceIdeal.main_arg4) = m ((c.tc : Thread Cert.ExpertIdeal.nD Cert.ExpertIdeal.τ).loc Cert.ExpertIdeal.main_arg4)
      ∧ m' ((c.tc : Thread Cert.ExpertReferenceIdeal.nD Cert.ExpertReferenceIdeal.τ).loc Cert.ExpertReferenceIdeal.main_arg5) = m ((c.tc : Thread Cert.ExpertIdeal.nD Cert.ExpertIdeal.τ).loc Cert.ExpertIdeal.main_arg5)) →
    ∃ (v0 : (c : Dev Cert.ExpertIdeal.nD) → Buf (Elt Ideal) ((c.tc : Thread Cert.ExpertIdeal.nD Cert.ExpertIdeal.τ).loc Cert.ExpertIdeal.main_v3)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v3) = v0 c
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
          ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
          ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5))
      ∧ θ_run (Cert.ExpertReferenceIdeal.defs (F := Ideal)) (onTc (τ := Cert.ExpertReferenceIdeal.τ) (Cert.ExpertReferenceIdeal.main (F := Ideal))) ⟨m', fun _ => 0, g'⟩ (fun r => ∀ c : Dev Cert.ExpertReferenceIdeal.nD,
          r.2.mem ((c.tc : Thread Cert.ExpertReferenceIdeal.nD Cert.ExpertReferenceIdeal.τ).loc Cert.ExpertReferenceIdeal.main_v134) = v0 c
          ∧ r.2.mem ((c.tc : Thread Cert.ExpertReferenceIdeal.nD Cert.ExpertReferenceIdeal.τ).loc Cert.ExpertReferenceIdeal.main_arg0) = m' ((c.tc : Thread Cert.ExpertReferenceIdeal.nD Cert.ExpertReferenceIdeal.τ).loc Cert.ExpertReferenceIdeal.main_arg0)
          ∧ r.2.mem ((c.tc : Thread Cert.ExpertReferenceIdeal.nD Cert.ExpertReferenceIdeal.τ).loc Cert.ExpertReferenceIdeal.main_arg1) = m' ((c.tc : Thread Cert.ExpertReferenceIdeal.nD Cert.ExpertReferenceIdeal.τ).loc Cert.ExpertReferenceIdeal.main_arg1)
          ∧ r.2.mem ((c.tc : Thread Cert.ExpertReferenceIdeal.nD Cert.ExpertReferenceIdeal.τ).loc Cert.ExpertReferenceIdeal.main_arg2) = m' ((c.tc : Thread Cert.ExpertReferenceIdeal.nD Cert.ExpertReferenceIdeal.τ).loc Cert.ExpertReferenceIdeal.main_arg2)
          ∧ r.2.mem ((c.tc : Thread Cert.ExpertReferenceIdeal.nD Cert.ExpertReferenceIdeal.τ).loc Cert.ExpertReferenceIdeal.main_arg3) = m' ((c.tc : Thread Cert.ExpertReferenceIdeal.nD Cert.ExpertReferenceIdeal.τ).loc Cert.ExpertReferenceIdeal.main_arg3)
          ∧ r.2.mem ((c.tc : Thread Cert.ExpertReferenceIdeal.nD Cert.ExpertReferenceIdeal.τ).loc Cert.ExpertReferenceIdeal.main_arg4) = m' ((c.tc : Thread Cert.ExpertReferenceIdeal.nD Cert.ExpertReferenceIdeal.τ).loc Cert.ExpertReferenceIdeal.main_arg4)
          ∧ r.2.mem ((c.tc : Thread Cert.ExpertReferenceIdeal.nD Cert.ExpertReferenceIdeal.τ).loc Cert.ExpertReferenceIdeal.main_arg5) = m' ((c.tc : Thread Cert.ExpertReferenceIdeal.nD Cert.ExpertReferenceIdeal.τ).loc Cert.ExpertReferenceIdeal.main_arg5))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)
      ∧ m' ((c.tc : Thread Cert.DenseReferenceIdeal.nD Cert.DenseReferenceIdeal.τ).loc Cert.DenseReferenceIdeal.main_arg6) = m ((c.tc : Thread Cert.DenseIdeal.nD Cert.DenseIdeal.τ).loc Cert.DenseIdeal.main_arg6)
      ∧ m' ((c.tc : Thread Cert.DenseReferenceIdeal.nD Cert.DenseReferenceIdeal.τ).loc Cert.DenseReferenceIdeal.main_arg7) = m ((c.tc : Thread Cert.DenseIdeal.nD Cert.DenseIdeal.τ).loc Cert.DenseIdeal.main_arg7)
      ∧ m' ((c.tc : Thread Cert.DenseReferenceIdeal.nD Cert.DenseReferenceIdeal.τ).loc Cert.DenseReferenceIdeal.main_arg8) = m ((c.tc : Thread Cert.DenseIdeal.nD Cert.DenseIdeal.τ).loc Cert.DenseIdeal.main_arg8)
      ∧ m' ((c.tc : Thread Cert.DenseReferenceIdeal.nD Cert.DenseReferenceIdeal.τ).loc Cert.DenseReferenceIdeal.main_arg9) = m ((c.tc : Thread Cert.DenseIdeal.nD Cert.DenseIdeal.τ).loc Cert.DenseIdeal.main_arg9)
      ∧ m' ((c.tc : Thread Cert.DenseReferenceIdeal.nD Cert.DenseReferenceIdeal.τ).loc Cert.DenseReferenceIdeal.main_arg10) = m ((c.tc : Thread Cert.DenseIdeal.nD Cert.DenseIdeal.τ).loc Cert.DenseIdeal.main_arg10)
      ∧ m' ((c.tc : Thread Cert.DenseReferenceIdeal.nD Cert.DenseReferenceIdeal.τ).loc Cert.DenseReferenceIdeal.main_arg11) = m ((c.tc : Thread Cert.DenseIdeal.nD Cert.DenseIdeal.τ).loc Cert.DenseIdeal.main_arg11)
      ∧ m' ((c.tc : Thread Cert.DenseReferenceIdeal.nD Cert.DenseReferenceIdeal.τ).loc Cert.DenseReferenceIdeal.main_arg12) = m ((c.tc : Thread Cert.DenseIdeal.nD Cert.DenseIdeal.τ).loc Cert.DenseIdeal.main_arg12)
      ∧ m' ((c.tc : Thread Cert.DenseReferenceIdeal.nD Cert.DenseReferenceIdeal.τ).loc Cert.DenseReferenceIdeal.main_arg13) = m ((c.tc : Thread Cert.DenseIdeal.nD Cert.DenseIdeal.τ).loc Cert.DenseIdeal.main_arg13)) →
    ∃ (v0 : (c : Dev Cert.DenseIdeal.nD) → Buf (Elt Ideal) ((c.tc : Thread Cert.DenseIdeal.nD Cert.DenseIdeal.τ).loc Cert.DenseIdeal.main_v19_0)) (v1 : (c : Dev Cert.DenseIdeal.nD) → Buf (Elt Ideal) ((c.tc : Thread Cert.DenseIdeal.nD Cert.DenseIdeal.τ).loc Cert.DenseIdeal.main_v19_1)) (v2 : (c : Dev Cert.DenseIdeal.nD) → Buf (Elt Ideal) ((c.tc : Thread Cert.DenseIdeal.nD Cert.DenseIdeal.τ).loc Cert.DenseIdeal.main_v19_2)) (v3 : (c : Dev Cert.DenseIdeal.nD) → Buf (Elt Ideal) ((c.tc : Thread Cert.DenseIdeal.nD Cert.DenseIdeal.τ).loc Cert.DenseIdeal.main_v19_3)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v19_0) = v0 c
          ∧ r.2.mem ((c.tc : Thread Cert.DenseIdeal.nD Cert.DenseIdeal.τ).loc Cert.DenseIdeal.main_v19_1) = v1 c
          ∧ r.2.mem ((c.tc : Thread Cert.DenseIdeal.nD Cert.DenseIdeal.τ).loc Cert.DenseIdeal.main_v19_2) = v2 c
          ∧ r.2.mem ((c.tc : Thread Cert.DenseIdeal.nD Cert.DenseIdeal.τ).loc Cert.DenseIdeal.main_v19_3) = v3 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
          ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8)
          ∧ r.2.mem ((c.tc : Thread Cert.DenseIdeal.nD Cert.DenseIdeal.τ).loc Cert.DenseIdeal.main_arg9) = m ((c.tc : Thread Cert.DenseIdeal.nD Cert.DenseIdeal.τ).loc Cert.DenseIdeal.main_arg9)
          ∧ r.2.mem ((c.tc : Thread Cert.DenseIdeal.nD Cert.DenseIdeal.τ).loc Cert.DenseIdeal.main_arg10) = m ((c.tc : Thread Cert.DenseIdeal.nD Cert.DenseIdeal.τ).loc Cert.DenseIdeal.main_arg10)
          ∧ r.2.mem ((c.tc : Thread Cert.DenseIdeal.nD Cert.DenseIdeal.τ).loc Cert.DenseIdeal.main_arg11) = m ((c.tc : Thread Cert.DenseIdeal.nD Cert.DenseIdeal.τ).loc Cert.DenseIdeal.main_arg11)
          ∧ r.2.mem ((c.tc : Thread Cert.DenseIdeal.nD Cert.DenseIdeal.τ).loc Cert.DenseIdeal.main_arg12) = m ((c.tc : Thread Cert.DenseIdeal.nD Cert.DenseIdeal.τ).loc Cert.DenseIdeal.main_arg12)
          ∧ r.2.mem ((c.tc : Thread Cert.DenseIdeal.nD Cert.DenseIdeal.τ).loc Cert.DenseIdeal.main_arg13) = m ((c.tc : Thread Cert.DenseIdeal.nD Cert.DenseIdeal.τ).loc Cert.DenseIdeal.main_arg13))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v86) = v0 c
          ∧ r.2.mem ((c.tc : Thread Cert.DenseReferenceIdeal.nD Cert.DenseReferenceIdeal.τ).loc Cert.DenseReferenceIdeal.main_v88) = v1 c
          ∧ r.2.mem ((c.tc : Thread Cert.DenseReferenceIdeal.nD Cert.DenseReferenceIdeal.τ).loc Cert.DenseReferenceIdeal.main_v90) = v2 c
          ∧ r.2.mem ((c.tc : Thread Cert.DenseReferenceIdeal.nD Cert.DenseReferenceIdeal.τ).loc Cert.DenseReferenceIdeal.main_v92) = v3 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5)
          ∧ r.2.mem ((c.tc : Thread Cert.DenseReferenceIdeal.nD Cert.DenseReferenceIdeal.τ).loc Cert.DenseReferenceIdeal.main_arg6) = m' ((c.tc : Thread Cert.DenseReferenceIdeal.nD Cert.DenseReferenceIdeal.τ).loc Cert.DenseReferenceIdeal.main_arg6)
          ∧ r.2.mem ((c.tc : Thread Cert.DenseReferenceIdeal.nD Cert.DenseReferenceIdeal.τ).loc Cert.DenseReferenceIdeal.main_arg7) = m' ((c.tc : Thread Cert.DenseReferenceIdeal.nD Cert.DenseReferenceIdeal.τ).loc Cert.DenseReferenceIdeal.main_arg7)
          ∧ r.2.mem ((c.tc : Thread Cert.DenseReferenceIdeal.nD Cert.DenseReferenceIdeal.τ).loc Cert.DenseReferenceIdeal.main_arg8) = m' ((c.tc : Thread Cert.DenseReferenceIdeal.nD Cert.DenseReferenceIdeal.τ).loc Cert.DenseReferenceIdeal.main_arg8)
          ∧ r.2.mem ((c.tc : Thread Cert.DenseReferenceIdeal.nD Cert.DenseReferenceIdeal.τ).loc Cert.DenseReferenceIdeal.main_arg9) = m' ((c.tc : Thread Cert.DenseReferenceIdeal.nD Cert.DenseReferenceIdeal.τ).loc Cert.DenseReferenceIdeal.main_arg9)
          ∧ r.2.mem ((c.tc : Thread Cert.DenseReferenceIdeal.nD Cert.DenseReferenceIdeal.τ).loc Cert.DenseReferenceIdeal.main_arg10) = m' ((c.tc : Thread Cert.DenseReferenceIdeal.nD Cert.DenseReferenceIdeal.τ).loc Cert.DenseReferenceIdeal.main_arg10)
          ∧ r.2.mem ((c.tc : Thread Cert.DenseReferenceIdeal.nD Cert.DenseReferenceIdeal.τ).loc Cert.DenseReferenceIdeal.main_arg11) = m' ((c.tc : Thread Cert.DenseReferenceIdeal.nD Cert.DenseReferenceIdeal.τ).loc Cert.DenseReferenceIdeal.main_arg11)
          ∧ r.2.mem ((c.tc : Thread Cert.DenseReferenceIdeal.nD Cert.DenseReferenceIdeal.τ).loc Cert.DenseReferenceIdeal.main_arg12) = m' ((c.tc : Thread Cert.DenseReferenceIdeal.nD Cert.DenseReferenceIdeal.τ).loc Cert.DenseReferenceIdeal.main_arg12)
          ∧ r.2.mem ((c.tc : Thread Cert.DenseReferenceIdeal.nD Cert.DenseReferenceIdeal.τ).loc Cert.DenseReferenceIdeal.main_arg13) = m' ((c.tc : Thread Cert.DenseReferenceIdeal.nD Cert.DenseReferenceIdeal.τ).loc Cert.DenseReferenceIdeal.main_arg13))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)) →
    ∃ (v0 : (c : Dev Cert.ProjectIdeal.nD) → Buf (Elt Ideal) ((c.tc : Thread Cert.ProjectIdeal.nD Cert.ProjectIdeal.τ).loc Cert.ProjectIdeal.main_v11_0)) (v1 : (c : Dev Cert.ProjectIdeal.nD) → Buf (Elt Ideal) ((c.tc : Thread Cert.ProjectIdeal.nD Cert.ProjectIdeal.τ).loc Cert.ProjectIdeal.main_v11_1)) (v2 : (c : Dev Cert.ProjectIdeal.nD) → Buf (Elt Ideal) ((c.tc : Thread Cert.ProjectIdeal.nD Cert.ProjectIdeal.τ).loc Cert.ProjectIdeal.main_v11_2)) (v3 : (c : Dev Cert.ProjectIdeal.nD) → Buf (Elt Ideal) ((c.tc : Thread Cert.ProjectIdeal.nD Cert.ProjectIdeal.τ).loc Cert.ProjectIdeal.main_v13)) (v4 : (c : Dev Cert.ProjectIdeal.nD) → Buf (Elt Ideal) ((c.tc : Thread Cert.ProjectIdeal.nD Cert.ProjectIdeal.τ).loc Cert.ProjectIdeal.main_v15)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v11_0) = v0 c
          ∧ r.2.mem ((c.tc : Thread Cert.ProjectIdeal.nD Cert.ProjectIdeal.τ).loc Cert.ProjectIdeal.main_v11_1) = v1 c
          ∧ r.2.mem ((c.tc : Thread Cert.ProjectIdeal.nD Cert.ProjectIdeal.τ).loc Cert.ProjectIdeal.main_v11_2) = v2 c
          ∧ r.2.mem ((c.tc : Thread Cert.ProjectIdeal.nD Cert.ProjectIdeal.τ).loc Cert.ProjectIdeal.main_v13) = v3 c
          ∧ r.2.mem ((c.tc : Thread Cert.ProjectIdeal.nD Cert.ProjectIdeal.τ).loc Cert.ProjectIdeal.main_v15) = v4 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v40) = v0 c
          ∧ r.2.mem ((c.tc : Thread Cert.ProjectReferenceIdeal.nD Cert.ProjectReferenceIdeal.τ).loc Cert.ProjectReferenceIdeal.main_v43) = v1 c
          ∧ r.2.mem ((c.tc : Thread Cert.ProjectReferenceIdeal.nD Cert.ProjectReferenceIdeal.τ).loc Cert.ProjectReferenceIdeal.main_v46) = v2 c
          ∧ r.2.mem ((c.tc : Thread Cert.ProjectReferenceIdeal.nD Cert.ProjectReferenceIdeal.τ).loc Cert.ProjectReferenceIdeal.main_v34) = v3 c
          ∧ r.2.mem ((c.tc : Thread Cert.ProjectReferenceIdeal.nD Cert.ProjectReferenceIdeal.τ).loc Cert.ProjectReferenceIdeal.main_v35) = v4 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4))

def preserves_ProjectSample_ProjectSampleIdeal : Prop :=
  True

def algebraic_ProjectSampleIdeal_ProjectSampleReferenceIdeal [hProjectSampleIdeal : Cert.ProjectSampleIdeal.Facts] [hProjectSampleReferenceIdeal : Cert.ProjectSampleReferenceIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg)
    (m' : (ℓ : Loc Cert.ProjectSampleReferenceIdeal.nD Cert.ProjectSampleReferenceIdeal.τ Cert.ProjectSampleReferenceIdeal.sig) → Buf (Elt Ideal) ℓ) (g' : Dev Cert.ProjectSampleReferenceIdeal.nD → PrngReg), Pre_ProjectSampleIdeal m →
    (∀ c : Dev Cert.ProjectSampleIdeal.nD,
      m' ((c.tc : Thread Cert.ProjectSampleReferenceIdeal.nD Cert.ProjectSampleReferenceIdeal.τ).loc Cert.ProjectSampleReferenceIdeal.main_arg0) = m ((c.tc : Thread Cert.ProjectSampleIdeal.nD Cert.ProjectSampleIdeal.τ).loc Cert.ProjectSampleIdeal.main_arg0)
      ∧ m' ((c.tc : Thread Cert.ProjectSampleReferenceIdeal.nD Cert.ProjectSampleReferenceIdeal.τ).loc Cert.ProjectSampleReferenceIdeal.main_arg1) = m ((c.tc : Thread Cert.ProjectSampleIdeal.nD Cert.ProjectSampleIdeal.τ).loc Cert.ProjectSampleIdeal.main_arg1)
      ∧ m' ((c.tc : Thread Cert.ProjectSampleReferenceIdeal.nD Cert.ProjectSampleReferenceIdeal.τ).loc Cert.ProjectSampleReferenceIdeal.main_arg2) = m ((c.tc : Thread Cert.ProjectSampleIdeal.nD Cert.ProjectSampleIdeal.τ).loc Cert.ProjectSampleIdeal.main_arg2)
      ∧ m' ((c.tc : Thread Cert.ProjectSampleReferenceIdeal.nD Cert.ProjectSampleReferenceIdeal.τ).loc Cert.ProjectSampleReferenceIdeal.main_arg3) = m ((c.tc : Thread Cert.ProjectSampleIdeal.nD Cert.ProjectSampleIdeal.τ).loc Cert.ProjectSampleIdeal.main_arg3)
      ∧ m' ((c.tc : Thread Cert.ProjectSampleReferenceIdeal.nD Cert.ProjectSampleReferenceIdeal.τ).loc Cert.ProjectSampleReferenceIdeal.main_arg4) = m ((c.tc : Thread Cert.ProjectSampleIdeal.nD Cert.ProjectSampleIdeal.τ).loc Cert.ProjectSampleIdeal.main_arg4)) →
    ∃ (v0 : (c : Dev Cert.ProjectSampleIdeal.nD) → Buf (Elt Ideal) ((c.tc : Thread Cert.ProjectSampleIdeal.nD Cert.ProjectSampleIdeal.τ).loc Cert.ProjectSampleIdeal.main_v11_0)) (v1 : (c : Dev Cert.ProjectSampleIdeal.nD) → Buf (Elt Ideal) ((c.tc : Thread Cert.ProjectSampleIdeal.nD Cert.ProjectSampleIdeal.τ).loc Cert.ProjectSampleIdeal.main_v11_1)) (v2 : (c : Dev Cert.ProjectSampleIdeal.nD) → Buf (Elt Ideal) ((c.tc : Thread Cert.ProjectSampleIdeal.nD Cert.ProjectSampleIdeal.τ).loc Cert.ProjectSampleIdeal.main_v12)) (v3 : (c : Dev Cert.ProjectSampleIdeal.nD) → Buf (Elt Ideal) ((c.tc : Thread Cert.ProjectSampleIdeal.nD Cert.ProjectSampleIdeal.τ).loc Cert.ProjectSampleIdeal.main_v13)),
      θ_run (Cert.ProjectSampleIdeal.defs (F := Ideal)) (onTc (τ := Cert.ProjectSampleIdeal.τ) (Cert.ProjectSampleIdeal.main (F := Ideal))) ⟨m, fun _ => 0, g⟩ (fun r => ∀ c : Dev Cert.ProjectSampleIdeal.nD,
          r.2.mem ((c.tc : Thread Cert.ProjectSampleIdeal.nD Cert.ProjectSampleIdeal.τ).loc Cert.ProjectSampleIdeal.main_v11_0) = v0 c
          ∧ r.2.mem ((c.tc : Thread Cert.ProjectSampleIdeal.nD Cert.ProjectSampleIdeal.τ).loc Cert.ProjectSampleIdeal.main_v11_1) = v1 c
          ∧ r.2.mem ((c.tc : Thread Cert.ProjectSampleIdeal.nD Cert.ProjectSampleIdeal.τ).loc Cert.ProjectSampleIdeal.main_v12) = v2 c
          ∧ r.2.mem ((c.tc : Thread Cert.ProjectSampleIdeal.nD Cert.ProjectSampleIdeal.τ).loc Cert.ProjectSampleIdeal.main_v13) = v3 c
          ∧ r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
          ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
          ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2)
          ∧ r.2.mem ((c.tc : Thread Cert.ProjectSampleIdeal.nD Cert.ProjectSampleIdeal.τ).loc Cert.ProjectSampleIdeal.main_arg3) = m ((c.tc : Thread Cert.ProjectSampleIdeal.nD Cert.ProjectSampleIdeal.τ).loc Cert.ProjectSampleIdeal.main_arg3)
          ∧ r.2.mem ((c.tc : Thread Cert.ProjectSampleIdeal.nD Cert.ProjectSampleIdeal.τ).loc Cert.ProjectSampleIdeal.main_arg4) = m ((c.tc : Thread Cert.ProjectSampleIdeal.nD Cert.ProjectSampleIdeal.τ).loc Cert.ProjectSampleIdeal.main_arg4))
      ∧ θ_run (Cert.ProjectSampleReferenceIdeal.defs (F := Ideal)) (onTc (τ := Cert.ProjectSampleReferenceIdeal.τ) (Cert.ProjectSampleReferenceIdeal.main (F := Ideal))) ⟨m', fun _ => 0, g'⟩ (fun r => ∀ c : Dev Cert.ProjectSampleReferenceIdeal.nD,
          r.2.mem ((c.tc : Thread Cert.ProjectSampleReferenceIdeal.nD Cert.ProjectSampleReferenceIdeal.τ).loc Cert.ProjectSampleReferenceIdeal.main_v40) = v0 c
          ∧ r.2.mem ((c.tc : Thread Cert.ProjectSampleReferenceIdeal.nD Cert.ProjectSampleReferenceIdeal.τ).loc Cert.ProjectSampleReferenceIdeal.main_v47) = v1 c
          ∧ r.2.mem ((c.tc : Thread Cert.ProjectSampleReferenceIdeal.nD Cert.ProjectSampleReferenceIdeal.τ).loc Cert.ProjectSampleReferenceIdeal.main_v34) = v2 c
          ∧ r.2.mem ((c.tc : Thread Cert.ProjectSampleReferenceIdeal.nD Cert.ProjectSampleReferenceIdeal.τ).loc Cert.ProjectSampleReferenceIdeal.main_v35) = v3 c
          ∧ r.2.mem ((c.tc : Thread Cert.ProjectSampleReferenceIdeal.nD Cert.ProjectSampleReferenceIdeal.τ).loc Cert.ProjectSampleReferenceIdeal.main_arg0) = m' ((c.tc : Thread Cert.ProjectSampleReferenceIdeal.nD Cert.ProjectSampleReferenceIdeal.τ).loc Cert.ProjectSampleReferenceIdeal.main_arg0)
          ∧ r.2.mem ((c.tc : Thread Cert.ProjectSampleReferenceIdeal.nD Cert.ProjectSampleReferenceIdeal.τ).loc Cert.ProjectSampleReferenceIdeal.main_arg1) = m' ((c.tc : Thread Cert.ProjectSampleReferenceIdeal.nD Cert.ProjectSampleReferenceIdeal.τ).loc Cert.ProjectSampleReferenceIdeal.main_arg1)
          ∧ r.2.mem ((c.tc : Thread Cert.ProjectSampleReferenceIdeal.nD Cert.ProjectSampleReferenceIdeal.τ).loc Cert.ProjectSampleReferenceIdeal.main_arg2) = m' ((c.tc : Thread Cert.ProjectSampleReferenceIdeal.nD Cert.ProjectSampleReferenceIdeal.τ).loc Cert.ProjectSampleReferenceIdeal.main_arg2)
          ∧ r.2.mem ((c.tc : Thread Cert.ProjectSampleReferenceIdeal.nD Cert.ProjectSampleReferenceIdeal.τ).loc Cert.ProjectSampleReferenceIdeal.main_arg3) = m' ((c.tc : Thread Cert.ProjectSampleReferenceIdeal.nD Cert.ProjectSampleReferenceIdeal.τ).loc Cert.ProjectSampleReferenceIdeal.main_arg3)
          ∧ r.2.mem ((c.tc : Thread Cert.ProjectSampleReferenceIdeal.nD Cert.ProjectSampleReferenceIdeal.τ).loc Cert.ProjectSampleReferenceIdeal.main_arg4) = m' ((c.tc : Thread Cert.ProjectSampleReferenceIdeal.nD Cert.ProjectSampleReferenceIdeal.τ).loc Cert.ProjectSampleReferenceIdeal.main_arg4))

def preserves_ProjectNorm_ProjectNormIdeal : Prop :=
  True

def algebraic_ProjectNormIdeal_ProjectNormReferenceIdeal_pre_queries_finite [hProjectNormIdeal : Cert.ProjectNormIdeal.Facts] [hProjectNormReferenceIdeal : Cert.ProjectNormReferenceIdeal.Facts] [hPre_queries_finite : Cert.Pre_queries_finite.Facts] : Prop :=
  ∀ (m : (ℓ : Loc Cert.ProjectNormIdeal.nD Cert.ProjectNormIdeal.τ Cert.ProjectNormIdeal.sig) → Buf (Elt Ideal) ℓ) (g : Dev Cert.ProjectNormIdeal.nD → PrngReg)
    (m' : (ℓ : Loc Cert.ProjectNormReferenceIdeal.nD Cert.ProjectNormReferenceIdeal.τ Cert.ProjectNormReferenceIdeal.sig) → Buf (Elt Ideal) ℓ) (g' : Dev Cert.ProjectNormReferenceIdeal.nD → PrngReg), Pre_ProjectNormIdeal_queries_finite m →
    (∀ c : Dev Cert.ProjectNormIdeal.nD,
      m' ((c.tc : Thread Cert.ProjectNormReferenceIdeal.nD Cert.ProjectNormReferenceIdeal.τ).loc Cert.ProjectNormReferenceIdeal.main_arg0) = m ((c.tc : Thread Cert.ProjectNormIdeal.nD Cert.ProjectNormIdeal.τ).loc Cert.ProjectNormIdeal.main_arg0)
      ∧ m' ((c.tc : Thread Cert.ProjectNormReferenceIdeal.nD Cert.ProjectNormReferenceIdeal.τ).loc Cert.ProjectNormReferenceIdeal.main_arg1) = m ((c.tc : Thread Cert.ProjectNormIdeal.nD Cert.ProjectNormIdeal.τ).loc Cert.ProjectNormIdeal.main_arg1)
      ∧ m' ((c.tc : Thread Cert.ProjectNormReferenceIdeal.nD Cert.ProjectNormReferenceIdeal.τ).loc Cert.ProjectNormReferenceIdeal.main_arg2) = m ((c.tc : Thread Cert.ProjectNormIdeal.nD Cert.ProjectNormIdeal.τ).loc Cert.ProjectNormIdeal.main_arg2)
      ∧ m' ((c.tc : Thread Cert.ProjectNormReferenceIdeal.nD Cert.ProjectNormReferenceIdeal.τ).loc Cert.ProjectNormReferenceIdeal.main_arg3) = m ((c.tc : Thread Cert.ProjectNormIdeal.nD Cert.ProjectNormIdeal.τ).loc Cert.ProjectNormIdeal.main_arg3)
      ∧ m' ((c.tc : Thread Cert.ProjectNormReferenceIdeal.nD Cert.ProjectNormReferenceIdeal.τ).loc Cert.ProjectNormReferenceIdeal.main_arg4) = m ((c.tc : Thread Cert.ProjectNormIdeal.nD Cert.ProjectNormIdeal.τ).loc Cert.ProjectNormIdeal.main_arg4)
      ∧ m' ((c.tc : Thread Cert.ProjectNormReferenceIdeal.nD Cert.ProjectNormReferenceIdeal.τ).loc Cert.ProjectNormReferenceIdeal.main_arg5) = m ((c.tc : Thread Cert.ProjectNormIdeal.nD Cert.ProjectNormIdeal.τ).loc Cert.ProjectNormIdeal.main_arg5)
      ∧ m' ((c.tc : Thread Cert.ProjectNormReferenceIdeal.nD Cert.ProjectNormReferenceIdeal.τ).loc Cert.ProjectNormReferenceIdeal.main_arg6) = m ((c.tc : Thread Cert.ProjectNormIdeal.nD Cert.ProjectNormIdeal.τ).loc Cert.ProjectNormIdeal.main_arg6)) →
    ∃ (v0 : (c : Dev Cert.ProjectNormIdeal.nD) → Buf (Elt Ideal) ((c.tc : Thread Cert.ProjectNormIdeal.nD Cert.ProjectNormIdeal.τ).loc Cert.ProjectNormIdeal.main_v18_0)) (v1 : (c : Dev Cert.ProjectNormIdeal.nD) → Buf (Elt Ideal) ((c.tc : Thread Cert.ProjectNormIdeal.nD Cert.ProjectNormIdeal.τ).loc Cert.ProjectNormIdeal.main_v18_1)) (v2 : (c : Dev Cert.ProjectNormIdeal.nD) → Buf (Elt Ideal) ((c.tc : Thread Cert.ProjectNormIdeal.nD Cert.ProjectNormIdeal.τ).loc Cert.ProjectNormIdeal.main_v18_2)) (v3 : (c : Dev Cert.ProjectNormIdeal.nD) → Buf (Elt Ideal) ((c.tc : Thread Cert.ProjectNormIdeal.nD Cert.ProjectNormIdeal.τ).loc Cert.ProjectNormIdeal.main_v21)) (v4 : (c : Dev Cert.ProjectNormIdeal.nD) → Buf (Elt Ideal) ((c.tc : Thread Cert.ProjectNormIdeal.nD Cert.ProjectNormIdeal.τ).loc Cert.ProjectNormIdeal.main_v24)),
      θ_run (Cert.ProjectNormIdeal.defs (F := Ideal)) (onTc (τ := Cert.ProjectNormIdeal.τ) (Cert.ProjectNormIdeal.main (F := Ideal))) ⟨m, fun _ => 0, g⟩ (fun r => ∀ c : Dev Cert.ProjectNormIdeal.nD,
          r.2.mem ((c.tc : Thread Cert.ProjectNormIdeal.nD Cert.ProjectNormIdeal.τ).loc Cert.ProjectNormIdeal.main_v18_0) = v0 c
          ∧ r.2.mem ((c.tc : Thread Cert.ProjectNormIdeal.nD Cert.ProjectNormIdeal.τ).loc Cert.ProjectNormIdeal.main_v18_1) = v1 c
          ∧ r.2.mem ((c.tc : Thread Cert.ProjectNormIdeal.nD Cert.ProjectNormIdeal.τ).loc Cert.ProjectNormIdeal.main_v18_2) = v2 c
          ∧ r.2.mem ((c.tc : Thread Cert.ProjectNormIdeal.nD Cert.ProjectNormIdeal.τ).loc Cert.ProjectNormIdeal.main_v21) = v3 c
          ∧ r.2.mem ((c.tc : Thread Cert.ProjectNormIdeal.nD Cert.ProjectNormIdeal.τ).loc Cert.ProjectNormIdeal.main_v24) = v4 c
          ∧ r.2.mem ((c.tc : Thread Cert.ProjectNormIdeal.nD Cert.ProjectNormIdeal.τ).loc Cert.ProjectNormIdeal.main_arg0) = m ((c.tc : Thread Cert.ProjectNormIdeal.nD Cert.ProjectNormIdeal.τ).loc Cert.ProjectNormIdeal.main_arg0)
          ∧ r.2.mem ((c.tc : Thread Cert.ProjectNormIdeal.nD Cert.ProjectNormIdeal.τ).loc Cert.ProjectNormIdeal.main_arg1) = m ((c.tc : Thread Cert.ProjectNormIdeal.nD Cert.ProjectNormIdeal.τ).loc Cert.ProjectNormIdeal.main_arg1)
          ∧ r.2.mem ((c.tc : Thread Cert.ProjectNormIdeal.nD Cert.ProjectNormIdeal.τ).loc Cert.ProjectNormIdeal.main_arg2) = m ((c.tc : Thread Cert.ProjectNormIdeal.nD Cert.ProjectNormIdeal.τ).loc Cert.ProjectNormIdeal.main_arg2)
          ∧ r.2.mem ((c.tc : Thread Cert.ProjectNormIdeal.nD Cert.ProjectNormIdeal.τ).loc Cert.ProjectNormIdeal.main_arg3) = m ((c.tc : Thread Cert.ProjectNormIdeal.nD Cert.ProjectNormIdeal.τ).loc Cert.ProjectNormIdeal.main_arg3)
          ∧ r.2.mem ((c.tc : Thread Cert.ProjectNormIdeal.nD Cert.ProjectNormIdeal.τ).loc Cert.ProjectNormIdeal.main_arg4) = m ((c.tc : Thread Cert.ProjectNormIdeal.nD Cert.ProjectNormIdeal.τ).loc Cert.ProjectNormIdeal.main_arg4)
          ∧ r.2.mem ((c.tc : Thread Cert.ProjectNormIdeal.nD Cert.ProjectNormIdeal.τ).loc Cert.ProjectNormIdeal.main_arg5) = m ((c.tc : Thread Cert.ProjectNormIdeal.nD Cert.ProjectNormIdeal.τ).loc Cert.ProjectNormIdeal.main_arg5)
          ∧ r.2.mem ((c.tc : Thread Cert.ProjectNormIdeal.nD Cert.ProjectNormIdeal.τ).loc Cert.ProjectNormIdeal.main_arg6) = m ((c.tc : Thread Cert.ProjectNormIdeal.nD Cert.ProjectNormIdeal.τ).loc Cert.ProjectNormIdeal.main_arg6))
      ∧ θ_run (Cert.ProjectNormReferenceIdeal.defs (F := Ideal)) (onTc (τ := Cert.ProjectNormReferenceIdeal.τ) (Cert.ProjectNormReferenceIdeal.main (F := Ideal))) ⟨m', fun _ => 0, g'⟩ (fun r => ∀ c : Dev Cert.ProjectNormReferenceIdeal.nD,
          r.2.mem ((c.tc : Thread Cert.ProjectNormReferenceIdeal.nD Cert.ProjectNormReferenceIdeal.τ).loc Cert.ProjectNormReferenceIdeal.main_v64) = v0 c
          ∧ r.2.mem ((c.tc : Thread Cert.ProjectNormReferenceIdeal.nD Cert.ProjectNormReferenceIdeal.τ).loc Cert.ProjectNormReferenceIdeal.main_v67) = v1 c
          ∧ r.2.mem ((c.tc : Thread Cert.ProjectNormReferenceIdeal.nD Cert.ProjectNormReferenceIdeal.τ).loc Cert.ProjectNormReferenceIdeal.main_v70) = v2 c
          ∧ r.2.mem ((c.tc : Thread Cert.ProjectNormReferenceIdeal.nD Cert.ProjectNormReferenceIdeal.τ).loc Cert.ProjectNormReferenceIdeal.main_v72) = v3 c
          ∧ r.2.mem ((c.tc : Thread Cert.ProjectNormReferenceIdeal.nD Cert.ProjectNormReferenceIdeal.τ).loc Cert.ProjectNormReferenceIdeal.main_v74) = v4 c
          ∧ r.2.mem ((c.tc : Thread Cert.ProjectNormReferenceIdeal.nD Cert.ProjectNormReferenceIdeal.τ).loc Cert.ProjectNormReferenceIdeal.main_arg0) = m' ((c.tc : Thread Cert.ProjectNormReferenceIdeal.nD Cert.ProjectNormReferenceIdeal.τ).loc Cert.ProjectNormReferenceIdeal.main_arg0)
          ∧ r.2.mem ((c.tc : Thread Cert.ProjectNormReferenceIdeal.nD Cert.ProjectNormReferenceIdeal.τ).loc Cert.ProjectNormReferenceIdeal.main_arg1) = m' ((c.tc : Thread Cert.ProjectNormReferenceIdeal.nD Cert.ProjectNormReferenceIdeal.τ).loc Cert.ProjectNormReferenceIdeal.main_arg1)
          ∧ r.2.mem ((c.tc : Thread Cert.ProjectNormReferenceIdeal.nD Cert.ProjectNormReferenceIdeal.τ).loc Cert.ProjectNormReferenceIdeal.main_arg2) = m' ((c.tc : Thread Cert.ProjectNormReferenceIdeal.nD Cert.ProjectNormReferenceIdeal.τ).loc Cert.ProjectNormReferenceIdeal.main_arg2)
          ∧ r.2.mem ((c.tc : Thread Cert.ProjectNormReferenceIdeal.nD Cert.ProjectNormReferenceIdeal.τ).loc Cert.ProjectNormReferenceIdeal.main_arg3) = m' ((c.tc : Thread Cert.ProjectNormReferenceIdeal.nD Cert.ProjectNormReferenceIdeal.τ).loc Cert.ProjectNormReferenceIdeal.main_arg3)
          ∧ r.2.mem ((c.tc : Thread Cert.ProjectNormReferenceIdeal.nD Cert.ProjectNormReferenceIdeal.τ).loc Cert.ProjectNormReferenceIdeal.main_arg4) = m' ((c.tc : Thread Cert.ProjectNormReferenceIdeal.nD Cert.ProjectNormReferenceIdeal.τ).loc Cert.ProjectNormReferenceIdeal.main_arg4)
          ∧ r.2.mem ((c.tc : Thread Cert.ProjectNormReferenceIdeal.nD Cert.ProjectNormReferenceIdeal.τ).loc Cert.ProjectNormReferenceIdeal.main_arg5) = m' ((c.tc : Thread Cert.ProjectNormReferenceIdeal.nD Cert.ProjectNormReferenceIdeal.τ).loc Cert.ProjectNormReferenceIdeal.main_arg5)
          ∧ r.2.mem ((c.tc : Thread Cert.ProjectNormReferenceIdeal.nD Cert.ProjectNormReferenceIdeal.τ).loc Cert.ProjectNormReferenceIdeal.main_arg6) = m' ((c.tc : Thread Cert.ProjectNormReferenceIdeal.nD Cert.ProjectNormReferenceIdeal.τ).loc Cert.ProjectNormReferenceIdeal.main_arg6))

def Claim : Prop :=
  ∃ (hKernel : Cert.Kernel.Facts) (hKernelIdeal : Cert.KernelIdeal.Facts) (hReferenceIdeal : Cert.ReferenceIdeal.Facts) (hExpert : Cert.Expert.Facts) (hExpertIdeal : Cert.ExpertIdeal.Facts) (hExpertReferenceIdeal : Cert.ExpertReferenceIdeal.Facts) (hDense : Cert.Dense.Facts) (hDenseIdeal : Cert.DenseIdeal.Facts) (hDenseReferenceIdeal : Cert.DenseReferenceIdeal.Facts) (hProject : Cert.Project.Facts) (hProjectIdeal : Cert.ProjectIdeal.Facts) (hProjectReferenceIdeal : Cert.ProjectReferenceIdeal.Facts) (hProjectSample : Cert.ProjectSample.Facts) (hProjectSampleIdeal : Cert.ProjectSampleIdeal.Facts) (hProjectSampleReferenceIdeal : Cert.ProjectSampleReferenceIdeal.Facts) (hProjectNorm : Cert.ProjectNorm.Facts) (hProjectNormIdeal : Cert.ProjectNormIdeal.Facts) (hProjectNormReferenceIdeal : Cert.ProjectNormReferenceIdeal.Facts) (hPre_experts_in_range : Cert.Pre_experts_in_range.Facts) (hPre_queries_finite : Cert.Pre_queries_finite.Facts),
    quiescent_Kernel (hKernel := hKernel)
    ∧ quiescent_KernelIdeal (hKernelIdeal := hKernelIdeal)
    ∧ quiescent_ReferenceIdeal (hReferenceIdeal := hReferenceIdeal)
    ∧ quiescent_Expert (hExpert := hExpert) (hPre_experts_in_range := hPre_experts_in_range)
    ∧ quiescent_ExpertIdeal (hExpertIdeal := hExpertIdeal) (hPre_experts_in_range := hPre_experts_in_range)
    ∧ quiescent_ExpertReferenceIdeal (hExpertReferenceIdeal := hExpertReferenceIdeal)
    ∧ quiescent_ExpertReferenceIdeal_pre_experts_in_range (hExpertReferenceIdeal := hExpertReferenceIdeal) (hPre_experts_in_range := hPre_experts_in_range)
    ∧ quiescent_Dense (hDense := hDense)
    ∧ quiescent_DenseIdeal (hDenseIdeal := hDenseIdeal)
    ∧ quiescent_DenseReferenceIdeal (hDenseReferenceIdeal := hDenseReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_ProjectSample (hProjectSample := hProjectSample)
    ∧ quiescent_ProjectSampleIdeal (hProjectSampleIdeal := hProjectSampleIdeal)
    ∧ quiescent_ProjectSampleReferenceIdeal (hProjectSampleReferenceIdeal := hProjectSampleReferenceIdeal)
    ∧ quiescent_ProjectNorm (hProjectNorm := hProjectNorm)
    ∧ quiescent_ProjectNormIdeal (hProjectNormIdeal := hProjectNormIdeal)
    ∧ quiescent_ProjectNormIdeal_pre_queries_finite (hProjectNormIdeal := hProjectNormIdeal) (hPre_queries_finite := hPre_queries_finite)
    ∧ quiescent_ProjectNormReferenceIdeal (hProjectNormReferenceIdeal := hProjectNormReferenceIdeal)
    ∧ quiescent_ProjectNormReferenceIdeal_pre_queries_finite (hProjectNormReferenceIdeal := hProjectNormReferenceIdeal) (hPre_queries_finite := hPre_queries_finite)
    ∧ preserves_Kernel_KernelIdeal
    ∧ preserves_Expert_ExpertIdeal
    ∧ algebraic_ExpertIdeal_ExpertReferenceIdeal (hExpertIdeal := hExpertIdeal) (hExpertReferenceIdeal := hExpertReferenceIdeal) (hPre_experts_in_range := hPre_experts_in_range)
    ∧ preserves_Dense_DenseIdeal
    ∧ algebraic_DenseIdeal_DenseReferenceIdeal (hDenseIdeal := hDenseIdeal) (hDenseReferenceIdeal := hDenseReferenceIdeal)
    ∧ preserves_Project_ProjectIdeal
    ∧ algebraic_ProjectIdeal_ProjectReferenceIdeal (hProjectIdeal := hProjectIdeal) (hProjectReferenceIdeal := hProjectReferenceIdeal)
    ∧ preserves_ProjectSample_ProjectSampleIdeal
    ∧ algebraic_ProjectSampleIdeal_ProjectSampleReferenceIdeal (hProjectSampleIdeal := hProjectSampleIdeal) (hProjectSampleReferenceIdeal := hProjectSampleReferenceIdeal)
    ∧ preserves_ProjectNorm_ProjectNormIdeal
    ∧ algebraic_ProjectNormIdeal_ProjectNormReferenceIdeal_pre_queries_finite (hProjectNormIdeal := hProjectNormIdeal) (hProjectNormReferenceIdeal := hProjectNormReferenceIdeal) (hPre_queries_finite := hPre_queries_finite)
-- ==== Pre_experts_in_range.lean ====
abbrev S138 : Shape := ⟨1, ![138]⟩
abbrev S70656x1024 : Shape := ⟨2, ![70656, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S138 : S_.BroadcastsInDim S138 (![] : Fin 0 → Fin S138.rank)

variable [Facts]

def fn {F : FTy → Type} [FloatOps F] (main_arg0 : IVec S138 32) (main_arg1 : IVec S138 32) (main_arg2 : FVec F S70656x1024 .f32) (main_arg3 : FVec F S8x1024x3584 .f32) (main_arg4 : FVec F S8x1024x3584 .f32) (main_arg5 : FVec F S8x3584x1024 .f32) : IVec S138 1 :=
  let main_c : IVec S_ 32 := constantI S_ 32 0#32
  let main_v0 : IVec S138 32 := broadcastInDim S138 ![] bcast_S_S138 main_c
  let main_v1 : IVec S138 1 := cmpi .sge main_arg0 main_v0
  let main_c_0 : IVec S_ 32 := constantI S_ 32 8#32
  let main_v2 : IVec S138 32 := broadcastInDim S138 ![] bcast_S_S138 main_c_0
  let main_v3 : IVec S138 1 := cmpi .slt main_arg0 main_v2
  let main_v4 : IVec S138 1 := andi main_v1 main_v3
  main_v4
-- ==== Pre_queries_finite.lean ====
abbrev S4x8192x1024 : Shape := ⟨3, ![4, 8192, 1024]⟩
abbrev S1024 : Shape := ⟨1, ![1024]⟩
abbrev S4x6144 : Shape := ⟨2, ![4, 6144]⟩
abbrev S16x6144 : Shape := ⟨2, ![16, 6144]⟩
abbrev S1024x3072 : Shape := ⟨2, ![1024, 3072]⟩
abbrev S64 : Shape := ⟨1, ![64]⟩
abbrev S_ : Shape := ⟨0, ![]⟩
abbrev S4x2048 : Shape := ⟨2, ![4, 2048]⟩
abbrev S1024x1024 : Shape := ⟨2, ![1024, 1024]⟩

class Facts : Prop where
  bcast_S_S4x8192x1024 : S_.BroadcastsInDim S4x8192x1024 (![] : Fin 0 → Fin S4x8192x1024.rank)
  bcast_S_S1024 : S_.BroadcastsInDim S1024 (![] : Fin 0 → Fin S1024.rank)
  slices_S4x6144_S4x2048_0_0 : S4x6144.Slices ![0, 0] S4x2048
  bcast_S_S4x2048 : S_.BroadcastsInDim S4x2048 (![] : Fin 0 → Fin S4x2048.rank)
  slices_S1024x3072_S1024x1024_0_0 : S1024x3072.Slices ![0, 0] S1024x1024
  bcast_S_S1024x1024 : S_.BroadcastsInDim S1024x1024 (![] : Fin 0 → Fin S1024x1024.rank)

variable [Facts]

def fn {F : FTy → Type} [FloatOps F] (main_arg0 : FVec F S4x8192x1024 .f32) (main_arg1 : FVec F S1024 .f32) (main_arg2 : FVec F S4x6144 .f32) (main_arg3 : FVec F S16x6144 .f32) (main_arg4 : FVec F S1024x3072 .f32) (main_arg5 : FVec F S64 .f32) (main_arg6 : FVec F S64 .f32) : IVec S4x8192x1024 1 × IVec S1024 1 × IVec S4x2048 1 × IVec S1024x1024 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4x2048 .f32 := (extractStridedSlice S4x2048 ![0, 0] · slices_S4x6144_S4x2048_0_0) main_arg2
  let main_v7 : FVec F S4x2048 .f32 := Host.absf main_v6
  let main_cst_1 : FVec F S_ .f32 := constant S_ .f32 0x7F800000#32
  let main_v8 : FVec F S4x2048 .f32 := broadcastInDim S4x2048 ![] bcast_S_S4x2048 main_cst_1
  let main_v9 : IVec S4x2048 1 := cmpf .olt main_v7 main_v8
  let main_v10 : FVec F S1024x1024 .f32 := (extractStridedSlice S1024x1024 ![0, 0] · slices_S1024x3072_S1024x1024_0_0) main_arg4
  let main_v11 : FVec F S1024x1024 .f32 := Host.absf main_v10
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  (main_v2, main_v5, main_v9, main_v13)
-- ==== Kernel.lean ====
abbrev S4x8192x16x64 : Shape := ⟨4, ![4, 8192, 16, 64]⟩
abbrev S16x257 : Shape := ⟨2, ![16, 257]⟩
abbrev S768 : Shape := ⟨1, ![768]⟩
abbrev S_ : Shape := ⟨0, ![]⟩
abbrev S32768x8x128 : Shape := ⟨3, ![32768, 8, 128]⟩
abbrev S8x32768x128 : Shape := ⟨3, ![8, 32768, 128]⟩
abbrev S4x16x64x8192 : Shape := ⟨4, ![4, 16, 64, 8192]⟩
abbrev S4x1024x8192 : Shape := ⟨3, ![4, 1024, 8192]⟩
abbrev S768x1 : Shape := ⟨2, ![768, 1]⟩
abbrev S16x768 : Shape := ⟨2, ![16, 768]⟩
abbrev S16x641 : Shape := ⟨2, ![16, 641]⟩
abbrev S16x127 : Shape := ⟨2, ![16, 127]⟩
abbrev S1x16x1x768 : Shape := ⟨4, ![1, 16, 1, 768]⟩
abbrev S1x16x128x768 : Shape := ⟨4, ![1, 16, 128, 768]⟩
abbrev S16x98304 : Shape := ⟨2, ![16, 98304]⟩
abbrev S16x98176 : Shape := ⟨2, ![16, 98176]⟩
abbrev S16x128x767 : Shape := ⟨3, ![16, 128, 767]⟩
abbrev S16x128x640 : Shape := ⟨3, ![16, 128, 640]⟩
abbrev S128 : Shape := ⟨1, ![128]⟩
abbrev S640 : Shape := ⟨1, ![640]⟩
abbrev S1x640 : Shape := ⟨2, ![1, 640]⟩
abbrev S128x1 : Shape := ⟨2, ![128, 1]⟩
abbrev S128x640 : Shape := ⟨2, ![128, 640]⟩
abbrev S1x128x640 : Shape := ⟨3, ![1, 128, 640]⟩
abbrev S16x128x1152 : Shape := ⟨3, ![16, 128, 1152]⟩
abbrev S1x8192x128 : Shape := ⟨3, ![1, 8192, 128]⟩
abbrev S1x128x8192 : Shape := ⟨3, ![1, 128, 8192]⟩
abbrev S2x128x1152 : Shape := ⟨3, ![2, 128, 1152]⟩
abbrev S1x128x128 : Shape := ⟨3, ![1, 128, 128]⟩
abbrev S128x128 : Shape := ⟨2, ![128, 128]⟩
abbrev S256x128 : Shape := ⟨2, ![256, 128]⟩
abbrev S256x640 : Shape := ⟨2, ![256, 640]⟩
abbrev S32x640 : Shape := ⟨2, ![32, 640]⟩
abbrev S1x32x640 : Shape := ⟨3, ![1, 32, 640]⟩
abbrev S32 : Shape := ⟨1, ![32]⟩
abbrev S32x1 : Shape := ⟨2, ![32, 1]⟩
abbrev S256x1 : Shape := ⟨2, ![256, 1]⟩

abbrev nBuf : Space → Nat
  | .hbm => 107
  | .vmem => 10
  | .smem => 0
  | _ => 0

abbrev bufTy : (tb : Table) → Fin (tcTables nBuf tb) → BufTy
  | .hbm, ⟨0, _⟩ => ⟨S4x8192x16x64, .f32⟩
  | .hbm, ⟨1, _⟩ => ⟨S4x8192x16x64, .f32⟩
  | .hbm, ⟨2, _⟩ => ⟨S4x8192x16x64, .f32⟩
  | .hbm, ⟨3, _⟩ => ⟨S16x257, .f32⟩
  | .hbm, ⟨4, _⟩ => ⟨S768, .i32⟩
  | .hbm, ⟨5, _⟩ => ⟨S768, .i1⟩
  | .hbm, ⟨6, _⟩ => ⟨S_, .f32⟩
  | .hbm, ⟨7, _⟩ => ⟨S4x8192x16x64, .f32⟩
  | .hbm, ⟨8, _⟩ => ⟨S4x8192x16x64, .f32⟩
  | .hbm, ⟨9, _⟩ => ⟨S4x8192x16x64, .bf16⟩
  | .hbm, ⟨10, _⟩ => ⟨S32768x8x128, .bf16⟩
  | .hbm, ⟨11, _⟩ => ⟨S8x32768x128, .bf16⟩
  | .hbm, ⟨12, _⟩ => ⟨S4x16x64x8192, .f32⟩
  | .hbm, ⟨13, _⟩ => ⟨S4x1024x8192, .f32⟩
  | .hbm, ⟨14, _⟩ => ⟨S4x1024x8192, .bf16⟩
  | .hbm, ⟨15, _⟩ => ⟨S4x16x64x8192, .f32⟩
  | .hbm, ⟨16, _⟩ => ⟨S4x1024x8192, .f32⟩
  | .hbm, ⟨17, _⟩ => ⟨S4x1024x8192, .bf16⟩
  | .hbm, ⟨18, _⟩ => ⟨S_, .i32⟩
  | .hbm, ⟨19, _⟩ => ⟨S768, .i32⟩
  | .hbm, ⟨20, _⟩ => ⟨S768, .i32⟩
  | .hbm, ⟨21, _⟩ => ⟨S768, .i32⟩
  | .hbm, ⟨22, _⟩ => ⟨S768x1, .i32⟩
  | .hbm, ⟨23, _⟩ => ⟨S16x768, .f32⟩
  | .hbm, ⟨24, _⟩ => ⟨S16x641, .f32⟩
  | .hbm, ⟨25, _⟩ => ⟨S16x127, .f32⟩
  | .hbm, ⟨26, _⟩ => ⟨S16x768, .f32⟩
  | .hbm, ⟨27, _⟩ => ⟨S1x16x1x768, .f32⟩
  | .hbm, ⟨28, _⟩ => ⟨S1x16x128x768, .f32⟩
  | .hbm, ⟨29, _⟩ => ⟨S16x98304, .f32⟩
  | .hbm, ⟨30, _⟩ => ⟨S16x98176, .f32⟩
  | .hbm, ⟨31, _⟩ => ⟨S16x128x767, .f32⟩
  | .hbm, ⟨32, _⟩ => ⟨S16x128x640, .f32⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S640, .i32⟩
  | .hbm, ⟨38, _⟩ => ⟨S_, .i32⟩
  | .hbm, ⟨39, _⟩ => ⟨S640, .i32⟩
  | .hbm, ⟨40, _⟩ => ⟨S640, .i32⟩
  | .hbm, ⟨41, _⟩ => ⟨S_, .i32⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S_, .i32⟩
  | .hbm, ⟨47, _⟩ => ⟨S128, .i32⟩
  | .hbm, ⟨48, _⟩ => ⟨S128, .i1⟩
  | .hbm, ⟨49, _⟩ => ⟨S128, .i32⟩
  | .hbm, ⟨50, _⟩ => ⟨S128, .i32⟩
  | .hbm, ⟨51, _⟩ => ⟨S_, .i32⟩
  | .hbm, ⟨52, _⟩ => ⟨S128, .i32⟩
  | .hbm, ⟨53, _⟩ => ⟨S128, .i1⟩
  | .hbm, ⟨54, _⟩ => ⟨S128, .i1⟩
  | .hbm, ⟨55, _⟩ => ⟨S_, .i32⟩
  | .hbm, ⟨56, _⟩ => ⟨S128, .i32⟩
  | .hbm, ⟨57, _⟩ => ⟨S128, .i32⟩
  | .hbm, ⟨58, _⟩ => ⟨S128, .i32⟩
  | .hbm, ⟨59, _⟩ => ⟨S_, .i32⟩
  | .hbm, ⟨60, _⟩ => ⟨S_, .i32⟩
  | .hbm, ⟨61, _⟩ => ⟨S640, .i32⟩
  | .hbm, ⟨62, _⟩ => ⟨S640, .i32⟩
  | .hbm, ⟨63, _⟩ => ⟨S640, .i32⟩
  | .hbm, ⟨64, _⟩ => ⟨S_, .i32⟩
  | .hbm, ⟨65, _⟩ => ⟨S640, .i32⟩
  | .hbm, ⟨66, _⟩ => ⟨S640, .i1⟩
  | .hbm, ⟨67, _⟩ => ⟨S640, .i32⟩
  | .hbm, ⟨68, _⟩ => ⟨S640, .i32⟩
  | .hbm, ⟨69, _⟩ => ⟨S_, .i32⟩
  | .hbm, ⟨70, _⟩ => ⟨S640, .i32⟩
  | .hbm, ⟨71, _⟩ => ⟨S640, .i1⟩
  | .hbm, ⟨72, _⟩ => ⟨S640, .i1⟩
  | .hbm, ⟨73, _⟩ => ⟨S_, .i32⟩
  | .hbm, ⟨74, _⟩ => ⟨S640, .i32⟩
  | .hbm, ⟨75, _⟩ => ⟨S640, .i32⟩
  | .hbm, ⟨76, _⟩ => ⟨S640, .i32⟩
  | .hbm, ⟨77, _⟩ => ⟨S1x640, .i32⟩
  | .hbm, ⟨78, _⟩ => ⟨S_, .i32⟩
  | .hbm, ⟨79, _⟩ => ⟨S1x640, .i32⟩
  | .hbm, ⟨80, _⟩ => ⟨S1x640, .i1⟩
  | .hbm, ⟨81, _⟩ => ⟨S1x640, .i32⟩
  | .hbm, ⟨82, _⟩ => ⟨S128x1, .i32⟩
  | .hbm, ⟨83, _⟩ => ⟨S128x640, .i32⟩
  | .hbm, ⟨84, _⟩ => ⟨S128x640, .i32⟩
  | .hbm, ⟨85, _⟩ => ⟨S128x640, .i1⟩
  | .hbm, ⟨86, _⟩ => ⟨S128x640, .i1⟩
  | .hbm, ⟨87, _⟩ => ⟨S128x640, .i1⟩
  | .hbm, ⟨88, _⟩ => ⟨S1x640, .i32⟩
  | .hbm, ⟨89, _⟩ => ⟨S128x1, .i32⟩
  | .hbm, ⟨90, _⟩ => ⟨S_, .i32⟩
  | .hbm, ⟨91, _⟩ => ⟨S128x1, .i32⟩
  | .hbm, ⟨92, _⟩ => ⟨S128x1, .i32⟩
  | .hbm, ⟨93, _⟩ => ⟨S128x640, .i32⟩
  | .hbm, ⟨94, _⟩ => ⟨S128x640, .i32⟩
  | .hbm, ⟨95, _⟩ => ⟨S128x640, .i1⟩
  | .hbm, ⟨96, _⟩ => ⟨S128x640, .i1⟩
  | .hbm, ⟨97, _⟩ => ⟨S1x128x640, .i1⟩
  | .hbm, ⟨98, _⟩ => ⟨S_, .f32⟩
  | .hbm, ⟨99, _⟩ => ⟨S_, .f32⟩
  | .hbm, ⟨100, _⟩ => ⟨S16x128x640, .i1⟩
  | .hbm, ⟨101, _⟩ => ⟨S16x128x640, .f32⟩
  | .hbm, ⟨102, _⟩ => ⟨S16x128x640, .f32⟩
  | .hbm, ⟨103, _⟩ => ⟨S_, .f32⟩
  | .hbm, ⟨104, _⟩ => ⟨S_, .f32⟩
  | .hbm, ⟨105, _⟩ => ⟨S16x128x1152, .f32⟩
  | .hbm, ⟨106, _⟩ => ⟨S8x32768x128, .bf16⟩
  | .local _ .vmem, ⟨0, _⟩ => ⟨S1x8192x128, .bf16⟩
  | .local _ .vmem, ⟨1, _⟩ => ⟨S1x8192x128, .bf16⟩
  | .local _ .vmem, ⟨2, _⟩ => ⟨S1x128x8192, .bf16⟩
  | .local _ .vmem, ⟨3, _⟩ => ⟨S1x128x8192, .bf16⟩
  | .local _ .vmem, ⟨4, _⟩ => ⟨S1x128x8192, .bf16⟩
  | .local _ .vmem, ⟨5, _⟩ => ⟨S1x128x8192, .bf16⟩
  | .local _ .vmem, ⟨6, _⟩ => ⟨S2x128x1152, .f32⟩
  | .local _ .vmem, ⟨7, _⟩ => ⟨S2x128x1152, .f32⟩
  | .local _ .vmem, ⟨8, _⟩ => ⟨S1x8192x128, .bf16⟩
  | .local _ .vmem, ⟨9, _⟩ => ⟨S1x8192x128, .bf16⟩
  | _, _ => ⟨S4x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v29 : Ref sig .tc := ⟨.hbm, 58, rfl⟩
abbrev main_c_5 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_c : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_0 : Ref sig .tc := ⟨.hbm, 73, rfl⟩
abbrev main_call2_v12 : Ref sig .tc := ⟨.hbm, 74, rfl⟩
abbrev main_call2_v13 : Ref sig .tc := ⟨.hbm, 75, rfl⟩
abbrev main_v30 : Ref sig .tc := ⟨.hbm, 76, rfl⟩
abbrev main_v31 : Ref sig .tc := ⟨.hbm, 77, rfl⟩
abbrev main_c_6 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_c_7 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_cst_8 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v50 : Ref sig .tc := ⟨.hbm, 102, rfl⟩
abbrev main_cst_9 : Ref sig .tc := ⟨.hbm, 103, rfl⟩
abbrev main_call4_v0 : Ref sig .tc := ⟨.hbm, 104, rfl⟩
abbrev main_v51 : Ref sig .tc := ⟨.hbm, 105, rfl⟩
abbrev main_v52 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_1 : BitVec 32 := 8#32
  let v1 : BitVec 32 := Scalar.muli arg7 c8_i32_1
  let c0_i32_2 : BitVec 32 := 0#32
  let v2 : BitVec 32 := Scalar.addi v1 c0_i32_2
  let c128_i32 : BitVec 32 := 128#32
  let v17 : BitVec 32 := Scalar.muli v2 c128_i32
  v17
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_3 : BitVec 32 := 8#32
  let v3 : BitVec 32 := Scalar.muli arg7 c8_i32_3
  let c1_i32_4 : BitVec 32 := 1#32
  let v4 : BitVec 32 := Scalar.addi v3 c1_i32_4
  let c128_i32_11 : BitVec 32 := 128#32
  let v19 : BitVec 32 := Scalar.muli v4 c128_i32_11
  v19
def k0_mult3 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_5 : BitVec 32 := 8#32
  let v5 : BitVec 32 := Scalar.muli arg7 c8_i32_5
  let c2_i32 : BitVec 32 := 2#32
  let v6 : BitVec 32 := Scalar.addi v5 c2_i32
  let c128_i32_12 : BitVec 32 := 128#32
  let v21 : BitVec 32 := Scalar.muli v6 c128_i32_12
  v21
def k0_mult4 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_6 : BitVec 32 := 8#32
  let v7 : BitVec 32 := Scalar.muli arg7 c8_i32_6
  let c3_i32 : BitVec 32 := 3#32
  let v8 : BitVec 32 := Scalar.addi v7 c3_i32
  let c128_i32_13 : BitVec 32 := 128#32
  let v23 : BitVec 32 := Scalar.muli v8 c128_i32_13
  v23
def k0_mult5 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_7 : BitVec 32 := 8#32
  let v9 : BitVec 32 := Scalar.muli arg7 c8_i32_7
  let c4_i32 : BitVec 32 := 4#32
  let v10 : BitVec 32 := Scalar.addi v9 c4_i32
  let c128_i32_14 : BitVec 32 := 128#32
  let v25 : BitVec 32 := Scalar.muli v10 c128_i32_14
  v25
def k0_mult6 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_8 : BitVec 32 := 8#32
  let v11 : BitVec 32 := Scalar.muli arg7 c8_i32_8
  let c5_i32 : BitVec 32 := 5#32
  let v12 : BitVec 32 := Scalar.addi v11 c5_i32
  let c128_i32_15 : BitVec 32 := 128#32
  let v27 : BitVec 32 := Scalar.muli v12 c128_i32_15
  v27
def k0_mult7 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_9 : BitVec 32 := 8#32
  let v13 : BitVec 32 := Scalar.muli arg7 c8_i32_9
  let c6_i32 : BitVec 32 := 6#32
  let v14 : BitVec 32 := Scalar.addi v13 c6_i32
  let c128_i32_16 : BitVec 32 := 128#32
  let v29 : BitVec 32 := Scalar.muli v14 c128_i32_16
  v29
def k0_mult8 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_10 : BitVec 32 := 8#32
  let v15 : BitVec 32 := Scalar.muli arg7 c8_i32_10
  let c7_i32 : BitVec 32 := 7#32
  let v16 : BitVec 32 := Scalar.addi v15 c7_i32
  let c128_i32_17 : BitVec 32 := 128#32
  let v31 : BitVec 32 := Scalar.muli v16 c128_i32_17
  v31
def k0_mult9 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_1 : BitVec 32 := 8#32
  let v1 : BitVec 32 := Scalar.muli arg7 c8_i32_1
  let c0_i32_2 : BitVec 32 := 0#32
  let v2 : BitVec 32 := Scalar.addi v1 c0_i32_2
  let c4_i32_18 : BitVec 32 := 4#32
  let v33 : BitVec 32 := Scalar.subi v2 c4_i32_18
  let c0_i32_19 : BitVec 32 := 0#32
  let v34 : BitVec 32 := Scalar.maxsi v33 c0_i32_19
  let c128_i32_20 : BitVec 32 := 128#32
  let v35 : BitVec 32 := Scalar.muli v34 c128_i32_20
  v35
def k0_mult10 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_3 : BitVec 32 := 8#32
  let v3 : BitVec 32 := Scalar.muli arg7 c8_i32_3
  let c1_i32_4 : BitVec 32 := 1#32
  let v4 : BitVec 32 := Scalar.addi v3 c1_i32_4
  let c4_i32_21 : BitVec 32 := 4#32
  let v37 : BitVec 32 := Scalar.subi v4 c4_i32_21
  let c0_i32_22 : BitVec 32 := 0#32
  let v38 : BitVec 32 := Scalar.maxsi v37 c0_i32_22
  let c128_i32_23 : BitVec 32 := 128#32
  let v39 : BitVec 32 := Scalar.muli v38 c128_i32_23
  v39
def k0_mult11 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_5 : BitVec 32 := 8#32
  let v5 : BitVec 32 := Scalar.muli arg7 c8_i32_5
  let c2_i32 : BitVec 32 := 2#32
  let v6 : BitVec 32 := Scalar.addi v5 c2_i32
  let c4_i32_24 : BitVec 32 := 4#32
  let v41 : BitVec 32 := Scalar.subi v6 c4_i32_24
  let c0_i32_25 : BitVec 32 := 0#32
  let v42 : BitVec 32 := Scalar.maxsi v41 c0_i32_25
  let c128_i32_26 : BitVec 32 := 128#32
  let v43 : BitVec 32 := Scalar.muli v42 c128_i32_26
  v43
def k0_mult12 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_6 : BitVec 32 := 8#32
  let v7 : BitVec 32 := Scalar.muli arg7 c8_i32_6
  let c3_i32 : BitVec 32 := 3#32
  let v8 : BitVec 32 := Scalar.addi v7 c3_i32
  let c4_i32_27 : BitVec 32 := 4#32
  let v45 : BitVec 32 := Scalar.subi v8 c4_i32_27
  let c0_i32_28 : BitVec 32 := 0#32
  let v46 : BitVec 32 := Scalar.maxsi v45 c0_i32_28
  let c128_i32_29 : BitVec 32 := 128#32
  let v47 : BitVec 32 := Scalar.muli v46 c128_i32_29
  v47
def k0_mult13 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_7 : BitVec 32 := 8#32
  let v9 : BitVec 32 := Scalar.muli arg7 c8_i32_7
  let c4_i32 : BitVec 32 := 4#32
  let v10 : BitVec 32 := Scalar.addi v9 c4_i32
  let c4_i32_30 : BitVec 32 := 4#32
  let v49 : BitVec 32 := Scalar.subi v10 c4_i32_30
  let c0_i32_31 : BitVec 32 := 0#32
  let v50 : BitVec 32 := Scalar.maxsi v49 c0_i32_31
  let c128_i32_32 : BitVec 32 := 128#32
  let v51 : BitVec 32 := Scalar.muli v50 c128_i32_32
  v51
def k0_mult14 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_8 : BitVec 32 := 8#32
  let v11 : BitVec 32 := Scalar.muli arg7 c8_i32_8
  let c5_i32 : BitVec 32 := 5#32
  let v12 : BitVec 32 := Scalar.addi v11 c5_i32
  let c4_i32_33 : BitVec 32 := 4#32
  let v53 : BitVec 32 := Scalar.subi v12 c4_i32_33
  let c0_i32_34 : BitVec 32 := 0#32
  let v54 : BitVec 32 := Scalar.maxsi v53 c0_i32_34
  let c128_i32_35 : BitVec 32 := 128#32
  let v55 : BitVec 32 := Scalar.muli v54 c128_i32_35
  v55
def k0_mult15 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_9 : BitVec 32 := 8#32
  let v13 : BitVec 32 := Scalar.muli arg7 c8_i32_9
  let c6_i32 : BitVec 32 := 6#32
  let v14 : BitVec 32 := Scalar.addi v13 c6_i32
  let c4_i32_36 : BitVec 32 := 4#32
  let v57 : BitVec 32 := Scalar.subi v14 c4_i32_36
  let c0_i32_37 : BitVec 32 := 0#32
  let v58 : BitVec 32 := Scalar.maxsi v57 c0_i32_37
  let c128_i32_38 : BitVec 32 := 128#32
  let v59 : BitVec 32 := Scalar.muli v58 c128_i32_38
  v59
def k0_mult16 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_10 : BitVec 32 := 8#32
  let v15 : BitVec 32 := Scalar.muli arg7 c8_i32_10
  let c7_i32 : BitVec 32 := 7#32
  let v16 : BitVec 32 := Scalar.addi v15 c7_i32
  let c4_i32_39 : BitVec 32 := 4#32
  let v61 : BitVec 32 := Scalar.subi v16 c4_i32_39
  let c0_i32_40 : BitVec 32 := 0#32
  let v62 : BitVec 32 := Scalar.maxsi v61 c0_i32_40
  let c128_i32_41 : BitVec 32 := 128#32
  let v63 : BitVec 32 := Scalar.muli v62 c128_i32_41
  v63
def k0_mult17 (k0_t1 : Fin k0_t1_loop.trips) : BitVec 32 :=
  let c4_i32_42 : BitVec 32 := 4#32
  let c0_i32 : BitVec 32 := 0#32
  let c1_i32 : BitVec 32 := 1#32
  let arg7 : BitVec 32 := Scf.iv c0_i32 c1_i32 k0_t1
  let c8_i32_1 : BitVec 32 := 8#32
  let v1 : BitVec 32 := Scalar.muli arg7 c8_i32_1
  let c0_i32_2 : BitVec 32 := 0#32
  let v2 : BitVec 32 := Scalar.addi v1 c0_i32_2
  let v65 : BitVec 32 := Scalar.subi c4_i32_42 v2
  let c0_i32_43 : BitVec 32 := 0#32
  let v66 : BitVec 32 := Scalar.maxsi v65 c0_i32_43
  let c128_i32_44 : BitVec 32 := 128#32
  let v67 : BitVec 32 := Scalar.muli v66 c128_i32_44
  v67
def k0_mult18 (k0_t1 : Fin k0_t1_loop.trips) : BitVec 32 :=
  let c4_i32_45 : BitVec 32 := 4#32
  let c0_i32 : BitVec 32 := 0#32
  let c1_i32 : BitVec 32 := 1#32
  let arg7 : BitVec 32 := Scf.iv c0_i32 c1_i32 k0_t1
  let c8_i32_3 : BitVec 32 := 8#32
  let v3 : BitVec 32 := Scalar.muli arg7 c8_i32_3
  let c1_i32_4 : BitVec 32 := 1#32
  let v4 : BitVec 32 := Scalar.addi v3 c1_i32_4
  let v69 : BitVec 32 := Scalar.subi c4_i32_45 v4
  let c0_i32_46 : BitVec 32 := 0#32
  let v70 : BitVec 32 := Scalar.maxsi v69 c0_i32_46
  let c128_i32_47 : BitVec 32 := 128#32
  let v71 : BitVec 32 := Scalar.muli v70 c128_i32_47
  v71
def k0_mult19 (k0_t1 : Fin k0_t1_loop.trips) : BitVec 32 :=
  let c4_i32_48 : BitVec 32 := 4#32
  let c0_i32 : BitVec 32 := 0#32
  let c1_i32 : BitVec 32 := 1#32
  let arg7 : BitVec 32 := Scf.iv c0_i32 c1_i32 k0_t1
  let c8_i32_5 : BitVec 32 := 8#32
  let v5 : BitVec 32 := Scalar.muli arg7 c8_i32_5
  let c2_i32 : BitVec 32 := 2#32
  let v6 : BitVec 32 := Scalar.addi v5 c2_i32
  let v73 : BitVec 32 := Scalar.subi c4_i32_48 v6
  let c0_i32_49 : BitVec 32 := 0#32
  let v74 : BitVec 32 := Scalar.maxsi v73 c0_i32_49
  let c128_i32_50 : BitVec 32 := 128#32
  let v75 : BitVec 32 := Scalar.muli v74 c128_i32_50
  v75
def k0_mult20 (k0_t1 : Fin k0_t1_loop.trips) : BitVec 32 :=
  let c4_i32_51 : BitVec 32 := 4#32
  let c0_i32 : BitVec 32 := 0#32
  let c1_i32 : BitVec 32 := 1#32
  let arg7 : BitVec 32 := Scf.iv c0_i32 c1_i32 k0_t1
  let c8_i32_6 : BitVec 32 := 8#32
  let v7 : BitVec 32 := Scalar.muli arg7 c8_i32_6
  let c3_i32 : BitVec 32 := 3#32
  let v8 : BitVec 32 := Scalar.addi v7 c3_i32
  let v77 : BitVec 32 := Scalar.subi c4_i32_51 v8
  let c0_i32_52 : BitVec 32 := 0#32
  let v78 : BitVec 32 := Scalar.maxsi v77 c0_i32_52
  let c128_i32_53 : BitVec 32 := 128#32
  let v79 : BitVec 32 := Scalar.muli v78 c128_i32_53
  v79
def k0_mult21 (k0_t1 : Fin k0_t1_loop.trips) : BitVec 32 :=
  let c4_i32_54 : BitVec 32 := 4#32
  let c0_i32 : BitVec 32 := 0#32
  let c1_i32 : BitVec 32 := 1#32
  let arg7 : BitVec 32 := Scf.iv c0_i32 c1_i32 k0_t1
  let c8_i32_7 : BitVec 32 := 8#32
  let v9 : BitVec 32 := Scalar.muli arg7 c8_i32_7
  let c4_i32 : BitVec 32 := 4#32
  let v10 : BitVec 32 := Scalar.addi v9 c4_i32
  let v81 : BitVec 32 := Scalar.subi c4_i32_54 v10
  let c0_i32_55 : BitVec 32 := 0#32
  let v82 : BitVec 32 := Scalar.maxsi v81 c0_i32_55
  let c128_i32_56 : BitVec 32 := 128#32
  let v83 : BitVec 32 := Scalar.muli v82 c128_i32_56
  v83
def k0_mult22 (k0_t1 : Fin k0_t1_loop.trips) : BitVec 32 :=
  let c4_i32_57 : BitVec 32 := 4#32
  let c0_i32 : BitVec 32 := 0#32
  let c1_i32 : BitVec 32 := 1#32
  let arg7 : BitVec 32 := Scf.iv c0_i32 c1_i32 k0_t1
  let c8_i32_8 : BitVec 32 := 8#32
  let v11 : BitVec 32 := Scalar.muli arg7 c8_i32_8
  let c5_i32 : BitVec 32 := 5#32
  let v12 : BitVec 32 := Scalar.addi v11 c5_i32
  let v85 : BitVec 32 := Scalar.subi c4_i32_57 v12
  let c0_i32_58 : BitVec 32 := 0#32
  let v86 : BitVec 32 := Scalar.maxsi v85 c0_i32_58
  let c128_i32_59 : BitVec 32 := 128#32
  let v87 : BitVec 32 := Scalar.muli v86 c128_i32_59
  v87
def k0_mult23 (k0_t1 : Fin k0_t1_loop.trips) : BitVec 32 :=
  let c4_i32_60 : BitVec 32 := 4#32
  let c0_i32 : BitVec 32 := 0#32
  let c1_i32 : BitVec 32 := 1#32
  let arg7 : BitVec 32 := Scf.iv c0_i32 c1_i32 k0_t1
  let c8_i32_9 : BitVec 32 := 8#32
  let v13 : BitVec 32 := Scalar.muli arg7 c8_i32_9
  let c6_i32 : BitVec 32 := 6#32
  let v14 : BitVec 32 := Scalar.addi v13 c6_i32
  let v89 : BitVec 32 := Scalar.subi c4_i32_60 v14
  let c0_i32_61 : BitVec 32 := 0#32
  let v90 : BitVec 32 := Scalar.maxsi v89 c0_i32_61
  let c128_i32_62 : BitVec 32 := 128#32
  let v91 : BitVec 32 := Scalar.muli v90 c128_i32_62
  v91
def k0_mult24 (k0_t1 : Fin k0_t1_loop.trips) : BitVec 32 :=
  let c4_i32_63 : BitVec 32 := 4#32
  let c0_i32 : BitVec 32 := 0#32
  let c1_i32 : BitVec 32 := 1#32
  let arg7 : BitVec 32 := Scf.iv c0_i32 c1_i32 k0_t1
  let c8_i32_10 : BitVec 32 := 8#32
  let v15 : BitVec 32 := Scalar.muli arg7 c8_i32_10
  let c7_i32 : BitVec 32 := 7#32
  let v16 : BitVec 32 := Scalar.addi v15 c7_i32
  let v93 : BitVec 32 := Scalar.subi c4_i32_63 v16
  let c0_i32_64 : BitVec 32 := 0#32
  let v94 : BitVec 32 := Scalar.maxsi v93 c0_i32_64
  let c128_i32_65 : BitVec 32 := 128#32
  let v95 : BitVec 32 := Scalar.muli v94 c128_i32_65
  v95
def k0_off1 (k0_t1 : Fin k0_t1_loop.trips) (c0_i32_2 : BitVec 32) : Fin 3 → Nat :=
  let c0 : Index := 0#32
  let c0_i32 : BitVec 32 := 0#32
  let c1_i32 : BitVec 32 := 1#32
  let arg7 : BitVec 32 := Scf.iv c0_i32 c1_i32 k0_t1
  let c8_i32_1 : BitVec 32 := 8#32
  let v1 : BitVec 32 := Scalar.muli arg7 c8_i32_1
  let v2 : BitVec 32 := Scalar.addi v1 c0_i32_2
  let c128_i32 : BitVec 32 := 128#32
  let v17 : BitVec 32 := Scalar.muli v2 c128_i32
  let v18 : BitVec 32 := v17
  let v97 : Index := Scalar.indexCast v18
  let c0_66 : Index := 0#32
  ![0, v97.toNat, 0]
def k0_off2 (k0_t1 : Fin k0_t1_loop.trips) (c0_i32_2 : BitVec 32) : Fin 3 → Nat :=
  let c0_67 : Index := 0#32
  let c0_68 : Index := 0#32
  let c0_i32 : BitVec 32 := 0#32
  let c1_i32 : BitVec 32 := 1#32
  let arg7 : BitVec 32 := Scf.iv c0_i32 c1_i32 k0_t1
  let c8_i32_1 : BitVec 32 := 8#32
  let v1 : BitVec 32 := Scalar.muli arg7 c8_i32_1
  let v2 : BitVec 32 := Scalar.addi v1 c0_i32_2
  let c4_i32_18 : BitVec 32 := 4#32
  let v33 : BitVec 32 := Scalar.subi v2 c4_i32_18
  let c0_i32_19 : BitVec 32 := 0#32
  let v34 : BitVec 32 := Scalar.maxsi v33 c0_i32_19
  let c128_i32_20 : BitVec 32 := 128#32
  let v35 : BitVec 32 := Scalar.muli v34 c128_i32_20
  let v36 : BitVec 32 := v35
  let v107 : Index := Scalar.indexCast v36
  ![0, 0, v107.toNat]
def k0_off3 (k0_t1 : Fin k0_t1_loop.trips) (c0_i32_2 : BitVec 32) : Fin 3 → Nat :=
  let c0_119 : Index := 0#32
  let c0_120 : Index := 0#32
  let c4_i32_42 : BitVec 32 := 4#32
  let c0_i32 : BitVec 32 := 0#32
  let c1_i32 : BitVec 32 := 1#32
  let arg7 : BitVec 32 := Scf.iv c0_i32 c1_i32 k0_t1
  let c8_i32_1 : BitVec 32 := 8#32
  let v1 : BitVec 32 := Scalar.muli arg7 c8_i32_1
  let v2 : BitVec 32 := Scalar.addi v1 c0_i32_2
  let v65 : BitVec 32 := Scalar.subi c4_i32_42 v2
  let c0_i32_43 : BitVec 32 := 0#32
  let v66 : BitVec 32 := Scalar.maxsi v65 c0_i32_43
  let c128_i32_44 : BitVec 32 := 128#32
  let v67 : BitVec 32 := Scalar.muli v66 c128_i32_44
  let v68 : BitVec 32 := v67
  let v210 : Index := Scalar.indexCast v68
  ![0, 0, v210.toNat]
def k0_off4 (k0_t1 : Fin k0_t1_loop.trips) (c0_i32_2 : BitVec 32) : Fin 3 → Nat :=
  let c0_123 : Index := 0#32
  let c32 : Index := 32#32
  let c4_i32_42 : BitVec 32 := 4#32
  let c0_i32 : BitVec 32 := 0#32
  let c1_i32 : BitVec 32 := 1#32
  let arg7 : BitVec 32 := Scf.iv c0_i32 c1_i32 k0_t1
  let c8_i32_1 : BitVec 32 := 8#32
  let v1 : BitVec 32 := Scalar.muli arg7 c8_i32_1
  let v2 : BitVec 32 := Scalar.addi v1 c0_i32_2
  let v65 : BitVec 32 := Scalar.subi c4_i32_42 v2
  let c0_i32_43 : BitVec 32 := 0#32
  let v66 : BitVec 32 := Scalar.maxsi v65 c0_i32_43
  let c128_i32_44 : BitVec 32 := 128#32
  let v67 : BitVec 32 := Scalar.muli v66 c128_i32_44
  let v68 : BitVec 32 := v67
  let v223 : Index := Scalar.indexCast v68
  ![0, 32, v223.toNat]
def k0_off5 (k0_t1 : Fin k0_t1_loop.trips) (c0_i32_2 : BitVec 32) : Fin 3 → Nat :=
  let c0_126 : Index := 0#32
  let c64 : Index := 64#32
  let c4_i32_42 : BitVec 32 := 4#32
  let c0_i32 : BitVec 32 := 0#32
  let c1_i32 : BitVec 32 := 1#32
  let arg7 : BitVec 32 := Scf.iv c0_i32 c1_i32 k0_t1
  let c8_i32_1 : BitVec 32 := 8#32
  let v1 : BitVec 32 := Scalar.muli arg7 c8_i32_1
  let v2 : BitVec 32 := Scalar.addi v1 c0_i32_2
  let v65 : BitVec 32 := Scalar.subi c4_i32_42 v2
  let c0_i32_43 : BitVec 32 := 0#32
  let v66 : BitVec 32 := Scalar.maxsi v65 c0_i32_43
  let c128_i32_44 : BitVec 32 := 128#32
  let v67 : BitVec 32 := Scalar.muli v66 c128_i32_44
  let v68 : BitVec 32 := v67
  let v236 : Index := Scalar.indexCast v68
  ![0, 64, v236.toNat]
def k0_off6 (k0_t1 : Fin k0_t1_loop.trips) (c0_i32_2 : BitVec 32) : Fin 3 → Nat :=
  let c0_129 : Index := 0#32
  let c96 : Index := 96#32
  let c4_i32_42 : BitVec 32 := 4#32
  let c0_i32 : BitVec 32 := 0#32
  let c1_i32 : BitVec 32 := 1#32
  let arg7 : BitVec 32 := Scf.iv c0_i32 c1_i32 k0_t1
  let c8_i32_1 : BitVec 32 := 8#32
  let v1 : BitVec 32 := Scalar.muli arg7 c8_i32_1
  let v2 : BitVec 32 := Scalar.addi v1 c0_i32_2
  let v65 : BitVec 32 := Scalar.subi c4_i32_42 v2
  let c0_i32_43 : BitVec 32 := 0#32
  let v66 : BitVec 32 := Scalar.maxsi v65 c0_i32_43
  let c128_i32_44 : BitVec 32 := 128#32
  let v67 : BitVec 32 := Scalar.muli v66 c128_i32_44
  let v68 : BitVec 32 := v67
  let v249 : Index := Scalar.indexCast v68
  ![0, 96, v249.toNat]
def k0_off7 (k0_t1 : Fin k0_t1_loop.trips) (c0_i32_2 : BitVec 32) : Fin 3 → Nat :=
  let c1 : Index := 1#32
  let c0_132 : Index := 0#32
  let c4_i32_42 : BitVec 32 := 4#32
  let c0_i32 : BitVec 32 := 0#32
  let c1_i32 : BitVec 32 := 1#32
  let arg7 : BitVec 32 := Scf.iv c0_i32 c1_i32 k0_t1
  let c8_i32_1 : BitVec 32 := 8#32
  let v1 : BitVec 32 := Scalar.muli arg7 c8_i32_1
  let v2 : BitVec 32 := Scalar.addi v1 c0_i32_2
  let v65 : BitVec 32 := Scalar.subi c4_i32_42 v2
  let c0_i32_43 : BitVec 32 := 0#32
  let v66 : BitVec 32 := Scalar.maxsi v65 c0_i32_43
  let c128_i32_44 : BitVec 32 := 128#32
  let v67 : BitVec 32 := Scalar.muli v66 c128_i32_44
  let v68 : BitVec 32 := v67
  let v262 : Index := Scalar.indexCast v68
  ![1, 0, v262.toNat]
def k0_off8 (k0_t1 : Fin k0_t1_loop.trips) (c0_i32_2 : BitVec 32) : Fin 3 → Nat :=
  let c1_135 : Index := 1#32
  let c32_136 : Index := 32#32
  let c4_i32_42 : BitVec 32 := 4#32
  let c0_i32 : BitVec 32 := 0#32
  let c1_i32 : BitVec 32 := 1#32
  let arg7 : BitVec 32 := Scf.iv c0_i32 c1_i32 k0_t1
  let c8_i32_1 : BitVec 32 := 8#32
  let v1 : BitVec 32 := Scalar.muli arg7 c8_i32_1
  let v2 : BitVec 32 := Scalar.addi v1 c0_i32_2
  let v65 : BitVec 32 := Scalar.subi c4_i32_42 v2
  let c0_i32_43 : BitVec 32 := 0#32
  let v66 : BitVec 32 := Scalar.maxsi v65 c0_i32_43
  let c128_i32_44 : BitVec 32 := 128#32
  let v67 : BitVec 32 := Scalar.muli v66 c128_i32_44
  let v68 : BitVec 32 := v67
  let v275 : Index := Scalar.indexCast v68
  ![1, 32, v275.toNat]
def k0_off9 (k0_t1 : Fin k0_t1_loop.trips) (c0_i32_2 : BitVec 32) : Fin 3 → Nat :=
  let c1_139 : Index := 1#32
  let c64_140 : Index := 64#32
  let c4_i32_42 : BitVec 32 := 4#32
  let c0_i32 : BitVec 32 := 0#32
  let c1_i32 : BitVec 32 := 1#32
  let arg7 : BitVec 32 := Scf.iv c0_i32 c1_i32 k0_t1
  let c8_i32_1 : BitVec 32 := 8#32
  let v1 : BitVec 32 := Scalar.muli arg7 c8_i32_1
  let v2 : BitVec 32 := Scalar.addi v1 c0_i32_2
  let v65 : BitVec 32 := Scalar.subi c4_i32_42 v2
  let c0_i32_43 : BitVec 32 := 0#32
  let v66 : BitVec 32 := Scalar.maxsi v65 c0_i32_43
  let c128_i32_44 : BitVec 32 := 128#32
  let v67 : BitVec 32 := Scalar.muli v66 c128_i32_44
  let v68 : BitVec 32 := v67
  let v288 : Index := Scalar.indexCast v68
  ![1, 64, v288.toNat]
def k0_off10 (k0_t1 : Fin k0_t1_loop.trips) (c0_i32_2 : BitVec 32) : Fin 3 → Nat :=
  let c1_143 : Index := 1#32
  let c96_144 : Index := 96#32
  let c4_i32_42 : BitVec 32 := 4#32
  let c0_i32 : BitVec 32 := 0#32
  let c1_i32 : BitVec 32 := 1#32
  let arg7 : BitVec 32 := Scf.iv c0_i32 c1_i32 k0_t1
  let c8_i32_1 : BitVec 32 := 8#32
  let v1 : BitVec 32 := Scalar.muli arg7 c8_i32_1
  let v2 : BitVec 32 := Scalar.addi v1 c0_i32_2
  let v65 : BitVec 32 := Scalar.subi c4_i32_42 v2
  let c0_i32_43 : BitVec 32 := 0#32
  let v66 : BitVec 32 := Scalar.maxsi v65 c0_i32_43
  let c128_i32_44 : BitVec 32 := 128#32
  let v67 : BitVec 32 := Scalar.muli v66 c128_i32_44
  let v68 : BitVec 32 := v67
  let v301 : Index := Scalar.indexCast v68
  ![1, 96, v301.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
def κ : String → Option EReal := fun
  | "mask" => some ⊥
  | _ => none
-- ==== ReferenceIdeal.lean ====
abbrev S4x8192x16x64 : Shape := ⟨4, ![4, 8192, 16, 64]⟩
abbrev S16x257 : Shape := ⟨2, ![16, 257]⟩
abbrev S8192 : Shape := ⟨1, ![8192]⟩
abbrev S4x16x8192x8192 : Shape := ⟨4, ![4, 16, 8192, 8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S16x8192x8192 : Shape := ⟨3, ![16, 8192, 8192]⟩
abbrev S1x16x8192x8192 : Shape := ⟨4, ![1, 16, 8192, 8192]⟩
abbrev S4x16x8192 : Shape := ⟨3, ![4, 16, 8192]⟩
abbrev S4x16x8192x1 : Shape := ⟨4, ![4, 16, 8192, 1]⟩
abbrev S4x16x64x8192 : Shape := ⟨4, ![4, 16, 64, 8192]⟩
abbrev S32768x8x128 : Shape := ⟨3, ![32768, 8, 128]⟩
abbrev S8x32768x128 : Shape := ⟨3, ![8, 32768, 128]⟩

abbrev nBuf : Space → Nat
  | .hbm => 117
  | .vmem => 0
  | .smem => 0
  | _ => 0

abbrev bufTy : (tb : Table) → Fin (tcTables nBuf tb) → BufTy
  | .hbm, ⟨0, _⟩ => ⟨S4x8192x16x64, .f32⟩
  | .hbm, ⟨1, _⟩ => ⟨S4x8192x16x64, .f32⟩
  | .hbm, ⟨2, _⟩ => ⟨S4x8192x16x64, .f32⟩
  | .hbm, ⟨3, _⟩ => ⟨S16x257, .f32⟩
  | .hbm, ⟨4, _⟩ => ⟨S8192, .i32⟩
  | .hbm, ⟨5, _⟩ => ⟨S4x16x8192x8192, .f32⟩
  | .hbm, ⟨6, _⟩ => ⟨S_, .f32⟩
  | .hbm, ⟨7, _⟩ => ⟨S4x16x8192x8192, .f32⟩
  | .hbm, ⟨8, _⟩ => ⟨S4x16x8192x8192, .f32⟩
  | .hbm, ⟨9, _⟩ => ⟨S8192x1, .i32⟩
  | .hbm, ⟨10, _⟩ => ⟨S1x8192, .i32⟩
  | .hbm, ⟨11, _⟩ => ⟨S8192x8192, .i32⟩
  | .hbm, ⟨12, _⟩ => ⟨S8192x8192, .i32⟩
  | .hbm, ⟨13, _⟩ => ⟨S8192x8192, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i1⟩
  | .hbm, ⟨28, _⟩ => ⟨S_, .i32⟩
  | .hbm, ⟨29, _⟩ => ⟨S8192x8192, .i32⟩
  | .hbm, ⟨30, _⟩ => ⟨S8192x8192, .i32⟩
  | .hbm, ⟨31, _⟩ => ⟨S8192x8192, .i32⟩
  | .hbm, ⟨32, _⟩ => ⟨S8192x8192x1, .i32⟩
  | .hbm, ⟨33, _⟩ => ⟨S16x8192x8192, .f32⟩
  | .hbm, ⟨34, _⟩ => ⟨S1x16x8192x8192, .f32⟩
  | .hbm, ⟨35, _⟩ => ⟨S4x16x8192x8192, .f32⟩
  | .hbm, ⟨36, _⟩ => ⟨S4x16x8192x8192, .f32⟩
  | .hbm, ⟨37, _⟩ => ⟨S_, .i32⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S8192, .i32⟩
  | .hbm, ⟨46, _⟩ => ⟨S8192, .i32⟩
  | .hbm, ⟨47, _⟩ => ⟨S_, .i32⟩
  | .hbm, ⟨48, _⟩ => ⟨S8192, .i32⟩
  | .hbm, ⟨49, _⟩ => ⟨S8192, .i1⟩
  | .hbm, ⟨50, _⟩ => ⟨S8192, .i1⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .i32⟩
  | .hbm, ⟨55, _⟩ => ⟨S_, .i32⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .i32⟩
  | .hbm, ⟨60, _⟩ => ⟨S_, .i32⟩
  | .hbm, ⟨61, _⟩ => ⟨S8192, .i32⟩
  | .hbm, ⟨62, _⟩ => ⟨S8192, .i1⟩
  | .hbm, ⟨63, _⟩ => ⟨S8192, .i32⟩
  | .hbm, ⟨64, _⟩ => ⟨S8192, .i32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S8192, .i1⟩
  | .hbm, ⟨69, _⟩ => ⟨S_, .i32⟩
  | .hbm, ⟨70, _⟩ => ⟨S8192, .i32⟩
  | .hbm, ⟨71, _⟩ => ⟨S8192, .i32⟩
  | .hbm, ⟨72, _⟩ => ⟨S8192, .i32⟩
  | .hbm, ⟨73, _⟩ => ⟨S1x8192, .i32⟩
  | .hbm, ⟨74, _⟩ => ⟨S_, .i32⟩
  | .hbm, ⟨75, _⟩ => ⟨S1x8192, .i32⟩
  | .hbm, ⟨76, _⟩ => ⟨S1x8192, .i1⟩
  | .hbm, ⟨77, _⟩ => ⟨S1x8192, .i32⟩
  | .hbm, ⟨78, _⟩ => ⟨S8192x1, .i32⟩
  | .hbm, ⟨79, _⟩ => ⟨S8192x8192, .i32⟩
  | .hbm, ⟨80, _⟩ => ⟨S8192x8192, .i32⟩
  | .hbm, ⟨81, _⟩ => ⟨S8192x8192, .i1⟩
  | .hbm, ⟨82, _⟩ => ⟨S8192x8192, .i1⟩
  | .hbm, ⟨83, _⟩ => ⟨S8192x8192, .i1⟩
  | .hbm, ⟨84, _⟩ => ⟨S1x8192, .i32⟩
  | .hbm, ⟨85, _⟩ => ⟨S8192x1, .i32⟩
  | .hbm, ⟨86, _⟩ => ⟨S_, .i32⟩
  | .hbm, ⟨87, _⟩ => ⟨S8192x1, .i32⟩
  | .hbm, ⟨88, _⟩ => ⟨S8192x1, .i32⟩
  | .hbm, ⟨89, _⟩ => ⟨S8192x8192, .i32⟩
  | .hbm, ⟨90, _⟩ => ⟨S8192x8192, .i32⟩
  | .hbm, ⟨91, _⟩ => ⟨S8192x8192, .i1⟩
  | .hbm, ⟨92, _⟩ => ⟨S8192x8192, .i1⟩
  | .hbm, ⟨93, _⟩ => ⟨S_, .f32⟩
  | .hbm, ⟨94, _⟩ => ⟨S_, .f32⟩
  | .hbm, ⟨95, _⟩ => ⟨S4x16x8192x8192, .i1⟩
  | .hbm, ⟨96, _⟩ => ⟨S4x16x8192x8192, .f32⟩
  | .hbm, ⟨97, _⟩ => ⟨S4x16x8192x8192, .f32⟩
  | .hbm, ⟨98, _⟩ => ⟨S_, .f32⟩
  | .hbm, ⟨99, _⟩ => ⟨S4x16x8192, .f32⟩
  | .hbm, ⟨100, _⟩ => ⟨S_, .f32⟩
  | .hbm, ⟨101, _⟩ => ⟨S4x16x8192, .f32⟩
  | .hbm, ⟨102, _⟩ => ⟨S4x16x8192, .f32⟩
  | .hbm, ⟨103, _⟩ => ⟨S4x16x8192x1, .f32⟩
  | .hbm, ⟨104, _⟩ => ⟨S4x16x8192x8192, .f32⟩
  | .hbm, ⟨105, _⟩ => ⟨S4x16x8192x8192, .f32⟩
  | .hbm, ⟨106, _⟩ => ⟨S4x16x8192x8192, .f32⟩
  | .hbm, ⟨107, _⟩ => ⟨S_, .f32⟩
  | .hbm, ⟨108, _⟩ => ⟨S4x16x8192, .f32⟩
  | .hbm, ⟨109, _⟩ => ⟨S4x16x8192x1, .f32⟩
  | .hbm, ⟨110, _⟩ => ⟨S4x16x8192x8192, .f32⟩
  | .hbm, ⟨111, _⟩ => ⟨S4x16x8192x8192, .f32⟩
  | .hbm, ⟨112, _⟩ => ⟨S4x16x64x8192, .f32⟩
  | .hbm, ⟨113, _⟩ => ⟨S4x8192x16x64, .f32⟩
  | .hbm, ⟨114, _⟩ => ⟨S32768x8x128, .f32⟩
  | .hbm, ⟨115, _⟩ => ⟨S8x32768x128, .f32⟩
  | .hbm, ⟨116, _⟩ => ⟨S8x32768x128, .bf16⟩
  | _, _ => ⟨S4x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v22 : Ref sig .tc := ⟨.hbm, 54, rfl⟩
abbrev main_c_5 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v23 : Ref sig .tc := ⟨.hbm, 72, rfl⟩
abbrev main_v24 : Ref sig .tc := ⟨.hbm, 73, rfl⟩
abbrev main_c_6 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_c_7 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_cst_8 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_v42 : Ref sig .tc := ⟨.hbm, 97, rfl⟩
abbrev main_cst_9 : Ref sig .tc := ⟨.hbm, 98, rfl⟩
abbrev main_v43 : Ref sig .tc := ⟨.hbm, 99, rfl⟩
abbrev main_cst_10 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_cst_11 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩

abbrev nD : Nat := 1
abbrev τ : Topo := Topo.v7x

variable {F : FTy → Type} [FloatOps F]

def κ : String → Option EReal := fun
  | "mask" => some ⊥
  | _ => none
-- ==== Expert.lean ====
abbrev S138 : Shape := ⟨1, ![138]⟩
abbrev S70656x1024 : Shape := ⟨2, ![70656, 1024]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1 : Shape := ⟨1, ![1]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 8
  | .vmem => 12
  | .smem => 2
  | _ => 0

abbrev bufTy : (tb : Table) → Fin (tcTables nBuf tb) → BufTy
  | .hbm, ⟨0, _⟩ => ⟨S70656x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S70656x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | .local _ .smem, ⟨0, _⟩ => ⟨S138, .i32⟩
  | .local _ .smem, ⟨1, _⟩ => ⟨S138, .i32⟩
  | _, _ => ⟨S70656x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![138, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S138.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S138) ![v0.toNat] S1.size (k0_off1_inb i)) numel1_S1
  let v2 : Index := Scalar.indexCast arg0
  let v3 : BitVec 32 := pf.at 1 (Rect.unit (s := S138) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S138.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S138) ![v0.toNat] S1.size (k0_off1_inb i)) numel1_S1
  let v2 : Index := Scalar.indexCast arg0
  let v3 : BitVec 32 := pf.at 1 (Rect.unit (s := S138) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S138.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S138) ![v0.toNat] S1.size (k0_off1_inb i)) numel1_S1
  let v2 : Index := Scalar.indexCast arg0
  let v3 : BitVec 32 := pf.at 1 (Rect.unit (s := S138) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertReferenceIdeal.lean ====
abbrev S138 : Shape := ⟨1, ![138]⟩
abbrev S70656x1024 : Shape := ⟨2, ![70656, 1024]⟩
abbrev S8x1024x3584 : Shape := ⟨3, ![8, 1024, 3584]⟩
abbrev S8x3584x1024 : Shape := ⟨3, ![8, 3584, 1024]⟩
abbrev S138x1 : Shape := ⟨2, ![138, 1]⟩
abbrev S8 : Shape := ⟨1, ![8]⟩
abbrev S1x8 : Shape := ⟨2, ![1, 8]⟩
abbrev S138x8 : Shape := ⟨2, ![138, 8]⟩
abbrev S_ : Shape := ⟨0, ![]⟩
abbrev S138x512x8 : Shape := ⟨3, ![138, 512, 8]⟩
abbrev S70656x8 : Shape := ⟨2, ![70656, 8]⟩
abbrev S70656x1 : Shape := ⟨2, ![70656, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S70656x3584 : Shape := ⟨2, ![70656, 3584]⟩

abbrev nBuf : Space → Nat
  | .hbm => 207
  | .vmem => 0
  | .smem => 0
  | _ => 0

abbrev hbmTy0_0 (i : Nat) : BufTy := match i % 128 with
  | 0 => ⟨S138, .i32⟩
  | 1 => ⟨S138, .i32⟩
  | 2 => ⟨S70656x1024, .f32⟩
  | 3 => ⟨S8x1024x3584, .f32⟩
  | 4 => ⟨S8x1024x3584, .f32⟩
  | 5 => ⟨S8x3584x1024, .f32⟩
  | 6 => ⟨S138x1, .i32⟩
  | 7 => ⟨S8, .i32⟩
  | 8 => ⟨S1x8, .i32⟩
  | 9 => ⟨S138x8, .i32⟩
  | 10 => ⟨S138x8, .i32⟩
  | 11 => ⟨S138x8, .i1⟩
  | 12 => ⟨S138x1, .i32⟩
  | 13 => ⟨S_, .i32⟩
  | 14 => ⟨S138x1, .i32⟩
  | 15 => ⟨S138x1, .i1⟩
  | 16 => ⟨S138x8, .i1⟩
  | 17 => ⟨S138x8, .i1⟩
  | 18 => ⟨S138x8, .f32⟩
  | 19 => ⟨S138x512x8, .f32⟩
  | 20 => ⟨S70656x8, .f32⟩
  | 21 => ⟨S_, .f32⟩
  | 22 => ⟨S70656x1024, .f32⟩
  | 23 => ⟨S70656x1, .f32⟩
  | 24 => ⟨S1x1024x3584, .f32⟩
  | 25 => ⟨S1024x3584, .f32⟩
  | 26 => ⟨S1x1024x3584, .f32⟩
  | 27 => ⟨S1024x3584, .f32⟩
  | 28 => ⟨S1x3584x1024, .f32⟩
  | 29 => ⟨S3584x1024, .f32⟩
  | 30 => ⟨S70656x3584, .f32⟩
  | 31 => ⟨S70656x3584, .f32⟩
  | 32 => ⟨S70656x3584, .f32⟩
  | 33 => ⟨S_, .f32⟩
  | 34 => ⟨S70656x3584, .f32⟩
  | 35 => ⟨S70656x3584, .f32⟩
  | 36 => ⟨S_, .f32⟩
  | 37 => ⟨S70656x3584, .f32⟩
  | 38 => ⟨S70656x3584, .f32⟩
  | 39 => ⟨S70656x3584, .f32⟩
  | 40 => ⟨S70656x3584, .f32⟩
  | 41 => ⟨S70656x3584, .f32⟩
  | 42 => ⟨S70656x1024, .f32⟩
  | 43 => ⟨S70656x1024, .f32⟩
  | 44 => ⟨S70656x1024, .f32⟩
  | 45 => ⟨S70656x1024, .f32⟩
  | 46 => ⟨S70656x1, .f32⟩
  | 47 => ⟨S1x1024x3584, .f32⟩
  | 48 => ⟨S1024x3584, .f32⟩
  | 49 => ⟨S1x1024x3584, .f32⟩
  | 50 => ⟨S1024x3584, .f32⟩
  | 51 => ⟨S1x3584x1024, .f32⟩
  | 52 => ⟨S3584x1024, .f32⟩
  | 53 => ⟨S70656x3584, .f32⟩
  | 54 => ⟨S70656x3584, .f32⟩
  | 55 => ⟨S70656x3584, .f32⟩
  | 56 => ⟨S_, .f32⟩
  | 57 => ⟨S70656x3584, .f32⟩
  | 58 => ⟨S70656x3584, .f32⟩
  | 59 => ⟨S_, .f32⟩
  | 60 => ⟨S70656x3584, .f32⟩
  | 61 => ⟨S70656x3584, .f32⟩
  | 62 => ⟨S70656x3584, .f32⟩
  | 63 => ⟨S70656x3584, .f32⟩
  | 64 => ⟨S70656x3584, .f32⟩
  | 65 => ⟨S70656x1024, .f32⟩
  | 66 => ⟨S70656x1024, .f32⟩
  | 67 => ⟨S70656x1024, .f32⟩
  | 68 => ⟨S70656x1024, .f32⟩
  | 69 => ⟨S70656x1, .f32⟩
  | 70 => ⟨S1x1024x3584, .f32⟩
  | 71 => ⟨S1024x3584, .f32⟩
  | 72 => ⟨S1x1024x3584, .f32⟩
  | 73 => ⟨S1024x3584, .f32⟩
  | 74 => ⟨S1x3584x1024, .f32⟩
  | 75 => ⟨S3584x1024, .f32⟩
  | 76 => ⟨S70656x3584, .f32⟩
  | 77 => ⟨S70656x3584, .f32⟩
  | 78 => ⟨S70656x3584, .f32⟩
  | 79 => ⟨S_, .f32⟩
  | 80 => ⟨S70656x3584, .f32⟩
  | 81 => ⟨S70656x3584, .f32⟩
  | 82 => ⟨S_, .f32⟩
  | 83 => ⟨S70656x3584, .f32⟩
  | 84 => ⟨S70656x3584, .f32⟩
  | 85 => ⟨S70656x3584, .f32⟩
  | 86 => ⟨S70656x3584, .f32⟩
  | 87 => ⟨S70656x3584, .f32⟩
  | 88 => ⟨S70656x1024, .f32⟩
  | 89 => ⟨S70656x1024, .f32⟩
  | 90 => ⟨S70656x1024, .f32⟩
  | 91 => ⟨S70656x1024, .f32⟩
  | 92 => ⟨S70656x1, .f32⟩
  | 93 => ⟨S1x1024x3584, .f32⟩
  | 94 => ⟨S1024x3584, .f32⟩
  | 95 => ⟨S1x1024x3584, .f32⟩
  | 96 => ⟨S1024x3584, .f32⟩
  | 97 => ⟨S1x3584x1024, .f32⟩
  | 98 => ⟨S3584x1024, .f32⟩
  | 99 => ⟨S70656x3584, .f32⟩
  | 100 => ⟨S70656x3584, .f32⟩
  | 101 => ⟨S70656x3584, .f32⟩
  | 102 => ⟨S_, .f32⟩
  | 103 => ⟨S70656x3584, .f32⟩
  | 104 => ⟨S70656x3584, .f32⟩
  | 105 => ⟨S_, .f32⟩
  | 106 => ⟨S70656x3584, .f32⟩
  | 107 => ⟨S70656x3584, .f32⟩
  | 108 => ⟨S70656x3584, .f32⟩
  | 109 => ⟨S70656x3584, .f32⟩
  | 110 => ⟨S70656x3584, .f32⟩
  | 111 => ⟨S70656x1024, .f32⟩
  | 112 => ⟨S70656x1024, .f32⟩
  | 113 => ⟨S70656x1024, .f32⟩
  | 114 => ⟨S70656x1024, .f32⟩
  | 115 => ⟨S70656x1, .f32⟩
  | 116 => ⟨S1x1024x3584, .f32⟩
  | 117 => ⟨S1024x3584, .f32⟩
  | 118 => ⟨S1x1024x3584, .f32⟩
  | 119 => ⟨S1024x3584, .f32⟩
  | 120 => ⟨S1x3584x1024, .f32⟩
  | 121 => ⟨S3584x1024, .f32⟩
  | 122 => ⟨S70656x3584, .f32⟩
  | 123 => ⟨S70656x3584, .f32⟩
  | 124 => ⟨S70656x3584, .f32⟩
  | 125 => ⟨S_, .f32⟩
  | 126 => ⟨S70656x3584, .f32⟩
  | 127 => ⟨S70656x3584, .f32⟩
  | _ => ⟨S138, .i32⟩

abbrev hbmTy0_1 (i : Nat) : BufTy := match i % 128 with
  | 0 => ⟨S_, .f32⟩
  | 1 => ⟨S70656x3584, .f32⟩
  | 2 => ⟨S70656x3584, .f32⟩
  | 3 => ⟨S70656x3584, .f32⟩
  | 4 => ⟨S70656x3584, .f32⟩
  | 5 => ⟨S70656x3584, .f32⟩
  | 6 => ⟨S70656x1024, .f32⟩
  | 7 => ⟨S70656x1024, .f32⟩
  | 8 => ⟨S70656x1024, .f32⟩
  | 9 => ⟨S70656x1024, .f32⟩
  | 10 => ⟨S70656x1, .f32⟩
  | 11 => ⟨S1x1024x3584, .f32⟩
  | 12 => ⟨S1024x3584, .f32⟩
  | 13 => ⟨S1x1024x3584, .f32⟩
  | 14 => ⟨S1024x3584, .f32⟩
  | 15 => ⟨S1x3584x1024, .f32⟩
  | 16 => ⟨S3584x1024, .f32⟩
  | 17 => ⟨S70656x3584, .f32⟩
  | 18 => ⟨S70656x3584, .f32⟩
  | 19 => ⟨S70656x3584, .f32⟩
  | 20 => ⟨S_, .f32⟩
  | 21 => ⟨S70656x3584, .f32⟩
  | 22 => ⟨S70656x3584, .f32⟩
  | 23 => ⟨S_, .f32⟩
  | 24 => ⟨S70656x3584, .f32⟩
  | 25 => ⟨S70656x3584, .f32⟩
  | 26 => ⟨S70656x3584, .f32⟩
  | 27 => ⟨S70656x3584, .f32⟩
  | 28 => ⟨S70656x3584, .f32⟩
  | 29 => ⟨S70656x1024, .f32⟩
  | 30 => ⟨S70656x1024, .f32⟩
  | 31 => ⟨S70656x1024, .f32⟩
  | 32 => ⟨S70656x1024, .f32⟩
  | 33 => ⟨S70656x1, .f32⟩
  | 34 => ⟨S1x1024x3584, .f32⟩
  | 35 => ⟨S1024x3584, .f32⟩
  | 36 => ⟨S1x1024x3584, .f32⟩
  | 37 => ⟨S1024x3584, .f32⟩
  | 38 => ⟨S1x3584x1024, .f32⟩
  | 39 => ⟨S3584x1024, .f32⟩
  | 40 => ⟨S70656x3584, .f32⟩
  | 41 => ⟨S70656x3584, .f32⟩
  | 42 => ⟨S70656x3584, .f32⟩
  | 43 => ⟨S_, .f32⟩
  | 44 => ⟨S70656x3584, .f32⟩
  | 45 => ⟨S70656x3584, .f32⟩
  | 46 => ⟨S_, .f32⟩
  | 47 => ⟨S70656x3584, .f32⟩
  | 48 => ⟨S70656x3584, .f32⟩
  | 49 => ⟨S70656x3584, .f32⟩
  | 50 => ⟨S70656x3584, .f32⟩
  | 51 => ⟨S70656x3584, .f32⟩
  | 52 => ⟨S70656x1024, .f32⟩
  | 53 => ⟨S70656x1024, .f32⟩
  | 54 => ⟨S70656x1024, .f32⟩
  | 55 => ⟨S70656x1024, .f32⟩
  | 56 => ⟨S70656x1, .f32⟩
  | 57 => ⟨S1x1024x3584, .f32⟩
  | 58 => ⟨S1024x3584, .f32⟩
  | 59 => ⟨S1x1024x3584, .f32⟩
  | 60 => ⟨S1024x3584, .f32⟩
  | 61 => ⟨S1x3584x1024, .f32⟩
  | 62 => ⟨S3584x1024, .f32⟩
  | 63 => ⟨S70656x3584, .f32⟩
  | 64 => ⟨S70656x3584, .f32⟩
  | 65 => ⟨S70656x3584, .f32⟩
  | 66 => ⟨S_, .f32⟩
  | 67 => ⟨S70656x3584, .f32⟩
  | 68 => ⟨S70656x3584, .f32⟩
  | 69 => ⟨S_, .f32⟩
  | 70 => ⟨S70656x3584, .f32⟩
  | 71 => ⟨S70656x3584, .f32⟩
  | 72 => ⟨S70656x3584, .f32⟩
  | 73 => ⟨S70656x3584, .f32⟩
  | 74 => ⟨S70656x3584, .f32⟩
  | 75 => ⟨S70656x1024, .f32⟩
  | 76 => ⟨S70656x1024, .f32⟩
  | 77 => ⟨S70656x1024, .f32⟩
  | 78 => ⟨S70656x1024, .f32⟩
  | _ => ⟨S138, .i32⟩

abbrev hbmTy (i : Nat) : BufTy := match i / 128 with
  | 0 => hbmTy0_0 i
  | 1 => hbmTy0_1 i
  | _ => ⟨S138, .i32⟩

abbrev bufTy : (tb : Table) → Fin (tcTables nBuf tb) → BufTy
  | .hbm, ⟨i, _⟩ => hbmTy i
  | _, _ => ⟨S138, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call2_v0 : Ref sig .tc := ⟨.hbm, 77, rfl⟩
abbrev main_call2_v1 : Ref sig .tc := ⟨.hbm, 78, rfl⟩
abbrev main_call2_cst : Ref sig .tc := ⟨.hbm, 79, rfl⟩
abbrev main_call2_v2 : Ref sig .tc := ⟨.hbm, 80, rfl⟩
abbrev main_call2_v3 : Ref sig .tc := ⟨.hbm, 81, rfl⟩
abbrev main_call2_cst_0 : Ref sig .tc := ⟨.hbm, 82, rfl⟩
abbrev main_call2_v4 : Ref sig .tc := ⟨.hbm, 83, rfl⟩
abbrev main_call2_v5 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_call3_v0 : Ref sig .tc := ⟨.hbm, 100, rfl⟩
abbrev main_call3_v1 : Ref sig .tc := ⟨.hbm, 101, rfl⟩
abbrev main_call3_cst : Ref sig .tc := ⟨.hbm, 102, rfl⟩
abbrev main_call3_v2 : Ref sig .tc := ⟨.hbm, 103, rfl⟩
abbrev main_call3_v3 : Ref sig .tc := ⟨.hbm, 104, rfl⟩
abbrev main_call3_cst_0 : Ref sig .tc := ⟨.hbm, 105, rfl⟩
abbrev main_call3_v4 : Ref sig .tc := ⟨.hbm, 106, rfl⟩
abbrev main_call3_v5 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call4_v0 : Ref sig .tc := ⟨.hbm, 123, rfl⟩
abbrev main_call4_v1 : Ref sig .tc := ⟨.hbm, 124, rfl⟩
abbrev main_call4_cst : Ref sig .tc := ⟨.hbm, 125, rfl⟩
abbrev main_call4_v2 : Ref sig .tc := ⟨.hbm, 126, rfl⟩
abbrev main_call4_v3 : Ref sig .tc := ⟨.hbm, 127, rfl⟩
abbrev main_call4_cst_0 : Ref sig .tc := ⟨.hbm, 128, rfl⟩
abbrev main_call4_v4 : Ref sig .tc := ⟨.hbm, 129, rfl⟩
abbrev main_call4_v5 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_call5_v0 : Ref sig .tc := ⟨.hbm, 146, rfl⟩
abbrev main_call5_v1 : Ref sig .tc := ⟨.hbm, 147, rfl⟩
abbrev main_call5_cst : Ref sig .tc := ⟨.hbm, 148, rfl⟩
abbrev main_call5_v2 : Ref sig .tc := ⟨.hbm, 149, rfl⟩
abbrev main_call5_v3 : Ref sig .tc := ⟨.hbm, 150, rfl⟩
abbrev main_call5_cst_0 : Ref sig .tc := ⟨.hbm, 151, rfl⟩
abbrev main_call5_v4 : Ref sig .tc := ⟨.hbm, 152, rfl⟩
abbrev main_call5_v5 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_call6_v0 : Ref sig .tc := ⟨.hbm, 169, rfl⟩
abbrev main_call6_v1 : Ref sig .tc := ⟨.hbm, 170, rfl⟩
abbrev main_call6_cst : Ref sig .tc := ⟨.hbm, 171, rfl⟩
abbrev main_call6_v2 : Ref sig .tc := ⟨.hbm, 172, rfl⟩
abbrev main_call6_v3 : Ref sig .tc := ⟨.hbm, 173, rfl⟩
abbrev main_call6_cst_0 : Ref sig .tc := ⟨.hbm, 174, rfl⟩
abbrev main_call6_v4 : Ref sig .tc := ⟨.hbm, 175, rfl⟩
abbrev main_call6_v5 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_call7_v0 : Ref sig .tc := ⟨.hbm, 192, rfl⟩
abbrev main_call7_v1 : Ref sig .tc := ⟨.hbm, 193, rfl⟩
abbrev main_call7_cst : Ref sig .tc := ⟨.hbm, 194, rfl⟩
abbrev main_call7_v2 : Ref sig .tc := ⟨.hbm, 195, rfl⟩
abbrev main_call7_v3 : Ref sig .tc := ⟨.hbm, 196, rfl⟩
abbrev main_call7_cst_0 : Ref sig .tc := ⟨.hbm, 197, rfl⟩
abbrev main_call7_v4 : Ref sig .tc := ⟨.hbm, 198, rfl⟩
abbrev main_call7_v5 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩

abbrev nD : Nat := 1
abbrev τ : Topo := Topo.v7x

variable {F : FTy → Type} [FloatOps F]
-- ==== Dense.lean ====
abbrev S4x8192x1024 : Shape := ⟨3, ![4, 8192, 1024]⟩
abbrev S16x32x1024 : Shape := ⟨3, ![16, 32, 1024]⟩
abbrev S4x8192x16x64 : Shape := ⟨4, ![4, 8192, 16, 64]⟩
abbrev S16x32x16x64 : Shape := ⟨4, ![16, 32, 16, 64]⟩
abbrev S1024x1024 : Shape := ⟨2, ![1024, 1024]⟩
abbrev S4x6144 : Shape := ⟨2, ![4, 6144]⟩
abbrev S16x6144 : Shape := ⟨2, ![16, 6144]⟩
abbrev S1024 : Shape := ⟨1, ![1024]⟩
abbrev S1024x3584 : Shape := ⟨2, ![1024, 3584]⟩
abbrev S3584x1024 : Shape := ⟨2, ![3584, 1024]⟩
abbrev S8x1024x3584 : Shape := ⟨3, ![8, 1024, 3584]⟩
abbrev S8x3584x1024 : Shape := ⟨3, ![8, 3584, 1024]⟩
abbrev S32768x8x128 : Shape := ⟨3, ![32768, 8, 128]⟩
abbrev S8x32768x128 : Shape := ⟨3, ![8, 32768, 128]⟩
abbrev S512x8x128 : Shape := ⟨3, ![512, 8, 128]⟩
abbrev S8x512x128 : Shape := ⟨3, ![8, 512, 128]⟩
abbrev S4x16x6144 : Shape := ⟨3, ![4, 16, 6144]⟩
abbrev S64x6144 : Shape := ⟨2, ![64, 6144]⟩
abbrev S80x6144 : Shape := ⟨2, ![80, 6144]⟩
abbrev S8192x3584 : Shape := ⟨2, ![8192, 3584]⟩
abbrev S28672x1024 : Shape := ⟨2, ![28672, 1024]⟩
abbrev S32768x1024 : Shape := ⟨2, ![32768, 1024]⟩
abbrev S512x1024 : Shape := ⟨2, ![512, 1024]⟩
abbrev S1x1024 : Shape := ⟨2, ![1, 1024]⟩
abbrev S33280x1024 : Shape := ⟨2, ![33280, 1024]⟩
abbrev S16x1024 : Shape := ⟨2, ![16, 1024]⟩
abbrev S1024x1792 : Shape := ⟨2, ![1024, 1792]⟩
abbrev S1792x1024 : Shape := ⟨2, ![1792, 1024]⟩
abbrev S64x3584 : Shape := ⟨2, ![64, 3584]⟩
abbrev S224x1024 : Shape := ⟨2, ![224, 1024]⟩
abbrev S1x512x128 : Shape := ⟨3, ![1, 512, 128]⟩
abbrev S512x128 : Shape := ⟨2, ![512, 128]⟩
abbrev S16x1x1024 : Shape := ⟨3, ![16, 1, 1024]⟩
abbrev S512 : Shape := ⟨1, ![512]⟩
abbrev S512x1 : Shape := ⟨2, ![512, 1]⟩
abbrev S512x1792 : Shape := ⟨2, ![512, 1792]⟩

abbrev nBuf : Space → Nat
  | .hbm => 37
  | .vmem => 39
  | .smem => 0
  | _ => 0

abbrev bufTy : (tb : Table) → Fin (tcTables nBuf tb) → BufTy
  | .hbm, ⟨0, _⟩ => ⟨S4x8192x1024, .f32⟩
  | .hbm, ⟨1, _⟩ => ⟨S16x32x1024, .f32⟩
  | .hbm, ⟨2, _⟩ => ⟨S4x8192x16x64, .f32⟩
  | .hbm, ⟨3, _⟩ => ⟨S16x32x16x64, .f32⟩
  | .hbm, ⟨4, _⟩ => ⟨S1024x1024, .f32⟩
  | .hbm, ⟨5, _⟩ => ⟨S4x6144, .f32⟩
  | .hbm, ⟨6, _⟩ => ⟨S16x6144, .f32⟩
  | .hbm, ⟨7, _⟩ => ⟨S1024, .f32⟩
  | .hbm, ⟨8, _⟩ => ⟨S1024x3584, .f32⟩
  | .hbm, ⟨9, _⟩ => ⟨S1024x3584, .f32⟩
  | .hbm, ⟨10, _⟩ => ⟨S3584x1024, .f32⟩
  | .hbm, ⟨11, _⟩ => ⟨S8x1024x3584, .f32⟩
  | .hbm, ⟨12, _⟩ => ⟨S8x1024x3584, .f32⟩
  | .hbm, ⟨13, _⟩ => ⟨S8x3584x1024, .f32⟩
  | .hbm, ⟨14, _⟩ => ⟨S4x8192x16x64, .bf16⟩
  | .hbm, ⟨15, _⟩ => ⟨S32768x8x128, .bf16⟩
  | .hbm, ⟨16, _⟩ => ⟨S8x32768x128, .bf16⟩
  | .hbm, ⟨17, _⟩ => ⟨S16x32x16x64, .bf16⟩
  | .hbm, ⟨18, _⟩ => ⟨S512x8x128, .bf16⟩
  | .hbm, ⟨19, _⟩ => ⟨S8x512x128, .bf16⟩
  | .hbm, ⟨20, _⟩ => ⟨S4x16x6144, .f32⟩
  | .hbm, ⟨21, _⟩ => ⟨S64x6144, .f32⟩
  | .hbm, ⟨22, _⟩ => ⟨S80x6144, .f32⟩
  | .hbm, ⟨23, _⟩ => ⟨S8192x3584, .f32⟩
  | .hbm, ⟨24, _⟩ => ⟨S8192x3584, .f32⟩
  | .hbm, ⟨25, _⟩ => ⟨S28672x1024, .f32⟩
  | .hbm, ⟨26, _⟩ => ⟨S32768x1024, .f32⟩
  | .hbm, ⟨27, _⟩ => ⟨S512x1024, .f32⟩
  | .hbm, ⟨28, _⟩ => ⟨S1024x1024, .bf16⟩
  | .hbm, ⟨29, _⟩ => ⟨S1x1024, .f32⟩
  | .hbm, ⟨30, _⟩ => ⟨S1024x3584, .bf16⟩
  | .hbm, ⟨31, _⟩ => ⟨S1024x3584, .bf16⟩
  | .hbm, ⟨32, _⟩ => ⟨S3584x1024, .bf16⟩
  | .hbm, ⟨33, _⟩ => ⟨S33280x1024, .f32⟩
  | .hbm, ⟨34, _⟩ => ⟨S8192x3584, .bf16⟩
  | .hbm, ⟨35, _⟩ => ⟨S8192x3584, .bf16⟩
  | .hbm, ⟨36, _⟩ => ⟨S28672x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S8x512x128, .bf16⟩
  | .local _ .vmem, ⟨4, _⟩ => ⟨S8x512x128, .bf16⟩
  | .local _ .vmem, ⟨5, _⟩ => ⟨S8x512x128, .bf16⟩
  | .local _ .vmem, ⟨6, _⟩ => ⟨S1024x1024, .bf16⟩
  | .local _ .vmem, ⟨7, _⟩ => ⟨S16x1024, .f32⟩
  | .local _ .vmem, ⟨8, _⟩ => ⟨S16x1024, .f32⟩
  | .local _ .vmem, ⟨9, _⟩ => ⟨S1x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | .local _ .vmem, ⟨14, _⟩ => ⟨S16x1024, .f32⟩
  | .local _ .vmem, ⟨15, _⟩ => ⟨S16x1024, .f32⟩
  | .local _ .vmem, ⟨16, _⟩ => ⟨S1024x1792, .bf16⟩
  | .local _ .vmem, ⟨17, _⟩ => ⟨S1024x1792, .bf16⟩
  | .local _ .vmem, ⟨18, _⟩ => ⟨S1024x1792, .bf16⟩
  | .local _ .vmem, ⟨19, _⟩ => ⟨S1024x1792, .bf16⟩
  | .local _ .vmem, ⟨20, _⟩ => ⟨S1792x1024, .bf16⟩
  | .local _ .vmem, ⟨21, _⟩ => ⟨S1792x1024, .bf16⟩
  | .local _ .vmem, ⟨22, _⟩ => ⟨S64x3584, .f32⟩
  | .local _ .vmem, ⟨23, _⟩ => ⟨S64x3584, .f32⟩
  | .local _ .vmem, ⟨24, _⟩ => ⟨S64x3584, .f32⟩
  | .local _ .vmem, ⟨25, _⟩ => ⟨S64x3584, .f32⟩
  | .local _ .vmem, ⟨26, _⟩ => ⟨S224x1024, .f32⟩
  | .local _ .vmem, ⟨27, _⟩ => ⟨S224x1024, .f32⟩
  | .local _ .vmem, ⟨28, _⟩ => ⟨S512x1024, .f32⟩
  | .local _ .vmem, ⟨29, _⟩ => ⟨S512x1024, .f32⟩
  | .local _ .vmem, ⟨30, _⟩ => ⟨S64x3584, .bf16⟩
  | .local _ .vmem, ⟨31, _⟩ => ⟨S64x3584, .bf16⟩
  | .local _ .vmem, ⟨32, _⟩ => ⟨S64x3584, .bf16⟩
  | .local _ .vmem, ⟨33, _⟩ => ⟨S64x3584, .bf16⟩
  | .local _ .vmem, ⟨34, _⟩ => ⟨S224x1024, .bf16⟩
  | .local _ .vmem, ⟨35, _⟩ => ⟨S224x1024, .bf16⟩
  | .local _ .vmem, ⟨36, _⟩ => ⟨S512x1024, .f32⟩
  | .local _ .vmem, ⟨37, _⟩ => ⟨S512x1024, .bf16⟩
  | .local _ .vmem, ⟨38, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v19_2 : Ref sig .tc := ⟨.hbm, 35, rfl⟩
abbrev main_v19_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨2, ![65, 2], ![false, false]⟩

def k0_cond2 (i : grid0.Coords) : BitVec 1 :=
  let arg1 : BitVec 32 := BitVec.ofNat 32 (i 1).val
  let c1_i32 : BitVec 32 := 1#32
  let v40 : BitVec 1 := Scalar.cmpi .eq arg1 c1_i32
  let v41 : BitVec 32 := Scalar.extui v40
  let c0_i32_29 : BitVec 32 := 0#32
  let v42 : BitVec 1 := Scalar.cmpi .ne v41 c0_i32_29
  v42

def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .sge arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 c0_i32_5 v18
  let c2_i32 : BitVec 32 := 2#32
  let c0_i32_6 : BitVec 32 := 0#32
  ![v19.toNat, c2_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .sge arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 c0_i32_5 v18
  let c3_i32 : BitVec 32 := 3#32
  let c0_i32_6 : BitVec 32 := 0#32
  ![v19.toNat, c3_i32.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .sge arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 c0_i32_5 v18
  let c4_i32 : BitVec 32 := 4#32
  let c0_i32_6 : BitVec 32 := 0#32
  ![v19.toNat, c4_i32.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 1 := Scalar.cmpi .sge arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 c0_i32_5 v18
  let c5_i32 : BitVec 32 := 5#32
  let c0_i32_6 : BitVec 32 := 0#32
  ![v19.toNat, c5_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_18 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_19 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1792 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x1792 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1792x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S64x3584 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x3584 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S224x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S64x3584 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S64x3584 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S224x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== DenseReferenceIdeal.lean ====
abbrev S4x8192x1024 : Shape := ⟨3, ![4, 8192, 1024]⟩
abbrev S16x32x1024 : Shape := ⟨3, ![16, 32, 1024]⟩
abbrev S4x8192x16x64 : Shape := ⟨4, ![4, 8192, 16, 64]⟩
abbrev S16x32x16x64 : Shape := ⟨4, ![16, 32, 16, 64]⟩
abbrev S1024x1024 : Shape := ⟨2, ![1024, 1024]⟩
abbrev S4x6144 : Shape := ⟨2, ![4, 6144]⟩
abbrev S16x6144 : Shape := ⟨2, ![16, 6144]⟩
abbrev S1024 : Shape := ⟨1, ![1024]⟩
abbrev S1024x3584 : Shape := ⟨2, ![1024, 3584]⟩
abbrev S3584x1024 : Shape := ⟨2, ![3584, 1024]⟩
abbrev S8x1024x3584 : Shape := ⟨3, ![8, 1024, 3584]⟩
abbrev S8x3584x1024 : Shape := ⟨3, ![8, 3584, 1024]⟩
abbrev S4x1024 : Shape := ⟨2, ![4, 1024]⟩
abbrev S16x1024 : Shape := ⟨2, ![16, 1024]⟩
abbrev S4x1x1024 : Shape := ⟨3, ![4, 1, 1024]⟩
abbrev S16x1x1024 : Shape := ⟨3, ![16, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S16x32 : Shape := ⟨2, ![16, 32]⟩
abbrev S16x32x1 : Shape := ⟨3, ![16, 32, 1]⟩
abbrev S4x8192x3584 : Shape := ⟨3, ![4, 8192, 3584]⟩
abbrev S16x32x3584 : Shape := ⟨3, ![16, 32, 3584]⟩
abbrev S32768x1024 : Shape := ⟨2, ![32768, 1024]⟩
abbrev S512x1024 : Shape := ⟨2, ![512, 1024]⟩
abbrev S33280x1024 : Shape := ⟨2, ![33280, 1024]⟩
abbrev S8192x3584 : Shape := ⟨2, ![8192, 3584]⟩
abbrev S28672x1024 : Shape := ⟨2, ![28672, 1024]⟩

abbrev nBuf : Space → Nat
  | .hbm => 131
  | .vmem => 0
  | .smem => 0
  | _ => 0

abbrev hbmTy0_0 (i : Nat) : BufTy := match i % 128 with
  | 0 => ⟨S4x8192x1024, .f32⟩
  | 1 => ⟨S16x32x1024, .f32⟩
  | 2 => ⟨S4x8192x16x64, .f32⟩
  | 3 => ⟨S16x32x16x64, .f32⟩
  | 4 => ⟨S1024x1024, .f32⟩
  | 5 => ⟨S4x6144, .f32⟩
  | 6 => ⟨S16x6144, .f32⟩
  | 7 => ⟨S1024, .f32⟩
  | 8 => ⟨S1024x3584, .f32⟩
  | 9 => ⟨S1024x3584, .f32⟩
  | 10 => ⟨S3584x1024, .f32⟩
  | 11 => ⟨S8x1024x3584, .f32⟩
  | 12 => ⟨S8x1024x3584, .f32⟩
  | 13 => ⟨S8x3584x1024, .f32⟩
  | 14 => ⟨S4x1024, .f32⟩
  | 15 => ⟨S4x1024, .f32⟩
  | 16 => ⟨S4x1024, .f32⟩
  | 17 => ⟨S4x1024, .f32⟩
  | 18 => ⟨S4x1024, .f32⟩
  | 19 => ⟨S4x1024, .f32⟩
  | 20 => ⟨S16x1024, .f32⟩
  | 21 => ⟨S16x1024, .f32⟩
  | 22 => ⟨S16x1024, .f32⟩
  | 23 => ⟨S16x1024, .f32⟩
  | 24 => ⟨S16x1024, .f32⟩
  | 25 => ⟨S16x1024, .f32⟩
  | 26 => ⟨S4x1x1024, .f32⟩
  | 27 => ⟨S4x8192x1024, .f32⟩
  | 28 => ⟨S4x8192x1024, .f32⟩
  | 29 => ⟨S4x8192x1024, .f32⟩
  | 30 => ⟨S4x8192x1024, .f32⟩
  | 31 => ⟨S4x8192x1024, .f32⟩
  | 32 => ⟨S16x1x1024, .f32⟩
  | 33 => ⟨S16x32x1024, .f32⟩
  | 34 => ⟨S16x32x1024, .f32⟩
  | 35 => ⟨S16x32x1024, .f32⟩
  | 36 => ⟨S16x32x1024, .f32⟩
  | 37 => ⟨S16x32x1024, .f32⟩
  | 38 => ⟨S4x8192x1024, .f32⟩
  | 39 => ⟨S_, .f32⟩
  | 40 => ⟨S4x8192, .f32⟩
  | 41 => ⟨S4x8192x1, .f32⟩
  | 42 => ⟨S_, .f32⟩
  | 43 => ⟨S4x8192x1, .f32⟩
  | 44 => ⟨S4x8192x1, .f32⟩
  | 45 => ⟨S_, .f32⟩
  | 46 => ⟨S4x8192x1, .f32⟩
  | 47 => ⟨S4x8192x1, .f32⟩
  | 48 => ⟨S4x8192x1, .f32⟩
  | 49 => ⟨S4x8192x1024, .f32⟩
  | 50 => ⟨S4x8192x1024, .f32⟩
  | 51 => ⟨S1x1x1024, .f32⟩
  | 52 => ⟨S4x8192x1024, .f32⟩
  | 53 => ⟨S4x8192x1024, .f32⟩
  | 54 => ⟨S4x1x1024, .f32⟩
  | 55 => ⟨S_, .f32⟩
  | 56 => ⟨S4x1x1024, .f32⟩
  | 57 => ⟨S4x1x1024, .f32⟩
  | 58 => ⟨S4x8192x1024, .f32⟩
  | 59 => ⟨S4x8192x1024, .f32⟩
  | 60 => ⟨S4x1x1024, .f32⟩
  | 61 => ⟨S4x8192x1024, .f32⟩
  | 62 => ⟨S4x8192x1024, .f32⟩
  | 63 => ⟨S16x32x1024, .f32⟩
  | 64 => ⟨S_, .f32⟩
  | 65 => ⟨S16x32, .f32⟩
  | 66 => ⟨S16x32x1, .f32⟩
  | 67 => ⟨S_, .f32⟩
  | 68 => ⟨S16x32x1, .f32⟩
  | 69 => ⟨S16x32x1, .f32⟩
  | 70 => ⟨S_, .f32⟩
  | 71 => ⟨S16x32x1, .f32⟩
  | 72 => ⟨S16x32x1, .f32⟩
  | 73 => ⟨S16x32x1, .f32⟩
  | 74 => ⟨S16x32x1024, .f32⟩
  | 75 => ⟨S16x32x1024, .f32⟩
  | 76 => ⟨S1x1x1024, .f32⟩
  | 77 => ⟨S16x32x1024, .f32⟩
  | 78 => ⟨S16x32x1024, .f32⟩
  | 79 => ⟨S16x1x1024, .f32⟩
  | 80 => ⟨S_, .f32⟩
  | 81 => ⟨S16x1x1024, .f32⟩
  | 82 => ⟨S16x1x1024, .f32⟩
  | 83 => ⟨S16x32x1024, .f32⟩
  | 84 => ⟨S16x32x1024, .f32⟩
  | 85 => ⟨S16x1x1024, .f32⟩
  | 86 => ⟨S16x32x1024, .f32⟩
  | 87 => ⟨S16x32x1024, .f32⟩
  | 88 => ⟨S4x8192x3584, .f32⟩
  | 89 => ⟨S4x8192x3584, .f32⟩
  | 90 => ⟨S4x8192x3584, .f32⟩
  | 91 => ⟨S_, .f32⟩
  | 92 => ⟨S4x8192x3584, .f32⟩
  | 93 => ⟨S4x8192x3584, .f32⟩
  | 94 => ⟨S_, .f32⟩
  | 95 => ⟨S4x8192x3584, .f32⟩
  | 96 => ⟨S4x8192x3584, .f32⟩
  | 97 => ⟨S4x8192x3584, .f32⟩
  | 98 => ⟨S4x8192x3584, .f32⟩
  | 99 => ⟨S4x8192x3584, .f32⟩
  | 100 => ⟨S4x8192x1024, .f32⟩
  | 101 => ⟨S16x32x3584, .f32⟩
  | 102 => ⟨S16x32x3584, .f32⟩
  | 103 => ⟨S16x32x3584, .f32⟩
  | 104 => ⟨S_, .f32⟩
  | 105 => ⟨S16x32x3584, .f32⟩
  | 106 => ⟨S16x32x3584, .f32⟩
  | 107 => ⟨S_, .f32⟩
  | 108 => ⟨S16x32x3584, .f32⟩
  | 109 => ⟨S16x32x3584, .f32⟩
  | 110 => ⟨S16x32x3584, .f32⟩
  | 111 => ⟨S16x32x3584, .f32⟩
  | 112 => ⟨S16x32x3584, .f32⟩
  | 113 => ⟨S16x32x1024, .f32⟩
  | 114 => ⟨S4x1x1024, .f32⟩
  | 115 => ⟨S4x8192x1024, .f32⟩
  | 116 => ⟨S4x8192x1024, .f32⟩
  | 117 => ⟨S4x8192x1024, .f32⟩
  | 118 => ⟨S16x1x1024, .f32⟩
  | 119 => ⟨S16x32x1024, .f32⟩
  | 120 => ⟨S16x32x1024, .f32⟩
  | 121 => ⟨S16x32x1024, .f32⟩
  | 122 => ⟨S32768x1024, .f32⟩
  | 123 => ⟨S512x1024, .f32⟩
  | 124 => ⟨S33280x1024, .f32⟩
  | 125 => ⟨S8192x3584, .f32⟩
  | 126 => ⟨S8192x3584, .bf16⟩
  | 127 => ⟨S8192x3584, .f32⟩
  | _ => ⟨S4x8192x1024, .f32⟩

abbrev hbmTy0_1 (i : Nat) : BufTy := match i % 128 with
  | 0 => ⟨S8192x3584, .bf16⟩
  | 1 => ⟨S28672x1024, .f32⟩
  | 2 => ⟨S28672x1024, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_cst_0 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_2 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_3 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_cst_5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_6 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_call0_v0 : Ref sig .tc := ⟨.hbm, 89, rfl⟩
abbrev main_call0_v1 : Ref sig .tc := ⟨.hbm, 90, rfl⟩
abbrev main_call0_cst : Ref sig .tc := ⟨.hbm, 91, rfl⟩
abbrev main_call0_v2 : Ref sig .tc := ⟨.hbm, 92, rfl⟩
abbrev main_call0_v3 : Ref sig .tc := ⟨.hbm, 93, rfl⟩
abbrev main_call0_cst_0 : Ref sig .tc := ⟨.hbm, 94, rfl⟩
abbrev main_call0_v4 : Ref sig .tc := ⟨.hbm, 95, rfl⟩
abbrev main_call0_v5 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call1_v0 : Ref sig .tc := ⟨.hbm, 102, rfl⟩
abbrev main_call1_v1 : Ref sig .tc := ⟨.hbm, 103, rfl⟩
abbrev main_call1_cst : Ref sig .tc := ⟨.hbm, 104, rfl⟩
abbrev main_call1_v2 : Ref sig .tc := ⟨.hbm, 105, rfl⟩
abbrev main_call1_v3 : Ref sig .tc := ⟨.hbm, 106, rfl⟩
abbrev main_call1_cst_0 : Ref sig .tc := ⟨.hbm, 107, rfl⟩
abbrev main_call1_v4 : Ref sig .tc := ⟨.hbm, 108, rfl⟩
abbrev main_call1_v5 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]
-- ==== Project.lean ====
abbrev S33280x1024 : Shape := ⟨2, ![33280, 1024]⟩
abbrev S1024 : Shape := ⟨1, ![1024]⟩
abbrev S4x6144 : Shape := ⟨2, ![4, 6144]⟩
abbrev S16x6144 : Shape := ⟨2, ![16, 6144]⟩
abbrev S1024x3072 : Shape := ⟨2, ![1024, 3072]⟩
abbrev S256x256 : Shape := ⟨2, ![256, 256]⟩
abbrev S1024x1024 : Shape := ⟨2, ![1024, 1024]⟩
abbrev S1024x2048 : Shape := ⟨2, ![1024, 2048]⟩
abbrev S2048x1024 : Shape := ⟨2, ![2048, 1024]⟩
abbrev S_ : Shape := ⟨0, ![]⟩
abbrev S1x1024 : Shape := ⟨2, ![1, 1024]⟩
abbrev S1024x1 : Shape := ⟨2, ![1024, 1]⟩
abbrev S4x16x6144 : Shape := ⟨3, ![4, 16, 6144]⟩
abbrev S64x6144 : Shape := ⟨2, ![64, 6144]⟩
abbrev S80x6144 : Shape := ⟨2, ![80, 6144]⟩
abbrev S8x32768x128 : Shape := ⟨3, ![8, 32768, 128]⟩
abbrev S4x1024x8192 : Shape := ⟨3, ![4, 1024, 8192]⟩
abbrev S512x1024 : Shape := ⟨2, ![512, 1024]⟩
abbrev S16x1024 : Shape := ⟨2, ![16, 1024]⟩
abbrev S8x512x128 : Shape := ⟨3, ![8, 512, 128]⟩
abbrev S1x1024x512 : Shape := ⟨3, ![1, 1024, 512]⟩
abbrev S512 : Shape := ⟨1, ![512]⟩
abbrev S512x1 : Shape := ⟨2, ![512, 1]⟩
abbrev S16x1x1024 : Shape := ⟨3, ![16, 1, 1024]⟩
abbrev S16x32x1024 : Shape := ⟨3, ![16, 32, 1024]⟩
abbrev S2048x512 : Shape := ⟨2, ![2048, 512]⟩
abbrev S1024x512 : Shape := ⟨2, ![1024, 512]⟩
abbrev S512x128 : Shape := ⟨2, ![512, 128]⟩
abbrev S1x512x128 : Shape := ⟨3, ![1, 512, 128]⟩
abbrev S4x16x64x8192 : Shape := ⟨4, ![4, 16, 64, 8192]⟩
abbrev S4x8192x16x64 : Shape := ⟨4, ![4, 8192, 16, 64]⟩

abbrev nBuf : Space → Nat
  | .hbm => 28
  | .vmem => 22
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S4x6144, .f32⟩
  | .hbm, ⟨3, _⟩ => ⟨S16x6144, .f32⟩
  | .hbm, ⟨4, _⟩ => ⟨S1024x3072, .f32⟩
  | .hbm, ⟨5, _⟩ => ⟨S256x256, .bf16⟩
  | .hbm, ⟨6, _⟩ => ⟨S1024x1024, .f32⟩
  | .hbm, ⟨7, _⟩ => ⟨S1024x1024, .bf16⟩
  | .hbm, ⟨8, _⟩ => ⟨S1024x2048, .f32⟩
  | .hbm, ⟨9, _⟩ => ⟨S2048x1024, .f32⟩
  | .hbm, ⟨10, _⟩ => ⟨S2048x1024, .bf16⟩
  | .hbm, ⟨11, _⟩ => ⟨S_, .f32⟩
  | .hbm, ⟨12, _⟩ => ⟨S1x1024, .f32⟩
  | .hbm, ⟨13, _⟩ => ⟨S_, .f32⟩
  | .hbm, ⟨14, _⟩ => ⟨S1024x1, .f32⟩
  | .hbm, ⟨15, _⟩ => ⟨S4x16x6144, .f32⟩
  | .hbm, ⟨16, _⟩ => ⟨S64x6144, .f32⟩
  | .hbm, ⟨17, _⟩ => ⟨S80x6144, .f32⟩
  | .hbm, ⟨18, _⟩ => ⟨S1x1024, .f32⟩
  | .hbm, ⟨19, _⟩ => ⟨S8x32768x128, .bf16⟩
  | .hbm, ⟨20, _⟩ => ⟨S4x1024x8192, .bf16⟩
  | .hbm, ⟨21, _⟩ => ⟨S4x1024x8192, .bf16⟩
  | .hbm, ⟨22, _⟩ => ⟨S4x1024x8192, .f32⟩
  | .hbm, ⟨23, _⟩ => ⟨S4x1024x8192, .f32⟩
  | .hbm, ⟨24, _⟩ => ⟨S4x16x64x8192, .f32⟩
  | .hbm, ⟨25, _⟩ => ⟨S4x8192x16x64, .f32⟩
  | .hbm, ⟨26, _⟩ => ⟨S4x16x64x8192, .f32⟩
  | .hbm, ⟨27, _⟩ => ⟨S4x8192x16x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S1024x1024, .bf16⟩
  | .local _ .vmem, ⟨8, _⟩ => ⟨S2048x1024, .bf16⟩
  | .local _ .vmem, ⟨9, _⟩ => ⟨S1x1024, .f32⟩
  | .local _ .vmem, ⟨10, _⟩ => ⟨S1024x1, .f32⟩
  | .local _ .vmem, ⟨11, _⟩ => ⟨S256x256, .bf16⟩
  | .local _ .vmem, ⟨12, _⟩ => ⟨S8x512x128, .bf16⟩
  | .local _ .vmem, ⟨13, _⟩ => ⟨S8x512x128, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .f32⟩
  | .local _ .vmem, ⟨19, _⟩ => ⟨S1x1024x512, .f32⟩
  | .local _ .vmem, ⟨20, _⟩ => ⟨S1x1024x512, .f32⟩
  | .local _ .vmem, ⟨21, _⟩ => ⟨S1x1024x512, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c64_i32 : BitVec 32 := 64#32
  let v0 : BitVec 1 := Scalar.cmpi .sge arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 c0_i32_5 v18
  let c0_i32_6 : BitVec 32 := 0#32
  let c0_i32_7 : BitVec 32 := 0#32
  ![v19.toNat, c0_i32_6.toNat]

def cc0_transform_3 (i : grid0.Coords) : Fin 2 → Nat :=
  let arg0 : BitVec 32 := BitVec.ofNat 32 (i 0).val
  let c64_i32 : BitVec 32 := 64#32
  let v0 : BitVec 1 := Scalar.cmpi .sge arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 c0_i32_5 v18
  let c1_i32_6 : BitVec 32 := 1#32
  let c0_i32_7 : BitVec 32 := 0#32
  ![v19.toNat, c1_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjectReferenceIdeal.lean ====
abbrev S33280x1024 : Shape := ⟨2, ![33280, 1024]⟩
abbrev S1024 : Shape := ⟨1, ![1024]⟩
abbrev S4x6144 : Shape := ⟨2, ![4, 6144]⟩
abbrev S16x6144 : Shape := ⟨2, ![16, 6144]⟩
abbrev S1024x3072 : Shape := ⟨2, ![1024, 3072]⟩
abbrev S4x1024 : Shape := ⟨2, ![4, 1024]⟩
abbrev S32768x1024 : Shape := ⟨2, ![32768, 1024]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x3072 : Shape := ⟨3, ![4, 8192, 3072]⟩
abbrev S4x8192x16x64 : Shape := ⟨4, ![4, 8192, 16, 64]⟩
abbrev S32768x8x128 : Shape := ⟨3, ![32768, 8, 128]⟩
abbrev S8x32768x128 : Shape := ⟨3, ![8, 32768, 128]⟩
abbrev S4x16x64x8192 : Shape := ⟨4, ![4, 16, 64, 8192]⟩
abbrev S4x1024x8192 : Shape := ⟨3, ![4, 1024, 8192]⟩

abbrev nBuf : Space → Nat
  | .hbm => 57
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S4x6144, .f32⟩
  | .hbm, ⟨3, _⟩ => ⟨S16x6144, .f32⟩
  | .hbm, ⟨4, _⟩ => ⟨S1024x3072, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S32768x1024, .f32⟩
  | .hbm, ⟨12, _⟩ => ⟨S4x8192x1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S4x1x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x8192x1024, .f32⟩
  | .hbm, ⟨34, _⟩ => ⟨S4x8192x1024, .f32⟩
  | .hbm, ⟨35, _⟩ => ⟨S4x1x1024, .f32⟩
  | .hbm, ⟨36, _⟩ => ⟨S4x8192x1024, .f32⟩
  | .hbm, ⟨37, _⟩ => ⟨S4x8192x1024, .f32⟩
  | .hbm, ⟨38, _⟩ => ⟨S4x8192x3072, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x16x64, .f32⟩
  | .hbm, ⟨43, _⟩ => ⟨S4x8192x16x64, .f32⟩
  | .hbm, ⟨44, _⟩ => ⟨S4x8192x16x64, .f32⟩
  | .hbm, ⟨45, _⟩ => ⟨S_, .f32⟩
  | .hbm, ⟨46, _⟩ => ⟨S4x8192x16x64, .f32⟩
  | .hbm, ⟨47, _⟩ => ⟨S4x8192x16x64, .f32⟩
  | .hbm, ⟨48, _⟩ => ⟨S32768x8x128, .f32⟩
  | .hbm, ⟨49, _⟩ => ⟨S8x32768x128, .f32⟩
  | .hbm, ⟨50, _⟩ => ⟨S8x32768x128, .bf16⟩
  | .hbm, ⟨51, _⟩ => ⟨S4x16x64x8192, .f32⟩
  | .hbm, ⟨52, _⟩ => ⟨S4x1024x8192, .f32⟩
  | .hbm, ⟨53, _⟩ => ⟨S4x1024x8192, .bf16⟩
  | .hbm, ⟨54, _⟩ => ⟨S4x16x64x8192, .f32⟩
  | .hbm, ⟨55, _⟩ => ⟨S4x1024x8192, .f32⟩
  | .hbm, ⟨56, _⟩ => ⟨S4x1024x8192, .bf16⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== ProjectSample.lean ====
abbrev S33280x1024 : Shape := ⟨2, ![33280, 1024]⟩
abbrev S1024 : Shape := ⟨1, ![1024]⟩
abbrev S4x6144 : Shape := ⟨2, ![4, 6144]⟩
abbrev S16x6144 : Shape := ⟨2, ![16, 6144]⟩
abbrev S1024x3072 : Shape := ⟨2, ![1024, 3072]⟩
abbrev S256x256 : Shape := ⟨2, ![256, 256]⟩
abbrev S1024x1024 : Shape := ⟨2, ![1024, 1024]⟩
abbrev S1024x2048 : Shape := ⟨2, ![1024, 2048]⟩
abbrev S2048x1024 : Shape := ⟨2, ![2048, 1024]⟩
abbrev S_ : Shape := ⟨0, ![]⟩
abbrev S1x1024 : Shape := ⟨2, ![1, 1024]⟩
abbrev S1024x1 : Shape := ⟨2, ![1024, 1]⟩
abbrev S4x16x6144 : Shape := ⟨3, ![4, 16, 6144]⟩
abbrev S64x6144 : Shape := ⟨2, ![64, 6144]⟩
abbrev S80x6144 : Shape := ⟨2, ![80, 6144]⟩
abbrev S8x512x128 : Shape := ⟨3, ![8, 512, 128]⟩
abbrev S16x512x128 : Shape := ⟨3, ![16, 512, 128]⟩
abbrev S512x1024 : Shape := ⟨2, ![512, 1024]⟩
abbrev S16x1024 : Shape := ⟨2, ![16, 1024]⟩
abbrev S512 : Shape := ⟨1, ![512]⟩
abbrev S512x1 : Shape := ⟨2, ![512, 1]⟩
abbrev S16x1x1024 : Shape := ⟨3, ![16, 1, 1024]⟩
abbrev S16x32x1024 : Shape := ⟨3, ![16, 32, 1024]⟩
abbrev S2048x512 : Shape := ⟨2, ![2048, 512]⟩
abbrev S1024x512 : Shape := ⟨2, ![1024, 512]⟩
abbrev S512x128 : Shape := ⟨2, ![512, 128]⟩
abbrev S1x512x128 : Shape := ⟨3, ![1, 512, 128]⟩
abbrev S16x32x16x64 : Shape := ⟨4, ![16, 32, 16, 64]⟩

abbrev nBuf : Space → Nat
  | .hbm => 25
  | .vmem => 13
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S4x6144, .f32⟩
  | .hbm, ⟨3, _⟩ => ⟨S16x6144, .f32⟩
  | .hbm, ⟨4, _⟩ => ⟨S1024x3072, .f32⟩
  | .hbm, ⟨5, _⟩ => ⟨S256x256, .bf16⟩
  | .hbm, ⟨6, _⟩ => ⟨S1024x1024, .f32⟩
  | .hbm, ⟨7, _⟩ => ⟨S1024x1024, .bf16⟩
  | .hbm, ⟨8, _⟩ => ⟨S1024x2048, .f32⟩
  | .hbm, ⟨9, _⟩ => ⟨S2048x1024, .f32⟩
  | .hbm, ⟨10, _⟩ => ⟨S2048x1024, .bf16⟩
  | .hbm, ⟨11, _⟩ => ⟨S_, .f32⟩
  | .hbm, ⟨12, _⟩ => ⟨S1x1024, .f32⟩
  | .hbm, ⟨13, _⟩ => ⟨S_, .f32⟩
  | .hbm, ⟨14, _⟩ => ⟨S1024x1, .f32⟩
  | .hbm, ⟨15, _⟩ => ⟨S4x16x6144, .f32⟩
  | .hbm, ⟨16, _⟩ => ⟨S64x6144, .f32⟩
  | .hbm, ⟨17, _⟩ => ⟨S80x6144, .f32⟩
  | .hbm, ⟨18, _⟩ => ⟨S1x1024, .f32⟩
  | .hbm, ⟨19, _⟩ => ⟨S8x512x128, .bf16⟩
  | .hbm, ⟨20, _⟩ => ⟨S16x512x128, .bf16⟩
  | .hbm, ⟨21, _⟩ => ⟨S512x1024, .f32⟩
  | .hbm, ⟨22, _⟩ => ⟨S512x1024, .f32⟩
  | .hbm, ⟨23, _⟩ => ⟨S16x32x16x64, .f32⟩
  | .hbm, ⟨24, _⟩ => ⟨S16x32x16x64, .f32⟩
  | .local _ .vmem, ⟨0, _⟩ => ⟨S512x1024, .f32⟩
  | .local _ .vmem, ⟨1, _⟩ => ⟨S1x1024, .f32⟩
  | .local _ .vmem, ⟨2, _⟩ => ⟨S16x1024, .f32⟩
  | .local _ .vmem, ⟨3, _⟩ => ⟨S16x1024, .f32⟩
  | .local _ .vmem, ⟨4, _⟩ => ⟨S1024x1024, .bf16⟩
  | .local _ .vmem, ⟨5, _⟩ => ⟨S2048x1024, .bf16⟩
  | .local _ .vmem, ⟨6, _⟩ => ⟨S1x1024, .f32⟩
  | .local _ .vmem, ⟨7, _⟩ => ⟨S1024x1, .f32⟩
  | .local _ .vmem, ⟨8, _⟩ => ⟨S256x256, .bf16⟩
  | .local _ .vmem, ⟨9, _⟩ => ⟨S8x512x128, .bf16⟩
  | .local _ .vmem, ⟨10, _⟩ => ⟨S16x512x128, .bf16⟩
  | .local _ .vmem, ⟨11, _⟩ => ⟨S512x1024, .f32⟩
  | .local _ .vmem, ⟨12, _⟩ => ⟨S512x1024, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ProjectSampleReferenceIdeal.lean ====
abbrev S33280x1024 : Shape := ⟨2, ![33280, 1024]⟩
abbrev S1024 : Shape := ⟨1, ![1024]⟩
abbrev S4x6144 : Shape := ⟨2, ![4, 6144]⟩
abbrev S16x6144 : Shape := ⟨2, ![16, 6144]⟩
abbrev S1024x3072 : Shape := ⟨2, ![1024, 3072]⟩
abbrev S16x1024 : Shape := ⟨2, ![16, 1024]⟩
abbrev S512x1024 : Shape := ⟨2, ![512, 1024]⟩
abbrev S16x32x1024 : Shape := ⟨3, ![16, 32, 1024]⟩
abbrev S_ : Shape := ⟨0, ![]⟩
abbrev S16x32 : Shape := ⟨2, ![16, 32]⟩
abbrev S16x32x1 : Shape := ⟨3, ![16, 32, 1]⟩
abbrev S1x1x1024 : Shape := ⟨3, ![1, 1, 1024]⟩
abbrev S16x1x1024 : Shape := ⟨3, ![16, 1, 1024]⟩
abbrev S16x32x3072 : Shape := ⟨3, ![16, 32, 3072]⟩
abbrev S16x32x16x64 : Shape := ⟨4, ![16, 32, 16, 64]⟩
abbrev S512x8x128 : Shape := ⟨3, ![512, 8, 128]⟩
abbrev S8x512x128 : Shape := ⟨3, ![8, 512, 128]⟩
abbrev S16x512x128 : Shape := ⟨3, ![16, 512, 128]⟩

abbrev nBuf : Space → Nat
  | .hbm => 58
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S4x6144, .f32⟩
  | .hbm, ⟨3, _⟩ => ⟨S16x6144, .f32⟩
  | .hbm, ⟨4, _⟩ => ⟨S1024x3072, .f32⟩
  | .hbm, ⟨5, _⟩ => ⟨S16x1024, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S512x1024, .f32⟩
  | .hbm, ⟨12, _⟩ => ⟨S16x32x1024, .f32⟩
  | .hbm, ⟨13, _⟩ => ⟨S16x32x1024, .f32⟩
  | .hbm, ⟨14, _⟩ => ⟨S_, .f32⟩
  | .hbm, ⟨15, _⟩ => ⟨S16x32, .f32⟩
  | .hbm, ⟨16, _⟩ => ⟨S16x32x1, .f32⟩
  | .hbm, ⟨17, _⟩ => ⟨S_, .f32⟩
  | .hbm, ⟨18, _⟩ => ⟨S16x32x1, .f32⟩
  | .hbm, ⟨19, _⟩ => ⟨S16x32x1, .f32⟩
  | .hbm, ⟨20, _⟩ => ⟨S_, .f32⟩
  | .hbm, ⟨21, _⟩ => ⟨S16x32x1, .f32⟩
  | .hbm, ⟨22, _⟩ => ⟨S16x32x1, .f32⟩
  | .hbm, ⟨23, _⟩ => ⟨S16x32x1, .f32⟩
  | .hbm, ⟨24, _⟩ => ⟨S16x32x1024, .f32⟩
  | .hbm, ⟨25, _⟩ => ⟨S16x32x1024, .f32⟩
  | .hbm, ⟨26, _⟩ => ⟨S1x1x1024, .f32⟩
  | .hbm, ⟨27, _⟩ => ⟨S16x32x1024, .f32⟩
  | .hbm, ⟨28, _⟩ => ⟨S16x32x1024, .f32⟩
  | .hbm, ⟨29, _⟩ => ⟨S16x1x1024, .f32⟩
  | .hbm, ⟨30, _⟩ => ⟨S_, .f32⟩
  | .hbm, ⟨31, _⟩ => ⟨S16x1x1024, .f32⟩
  | .hbm, ⟨32, _⟩ => ⟨S16x1x1024, .f32⟩
  | .hbm, ⟨33, _⟩ => ⟨S16x32x1024, .f32⟩
  | .hbm, ⟨34, _⟩ => ⟨S16x32x1024, .f32⟩
  | .hbm, ⟨35, _⟩ => ⟨S16x1x1024, .f32⟩
  | .hbm, ⟨36, _⟩ => ⟨S16x32x1024, .f32⟩
  | .hbm, ⟨37, _⟩ => ⟨S16x32x1024, .f32⟩
  | .hbm, ⟨38, _⟩ => ⟨S16x32x3072, .f32⟩
  | .hbm, ⟨39, _⟩ => ⟨S16x32x1024, .f32⟩
  | .hbm, ⟨40, _⟩ => ⟨S16x32x1024, .f32⟩
  | .hbm, ⟨41, _⟩ => ⟨S16x32x1024, .f32⟩
  | .hbm, ⟨42, _⟩ => ⟨S16x32x16x64, .f32⟩
  | .hbm, ⟨43, _⟩ => ⟨S16x32x16x64, .f32⟩
  | .hbm, ⟨44, _⟩ => ⟨S16x32x16x64, .f32⟩
  | .hbm, ⟨45, _⟩ => ⟨S_, .f32⟩
  | .hbm, ⟨46, _⟩ => ⟨S16x32x16x64, .f32⟩
  | .hbm, ⟨47, _⟩ => ⟨S16x32x16x64, .f32⟩
  | .hbm, ⟨48, _⟩ => ⟨S512x8x128, .f32⟩
  | .hbm, ⟨49, _⟩ => ⟨S8x512x128, .f32⟩
  | .hbm, ⟨50, _⟩ => ⟨S8x512x128, .bf16⟩
  | .hbm, ⟨51, _⟩ => ⟨S512x8x128, .f32⟩
  | .hbm, ⟨52, _⟩ => ⟨S8x512x128, .f32⟩
  | .hbm, ⟨53, _⟩ => ⟨S8x512x128, .bf16⟩
  | .hbm, ⟨54, _⟩ => ⟨S512x8x128, .f32⟩
  | .hbm, ⟨55, _⟩ => ⟨S8x512x128, .f32⟩
  | .hbm, ⟨56, _⟩ => ⟨S8x512x128, .bf16⟩
  | .hbm, ⟨57, _⟩ => ⟨S16x512x128, .bf16⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== ProjectNorm.lean ====
abbrev S4x8192x1024 : Shape := ⟨3, ![4, 8192, 1024]⟩
abbrev S1024 : Shape := ⟨1, ![1024]⟩
abbrev S4x6144 : Shape := ⟨2, ![4, 6144]⟩
abbrev S16x6144 : Shape := ⟨2, ![16, 6144]⟩
abbrev S1024x3072 : Shape := ⟨2, ![1024, 3072]⟩
abbrev S64 : Shape := ⟨1, ![64]⟩
abbrev S256x256 : Shape := ⟨2, ![256, 256]⟩
abbrev S1024x1024 : Shape := ⟨2, ![1024, 1024]⟩
abbrev S1024x2048 : Shape := ⟨2, ![1024, 2048]⟩
abbrev S2048x1024 : Shape := ⟨2, ![2048, 1024]⟩
abbrev S1x64 : Shape := ⟨2, ![1, 64]⟩
abbrev S16x64 : Shape := ⟨2, ![16, 64]⟩
abbrev S1x1024 : Shape := ⟨2, ![1, 1024]⟩
abbrev S1024x1 : Shape := ⟨2, ![1024, 1]⟩
abbrev S4x16x6144 : Shape := ⟨3, ![4, 16, 6144]⟩
abbrev S64x6144 : Shape := ⟨2, ![64, 6144]⟩
abbrev S80x6144 : Shape := ⟨2, ![80, 6144]⟩
abbrev S32768x1024 : Shape := ⟨2, ![32768, 1024]⟩
abbrev S8x32768x128 : Shape := ⟨3, ![8, 32768, 128]⟩
abbrev S4x1024x8192 : Shape := ⟨3, ![4, 1024, 8192]⟩
abbrev S4x1024x512 : Shape := ⟨3, ![4, 1024, 512]⟩
abbrev S512x1024 : Shape := ⟨2, ![512, 1024]⟩
abbrev S16x1024 : Shape := ⟨2, ![16, 1024]⟩
abbrev S8x512x128 : Shape := ⟨3, ![8, 512, 128]⟩
abbrev S1x1024x512 : Shape := ⟨3, ![1, 1024, 512]⟩
abbrev S512 : Shape := ⟨1, ![512]⟩
abbrev S512x1 : Shape := ⟨2, ![512, 1]⟩
abbrev S16x1x1024 : Shape := ⟨3, ![16, 1, 1024]⟩
abbrev S16x32x1024 : Shape := ⟨3, ![16, 32, 1024]⟩
abbrev S2048x512 : Shape := ⟨2, ![2048, 512]⟩
abbrev S1024x512 : Shape := ⟨2, ![1024, 512]⟩
abbrev S512x256 : Shape := ⟨2, ![512, 256]⟩
abbrev S16x64x512 : Shape := ⟨3, ![16, 64, 512]⟩
abbrev S16x512 : Shape := ⟨2, ![16, 512]⟩
abbrev S16x1x512 : Shape := ⟨3, ![16, 1, 512]⟩
abbrev S512x128 : Shape := ⟨2, ![512, 128]⟩
abbrev S1x512x128 : Shape := ⟨3, ![1, 512, 128]⟩
abbrev S4x16x64x512 : Shape := ⟨4, ![4, 16, 64, 512]⟩
abbrev S4x512x16x64 : Shape := ⟨4, ![4, 512, 16, 64]⟩
abbrev S1x4x512x16x64 : Shape := ⟨5, ![1, 4, 512, 16, 64]⟩

abbrev nBuf : Space → Nat
  | .hbm => 37
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x6144, .f32⟩
  | .hbm, ⟨3, _⟩ => ⟨S16x6144, .f32⟩
  | .hbm, ⟨4, _⟩ => ⟨S1024x3072, .f32⟩
  | .hbm, ⟨5, _⟩ => ⟨S64, .f32⟩
  | .hbm, ⟨6, _⟩ => ⟨S64, .f32⟩
  | .hbm, ⟨7, _⟩ => ⟨S256x256, .bf16⟩
  | .hbm, ⟨8, _⟩ => ⟨S1024x1024, .f32⟩
  | .hbm, ⟨9, _⟩ => ⟨S1024x1024, .bf16⟩
  | .hbm, ⟨10, _⟩ => ⟨S1024x2048, .f32⟩
  | .hbm, ⟨11, _⟩ => ⟨S2048x1024, .f32⟩
  | .hbm, ⟨12, _⟩ => ⟨S2048x1024, .bf16⟩
  | .hbm, ⟨13, _⟩ => ⟨S1x64, .f32⟩
  | .hbm, ⟨14, _⟩ => ⟨S16x64, .f32⟩
  | .hbm, ⟨15, _⟩ => ⟨S1024, .f32⟩
  | .hbm, ⟨16, _⟩ => ⟨S1x1024, .f32⟩
  | .hbm, ⟨17, _⟩ => ⟨S1x64, .f32⟩
  | .hbm, ⟨18, _⟩ => ⟨S16x64, .f32⟩
  | .hbm, ⟨19, _⟩ => ⟨S1024, .f32⟩
  | .hbm, ⟨20, _⟩ => ⟨S1024x1, .f32⟩
  | .hbm, ⟨21, _⟩ => ⟨S4x16x6144, .f32⟩
  | .hbm, ⟨22, _⟩ => ⟨S64x6144, .f32⟩
  | .hbm, ⟨23, _⟩ => ⟨S80x6144, .f32⟩
  | .hbm, ⟨24, _⟩ => ⟨S32768x1024, .f32⟩
  | .hbm, ⟨25, _⟩ => ⟨S1x1024, .f32⟩
  | .hbm, ⟨26, _⟩ => ⟨S8x32768x128, .bf16⟩
  | .hbm, ⟨27, _⟩ => ⟨S4x1024x8192, .bf16⟩
  | .hbm, ⟨28, _⟩ => ⟨S4x1024x8192, .bf16⟩
  | .hbm, ⟨29, _⟩ => ⟨S4x1024x512, .f32⟩
  | .hbm, ⟨30, _⟩ => ⟨S4x1024x512, .f32⟩
  | .hbm, ⟨31, _⟩ => ⟨S4x16x64x512, .f32⟩
  | .hbm, ⟨32, _⟩ => ⟨S4x512x16x64, .f32⟩
  | .hbm, ⟨33, _⟩ => ⟨S1x4x512x16x64, .f32⟩
  | .hbm, ⟨34, _⟩ => ⟨S4x16x64x512, .f32⟩
  | .hbm, ⟨35, _⟩ => ⟨S4x512x16x64, .f32⟩
  | .hbm, ⟨36, _⟩ => ⟨S1x4x512x16x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S1024x1024, .bf16⟩
  | .local _ .vmem, ⟨8, _⟩ => ⟨S2048x1024, .bf16⟩
  | .local _ .vmem, ⟨9, _⟩ => ⟨S1x1024, .f32⟩
  | .local _ .vmem, ⟨10, _⟩ => ⟨S1024x1, .f32⟩
  | .local _ .vmem, ⟨11, _⟩ => ⟨S256x256, .bf16⟩
  | .local _ .vmem, ⟨12, _⟩ => ⟨S8x512x128, .bf16⟩
  | .local _ .vmem, ⟨13, _⟩ => ⟨S8x512x128, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .f32⟩
  | .local _ .vmem, ⟨19, _⟩ => ⟨S1x1024x512, .f32⟩
  | .local _ .vmem, ⟨20, _⟩ => ⟨S1x1024x512, .f32⟩
  | .local _ .vmem, ⟨21, _⟩ => ⟨S1x1024x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev main_v18_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c1_i32 : BitVec 32 := 1#32
  let v142 : BitVec 32 := Scalar.addi arg0 c1_i32
  let c16_i32 : BitVec 32 := 16#32
  let c0_i32 : BitVec 32 := 0#32
  let v143 : BitVec 1 := Scalar.cmpi .eq c16_i32 c0_i32
  let c1_i32_72 : BitVec 32 := 1#32
  let v144 : BitVec 32 := Scalar.select v143 c1_i32_72 c16_i32
  let v145 : BitVec 32 := Scalar.remsi v142 v144
  let c0_i32_74 : BitVec 32 := 0#32
  let v147 : BitVec 1 := Scalar.cmpi .slt v145 c0_i32_74
  let c0_i32_75 : BitVec 32 := 0#32
  let v148 : BitVec 1 := Scalar.cmpi .slt v144 c0_i32_75
  let v149 : BitVec 1 := Scalar.xori v147 v148
  let c0_i32_73 : BitVec 32 := 0#32
  let v146 : BitVec 1 := Scalar.cmpi .ne v145 c0_i32_73
  let v150 : BitVec 1 := Scalar.andi v149 v146
  let v151 : BitVec 32 := Scalar.addi v145 v144
  let v152 : BitVec 32 := Scalar.select v150 v151 v145
  let c0_i32_76 : BitVec 32 := 0#32
  let v153 : BitVec 1 := Scalar.cmpi .eq v152 c0_i32_76
  let v154 : BitVec 32 := Scalar.extui v153
  let c0_i32_77 : BitVec 32 := 0#32
  let v155 : BitVec 1 := Scalar.cmpi .ne v154 c0_i32_77
  v155

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c64_i32 : BitVec 32 := 64#32
  let v0 : BitVec 1 := Scalar.cmpi .sge arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 c0_i32_5 v18
  let c0_i32_6 : BitVec 32 := 0#32
  let c0_i32_7 : BitVec 32 := 0#32
  ![v19.toNat, c0_i32_6.toNat]

def cc0_transform_3 (i : grid0.Coords) : Fin 2 → Nat :=
  let arg0 : BitVec 32 := BitVec.ofNat 32 (i 0).val
  let c64_i32 : BitVec 32 := 64#32
  let v0 : BitVec 1 := Scalar.cmpi .sge arg0 c64_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let v19 : BitVec 32 := Scalar.select v0 c0_i32_5 v18
  let c1_i32_6 : BitVec 32 := 1#32
  let c0_i32_7 : BitVec 32 := 0#32
  ![v19.toNat, c1_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjectNormReferenceIdeal.lean ====
abbrev S4x8192x1024 : Shape := ⟨3, ![4, 8192, 1024]⟩
abbrev S1024 : Shape := ⟨1, ![1024]⟩
abbrev S4x6144 : Shape := ⟨2, ![4, 6144]⟩
abbrev S16x6144 : Shape := ⟨2, ![16, 6144]⟩
abbrev S1024x3072 : Shape := ⟨2, ![1024, 3072]⟩
abbrev S64 : Shape := ⟨1, ![64]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x3072 : Shape := ⟨3, ![4, 8192, 3072]⟩
abbrev S4x8192x16x64 : Shape := ⟨4, ![4, 8192, 16, 64]⟩
abbrev S4x8192x16 : Shape := ⟨3, ![4, 8192, 16]⟩
abbrev S4x8192x16x1 : Shape := ⟨4, ![4, 8192, 16, 1]⟩
abbrev S1x1x1x64 : Shape := ⟨4, ![1, 1, 1, 64]⟩
abbrev S32768x8x128 : Shape := ⟨3, ![32768, 8, 128]⟩
abbrev S8x32768x128 : Shape := ⟨3, ![8, 32768, 128]⟩
abbrev S4x16x64x8192 : Shape := ⟨4, ![4, 16, 64, 8192]⟩
abbrev S4x1024x8192 : Shape := ⟨3, ![4, 1024, 8192]⟩
abbrev S4x512x16x64 : Shape := ⟨4, ![4, 512, 16, 64]⟩
abbrev S1x4x512x16x64 : Shape := ⟨5, ![1, 4, 512, 16, 64]⟩

abbrev nBuf : Space → Nat
  | .hbm => 93
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x6144, .f32⟩
  | .hbm, ⟨3, _⟩ => ⟨S16x6144, .f32⟩
  | .hbm, ⟨4, _⟩ => ⟨S1024x3072, .f32⟩
  | .hbm, ⟨5, _⟩ => ⟨S64, .f32⟩
  | .hbm, ⟨6, _⟩ => ⟨S64, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S4x1x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x8192x1024, .f32⟩
  | .hbm, ⟨34, _⟩ => ⟨S4x8192x1024, .f32⟩
  | .hbm, ⟨35, _⟩ => ⟨S4x1x1024, .f32⟩
  | .hbm, ⟨36, _⟩ => ⟨S4x8192x1024, .f32⟩
  | .hbm, ⟨37, _⟩ => ⟨S4x8192x1024, .f32⟩
  | .hbm, ⟨38, _⟩ => ⟨S4x8192x3072, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x16x64, .f32⟩
  | .hbm, ⟨43, _⟩ => ⟨S4x8192x16x64, .f32⟩
  | .hbm, ⟨44, _⟩ => ⟨S4x8192x16x64, .f32⟩
  | .hbm, ⟨45, _⟩ => ⟨S4x8192x16x64, .f32⟩
  | .hbm, ⟨46, _⟩ => ⟨S_, .f32⟩
  | .hbm, ⟨47, _⟩ => ⟨S4x8192x16, .f32⟩
  | .hbm, ⟨48, _⟩ => ⟨S4x8192x16x1, .f32⟩
  | .hbm, ⟨49, _⟩ => ⟨S_, .f32⟩
  | .hbm, ⟨50, _⟩ => ⟨S4x8192x16x1, .f32⟩
  | .hbm, ⟨51, _⟩ => ⟨S4x8192x16x1, .f32⟩
  | .hbm, ⟨52, _⟩ => ⟨S_, .f32⟩
  | .hbm, ⟨53, _⟩ => ⟨S4x8192x16x1, .f32⟩
  | .hbm, ⟨54, _⟩ => ⟨S4x8192x16x1, .f32⟩
  | .hbm, ⟨55, _⟩ => ⟨S4x8192x16x1, .f32⟩
  | .hbm, ⟨56, _⟩ => ⟨S4x8192x16x64, .f32⟩
  | .hbm, ⟨57, _⟩ => ⟨S4x8192x16x64, .f32⟩
  | .hbm, ⟨58, _⟩ => ⟨S1x1x1x64, .f32⟩
  | .hbm, ⟨59, _⟩ => ⟨S4x8192x16x64, .f32⟩
  | .hbm, ⟨60, _⟩ => ⟨S4x8192x16x64, .f32⟩
  | .hbm, ⟨61, _⟩ => ⟨S4x8192x16x64, .f32⟩
  | .hbm, ⟨62, _⟩ => ⟨S_, .f32⟩
  | .hbm, ⟨63, _⟩ => ⟨S4x8192x16, .f32⟩
  | .hbm, ⟨64, _⟩ => ⟨S4x8192x16x1, .f32⟩
  | .hbm, ⟨65, _⟩ => ⟨S_, .f32⟩
  | .hbm, ⟨66, _⟩ => ⟨S4x8192x16x1, .f32⟩
  | .hbm, ⟨67, _⟩ => ⟨S4x8192x16x1, .f32⟩
  | .hbm, ⟨68, _⟩ => ⟨S_, .f32⟩
  | .hbm, ⟨69, _⟩ => ⟨S4x8192x16x1, .f32⟩
  | .hbm, ⟨70, _⟩ => ⟨S4x8192x16x1, .f32⟩
  | .hbm, ⟨71, _⟩ => ⟨S4x8192x16x1, .f32⟩
  | .hbm, ⟨72, _⟩ => ⟨S4x8192x16x64, .f32⟩
  | .hbm, ⟨73, _⟩ => ⟨S4x8192x16x64, .f32⟩
  | .hbm, ⟨74, _⟩ => ⟨S1x1x1x64, .f32⟩
  | .hbm, ⟨75, _⟩ => ⟨S4x8192x16x64, .f32⟩
  | .hbm, ⟨76, _⟩ => ⟨S4x8192x16x64, .f32⟩
  | .hbm, ⟨77, _⟩ => ⟨S_, .f32⟩
  | .hbm, ⟨78, _⟩ => ⟨S4x8192x16x64, .f32⟩
  | .hbm, ⟨79, _⟩ => ⟨S4x8192x16x64, .f32⟩
  | .hbm, ⟨80, _⟩ => ⟨S32768x8x128, .f32⟩
  | .hbm, ⟨81, _⟩ => ⟨S8x32768x128, .f32⟩
  | .hbm, ⟨82, _⟩ => ⟨S8x32768x128, .bf16⟩
  | .hbm, ⟨83, _⟩ => ⟨S4x16x64x8192, .f32⟩
  | .hbm, ⟨84, _⟩ => ⟨S4x1024x8192, .f32⟩
  | .hbm, ⟨85, _⟩ => ⟨S4x1024x8192, .bf16⟩
  | .hbm, ⟨86, _⟩ => ⟨S4x16x64x8192, .f32⟩
  | .hbm, ⟨87, _⟩ => ⟨S4x1024x8192, .f32⟩
  | .hbm, ⟨88, _⟩ => ⟨S4x1024x8192, .bf16⟩
  | .hbm, ⟨89, _⟩ => ⟨S4x512x16x64, .f32⟩
  | .hbm, ⟨90, _⟩ => ⟨S1x4x512x16x64, .f32⟩
  | .hbm, ⟨91, _⟩ => ⟨S4x512x16x64, .f32⟩
  | .hbm, ⟨92, _⟩ => ⟨S1x4x512x16x64, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_9 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== Proof.ExpertCases.lean ====
/- What the body of the expert kernel leaves in its buffers, in each of the four cases of a grid point:
   first or second half of the hidden features, tile in use or not. -/
module

public import proofs.«01_k».proof.Proof.Gen.ExpertIdeal.Frame
public import Idealize.ShloMosaic.Lib.Pipeline.ValueKit
public import Idealize.ShloMosaic.Lib.Pipeline.ReadBack

@[expose] public section

set_option maxRecDepth 16384

noncomputable section

namespace Cert.ExpertIdeal.Value

open Idealize.ShloMosaic Idealize.ShloMosaic.TcCoe Idealize.SL.Sem
open Cert.ExpertIdeal.Gen
open Idealize.ShloMosaic.Pipeline (Dat Cfg Window)

variable {F : FTy → Type} [FloatOps F]

/-- What the first half of a tile in use leaves in the two scratch buffers: the rows in bf16, and the first half of the
    sum. -/
theorem first_x (c : Dev nD) (i a4 h4 a5 h5 a6 h6 a7 h7 a8 h8 hc0 hc2) (x0 : Vec F S512x1024 .f32) (x1 x2 x3 t0 t1 hc1) :
    sout0_A_0 c i a4 h4 a5 h5 a6 h6 a7 h7 a8 h8 scM0_0 (Memref.isWhole_whole _) scM0_1 (Memref.isWhole_whole _) hc0 hc2
      x0 x1 x2 x3 t0 t1 hc1 = k0_pay1 x0 := by
  frame_out

theorem first_acc (c : Dev nD) (i a4 h4 a5 h5 a6 h6 a7 h7 a8 h8 hc0 hc2) (x0 : Vec F S512x1024 .f32) (x1 x2 x3 t0 t1 hc1) :
    sout0_A_1 c i a4 h4 a5 h5 a6 h6 a7 h7 a8 h8 scM0_0 (Memref.isWhole_whole _) scM0_1 (Memref.isWhole_whole _) hc0 hc2
      x0 x1 x2 x3 t0 t1 hc1 = k0_pay3 (k0_pay1 x0) x1 x2 k0_pay2 x3 := by
  frame_out

theorem first_zero (c : Dev nD) (i a4 h4 a5 h5 a6 h6 a7 h7 a8 h8 hc0 hc2) (x0 : Vec F S512x1024 .f32) (x1 x2 x3 t0 t1 hc1) :
    sout0_B_1 c i a4 h4 a5 h5 a6 h6 a7 h7 a8 h8 scM0_0 (Memref.isWhole_whole _) scM0_1 (Memref.isWhole_whole _) hc0 hc2
      x0 x1 x2 x3 t0 t1 hc1 = k0_pay2 := by
  frame_out

theorem second_out (c : Dev nD) (i a4 h4 a5 h5 a6 h6 a7 h7 a8 h8 hc0 hc2) (x0 : Vec F S512x1024 .f32) (x1 x2 x3 t0 t1)
    (xb : Vec F S512x1024 .bf16) (acc : Vec F S512x1024 .f32) (hc1) :
    out0_C_4 c i a4 h4 a5 h5 a6 h6 a7 h7 a8 h8 scM0_0 (Memref.isWhole_whole _) scM0_1 (Memref.isWhole_whole _) hc0 hc2
      x0 x1 x2 x3 t0 t1 xb acc hc1 = k0_pay3 xb x1 x2 acc x3 := by
  frame_out
  simp only [read_unread_whole]

theorem second_zero (c : Dev nD) (i a4 h4 a5 h5 a6 h6 a7 h7 a8 h8 hc0 hc2) (x0 : Vec F S512x1024 .f32) (x1 x2 x3 t0 t1)
    (xb : Vec F S512x1024 .bf16) (acc : Vec F S512x1024 .f32) (hc1) :
    out0_D_4 c i a4 h4 a5 h5 a6 h6 a7 h7 a8 h8 scM0_0 (Memref.isWhole_whole _) scM0_1 (Memref.isWhole_whole _) hc0 hc2
      x0 x1 x2 x3 t0 t1 xb acc hc1 = acc := by
  frame_out
  simp only [read_unread_whole]

end Cert.ExpertIdeal.Value
-- ==== Proof.ExpertTables.lean ====
/- The two tables of the expert kernel: the expert of each tile of rows, and whether the tile is in use. Under the
   precondition every expert is below 8, so that every block of weights lies inside its array. -/
module

public import proofs.«01_k».proof.Proof.Gen.ExpertIdeal.Frame
public import Idealize.ShloMosaic.Lib.Pipeline.ValueKit
public import Idealize.ShloMosaic.Lib.Pointwise.Index

@[expose] public section

set_option maxRecDepth 16384

noncomputable section

namespace Cert.ExpertIdeal.Value

open Idealize.ShloMosaic Idealize.ShloMosaic.TcCoe Idealize.SL.Sem
open Cert.ExpertIdeal.Gen
open Idealize.ShloMosaic.Pipeline (Dat Cfg Window)

variable {F : FTy → Type} [FloatOps F]

/-- The word the kernel reads off a table at a grid point is its tile's. -/
theorem emb_tile (i : grid0.Coords) :
    (Rect.unit (s := S138) (k0_off1 i) S1.size (k0_off1_inb i)).emb (Shape.Idx.first (numel1_S1.symm ▸ Nat.one_pos)) =
      ix1 (n0 := 138) (i 0) := by
  rw [eq_ix1 ((Rect.unit (s := S138) (k0_off1 i) S1.size (k0_off1_inb i)).emb _)]
  congr 1
  apply Fin.ext
  have h : ((i 0 : Fin _) : ℕ) < 138 := (i 0).isLt
  have hx : ∀ x : Fin 1, x.val = 0 := by decide
  have e : k0_off1 i 0 = (i 0).val := by
    simp [k0_off1, Scalar.indexCast, BitVec.toNat_ofNat]
    omega
  exact (congrArg (fun z => k0_off1 i 0 + 1 * z) (hx _)).trans (by rw [e]; omega)

theorem cond_iff (i : grid0.Coords) (v : BitVec 32) : cond0_1 i v ↔ 0 < v.toInt := by
  have h : (0 < v.toInt) ↔ BitVec.slt 0#32 v = true := by simp [BitVec.slt]
  rw [h]
  unfold cond0_1 Scalar.cmpi Scalar.extui IntOp.cmpi
  cases BitVec.slt 0#32 v <;> simp <;> decide

/-- The block of features taken: the point's own where the tile is in use, the last otherwise. -/
def col (tv : BitVec 32) (j : ℕ) : ℕ := if 0 < tv.toInt then j else 1

theorem select_col (tv : BitVec 32) (j : ℕ) (hj : j < 2) :
    (Scalar.select (Scalar.cmpi .sgt tv 0#32) (BitVec.ofNat 32 j) 1#32).toNat = col tv j := by
  have h : (0 < tv.toInt) ↔ BitVec.slt 0#32 tv = true := by simp [BitVec.slt]
  unfold col
  simp only [h]
  unfold Scalar.select Scalar.cmpi IntOp.cmpi
  cases BitVec.slt 0#32 tv <;> simp <;> omega

theorem index1 (pf : pre0.Contents (Elt F)) (i : grid0.Coords) :
    cc0_transform_1 k0_off1_inb numel1_S1 pf i =
      ![BitVec.toNat (pf 0 (ix1 (n0 := 138) (i 0))), 0, col (pf 1 (ix1 (n0 := 138) (i 0))) (i 1).val] := by
  have e := emb_tile i
  have hj : ((i 1 : Fin _) : ℕ) < 2 := (i 1).isLt
  generalize ix1 (n0 := 138) (i 0) = q at e ⊢
  subst e
  exact congrArg (fun z : ℕ => (![_, 0, z] : Fin 3 → ℕ)) (select_col _ _ hj)

theorem index2 (pf : pre0.Contents (Elt F)) (i : grid0.Coords) :
    cc0_transform_2 k0_off1_inb numel1_S1 pf i = cc0_transform_1 k0_off1_inb numel1_S1 pf i := rfl

theorem index3 (pf : pre0.Contents (Elt F)) (i : grid0.Coords) :
    cc0_transform_3 k0_off1_inb numel1_S1 pf i =
      ![BitVec.toNat (pf 0 (ix1 (n0 := 138) (i 0))), col (pf 1 (ix1 (n0 := 138) (i 0))) (i 1).val, 0] := by
  have e := emb_tile i
  have hj : ((i 1 : Fin _) : ℕ) < 2 := (i 1).isLt
  generalize ix1 (n0 := 138) (i 0) = q at e ⊢
  subst e
  exact congrArg (fun z : ℕ => (![_, z, 0] : Fin 3 → ℕ)) (select_col _ _ hj)

theorem col_lt (tv : BitVec 32) {j : ℕ} (hj : j < 2) : col tv j < 2 := by
  unfold col; split <;> omega

/-- Every block of the first two weights at an expert below 8 lies inside the array, on whole words; -/
theorem inside_up : ∀ (e : Fin 8) (j : Fin 2), ∃ h : (∀ a, ((![e.val, 0, j.val] : Fin 3 → ℕ) a + 1) * S1x1024x1792.size a ≤ S8x1024x3584.size a),
    EltTy.bits .bf16 = 32 ∨ (Rect.block (s := S8x1024x3584) S1x1024x1792.size ![e.val, 0, j.val] h).WholeWords (EltTy.packing .bf16) := by
  decide +kernel

/-- so does every block of the third. -/
theorem inside_down : ∀ (e : Fin 8) (j : Fin 2), ∃ h : (∀ a, ((![e.val, j.val, 0] : Fin 3 → ℕ) a + 1) * S1x1792x1024.size a ≤ S8x3584x1024.size a),
    EltTy.bits .bf16 = 32 ∨ (Rect.block (s := S8x3584x1024) S1x1792x1024.size ![e.val, j.val, 0] h).WholeWords (EltTy.packing .bf16) := by
  decide +kernel

/-- Tables whose experts are below 8 are admissible. -/
theorem ok_of_lt (pf : pre0.Contents (Elt F)) (h : ∀ q : Fin 138, BitVec.toNat (pf 0 (ix1 (n0 := 138) q)) < 8) : ok0 pf := by
  have up : ∀ i : grid0.Coords, ∃ h : (∀ a, (cc0_transform_1 k0_off1_inb numel1_S1 pf i a + 1) * S1x1024x1792.size a ≤ S8x1024x3584.size a),
      EltTy.bits .bf16 = 32 ∨ (Rect.block (s := S8x1024x3584) S1x1024x1792.size (cc0_transform_1 k0_off1_inb numel1_S1 pf i) h).WholeWords (EltTy.packing .bf16) := fun i => by
    rw [index1]
    exact inside_up ⟨_, h (i 0)⟩ ⟨_, col_lt _ (i 1).isLt⟩
  refine ⟨up, up, fun i => ?_⟩
  rw [index3]
  exact inside_down ⟨_, h (i 0)⟩ ⟨_, col_lt _ (i 1).isLt⟩

/-- A word that is not negative and below 8 as a signed number is below 8 as a natural one. -/
theorem lt_of_range (v : BitVec 32) (h0 : IntOp.cmpi .sge v 0#32 = 1#1) (h8 : IntOp.cmpi .slt v 8#32 = 1#1) : v.toNat < 8 := by
  have ofBool (p : Bool) : (BitVec.ofBool p = 1#1) ↔ p = true := by cases p <;> decide
  simp only [ofBool, IntOp.cmpi, BitVec.sle, BitVec.slt, decide_eq_true_eq, BitVec.toInt, BitVec.toNat_ofNat] at h0 h8
  omega

end Cert.ExpertIdeal.Value
-- ==== Proof.ExpertPay.lean ====
/- One expert's block of the feed-forward at an index, and the reference's result at an index. -/
module

public import proofs.«01_k».proof.Proof.Gen.ExpertIdeal.Frame
public import proofs.«01_k».proof.Proof.Gen.ExpertReferenceIdeal.Run
public import Idealize.ShloMosaic.Lib.Pointwise

@[expose] public section

set_option maxRecDepth 16384

noncomputable section

namespace Cert.ExpertIdeal.Value

open Idealize.ShloMosaic Idealize.ShloMosaic.TcCoe Idealize.SL.Sem
open Cert.ExpertIdeal.Gen
open Idealize.ShloMosaic.Pointwise

/-- The gated unit: `x · 1 / (1 + exp (0 - x)) · y`. -/
def glu (x y : EReal) : EReal := x * Ideal.div 1 (1 + Ideal.exp (0 - x)) * y

/-- The feature `f` of row `r` at expert `e`, gated. -/
def hidden (xs : S70656x1024.Idx → EReal) (wg wu : S8x1024x3584.Idx → EReal) (r : Fin 70656) (e : Fin 8) (f : Fin 3584) : EReal :=
  glu (∑ k : Fin 1024, xs (ix2 r k) * wg (ix3 e k f)) (∑ k : Fin 1024, xs (ix2 r k) * wu (ix3 e k f))

/-- Row `r` through the feed-forward of expert `e`. -/
def ffn (xs : S70656x1024.Idx → EReal) (wg wu : S8x1024x3584.Idx → EReal) (wd : S8x3584x1024.Idx → EReal)
    (r : Fin 70656) (e : Fin 8) (n : Fin 1024) : EReal :=
  ∑ f : Fin 3584, hidden xs wg wu r e f * wd (ix3 e f n)

theorem pay1_apply (x : Vec Ideal S512x1024 .f32) (r : Fin 512) (n : Fin 1024) : k0_pay1 x (ix2 r n) = x (ix2 r n) := by
  pointwise [k0_pay1]

theorem pay2_apply (r : Fin 512) (n : Fin 1024) : k0_pay2 (F := Ideal) (ix2 r n) = 0 := by
  pointwise [k0_pay2]

theorem pay3_apply (xb : Vec Ideal S512x1024 .bf16) (wg wu : Vec Ideal S1x1024x1792 .bf16) (acc : Vec Ideal S512x1024 .f32)
    (wd : Vec Ideal S1x1792x1024 .bf16) (r : Fin 512) (n : Fin 1024) :
    k0_pay3 xb wg wu acc wd (ix2 r n) = acc (ix2 r n) + ∑ f : Fin 1792,
      glu (∑ k : Fin 1024, xb (ix2 r k) * wg (ix3 0 k f)) (∑ k : Fin 1024, xb (ix2 r k) * wu (ix3 0 k f)) * wd (ix3 0 f n) := by
  pointwise [k0_pay3]
  rfl

section Reference

open Cert.ExpertReferenceIdeal.Value

/-- The reference's gate of expert `e` for a row of tile `q`: one where the tile is in use and the expert is its own. -/
def gate (te tv : S138.Idx → BitVec 32) (q : Fin 138) (e : Fin 8) : EReal :=
  if 0 < (tv (ix1 q)).toInt ∧ te (ix1 q) = BitVec.ofNat 32 e.val then 1 else 0

theorem gate_eq (a b v : BitVec 32) :
    FloatOps.uitofp (F := Ideal) FTy.f32 (IntOp.andi (IntOp.cmpi .eq a b) (IntOp.cmpi .sgt v 0#32)) =
      (if 0 < v.toInt ∧ a = b then 1 else 0 : EReal) := by
  have h : BitVec.slt 0#32 v = decide (0 < v.toInt) := by simp [BitVec.slt]
  have h' : (a == b) = decide (a = b) := by simp [beq_eq_decide]
  unfold IntOp.cmpi IntOp.andi
  simp only [h, h']
  by_cases p : 0 < v.toInt <;> by_cases q : a = b <;> simp [p, q, FloatOps.uitofp]

/-- The reference's result at an index: every expert's feed-forward, gated. -/
theorem reference_apply (V : Valuation Cert.ExpertReferenceIdeal.τ Cert.ExpertReferenceIdeal.sig (Elt Ideal))
    (xs : S70656x1024.Idx → EReal) (wg wu : S8x1024x3584.Idx → EReal) (wd : S8x3584x1024.Idx → EReal)
    (te tv : S138.Idx → BitVec 32)
    (h0 : V (Proc.devRef .tc Cert.ExpertReferenceIdeal.main_arg0) = te) (h1 : V (Proc.devRef .tc Cert.ExpertReferenceIdeal.main_arg1) = tv)
    (h2 : V (Proc.devRef .tc Cert.ExpertReferenceIdeal.main_arg2) = xs) (h3 : V (Proc.devRef .tc Cert.ExpertReferenceIdeal.main_arg3) = wg)
    (h4 : V (Proc.devRef .tc Cert.ExpertReferenceIdeal.main_arg4) = wu) (h5 : V (Proc.devRef .tc Cert.ExpertReferenceIdeal.main_arg5) = wd)
    (r : Fin 70656) (n : Fin 1024) :
    (show S70656x1024.Idx → EReal from val3 V (Proc.devRef .tc Cert.ExpertReferenceIdeal.main_v134)) (ix2 r n) =
      ∑ e : Fin 8, gate te tv ⟨r.val / 512, by omega⟩ e * ffn xs wg wu wd r e n := by
  rw [val3_main_v134]
  dsimp only
  pointwise [res_main_v13, res_main_v22, res_main_v37, res_main_v52, res_main_v67, res_main_v82, res_main_v89, res_main_v97,
    res_main_v112, res_main_v127]
  simp only [gate_eq, h0, h1, h2, h3, h4, h5]
  rw [Fin.sum_univ_eight]
  simp only [ffn, hidden, glu, zero_sub]
  rfl

/-- With the tile's own expert in range, the gates pick that expert's feed-forward, or nothing. -/
theorem sum_gate (te tv : S138.Idx → BitVec 32) (q : Fin 138) (e : Fin 8) (he : (te (ix1 q)).toNat = e.val) (f : Fin 8 → EReal) :
    ∑ k : Fin 8, gate te tv q k * f k = if 0 < (tv (ix1 q)).toInt then f e else 0 := by
  have hg : ∀ k : Fin 8, gate te tv q k = if 0 < (tv (ix1 q)).toInt ∧ k = e then 1 else 0 := by
    intro k
    have : te (ix1 q) = BitVec.ofNat 32 k.val ↔ k = e := by
      rw [← BitVec.toNat_inj, he, BitVec.toNat_ofNat, Nat.mod_eq_of_lt (by omega), Fin.ext_iff, eq_comm]
    simp only [gate, this]
  simp only [hg]
  by_cases h : 0 < (tv (ix1 q)).toInt
  · simp [h]
  · simp [h]

end Reference

end Cert.ExpertIdeal.Value
-- ==== Proof.ExpertValue.lean ====
/- The result of the expert kernel: every row of a tile in use through its expert's feed-forward, the others zero. -/
module

public import proofs.«01_k».proof.Proof.ExpertCases
public import proofs.«01_k».proof.Proof.ExpertTables
public import proofs.«01_k».proof.Proof.ExpertPay
public import Idealize.ShloMosaic.Lib.Pipeline.Covers

@[expose] public section

set_option maxRecDepth 16384

noncomputable section

namespace Cert.ExpertIdeal.Value

open Idealize.ShloMosaic Idealize.ShloMosaic.TcCoe Idealize.SL.Sem
open Cert.ExpertIdeal.Gen
open Idealize.ShloMosaic.Pipeline (Dat Cfg Window)
open Idealize.ShloMosaic.Pointwise

variable (m : (ℓ : Loc nD τ sig) → Buf (Elt Ideal) ℓ)

/-- The point's tile and half. -/
theorem coords_val : ∀ t : Fin grid0.N, (grid0.coords t 0 : ℕ) = t.val / 2 ∧ (grid0.coords t 1 : ℕ) = t.val % 2 := by decide +kernel

/-- The two tables: each tile's expert, and whether the tile is in use. -/
def te : S138.Idx → BitVec 32 := tbl m 0
def tv : S138.Idx → BitVec 32 := tbl m 1

/-- The tile of a point. -/
def tile (hO : Ok m) (t : Fin (cfgM m hO).N) : Fin 138 := ⟨t.val / 2, by have : t.val < 276 := t.isLt; omega⟩

theorem coord_tile (hO : Ok m) (t : Fin (cfgM m hO).N) : ix1 (n0 := 138) (grid0.coords t 0) = ix1 (tile m hO t) := by
  congr 1
  exact Fin.ext (coords_val t).1

/-- The weights as the region finds them: cast, which changes no value. -/
theorem V_wg (c : Dev nD) : V m c (Pipeline.arrRef spec0 1) = m ((c : Thread nD τ).loc main_arg3) := by
  simp only [V, hostOps0]
  entry_read
  rfl

theorem V_wu (c : Dev nD) : V m c (Pipeline.arrRef spec0 2) = m ((c : Thread nD τ).loc main_arg4) := by
  simp only [V, hostOps0]
  entry_read
  rfl

theorem V_wd (c : Dev nD) : V m c (Pipeline.arrRef spec0 3) = m ((c : Thread nD τ).loc main_arg5) := by
  simp only [V, hostOps0]
  entry_read
  rfl

/-- The blocks of a point, as the body reads them. -/
def b0 (hO : Ok m) (c : Dev nD) (t : Fin (cfgM m hO).N) : Vec Ideal S512x1024 .f32 := iblk m hO c 0 t
def b1 (hO : Ok m) (c : Dev nD) (t : Fin (cfgM m hO).N) : Vec Ideal S1x1024x1792 .bf16 := iblk m hO c 1 t
def b2 (hO : Ok m) (c : Dev nD) (t : Fin (cfgM m hO).N) : Vec Ideal S1x1024x1792 .bf16 := iblk m hO c 2 t
def b3 (hO : Ok m) (c : Dev nD) (t : Fin (cfgM m hO).N) : Vec Ideal S1x1792x1024 .bf16 := iblk m hO c 3 t

theorem emb0 (hO : Ok m) (t : Fin (cfgM m hO).N) (y : S512x1024.Idx) (a : Fin 2) :
    ((((cfgM m hO).win 0).blk t).view.emb y a : ℕ) = cc0_transform_0 (grid0.coords t) a * S512x1024.size a + (y a).val :=
  Window.rect_emb_val ((cfgM m hO).win 0) t y a rfl

theorem emb1 (hO : Ok m) (t : Fin (cfgM m hO).N) (y : S1x1024x1792.Idx) (a : Fin 3) :
    ((((cfgM m hO).win 1).blk t).view.emb y a : ℕ) =
      cc0_transform_1 k0_off1_inb numel1_S1 (tbl m) (grid0.coords t) a * S1x1024x1792.size a + (y a).val :=
  Window.rect_emb_val ((cfgM m hO).win 1) t y a rfl

theorem emb2 (hO : Ok m) (t : Fin (cfgM m hO).N) (y : S1x1024x1792.Idx) (a : Fin 3) :
    ((((cfgM m hO).win 2).blk t).view.emb y a : ℕ) =
      cc0_transform_1 k0_off1_inb numel1_S1 (tbl m) (grid0.coords t) a * S1x1024x1792.size a + (y a).val :=
  Window.rect_emb_val ((cfgM m hO).win 2) t y a rfl

theorem emb3 (hO : Ok m) (t : Fin (cfgM m hO).N) (y : S1x1792x1024.Idx) (a : Fin 3) :
    ((((cfgM m hO).win 3).blk t).view.emb y a : ℕ) =
      cc0_transform_3 k0_off1_inb numel1_S1 (tbl m) (grid0.coords t) a * S1x1792x1024.size a + (y a).val :=
  Window.rect_emb_val ((cfgM m hO).win 3) t y a rfl

theorem emb4 (hO : Ok m) (t : Fin (cfgM m hO).N) (y : S512x1024.Idx) (a : Fin 2) :
    ((((cfgM m hO).win 4).blk t).view.emb y a : ℕ) = cc0_transform_4 (grid0.coords t) a * S512x1024.size a + (y a).val :=
  Window.rect_emb_val ((cfgM m hO).win 4) t y a rfl

theorem index_up (hO : Ok m) (t : Fin (cfgM m hO).N) :
    cc0_transform_1 k0_off1_inb numel1_S1 (tbl m) (grid0.coords t) =
      ![(te m (ix1 (tile m hO t))).toNat, 0, col (tv m (ix1 (tile m hO t))) (t.val % 2)] := by
  rw [index1, coord_tile m hO t, (coords_val t).2]
  rfl

theorem index_down (hO : Ok m) (t : Fin (cfgM m hO).N) :
    cc0_transform_3 k0_off1_inb numel1_S1 (tbl m) (grid0.coords t) =
      ![(te m (ix1 (tile m hO t))).toNat, col (tv m (ix1 (tile m hO t))) (t.val % 2), 0] := by
  rw [index3, coord_tile m hO t, (coords_val t).2]
  rfl

theorem index4 (i : grid0.Coords) : cc0_transform_4 i = ![(i 0).val, 0] := by
  have h : (i 0).val < 138 := (i 0).isLt
  unfold cc0_transform_4
  simp only [BitVec.toNat_ofNat]
  rw [Nat.mod_eq_of_lt (by omega)]

/-- A row of the point's tile, in the array. -/
theorem row_emb (hO : Ok m) (t : Fin (cfgM m hO).N) (r : Fin 512) (n : Fin 1024) (a : Fin 2) :
    cc0_transform_4 (grid0.coords t) a * S512x1024.size a + ((ix2 r n : S512x1024.Idx) a).val =
      ((ix2 ⟨(tile m hO t).val * 512 + r.val, by omega⟩ n : S70656x1024.Idx) a).val := by
  rw [index4]
  match a with
  | 0 =>
    show (grid0.coords t 0).val * 512 + r.val = t.val / 2 * 512 + r.val
    rw [(coords_val t).1]
  | 1 => exact Nat.zero_add _

theorem blk0 (hO : Ok m) (c : Dev nD) (t : Fin (cfgM m hO).N) (r : Fin 512) (k : Fin 1024) :
    b0 m hO c t (ix2 r k) = m ((c : Thread nD τ).loc main_arg2) (ix2 ⟨(tile m hO t).val * 512 + r.val, by omega⟩ k) := by
  refine (congrFun (V_main_arg2 m c) _).trans (congrArg (m ((c : Thread nD τ).loc main_arg2)) (funext fun a => Fin.ext ?_))
  exact (emb0 m hO t (ix2 r k) a).trans (row_emb m hO t r k a)

section Blocks

variable (hO : Ok m) (c : Dev nD) (t : Fin (cfgM m hO).N) (k : Fin 1024) (f : Fin 1792) (e : Fin 8)
  (he : (te m (ix1 (tile m hO t))).toNat = e.val) (g : Fin 3584)
  (hg : g.val = col (tv m (ix1 (tile m hO t))) (t.val % 2) * 1792 + f.val)

include he hg

theorem up_emb (a : Fin 3) :
    cc0_transform_1 k0_off1_inb numel1_S1 (tbl m) (grid0.coords t) a * S1x1024x1792.size a + ((ix3 0 k f : S1x1024x1792.Idx) a).val =
      ((ix3 e k g : S8x1024x3584.Idx) a).val := by
  rw [index_up, he]
  match a with
  | 0 => exact Nat.mul_one _
  | 1 => show 0 * 1024 + k.val = k.val; omega
  | 2 => exact hg.symm

theorem blk1 : b1 m hO c t (ix3 0 k f) = m ((c : Thread nD τ).loc main_arg3) (ix3 e k g) := by
  refine (congrFun (V_wg m c) _).trans (congrArg (m ((c : Thread nD τ).loc main_arg3)) (funext fun a => Fin.ext ?_))
  exact (emb1 m hO t (ix3 0 k f) a).trans (up_emb m hO t k f e he g hg a)

theorem blk2 : b2 m hO c t (ix3 0 k f) = m ((c : Thread nD τ).loc main_arg4) (ix3 e k g) := by
  refine (congrFun (V_wu m c) _).trans (congrArg (m ((c : Thread nD τ).loc main_arg4)) (funext fun a => Fin.ext ?_))
  exact (emb2 m hO t (ix3 0 k f) a).trans (up_emb m hO t k f e he g hg a)

theorem blk3 : b3 m hO c t (ix3 0 f k) = m ((c : Thread nD τ).loc main_arg5) (ix3 e g k) := by
  refine (congrFun (V_wd m c) _).trans (congrArg (m ((c : Thread nD τ).loc main_arg5)) (funext fun a => Fin.ext ?_))
  refine (emb3 m hO t (ix3 0 f k) a).trans ?_
  rw [index_down, he]
  match a with
  | ⟨0, _⟩ => exact Nat.mul_one _
  | ⟨1, _⟩ => exact hg.symm
  | ⟨2, _⟩ => show 0 * 1024 + k.val = k.val; omega

/-- One feature's share of an output at a point: the feature's gated value times its weight. -/
theorem share (xs : S70656x1024.Idx → EReal) (R : Fin 70656) (X : Fin 1024 → EReal) (hX : ∀ j, X j = xs (ix2 R j)) (n : Fin 1024) :
    glu (∑ j : Fin 1024, X j * b1 m hO c t (ix3 0 j f)) (∑ j : Fin 1024, X j * b2 m hO c t (ix3 0 j f)) * b3 m hO c t (ix3 0 f n) =
      hidden xs (m ((c : Thread nD τ).loc main_arg3)) (m ((c : Thread nD τ).loc main_arg4)) R e g *
        (m ((c : Thread nD τ).loc main_arg5) (ix3 e g n) : EReal) :=
  congrArg₂ (· * ·)
    (congrArg₂ glu (Finset.sum_congr rfl fun j _ => congrArg₂ (· * ·) (hX j) (blk1 m hO c t j f e he g hg))
      (Finset.sum_congr rfl fun j _ => congrArg₂ (· * ·) (hX j) (blk2 m hO c t j f e he g hg)))
    (blk3 m hO c t n f e he g hg)

end Blocks

theorem cond_tile (hO : Ok m) (t : Fin (cfgM m hO).N) :
    cond0_1 (grid0.coords t) (tbM0_1.view.readAt (Elt Ideal) (Rect.unit (s := S138) (k0_off1 (grid0.coords t)) S1.size
      (k0_off1_inb (grid0.coords t))).toLoadRect (tbl m 1) (Shape.Idx.first (numel1_S1.symm ▸ Nat.one_pos))) ↔
      0 < (tv m (ix1 (tile m hO t))).toInt :=
  (cond_iff _ _).trans (Iff.of_eq (congrArg (fun i => 0 < (tv m i).toInt) ((emb_tile (grid0.coords t)).trans (coord_tile m hO t))))

/-- A tile in use: its first point leaves the rows and the first half of the sum; -/
theorem used_first (hO : Ok m) (c : Dev nD) (t : Fin (cfgM m hO).N) (ht : t.val % 2 = 0) (hv : 0 < (tv m (ix1 (tile m hO t))).toInt) :
    (outsAt0 m hO c t.val t.isLt).2 = (k0_pay1 (b0 m hO c t),
      k0_pay3 (k0_pay1 (b0 m hO c t)) (b1 m hO c t) (b2 m hO c t) (k0_pay2 (F := Ideal)) (b3 m hO c t)) := by
  rw [outsAt0_A m hO c t ht ((cond_tile m hO t).2 hv) (by omega)]
  dsimp only
  exact Prod.ext (by dsimp only; exact first_x ..) (by dsimp only; exact first_acc ..)

/-- its second point adds the other half. -/
theorem used_second (hO : Ok m) (c : Dev nD) (t : Fin (cfgM m hO).N) (ht : t.val % 2 = 1) (hv : 0 < (tv m (ix1 (tile m hO t))).toInt) :
    (outsAt0 m hO c t.val t.isLt).1 =
      k0_pay3 (outsAt0 m hO c (t.val - 1) (Nat.lt_of_le_of_lt (Nat.sub_le _ _) t.isLt)).2.1 (b1 m hO c t) (b2 m hO c t)
        (outsAt0 m hO c (t.val - 1) (Nat.lt_of_le_of_lt (Nat.sub_le _ _) t.isLt)).2.2 (b3 m hO c t) := by
  rw [outsAt0_C m hO c t (by omega) ((cond_tile m hO t).2 hv) ht]
  dsimp only
  exact second_out ..

/-- A tile not in use: its first point leaves a zero sum, -/
theorem unused_first (hO : Ok m) (c : Dev nD) (t : Fin (cfgM m hO).N) (ht : t.val % 2 = 0) (hv : ¬0 < (tv m (ix1 (tile m hO t))).toInt) :
    (outsAt0 m hO c t.val t.isLt).2.2 = k0_pay2 (F := Ideal) := by
  rw [outsAt0_B m hO c t ht (fun h => hv ((cond_tile m hO t).1 h)) (by omega)]
  dsimp only
  exact first_zero ..

/-- and its second point hands that on. -/
theorem unused_second (hO : Ok m) (c : Dev nD) (t : Fin (cfgM m hO).N) (ht : t.val % 2 = 1) (hv : ¬0 < (tv m (ix1 (tile m hO t))).toInt) :
    (outsAt0 m hO c t.val t.isLt).1 = (outsAt0 m hO c (t.val - 1) (Nat.lt_of_le_of_lt (Nat.sub_le _ _) t.isLt)).2.2 := by
  rw [outsAt0_D m hO c t (by omega) (fun h => hv ((cond_tile m hO t).1 h)) ht]
  dsimp only
  exact second_zero ..

/-- What a tile's second point leaves for the result. -/
theorem out_apply (hO : Ok m) (c : Dev nD) (t : Fin (cfgM m hO).N) (ht : t.val % 2 = 1) (e : Fin 8)
    (he : (te m (ix1 (tile m hO t))).toNat = e.val) (r : Fin 512) (n : Fin 1024) :
    (outsAt0 m hO c t.val t.isLt).1 (ix2 r n) =
      if 0 < (tv m (ix1 (tile m hO t))).toInt then
        ffn (m ((c : Thread nD τ).loc main_arg2)) (m ((c : Thread nD τ).loc main_arg3)) (m ((c : Thread nD τ).loc main_arg4))
          (m ((c : Thread nD τ).loc main_arg5)) ⟨(tile m hO t).val * 512 + r.val, by omega⟩ e n
      else 0 := by
  obtain ⟨p, hp⟩ : ∃ p : Fin (cfgM m hO).N, p.val = t.val - 1 := ⟨⟨t.val - 1, by omega⟩, rfl⟩
  have htile : tile m hO p = tile m hO t := Fin.ext (show p.val / 2 = t.val / 2 by omega)
  have hprev : ∀ (k : ℕ) (hk), k = p.val → outsAt0 m hO c k hk = outsAt0 m hO c p.val p.isLt := by rintro k hk rfl; rfl
  by_cases hv : 0 < (tv m (ix1 (tile m hO t))).toInt
  · have hw : 0 < (tv m (ix1 (tile m hO p))).toInt := by rw [htile]; exact hv
    rw [used_second m hO c t ht hv, hprev _ _ hp.symm, used_first m hO c p (by omega) hw, if_pos hv, pay3_apply]
    dsimp only
    rw [pay3_apply, pay2_apply, zero_add]
    have hX : ∀ j : Fin 1024, k0_pay1 (b0 m hO c p) (ix2 r j) =
        m ((c : Thread nD τ).loc main_arg2) (ix2 ⟨(tile m hO t).val * 512 + r.val, by omega⟩ j) := fun j => by
      rw [pay1_apply, blk0]
      simp only [htile]
    unfold ffn
    rw [Fin.sum_univ_two_halves 1792 1792 (N := 3584) (by decide)]
    refine congrArg₂ (· + ·) (Finset.sum_congr rfl fun f _ => ?_) (Finset.sum_congr rfl fun f _ => ?_)
    · exact share m hO c p f e (by rw [htile]; exact he) _
        (by simp only [col, if_pos hw]; omega) _ _ _ hX n
    · exact share m hO c t f e he _ (by simp only [col, if_pos hv]; omega) _ _ _ hX n
  · have hw : ¬0 < (tv m (ix1 (tile m hO p))).toInt := by rw [htile]; exact hv
    rw [unused_second m hO c t ht hv, hprev _ _ hp.symm, unused_first m hO c p (by omega) hw, if_neg hv]
    exact pay2_apply r n

/-- The result as a function of the arguments. -/
def result (c : Dev nD) (h : ∀ q : Fin 138, (te m (ix1 q)).toNat < 8) : S70656x1024.Idx → EReal := fun i =>
  if 0 < (tv m (ix1 ⟨(i 0).val / 512, by have : (i 0).val < 70656 := (i 0).isLt; omega⟩)).toInt then
    ffn (m ((c : Thread nD τ).loc main_arg2)) (m ((c : Thread nD τ).loc main_arg3)) (m ((c : Thread nD τ).loc main_arg4))
      (m ((c : Thread nD τ).loc main_arg5)) (i 0) ⟨_, h ⟨(i 0).val / 512, by have : (i 0).val < 70656 := (i 0).isLt; omega⟩⟩ (i 1)
  else 0

/-- The result on the rows of a tile. -/
theorem result_row (c : Dev nD) (h : ∀ q : Fin 138, (te m (ix1 q)).toNat < 8) (q : Fin 138) (r : Fin 512) (n : Fin 1024) :
    result m c h (ix2 ⟨q.val * 512 + r.val, by omega⟩ n) = if 0 < (tv m (ix1 q)).toInt then
      ffn (m ((c : Thread nD τ).loc main_arg2)) (m ((c : Thread nD τ).loc main_arg3)) (m ((c : Thread nD τ).loc main_arg4))
        (m ((c : Thread nD τ).loc main_arg5)) ⟨q.val * 512 + r.val, by omega⟩ ⟨_, h q⟩ n
    else 0 := by
  have key : ∀ (p : Fin 138), p = q → (if 0 < (tv m (ix1 p)).toInt then
      ffn (m ((c : Thread nD τ).loc main_arg2)) (m ((c : Thread nD τ).loc main_arg3)) (m ((c : Thread nD τ).loc main_arg4))
        (m ((c : Thread nD τ).loc main_arg5)) ⟨q.val * 512 + r.val, by omega⟩ ⟨_, h p⟩ n else 0) = if 0 < (tv m (ix1 q)).toInt then
      ffn (m ((c : Thread nD τ).loc main_arg2)) (m ((c : Thread nD τ).loc main_arg3)) (m ((c : Thread nD τ).loc main_arg4))
        (m ((c : Thread nD τ).loc main_arg5)) ⟨q.val * 512 + r.val, by omega⟩ ⟨_, h q⟩ n else 0 := by
    rintro p rfl; rfl
  exact key ⟨(q.val * 512 + r.val) / 512, by omega⟩ (Fin.ext (show (q.val * 512 + r.val) / 512 = q.val by omega))

theorem final_at (hO : Ok m) (c : Dev nD) (h : ∀ q : Fin 138, (te m (ix1 q)).toNat < 8) (t : Fin (cfgM m hO).N) (ht : t.val % 2 = 1)
    (y : S512x1024.Idx) : (outsAt0 m hO c t.val t.isLt).1 y = result m c h ((((cfgM m hO).win 4).blk t).view.emb y) := by
  rw [eq_ix2 y]
  have hi : (((cfgM m hO).win 4).blk t).view.emb (ix2 (y 0) (y 1) : S512x1024.Idx) =
      (ix2 ⟨(tile m hO t).val * 512 + (y 0).val, by have : (y 0).val < 512 := (y 0).isLt; omega⟩ (y 1) : S70656x1024.Idx) :=
    funext fun a => Fin.ext ((emb4 m hO t _ a).trans (row_emb m hO t (y 0) (y 1) a))
  refine (out_apply m hO c t ht ⟨_, h (tile m hO t)⟩ rfl (y 0) (y 1)).trans (Eq.trans ?_ (congrArg (result m c h) hi.symm))
  exact (result_row m c h (tile m hO t) (y 0) (y 1)).symm

theorem final (hO : Ok m) (c : Dev nD) (h : ∀ q : Fin 138, (te m (ix1 q)).toNat < 8) :
    (dats m hO 0 c).arrAt 4 (cfgM m hO).N = result m c h := by
  refine (dats m hO 0 c).arrAt_eq_of_covers 4 _ ?_ fun t hf y => ?_
  · refine Window.covers_of_indexMap_surj _ rfl (fun a => (by decide : ∀ a : Fin 2, 0 < S512x1024.size a) a) fun β => ?_
    have hb : ∀ a : Fin 2, (β a).val < (![138, 1] : Fin 2 → ℕ) a := fun a => by
      refine lt_of_lt_of_eq (β a).isLt ?_
      match a with
      | 0 => exact (by decide : (70656 + 512 - 1) / 512 = 138)
      | 1 => exact (by decide : (1024 + 1024 - 1) / 1024 = 1)
    obtain ⟨i, hi⟩ : ∃ i : grid0.Coords, (i 0).val = (β (⟨0, by decide⟩ : Fin 2)).val :=
      ⟨fun | ⟨0, _⟩ => ⟨_, hb 0⟩ | ⟨1, _⟩ => ⟨0, Nat.two_pos⟩, rfl⟩
    refine ⟨i, fun a => ?_⟩
    match a with
    | ⟨0, _⟩ => exact (congrFun (index4 i) 0).trans hi
    | ⟨1, _⟩ => exact (congrFun (index4 i) 1).trans (Nat.lt_one_iff.mp (hb 1)).symm
  · exact (congrFun (after0_4 m hO c t) _).trans (final_at m hO c h t ((flush0_4 (adm m hO) t).1 hf) y)

end Cert.ExpertIdeal.Value
-- ==== Proof.ExpertClaims.lean ====
/- The claims about the expert kernel: it runs, and its result is its reference's. -/
module

public import proofs.«01_k».proof.Defs
public import proofs.«01_k».proof.Proof.Gen.Expert.Frame
public import proofs.«01_k».proof.Proof.Gen.Pre_experts_in_range
public import proofs.«01_k».proof.Proof.ExpertValue
public import Idealize.ShloMosaic.Lib.Claim

@[expose] public section

set_option maxRecDepth 16384

noncomputable section

namespace Cert.Proof.Expert

open Idealize.ShloMosaic Idealize.ShloMosaic.TcCoe Idealize.SL.Sem
open Idealize.ShloMosaic.Pointwise
open Cert.ExpertIdeal.Value

/-- Where the precondition is one everywhere, every tile's expert is below 8. -/
theorem lt_of_pre {F : FTy → Type} [FloatOps F] (a0 a1 a2 a3 a4 a5)
    (h : Cert.Pre_experts_in_range.fn (F := F) a0 a1 a2 a3 a4 a5 = fun _ => 1#1) (q : Fin 138) : (a0 (ix1 q)).toNat < 8 := by
  have e : IntOp.andi (IntOp.cmpi .sge (a0 (ix1 q)) 0#32) (IntOp.cmpi .slt (a0 (ix1 q)) 8#32) = 1#1 := congrFun h (ix1 q)
  have and1 : ∀ x y : BitVec 1, IntOp.andi x y = 1#1 → x = 1#1 ∧ y = 1#1 := by decide
  exact lt_of_range _ (and1 _ _ e).1 (and1 _ _ e).2

theorem ok_ideal (m : (ℓ : Loc Cert.ExpertIdeal.nD Cert.ExpertIdeal.τ Cert.ExpertIdeal.sig) → Buf (Elt Ideal) ℓ)
    (h : Cert.Pre_ExpertIdeal m) : ∀ q : Fin 138, (te m (ix1 q)).toNat < 8 := fun q => by
  have := lt_of_pre _ _ _ _ _ _ (h 0) q
  exact (congrArg BitVec.toNat (congrFun (Cert.ExpertIdeal.Gen.V_main_arg0 m 0) (ix1 q))).trans_lt this

theorem ok_bits (m : (ℓ : Loc Cert.Expert.nD Cert.Expert.τ Cert.Expert.sig) → Buf (Elt Bits) ℓ)
    (h : Cert.Pre_Expert m) : Cert.Expert.Gen.Ok m :=
  ok_of_lt (F := Bits) _ fun q => by
    have := lt_of_pre _ _ _ _ _ _ (h 0) q
    exact (congrArg BitVec.toNat (congrFun (Cert.Expert.Gen.V_main_arg0 m 0) (ix1 q))).trans_lt this

theorem frame_bits : Cert.quiescent_Expert := fun m g h => Cert.Expert.Gen.frame m g (ok_bits m h)

theorem frame_ideal : Cert.quiescent_ExpertIdeal := fun m g h =>
  Cert.ExpertIdeal.Gen.frame m g (ok_of_lt _ (ok_ideal m h))

theorem frame_reference : Cert.quiescent_ExpertReferenceIdeal := fun m g _ =>
  (θ_run Cert.ExpertReferenceIdeal.defs _ _).mono
    (fun r h => ⟨fun c => (h c).2, sem_eq_zero_of_no_sems (by decide) r.2⟩) (Cert.ExpertReferenceIdeal.Value.run m g)

theorem frame_reference_pre : Cert.quiescent_ExpertReferenceIdeal_pre_experts_in_range := fun m g _ =>
  frame_reference m g trivial

/-- The reference's result is the kernel's, the arguments agreeing. -/
theorem reference_result (m : (ℓ : Loc Cert.ExpertIdeal.nD Cert.ExpertIdeal.τ Cert.ExpertIdeal.sig) → Buf (Elt Ideal) ℓ)
    (m' : (ℓ : Loc Cert.ExpertReferenceIdeal.nD Cert.ExpertReferenceIdeal.τ Cert.ExpertReferenceIdeal.sig) → Buf (Elt Ideal) ℓ)
    (c : Dev 1) (h : ∀ q : Fin 138, (te m (ix1 q)).toNat < 8)
    (h0 : m' ((c.tc : Thread 1 Cert.ExpertReferenceIdeal.τ).loc Cert.ExpertReferenceIdeal.main_arg0) = te m)
    (h1 : m' ((c.tc : Thread 1 Cert.ExpertReferenceIdeal.τ).loc Cert.ExpertReferenceIdeal.main_arg1) = tv m)
    (h2 : m' ((c.tc : Thread 1 Cert.ExpertReferenceIdeal.τ).loc Cert.ExpertReferenceIdeal.main_arg2) =
      m ((c.tc : Thread 1 Cert.ExpertIdeal.τ).loc Cert.ExpertIdeal.main_arg2))
    (h3 : m' ((c.tc : Thread 1 Cert.ExpertReferenceIdeal.τ).loc Cert.ExpertReferenceIdeal.main_arg3) =
      m ((c.tc : Thread 1 Cert.ExpertIdeal.τ).loc Cert.ExpertIdeal.main_arg3))
    (h4 : m' ((c.tc : Thread 1 Cert.ExpertReferenceIdeal.τ).loc Cert.ExpertReferenceIdeal.main_arg4) =
      m ((c.tc : Thread 1 Cert.ExpertIdeal.τ).loc Cert.ExpertIdeal.main_arg4))
    (h5 : m' ((c.tc : Thread 1 Cert.ExpertReferenceIdeal.τ).loc Cert.ExpertReferenceIdeal.main_arg5) =
      m ((c.tc : Thread 1 Cert.ExpertIdeal.τ).loc Cert.ExpertIdeal.main_arg5)) :
    Cert.ExpertReferenceIdeal.Value.val3 (StableHlo.launchContents m' c) (Proc.devRef .tc Cert.ExpertReferenceIdeal.main_v134) =
      result m c h := by
  funext i
  obtain ⟨r, n, rfl⟩ : ∃ (r : Fin 70656) (n : Fin 1024), i = ix2 r n := ⟨i 0, i 1, eq_ix2 (n0 := 70656) (n1 := 1024) i⟩
  exact (reference_apply (StableHlo.launchContents m' c) _ _ _ _ _ _ h0 h1 h2 h3 h4 h5 r n).trans
    (sum_gate (te m) (tv m) ⟨r.val / 512, by omega⟩ ⟨_, h ⟨r.val / 512, by omega⟩⟩ rfl _)

/-- The kernel runs to `result`, its arguments unchanged. -/
theorem kernel_run (m : (ℓ : Loc Cert.ExpertIdeal.nD Cert.ExpertIdeal.τ Cert.ExpertIdeal.sig) → Buf (Elt Ideal) ℓ) (g)
    (h : ∀ q : Fin 138, (te m (ix1 q)).toNat < 8) (hO : Cert.ExpertIdeal.Gen.Ok m) :
    θ_run Cert.ExpertIdeal.defs (onTc (τ := Cert.ExpertIdeal.τ) Cert.ExpertIdeal.main) ⟨m, fun _ => 0, g⟩ fun r =>
      ∀ c : Dev Cert.ExpertIdeal.nD, r.2.mem ((c.tc : Thread Cert.ExpertIdeal.nD Cert.ExpertIdeal.τ).loc Cert.ExpertIdeal.main_v3) = result m c h :=
  (θ_run Cert.ExpertIdeal.defs _ _).mono (fun _ hr c => ((hr c).1 4).trans (final m hO c h)) (Cert.ExpertIdeal.Gen.run_main m g hO)

theorem algebraic : Cert.algebraic_ExpertIdeal_ExpertReferenceIdeal := by
  intro m g m' g' hpre hagree
  refine ⟨fun c => result m c (ok_ideal m hpre), ?_, ?_⟩
  · have hO := ok_of_lt _ (ok_ideal m hpre)
    exact (θ_run Cert.ExpertIdeal.defs _ _).mono (fun r h c => ⟨h.1 c, h.2 c⟩)
      (θ_run_and (kernel_run m g (ok_ideal m hpre) hO) (Cert.ExpertIdeal.Gen.unchanged m g hO))
  · refine (θ_run Cert.ExpertReferenceIdeal.defs _ _).mono (fun r h c => ⟨(h c).1.trans ?_, (h c).2⟩)
      (Cert.ExpertReferenceIdeal.Value.run m' g')
    obtain ⟨h0, h1, h2, h3, h4, h5⟩ := hagree c
    obtain rfl : c = 0 := Subsingleton.elim _ _
    exact (Cert.ExpertReferenceIdeal.Value.val3_main_v134 (StableHlo.launchContents m' 0)).symm.trans
      (reference_result m m' 0 _ (h0.trans (Cert.ExpertIdeal.Gen.V_main_arg0 m 0).symm)
        (h1.trans (Cert.ExpertIdeal.Gen.V_main_arg1 m 0).symm) h2 h3 h4 h5)

end Cert.Proof.Expert
-- ==== Proof.DenseCases.lean ====
/- What the body of the dense kernel leaves in its buffers, at the first and at the second half of the hidden features. -/
module

public import proofs.«01_k».proof.Proof.Gen.DenseIdeal.Frame
public import Idealize.ShloMosaic.Lib.Pipeline.ValueKit
public import Idealize.ShloMosaic.Lib.Pipeline.ReadBack

@[expose] public section

set_option maxRecDepth 16384

noncomputable section

namespace Cert.DenseIdeal.Value

open Idealize.ShloMosaic Idealize.ShloMosaic.TcCoe Idealize.SL.Sem
open Cert.DenseIdeal.Gen
open Idealize.ShloMosaic.Pipeline (Dat Cfg Window)

variable {F : FTy → Type} [FloatOps F]

theorem first_x (c : Dev nD) (i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1) (x0 : Vec F S512x1024 .f32) (x1 : Vec F S512x1024 .f32) (x2 : Vec F S8x512x128 .bf16) (x3 : Vec F S8x512x128 .bf16) (x4 : Vec F S1024x1024 .bf16) (x5 : Vec F S16x1024 .f32) (x6 : Vec F S1x1024 .f32) (x7 : Vec F S16x1024 .f32) (x8 : Vec F S16x1024 .f32) (x9 : Vec F S16x1024 .f32) (x10 : Vec F S1024x1792 .bf16) (x11 : Vec F S1024x1792 .bf16) (x12 : Vec F S1792x1024 .bf16) (x13 : Vec F S64x3584 .f32) (x14 : Vec F S64x3584 .f32) (x15 : Vec F S224x1024 .f32) :
    sout0_A_0 c i a2 h2 a3 h3 a4 h4 a5 h5 a6 h6 a7 h7 a8 h8 a9 h9 a10 h10 a11 h11 a12 h12 a13 h13 a14 h14 a15 h15 a16 h16 a17 h17 a18 h18 a19 h19 a20 h20 a21 h21 scM0_0 (Memref.isWhole_whole _) scM0_1 (Memref.isWhole_whole _) scM0_2 (Memref.isWhole_whole _) hc0 hc1 x0 x1 x2 x3 x4 x5 x6 x7 x8 x9 x10 x11 x12 x13 x14 x15 =
      (k0_pay8 (k0_pay3 (BitVec.ofNat 32 (i 0).val) x1 x0 x3 x2 x5 x4)) := by
  frame_out

theorem first_h (c : Dev nD) (i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1) (x0 : Vec F S512x1024 .f32) (x1 : Vec F S512x1024 .f32) (x2 : Vec F S8x512x128 .bf16) (x3 : Vec F S8x512x128 .bf16) (x4 : Vec F S1024x1024 .bf16) (x5 : Vec F S16x1024 .f32) (x6 : Vec F S1x1024 .f32) (x7 : Vec F S16x1024 .f32) (x8 : Vec F S16x1024 .f32) (x9 : Vec F S16x1024 .f32) (x10 : Vec F S1024x1792 .bf16) (x11 : Vec F S1024x1792 .bf16) (x12 : Vec F S1792x1024 .bf16) (x13 : Vec F S64x3584 .f32) (x14 : Vec F S64x3584 .f32) (x15 : Vec F S224x1024 .f32) :
    sout0_A_1 c i a2 h2 a3 h3 a4 h4 a5 h5 a6 h6 a7 h7 a8 h8 a9 h9 a10 h10 a11 h11 a12 h12 a13 h13 a14 h14 a15 h15 a16 h16 a17 h17 a18 h18 a19 h19 a20 h20 a21 h21 scM0_0 (Memref.isWhole_whole _) scM0_1 (Memref.isWhole_whole _) scM0_2 (Memref.isWhole_whole _) hc0 hc1 x0 x1 x2 x3 x4 x5 x6 x7 x8 x9 x10 x11 x12 x13 x14 x15 =
      (k0_pay9 (k0_pay3 (BitVec.ofNat 32 (i 0).val) x1 x0 x3 x2 x5 x4) (k0_pay4 x6) x7 x8) := by
  frame_out

theorem first_acc (c : Dev nD) (i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1) (x0 : Vec F S512x1024 .f32) (x1 : Vec F S512x1024 .f32) (x2 : Vec F S8x512x128 .bf16) (x3 : Vec F S8x512x128 .bf16) (x4 : Vec F S1024x1024 .bf16) (x5 : Vec F S16x1024 .f32) (x6 : Vec F S1x1024 .f32) (x7 : Vec F S16x1024 .f32) (x8 : Vec F S16x1024 .f32) (x9 : Vec F S16x1024 .f32) (x10 : Vec F S1024x1792 .bf16) (x11 : Vec F S1024x1792 .bf16) (x12 : Vec F S1792x1024 .bf16) (x13 : Vec F S64x3584 .f32) (x14 : Vec F S64x3584 .f32) (x15 : Vec F S224x1024 .f32) :
    sout0_A_2 c i a2 h2 a3 h3 a4 h4 a5 h5 a6 h6 a7 h7 a8 h8 a9 h9 a10 h10 a11 h11 a12 h12 a13 h13 a14 h14 a15 h15 a16 h16 a17 h17 a18 h18 a19 h19 a20 h20 a21 h21 scM0_0 (Memref.isWhole_whole _) scM0_1 (Memref.isWhole_whole _) scM0_2 (Memref.isWhole_whole _) hc0 hc1 x0 x1 x2 x3 x4 x5 x6 x7 x8 x9 x10 x11 x12 x13 x14 x15 =
      k0_pay1 (k0_pay9 (k0_pay3 (BitVec.ofNat 32 (i 0).val) x1 x0 x3 x2 x5 x4) (k0_pay4 x6) x7 x8) (k0_pay11 (k0_pay9 (k0_pay3 (BitVec.ofNat 32 (i 0).val) x1 x0 x3 x2 x5 x4) (k0_pay4 x6) x7 x8) x10) (k0_pay12 x11) (constant S512x1792 .f32 0x00000000#32) k0_pay10 x12 := by
  frame_out

theorem first_c1 (c : Dev nD) (i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1) (x0 : Vec F S512x1024 .f32) (x1 : Vec F S512x1024 .f32) (x2 : Vec F S8x512x128 .bf16) (x3 : Vec F S8x512x128 .bf16) (x4 : Vec F S1024x1024 .bf16) (x5 : Vec F S16x1024 .f32) (x6 : Vec F S1x1024 .f32) (x7 : Vec F S16x1024 .f32) (x8 : Vec F S16x1024 .f32) (x9 : Vec F S16x1024 .f32) (x10 : Vec F S1024x1792 .bf16) (x11 : Vec F S1024x1792 .bf16) (x12 : Vec F S1792x1024 .bf16) (x13 : Vec F S64x3584 .f32) (x14 : Vec F S64x3584 .f32) (x15 : Vec F S224x1024 .f32) :
    out0_A_17 c i a2 h2 a3 h3 a4 h4 a5 h5 a6 h6 a7 h7 a8 h8 a9 h9 a10 h10 a11 h11 a12 h12 a13 h13 a14 h14 a15 h15 a16 h16 a17 h17 a18 h18 a19 h19 a20 h20 a21 h21 scM0_0 (Memref.isWhole_whole _) scM0_1 (Memref.isWhole_whole _) scM0_2 (Memref.isWhole_whole _) hc0 hc1 x0 x1 x2 x3 x4 x5 x6 x7 x8 x9 x10 x11 x12 x13 x14 x15 =
      k0_pay5 x13 := by
  frame_out

theorem first_c2 (c : Dev nD) (i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1) (x0 : Vec F S512x1024 .f32) (x1 : Vec F S512x1024 .f32) (x2 : Vec F S8x512x128 .bf16) (x3 : Vec F S8x512x128 .bf16) (x4 : Vec F S1024x1024 .bf16) (x5 : Vec F S16x1024 .f32) (x6 : Vec F S1x1024 .f32) (x7 : Vec F S16x1024 .f32) (x8 : Vec F S16x1024 .f32) (x9 : Vec F S16x1024 .f32) (x10 : Vec F S1024x1792 .bf16) (x11 : Vec F S1024x1792 .bf16) (x12 : Vec F S1792x1024 .bf16) (x13 : Vec F S64x3584 .f32) (x14 : Vec F S64x3584 .f32) (x15 : Vec F S224x1024 .f32) :
    out0_A_18 c i a2 h2 a3 h3 a4 h4 a5 h5 a6 h6 a7 h7 a8 h8 a9 h9 a10 h10 a11 h11 a12 h12 a13 h13 a14 h14 a15 h15 a16 h16 a17 h17 a18 h18 a19 h19 a20 h20 a21 h21 scM0_0 (Memref.isWhole_whole _) scM0_1 (Memref.isWhole_whole _) scM0_2 (Memref.isWhole_whole _) hc0 hc1 x0 x1 x2 x3 x4 x5 x6 x7 x8 x9 x10 x11 x12 x13 x14 x15 =
      k0_pay6 x14 := by
  frame_out

theorem first_c3 (c : Dev nD) (i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1) (x0 : Vec F S512x1024 .f32) (x1 : Vec F S512x1024 .f32) (x2 : Vec F S8x512x128 .bf16) (x3 : Vec F S8x512x128 .bf16) (x4 : Vec F S1024x1024 .bf16) (x5 : Vec F S16x1024 .f32) (x6 : Vec F S1x1024 .f32) (x7 : Vec F S16x1024 .f32) (x8 : Vec F S16x1024 .f32) (x9 : Vec F S16x1024 .f32) (x10 : Vec F S1024x1792 .bf16) (x11 : Vec F S1024x1792 .bf16) (x12 : Vec F S1792x1024 .bf16) (x13 : Vec F S64x3584 .f32) (x14 : Vec F S64x3584 .f32) (x15 : Vec F S224x1024 .f32) :
    out0_A_19 c i a2 h2 a3 h3 a4 h4 a5 h5 a6 h6 a7 h7 a8 h8 a9 h9 a10 h10 a11 h11 a12 h12 a13 h13 a14 h14 a15 h15 a16 h16 a17 h17 a18 h18 a19 h19 a20 h20 a21 h21 scM0_0 (Memref.isWhole_whole _) scM0_1 (Memref.isWhole_whole _) scM0_2 (Memref.isWhole_whole _) hc0 hc1 x0 x1 x2 x3 x4 x5 x6 x7 x8 x9 x10 x11 x12 x13 x14 x15 =
      k0_pay7 x15 := by
  frame_out

theorem second_out (c : Dev nD) (i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1) (x0 : Vec F S512x1024 .f32) (x1 : Vec F S512x1024 .f32) (x2 : Vec F S8x512x128 .bf16) (x3 : Vec F S8x512x128 .bf16) (x4 : Vec F S1024x1024 .bf16) (x5 : Vec F S16x1024 .f32) (x6 : Vec F S1x1024 .f32) (x7 : Vec F S16x1024 .f32) (x8 : Vec F S16x1024 .f32) (x9 : Vec F S16x1024 .f32) (x10 : Vec F S1024x1792 .bf16) (x11 : Vec F S1024x1792 .bf16) (x12 : Vec F S1792x1024 .bf16) (x13 : Vec F S64x3584 .f32) (x14 : Vec F S64x3584 .f32) (x15 : Vec F S224x1024 .f32) (s0 : Vec F S512x1024 .f32) (s1 : Vec F S512x1024 .bf16) (s2 : Vec F S512x1024 .f32) :
    out0_B_16 c i a2 h2 a3 h3 a4 h4 a5 h5 a6 h6 a7 h7 a8 h8 a9 h9 a10 h10 a11 h11 a12 h12 a13 h13 a14 h14 a15 h15 a16 h16 a17 h17 a18 h18 a19 h19 a20 h20 a21 h21 scM0_0 (Memref.isWhole_whole _) scM0_1 (Memref.isWhole_whole _) scM0_2 (Memref.isWhole_whole _) hc0 hc1 x0 x1 x2 x3 x4 x5 x6 x7 x8 x9 x10 x11 x12 x13 x14 x15 s0 s1 s2 =
      k0_pay2 s0 x9 (k0_pay1 s1 (k0_pay11 s1 x10) (k0_pay12 x11) (constant S512x1792 .f32 0x00000000#32) s2 x12) := by
  frame_out
  try simp only [read_unread_whole]

theorem second_c1 (c : Dev nD) (i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1) (x0 : Vec F S512x1024 .f32) (x1 : Vec F S512x1024 .f32) (x2 : Vec F S8x512x128 .bf16) (x3 : Vec F S8x512x128 .bf16) (x4 : Vec F S1024x1024 .bf16) (x5 : Vec F S16x1024 .f32) (x6 : Vec F S1x1024 .f32) (x7 : Vec F S16x1024 .f32) (x8 : Vec F S16x1024 .f32) (x9 : Vec F S16x1024 .f32) (x10 : Vec F S1024x1792 .bf16) (x11 : Vec F S1024x1792 .bf16) (x12 : Vec F S1792x1024 .bf16) (x13 : Vec F S64x3584 .f32) (x14 : Vec F S64x3584 .f32) (x15 : Vec F S224x1024 .f32) (s0 : Vec F S512x1024 .f32) (s1 : Vec F S512x1024 .bf16) (s2 : Vec F S512x1024 .f32) :
    out0_B_17 c i a2 h2 a3 h3 a4 h4 a5 h5 a6 h6 a7 h7 a8 h8 a9 h9 a10 h10 a11 h11 a12 h12 a13 h13 a14 h14 a15 h15 a16 h16 a17 h17 a18 h18 a19 h19 a20 h20 a21 h21 scM0_0 (Memref.isWhole_whole _) scM0_1 (Memref.isWhole_whole _) scM0_2 (Memref.isWhole_whole _) hc0 hc1 x0 x1 x2 x3 x4 x5 x6 x7 x8 x9 x10 x11 x12 x13 x14 x15 s0 s1 s2 =
      k0_pay5 x13 := by
  frame_out
  try simp only [read_unread_whole]

theorem second_c2 (c : Dev nD) (i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1) (x0 : Vec F S512x1024 .f32) (x1 : Vec F S512x1024 .f32) (x2 : Vec F S8x512x128 .bf16) (x3 : Vec F S8x512x128 .bf16) (x4 : Vec F S1024x1024 .bf16) (x5 : Vec F S16x1024 .f32) (x6 : Vec F S1x1024 .f32) (x7 : Vec F S16x1024 .f32) (x8 : Vec F S16x1024 .f32) (x9 : Vec F S16x1024 .f32) (x10 : Vec F S1024x1792 .bf16) (x11 : Vec F S1024x1792 .bf16) (x12 : Vec F S1792x1024 .bf16) (x13 : Vec F S64x3584 .f32) (x14 : Vec F S64x3584 .f32) (x15 : Vec F S224x1024 .f32) (s0 : Vec F S512x1024 .f32) (s1 : Vec F S512x1024 .bf16) (s2 : Vec F S512x1024 .f32) :
    out0_B_18 c i a2 h2 a3 h3 a4 h4 a5 h5 a6 h6 a7 h7 a8 h8 a9 h9 a10 h10 a11 h11 a12 h12 a13 h13 a14 h14 a15 h15 a16 h16 a17 h17 a18 h18 a19 h19 a20 h20 a21 h21 scM0_0 (Memref.isWhole_whole _) scM0_1 (Memref.isWhole_whole _) scM0_2 (Memref.isWhole_whole _) hc0 hc1 x0 x1 x2 x3 x4 x5 x6 x7 x8 x9 x10 x11 x12 x13 x14 x15 s0 s1 s2 =
      k0_pay6 x14 := by
  frame_out
  try simp only [read_unread_whole]

theorem second_c3 (c : Dev nD) (i a2 h2 a3 h3 a4 h4 a5 h5 a6 h6 a7 h7 a8 h8 a9 h9 a10 h10 a11 h11 a12 h12 a13 h13 a14 h14 a15 h15 a16 h16 a17 h17 a18 h18 a19 h19 a20 h20 a21 h21 hc0 hc1) (x0 : Vec F S512x1024 .f32) (x1 : Vec F S512x1024 .f32) (x2 : Vec F S8x512x128 .bf16) (x3 : Vec F S8x512x128 .bf16) (x4 : Vec F S1024x1024 .bf16) (x5 : Vec F S16x1024 .f32) (x6 : Vec F S1x1024 .f32) (x7 : Vec F S16x1024 .f32) (x8 : Vec F S16x1024 .f32) (x9 : Vec F S16x1024 .f32) (x10 : Vec F S1024x1792 .bf16) (x11 : Vec F S1024x1792 .bf16) (x12 : Vec F S1792x1024 .bf16) (x13 : Vec F S64x3584 .f32) (x14 : Vec F S64x3584 .f32) (x15 : Vec F S224x1024 .f32) (s0 : Vec F S512x1024 .f32) (s1 : Vec F S512x1024 .bf16) (s2 : Vec F S512x1024 .f32) :
    out0_B_19 c i a2 h2 a3 h3 a4 h4 a5 h5 a6 h6 a7 h7 a8 h8 a9 h9 a10 h10 a11 h11 a12 h12 a13 h13 a14 h14 a15 h15 a16 h16 a17 h17 a18 h18 a19 h19 a20 h20 a21 h21 scM0_0 (Memref.isWhole_whole _) scM0_1 (Memref.isWhole_whole _) scM0_2 (Memref.isWhole_whole _) hc0 hc1 x0 x1 x2 x3 x4 x5 x6 x7 x8 x9 x10 x11 x12 x13 x14 x15 s0 s1 s2 =
      k0_pay7 x15 := by
  frame_out
  try simp only [read_unread_whole]

end Cert.DenseIdeal.Value
-- ==== Proof.DenseReference.lean ====
/- The dense half of the layer, one row at a time: what the row is in exact numbers, and that the reference computes it. -/
module

public import proofs.«01_k».proof.Proof.Gen.DenseReferenceIdeal.Run
public import proofs.«01_k».proof.Proof.ExpertPay
public import Idealize.ShloMosaic.Lib.Pointwise

@[expose] public section

set_option maxRecDepth 16384

noncomputable section

namespace Cert.DenseIdeal.Value

open Idealize.ShloMosaic Idealize.ShloMosaic.TcCoe Idealize.SL.Sem
open Idealize.ShloMosaic.Pointwise
open Cert.ExpertIdeal.Value (glu)

/-- The row after the attention's output projection: `x + gate · (o · wo)`. -/
def mid (x o gate : Fin 1024 → EReal) (wo : Fin 1024 → Fin 1024 → EReal) (n : Fin 1024) : EReal :=
  x n + gate n * ∑ k : Fin 1024, o k * wo k n

/-- The row normalised by its root mean square, scaled and shifted. -/
def normed (x g shift scale : Fin 1024 → EReal) (n : Fin 1024) : EReal :=
  x n * Ideal.rsqrt (Ideal.div (∑ k : Fin 1024, x k * x k) (Ideal.ofBits FTy.f32 0x44800000#32) + Ideal.ofBits FTy.f32 0x358637BD#32)
    * g n * (1 + scale n) + shift n

/-- One hidden feature's product with its row of the second matrix. -/
def term (h : Fin 1024 → EReal) (wg wu : Fin 1024 → Fin 3584 → EReal) (wd : Fin 3584 → Fin 1024 → EReal) (n : Fin 1024) (f : Fin 3584) : EReal :=
  glu (∑ k : Fin 1024, h k * wg k f) (∑ k : Fin 1024, h k * wu k f) * wd f n

/-- The feed-forward's row: `x + gate · ∑ glu (h · wg) (h · wu) · wd`. -/
def last (x h gate : Fin 1024 → EReal) (wg wu : Fin 1024 → Fin 3584 → EReal) (wd : Fin 3584 → Fin 1024 → EReal) (n : Fin 1024) : EReal :=
  x n + gate n * ∑ f : Fin 3584, term h wg wu wd n f

/-- A row of the modulation, cut at one of its six parts of 1024 columns. -/
def part (md : Fin 6144 → EReal) (p : Fin 6) (n : Fin 1024) : EReal := md ⟨1024 * p.val + n.val, by omega⟩

/-- The row's output: projection, normalisation and feed-forward. -/
def block (x o : Fin 1024 → EReal) (md : Fin 6144 → EReal) (wo : Fin 1024 → Fin 1024 → EReal) (g : Fin 1024 → EReal)
    (wg wu : Fin 1024 → Fin 3584 → EReal) (wd : Fin 3584 → Fin 1024 → EReal) : Fin 1024 → EReal :=
  last (mid x o (part md 2) wo) (normed (mid x o (part md 2) wo) g (part md 3) (part md 4)) (part md 5) wg wu wd

section Reference

open Cert.DenseReferenceIdeal Cert.DenseReferenceIdeal.Gen Cert.DenseReferenceIdeal.Value

/-- The prompt rows after the output projection, as the reference writes them. -/
def promptMid (a0 : FVec Ideal S4x8192x1024 .f32) (a2 : FVec Ideal S4x8192x16x64 .f32) (a5 : FVec Ideal S4x6144 .f32) (a4 : FVec Ideal S1024x1024 .f32) : FVec Ideal S4x8192x1024 .f32 :=
  (addf a0 (mulf (broadcastInDim S4x8192x1024 ![0, 1, 2] bcast_S4x1x1024_S4x8192x1024_0_1_2 (broadcastInDim S4x1x1024 ![0, 2] bcast_S4x1024_S4x1x1024_0_2 (extractStridedSlice S4x1024 ![0, 2048] a5 slices_S4x6144_S4x1024_0_2048))) (Host.dotGeneral dot_S4x8192x1024_S1024x1024_S4x8192x1024_2_0_01_1_n_n none (shapeCast _ a2 shapeCasts_S4x8192x16x64_S4x8192x1024) a4)))

/-- The prompt rows normalised, as the reference writes them. -/
def promptNormed (pX : FVec Ideal S4x8192x1024 .f32) (a5 : FVec Ideal S4x6144 .f32) (a7 : FVec Ideal S1024 .f32) : FVec Ideal S4x8192x1024 .f32 :=
  (addf (mulf (mulf (mulf pX (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf pX pX) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a7))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 4096] a5 slices_S4x6144_S4x1024_0_4096))))) (broadcastInDim S4x8192x1024 ![0, 1, 2] bcast_S4x1x1024_S4x8192x1024_0_1_2 (broadcastInDim S4x1x1024 ![0, 2] bcast_S4x1024_S4x1x1024_0_2 (extractStridedSlice S4x1024 ![0, 3072] a5 slices_S4x6144_S4x1024_0_3072))))

/-- The prompt rows' output, as the reference writes it. -/
def promptLast (pX pH : FVec Ideal S4x8192x1024 .f32) (a5 : FVec Ideal S4x6144 .f32) (a8 a9 : FVec Ideal S1024x3584 .f32) (a10 : FVec Ideal S3584x1024 .f32) : FVec Ideal S4x8192x1024 .f32 :=
  (addf pX (mulf (broadcastInDim S4x8192x1024 ![0, 1, 2] bcast_S4x1x1024_S4x8192x1024_0_1_2 (broadcastInDim S4x1x1024 ![0, 2] bcast_S4x1024_S4x1x1024_0_2 (extractStridedSlice S4x1024 ![0, 5120] a5 slices_S4x6144_S4x1024_0_5120))) (Host.dotGeneral dot_S4x8192x3584_S3584x1024_S4x8192x1024_2_0_01_1_n_n none (mulf (mulf (Host.dotGeneral dot_S4x8192x1024_S1024x3584_S4x8192x3584_2_0_01_1_n_n none pH a8) (Host.divf (broadcastInDim S4x8192x3584 ![] bcast_S_S4x8192x3584 (constant S_ .f32 0x3F800000#32)) (addf (broadcastInDim S4x8192x3584 ![] bcast_S_S4x8192x3584 (constant S_ .f32 0x3F800000#32)) (Host.exp (Host.negf (Host.dotGeneral dot_S4x8192x1024_S1024x3584_S4x8192x3584_2_0_01_1_n_n none pH a8)))))) (Host.dotGeneral dot_S4x8192x1024_S1024x3584_S4x8192x3584_2_0_01_1_n_n none pH a9)) a10)))

theorem promptMid_apply (a0 : FVec Ideal S4x8192x1024 .f32) (a2 : FVec Ideal S4x8192x16x64 .f32) (a5 : FVec Ideal S4x6144 .f32) (a4 : FVec Ideal S1024x1024 .f32)
    (b : Fin 4) (s : Fin 8192) (n : Fin 1024) :
    promptMid a0 a2 a5 a4 (ix3 b s n) = mid (fun k => a0 (ix3 b s k)) (fun k => a2 (ix4 b s ⟨k.val / 64, by omega⟩ ⟨k.val % 64, by omega⟩))
      (part (fun k => a5 (ix2 b k)) 2) (fun k n => a4 (ix2 k n)) n := by
  pointwise [promptMid]
  rfl

theorem promptNormed_apply (x : FVec Ideal S4x8192x1024 .f32) (a5 : FVec Ideal S4x6144 .f32) (a7 : FVec Ideal S1024 .f32)
    (b : Fin 4) (s : Fin 8192) (n : Fin 1024) :
    promptNormed x a5 a7 (ix3 b s n) = normed (fun k => x (ix3 b s k)) (fun k => a7 (ix1 k))
      (part (fun k => a5 (ix2 b k)) 3) (part (fun k => a5 (ix2 b k)) 4) n := by
  pointwise [promptNormed]
  rfl

theorem promptLast_apply (x h : FVec Ideal S4x8192x1024 .f32) (a5 : FVec Ideal S4x6144 .f32) (a8 a9 : FVec Ideal S1024x3584 .f32) (a10 : FVec Ideal S3584x1024 .f32)
    (b : Fin 4) (s : Fin 8192) (n : Fin 1024) :
    promptLast x h a5 a8 a9 a10 (ix3 b s n) = last (fun k => x (ix3 b s k)) (fun k => h (ix3 b s k))
      (part (fun k => a5 (ix2 b k)) 5) (fun k f => a8 (ix2 k f)) (fun k f => a9 (ix2 k f)) (fun f n => a10 (ix2 f n)) n := by
  pointwise [promptLast]
  simp only [last, term, glu, zero_sub]
  rfl

/-- The sample rows after the output projection, as the reference writes them. -/
def sampleMid (a1 : FVec Ideal S16x32x1024 .f32) (a3 : FVec Ideal S16x32x16x64 .f32) (a6 : FVec Ideal S16x6144 .f32) (a4 : FVec Ideal S1024x1024 .f32) : FVec Ideal S16x32x1024 .f32 :=
  (addf a1 (mulf (broadcastInDim S16x32x1024 ![0, 1, 2] bcast_S16x1x1024_S16x32x1024_0_1_2 (broadcastInDim S16x1x1024 ![0, 2] bcast_S16x1024_S16x1x1024_0_2 (extractStridedSlice S16x1024 ![0, 2048] a6 slices_S16x6144_S16x1024_0_2048))) (Host.dotGeneral dot_S16x32x1024_S1024x1024_S16x32x1024_2_0_01_1_n_n none (shapeCast _ a3 shapeCasts_S16x32x16x64_S16x32x1024) a4)))

/-- The sample rows normalised, as the reference writes them. -/
def sampleNormed (sX : FVec Ideal S16x32x1024 .f32) (a6 : FVec Ideal S16x6144 .f32) (a7 : FVec Ideal S1024 .f32) : FVec Ideal S16x32x1024 .f32 :=
  (addf (mulf (mulf (mulf sX (broadcastInDim S16x32x1024 ![0, 1, 2] bcast_S16x32x1_S16x32x1024_0_1_2 (Host.rsqrt (addf (Host.divf (broadcastInDim S16x32x1 ![0, 1] bcast_S16x32_S16x32x1_0_1 (Host.reduceAdd (mulf sX sX) (constant S_ .f32 0x00000000#32) reducesTo_S16x32x1024_S16x32_d2 h_S_)) (broadcastInDim S16x32x1 ![] bcast_S_S16x32x1 (constant S_ .f32 0x44800000#32))) (broadcastInDim S16x32x1 ![] bcast_S_S16x32x1 (constant S_ .f32 0x358637BD#32)))))) (broadcastInDim S16x32x1024 ![0, 1, 2] bcast_S1x1x1024_S16x32x1024_0_1_2 (broadcastInDim S1x1x1024 ![2] bcast_S1024_S1x1x1024_2 a7))) (broadcastInDim S16x32x1024 ![0, 1, 2] bcast_S16x1x1024_S16x32x1024_0_1_2 (addf (broadcastInDim S16x1x1024 ![] bcast_S_S16x1x1024 (constant S_ .f32 0x3F800000#32)) (broadcastInDim S16x1x1024 ![0, 2] bcast_S16x1024_S16x1x1024_0_2 (extractStridedSlice S16x1024 ![0, 4096] a6 slices_S16x6144_S16x1024_0_4096))))) (broadcastInDim S16x32x1024 ![0, 1, 2] bcast_S16x1x1024_S16x32x1024_0_1_2 (broadcastInDim S16x1x1024 ![0, 2] bcast_S16x1024_S16x1x1024_0_2 (extractStridedSlice S16x1024 ![0, 3072] a6 slices_S16x6144_S16x1024_0_3072))))

/-- The sample rows' output, as the reference writes it. -/
def sampleLast (sX sH : FVec Ideal S16x32x1024 .f32) (a6 : FVec Ideal S16x6144 .f32) (a8 a9 : FVec Ideal S1024x3584 .f32) (a10 : FVec Ideal S3584x1024 .f32) : FVec Ideal S16x32x1024 .f32 :=
  (addf sX (mulf (broadcastInDim S16x32x1024 ![0, 1, 2] bcast_S16x1x1024_S16x32x1024_0_1_2 (broadcastInDim S16x1x1024 ![0, 2] bcast_S16x1024_S16x1x1024_0_2 (extractStridedSlice S16x1024 ![0, 5120] a6 slices_S16x6144_S16x1024_0_5120))) (Host.dotGeneral dot_S16x32x3584_S3584x1024_S16x32x1024_2_0_01_1_n_n none (mulf (mulf (Host.dotGeneral dot_S16x32x1024_S1024x3584_S16x32x3584_2_0_01_1_n_n none sH a8) (Host.divf (broadcastInDim S16x32x3584 ![] bcast_S_S16x32x3584 (constant S_ .f32 0x3F800000#32)) (addf (broadcastInDim S16x32x3584 ![] bcast_S_S16x32x3584 (constant S_ .f32 0x3F800000#32)) (Host.exp (Host.negf (Host.dotGeneral dot_S16x32x1024_S1024x3584_S16x32x3584_2_0_01_1_n_n none sH a8)))))) (Host.dotGeneral dot_S16x32x1024_S1024x3584_S16x32x3584_2_0_01_1_n_n none sH a9)) a10)))

theorem sampleMid_apply (a1 : FVec Ideal S16x32x1024 .f32) (a3 : FVec Ideal S16x32x16x64 .f32) (a6 : FVec Ideal S16x6144 .f32) (a4 : FVec Ideal S1024x1024 .f32)
    (b : Fin 16) (s : Fin 32) (n : Fin 1024) :
    sampleMid a1 a3 a6 a4 (ix3 b s n) = mid (fun k => a1 (ix3 b s k)) (fun k => a3 (ix4 b s ⟨k.val / 64, by omega⟩ ⟨k.val % 64, by omega⟩))
      (part (fun k => a6 (ix2 b k)) 2) (fun k n => a4 (ix2 k n)) n := by
  pointwise [sampleMid]
  rfl

theorem sampleNormed_apply (x : FVec Ideal S16x32x1024 .f32) (a6 : FVec Ideal S16x6144 .f32) (a7 : FVec Ideal S1024 .f32)
    (b : Fin 16) (s : Fin 32) (n : Fin 1024) :
    sampleNormed x a6 a7 (ix3 b s n) = normed (fun k => x (ix3 b s k)) (fun k => a7 (ix1 k))
      (part (fun k => a6 (ix2 b k)) 3) (part (fun k => a6 (ix2 b k)) 4) n := by
  pointwise [sampleNormed]
  rfl

theorem sampleLast_apply (x h : FVec Ideal S16x32x1024 .f32) (a6 : FVec Ideal S16x6144 .f32) (a8 a9 : FVec Ideal S1024x3584 .f32) (a10 : FVec Ideal S3584x1024 .f32)
    (b : Fin 16) (s : Fin 32) (n : Fin 1024) :
    sampleLast x h a6 a8 a9 a10 (ix3 b s n) = last (fun k => x (ix3 b s k)) (fun k => h (ix3 b s k))
      (part (fun k => a6 (ix2 b k)) 5) (fun k f => a8 (ix2 k f)) (fun k f => a9 (ix2 k f)) (fun f n => a10 (ix2 f n)) n := by
  pointwise [sampleLast]
  simp only [last, term, glu, zero_sub]
  rfl

/-- The reference's first result: the prompt's rows, then the sample's. -/
theorem res_eq (m : (ℓ : Loc nD τ sig) → Buf (Elt Ideal) ℓ) (c : Dev nD)
    (a0 : FVec Ideal S4x8192x1024 .f32) (a1 : FVec Ideal S16x32x1024 .f32) (a2 : FVec Ideal S4x8192x16x64 .f32) (a3 : FVec Ideal S16x32x16x64 .f32)
    (a4 : FVec Ideal S1024x1024 .f32) (a5 : FVec Ideal S4x6144 .f32) (a6 : FVec Ideal S16x6144 .f32) (a7 : FVec Ideal S1024 .f32)
    (a8 a9 : FVec Ideal S1024x3584 .f32) (a10 : FVec Ideal S3584x1024 .f32)
    (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3)
    (h4 : m ((c.tc : Thread nD τ).loc main_arg4) = a4) (h5 : m ((c.tc : Thread nD τ).loc main_arg5) = a5)
    (h6 : m ((c.tc : Thread nD τ).loc main_arg6) = a6) (h7 : m ((c.tc : Thread nD τ).loc main_arg7) = a7)
    (h8 : m ((c.tc : Thread nD τ).loc main_arg8) = a8) (h9 : m ((c.tc : Thread nD τ).loc main_arg9) = a9)
    (h10 : m ((c.tc : Thread nD τ).loc main_arg10) = a10) :
    res_main_v86 m c =
      concatenate S33280x1024 0 [⟨S32768x1024, (shapeCast _ (promptLast (promptMid a0 a2 a5 a4) (promptNormed (promptMid a0 a2 a5 a4) a5 a7) a5 a8 a9 a10) shapeCasts_S4x8192x1024_S32768x1024)⟩, ⟨S512x1024, (shapeCast _ (sampleLast (sampleMid a1 a3 a6 a4) (sampleNormed (sampleMid a1 a3 a6 a4) a6 a7) a6 a8 a9 a10) shapeCasts_S16x32x1024_S512x1024)⟩] concatenates_S32768x1024_S512x1024_S33280x1024_d0 := by
  subst h0 h1 h2 h3 h4 h5 h6 h7 h8 h9 h10
  rfl

/-- Row `r` of the two streams laid one after the other: its input, -/
def rowX (a0 : FVec Ideal S4x8192x1024 .f32) (a1 : FVec Ideal S16x32x1024 .f32) (r : Fin 33280) (k : Fin 1024) : EReal :=
  if h : r.val < 32768 then a0 (ix3 ⟨r.val / 8192, by omega⟩ ⟨r.val % 8192, by omega⟩ k)
  else a1 (ix3 ⟨(r.val - 32768) / 32, by omega⟩ ⟨(r.val - 32768) % 32, by omega⟩ k)

/-- its attention output, the heads side by side, -/
def rowO (a2 : FVec Ideal S4x8192x16x64 .f32) (a3 : FVec Ideal S16x32x16x64 .f32) (r : Fin 33280) (k : Fin 1024) : EReal :=
  if h : r.val < 32768 then a2 (ix4 ⟨r.val / 8192, by omega⟩ ⟨r.val % 8192, by omega⟩ ⟨k.val / 64, by omega⟩ ⟨k.val % 64, by omega⟩)
  else a3 (ix4 ⟨(r.val - 32768) / 32, by omega⟩ ⟨(r.val - 32768) % 32, by omega⟩ ⟨k.val / 64, by omega⟩ ⟨k.val % 64, by omega⟩)

/-- its modulation, -/
def rowM (a5 : FVec Ideal S4x6144 .f32) (a6 : FVec Ideal S16x6144 .f32) (r : Fin 33280) (k : Fin 6144) : EReal :=
  if h : r.val < 32768 then a5 (ix2 ⟨r.val / 8192, by omega⟩ k) else a6 (ix2 ⟨(r.val - 32768) / 32, by omega⟩ k)

/-- and its output. -/
def row (a0 : FVec Ideal S4x8192x1024 .f32) (a1 : FVec Ideal S16x32x1024 .f32) (a2 : FVec Ideal S4x8192x16x64 .f32) (a3 : FVec Ideal S16x32x16x64 .f32)
    (a4 : FVec Ideal S1024x1024 .f32) (a5 : FVec Ideal S4x6144 .f32) (a6 : FVec Ideal S16x6144 .f32) (a7 : FVec Ideal S1024 .f32)
    (a8 a9 : FVec Ideal S1024x3584 .f32) (a10 : FVec Ideal S3584x1024 .f32) (r : Fin 33280) : Fin 1024 → EReal :=
  block (rowX a0 a1 r) (rowO a2 a3 r) (rowM a5 a6 r) (fun k n => a4 (ix2 k n)) (fun k => a7 (ix1 k))
    (fun k f => a8 (ix2 k f)) (fun k f => a9 (ix2 k f)) (fun f n => a10 (ix2 f n))

theorem rows_apply (a0 : FVec Ideal S4x8192x1024 .f32) (a1 : FVec Ideal S16x32x1024 .f32) (a2 : FVec Ideal S4x8192x16x64 .f32) (a3 : FVec Ideal S16x32x16x64 .f32)
    (a4 : FVec Ideal S1024x1024 .f32) (a5 : FVec Ideal S4x6144 .f32) (a6 : FVec Ideal S16x6144 .f32) (a7 : FVec Ideal S1024 .f32)
    (a8 a9 : FVec Ideal S1024x3584 .f32) (a10 : FVec Ideal S3584x1024 .f32) (r : Fin 33280) (n : Fin 1024) :
    (show FVec Ideal S33280x1024 .f32 from
      concatenate S33280x1024 0 [⟨S32768x1024, (shapeCast _ (promptLast (promptMid a0 a2 a5 a4) (promptNormed (promptMid a0 a2 a5 a4) a5 a7) a5 a8 a9 a10) shapeCasts_S4x8192x1024_S32768x1024)⟩, ⟨S512x1024, (shapeCast _ (sampleLast (sampleMid a1 a3 a6 a4) (sampleNormed (sampleMid a1 a3 a6 a4) a6 a7) a6 a8 a9 a10) shapeCasts_S16x32x1024_S512x1024)⟩] concatenates_S32768x1024_S512x1024_S33280x1024_d0) (ix2 r n) = row a0 a1 a2 a3 a4 a5 a6 a7 a8 a9 a10 r n := by
  pointwise []
  unfold row
  split
  · rename_i h
    unfold rowX rowO rowM
    simp only [dif_pos h]
    rw [promptLast_apply]
    simp only [promptNormed_apply, promptMid_apply]
    rfl
  · rename_i h
    unfold rowX rowO rowM
    simp only [dif_neg h]
    rw [sampleLast_apply]
    simp only [sampleNormed_apply, sampleMid_apply]
    rfl

end Reference

end Cert.DenseIdeal.Value
-- ==== Proof.DensePay.lean ====
/- The dense kernel's payloads at an index, and what its body leaves in its buffers. -/
module

public import proofs.«01_k».proof.Proof.Gen.DenseIdeal.Frame
public import proofs.«01_k».proof.Proof.DenseReference
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DenseIdeal.Value

open Idealize.ShloMosaic Idealize.ShloMosaic.TcCoe Idealize.SL.Sem
open Cert.DenseIdeal.Gen
open Idealize.ShloMosaic.Pointwise
open Cert.ExpertIdeal.Value (glu)

theorem pay2_apply (x : Vec Ideal S512x1024 .f32) (g : Vec Ideal S16x1024 .f32) (acc : Vec Ideal S512x1024 .f32) (r : Fin 512) (n : Fin 1024) :
    k0_pay2 x g acc (ix2 r n) = x (ix2 r n) + g (ix2 ⟨r.val / 32, by omega⟩ n) * acc (ix2 r n) := by
  pointwise [k0_pay2]

theorem pay10_apply (r : Fin 512) (n : Fin 1024) : k0_pay10 (F := Ideal) (ix2 r n) = 0 := by
  pointwise [k0_pay10]

theorem pay1_apply (h : Vec Ideal S512x1024 .bf16) (wg wu : Vec Ideal S1024x1792 .bf16) (acc : Vec Ideal S512x1024 .f32)
    (wd : Vec Ideal S1792x1024 .bf16) (r : Fin 512) (n : Fin 1024) :
    k0_pay1 h (k0_pay11 h wg) (k0_pay12 wu) (constant S512x1792 .f32 0x00000000#32) acc wd (ix2 r n) = acc (ix2 r n) + ∑ f : Fin 1792,
      glu (∑ k : Fin 1024, h (ix2 r k) * wg (ix2 k f)) (∑ k : Fin 1024, h (ix2 r k) * wu (ix2 k f)) * wd (ix2 f n) := by
  pointwise [k0_pay1, k0_pay11, k0_pay12]
  rfl

theorem pay9_apply (x : Vec Ideal S512x1024 .f32) (g : Vec Ideal S1x1024 .f32) (sh sc : Vec Ideal S16x1024 .f32) (r : Fin 512) (n : Fin 1024) :
    k0_pay9 x (k0_pay4 g) sh sc (ix2 r n) = normed (fun k => x (ix2 r k)) (fun k => g (ix2 0 k)) (fun k => sh (ix2 ⟨r.val / 32, by omega⟩ k))
      (fun k => sc (ix2 ⟨r.val / 32, by omega⟩ k)) n := by
  pointwise [k0_pay9, k0_pay4]
  rfl

/-- The 8 heads' columns side by side, read at lane `k`. -/
theorem lanes {α : Type} (F : Fin 8 → Fin 128 → α) (x : Fin 1024) :
    (if h : x.val < 128 then F 0 ⟨x.val, h⟩ else
     if h : x.val - 128 < 128 then F 1 ⟨x.val - 128, h⟩ else
     if h : x.val - 128 - 128 < 128 then F 2 ⟨x.val - 128 - 128, h⟩ else
     if h : x.val - 128 - 128 - 128 < 128 then F 3 ⟨x.val - 128 - 128 - 128, h⟩ else
     if h : x.val - 128 - 128 - 128 - 128 < 128 then F 4 ⟨x.val - 128 - 128 - 128 - 128, h⟩ else
     if h : x.val - 128 - 128 - 128 - 128 - 128 < 128 then F 5 ⟨x.val - 128 - 128 - 128 - 128 - 128, h⟩ else
     if h : x.val - 128 - 128 - 128 - 128 - 128 - 128 < 128 then F 6 ⟨x.val - 128 - 128 - 128 - 128 - 128 - 128, h⟩ else
     F 7 ⟨x.val - 128 - 128 - 128 - 128 - 128 - 128 - 128, by omega⟩)
      = F ⟨x.val / 128, by omega⟩ ⟨x.val % 128, by omega⟩ := by
  have e : ∀ (a b : Fin 8) (p q : Fin 128), a.val = b.val → p.val = q.val → F a p = F b q := by
    intro a b p q h1 h2; rw [Fin.ext h1, Fin.ext h2]
  split_ifs <;> refine e _ _ _ _ ?_ ?_ <;> (dsimp only [Fin.isValue]; first | omega | simp | (simp; omega))

theorem pay3_apply (i : BitVec 32) (xs xp : Vec Ideal S512x1024 .f32) (os op : Vec Ideal S8x512x128 .bf16) (g : Vec Ideal S16x1024 .f32)
    (wo : Vec Ideal S1024x1024 .bf16) (r : Fin 512) (n : Fin 1024) :
    k0_pay3 i xs xp os op g wo (ix2 r n) =
      Scalar.select (Scalar.cmpi CmpIPredicate.eq i 64#32) (xs (ix2 r n)) (xp (ix2 r n)) + g (ix2 ⟨r.val / 32, by omega⟩ n) *
        ∑ k : Fin 1024, Scalar.select (Scalar.cmpi CmpIPredicate.eq i 64#32)
          (os (ix3 ⟨k.val / 128, by omega⟩ r ⟨k.val % 128, by omega⟩))
          (op (ix3 ⟨k.val / 128, by omega⟩ r ⟨k.val % 128, by omega⟩)) * wo (ix2 k n) := by
  refine Eq.trans (by pointwise [k0_pay3]) (congrArg (fun s => Scalar.select (Scalar.cmpi CmpIPredicate.eq i 64#32) (xs (ix2 r n)) (xp (ix2 r n)) + g (ix2 ⟨r.val / 32, by omega⟩ n) * s)
    (Finset.sum_congr rfl fun k _ => congrArg (· * wo (ix2 k n))
      (lanes (fun p q => Scalar.select (Scalar.cmpi CmpIPredicate.eq i 64#32) (os (ix3 p r q)) (op (ix3 p r q))) k)))

theorem pay8_apply (x : Vec Ideal S512x1024 .f32) (r : Fin 512) (n : Fin 1024) : k0_pay8 (F := Ideal) x (ix2 r n) = x (ix2 r n) := by
  pointwise [k0_pay8]

/-- The three casts change no value. -/
theorem pay5_id (x : Vec Ideal S64x3584 .f32) : k0_pay5 (F := Ideal) x = x := by
  funext y
  rw [eq_ix2 (n0 := 64) (n1 := 3584) y]
  pointwise [k0_pay5]

theorem pay6_id (x : Vec Ideal S64x3584 .f32) : k0_pay6 x = x := by
  funext y
  rw [eq_ix2 (n0 := 64) (n1 := 3584) y]
  pointwise [k0_pay6]

theorem pay7_id (x : Vec Ideal S224x1024 .f32) : k0_pay7 x = x := by
  funext y
  rw [eq_ix2 (n0 := 224) (n1 := 1024) y]
  pointwise [k0_pay7]

end Cert.DenseIdeal.Value
-- ==== Proof.DenseValue.lean ====
/- The results of the dense kernel: every row of the two streams through projection, normalisation and feed-forward. -/
module

public import proofs.«01_k».proof.Proof.DenseCases
public import proofs.«01_k».proof.Proof.DensePay
public import Idealize.ShloMosaic.Lib.Pipeline.Covers

@[expose] public section

set_option maxRecDepth 16384

noncomputable section

namespace Cert.DenseIdeal.Value

open Idealize.ShloMosaic Idealize.ShloMosaic.TcCoe Idealize.SL.Sem
open Cert.DenseIdeal Cert.DenseIdeal.Gen
open Idealize.ShloMosaic.Pipeline (Dat Cfg Window)
open Idealize.ShloMosaic.Pointwise
open Cert.ExpertIdeal.Value (glu)

variable (m : (ℓ : Loc nD τ sig) → Buf (Elt Ideal) ℓ)

/-- The point's tile and half. -/
theorem coords_val : ∀ t : Fin grid0.N, (grid0.coords t 0 : ℕ) = t.val / 2 ∧ (grid0.coords t 1 : ℕ) = t.val % 2 := by decide +kernel

/-- The row of the modulation's blocks at a tile: the samples' after the prompts', four of them. -/
def mrow (q : ℕ) : ℕ := if 64 ≤ q then 0 else 1 + q / 16

theorem index0 : ∀ t : Fin grid0.N, cc0_transform_0 (grid0.coords t) = ![min (t.val / 2) 63, 0] := by decide +kernel
theorem index2 : ∀ t : Fin grid0.N, cc0_transform_2 (grid0.coords t) = ![0, min (t.val / 2) 63, 0] := by decide +kernel
theorem index5 : ∀ t : Fin grid0.N, cc0_transform_5 (grid0.coords t) = ![mrow (t.val / 2), 2] := by decide +kernel
theorem index7 : ∀ t : Fin grid0.N, cc0_transform_7 (grid0.coords t) = ![mrow (t.val / 2), 3] := by decide +kernel
theorem index8 : ∀ t : Fin grid0.N, cc0_transform_8 (grid0.coords t) = ![mrow (t.val / 2), 4] := by decide +kernel
theorem index9 : ∀ t : Fin grid0.N, cc0_transform_9 (grid0.coords t) = ![mrow (t.val / 2), 5] := by decide +kernel
theorem index10 : ∀ t : Fin grid0.N, cc0_transform_10 (grid0.coords t) = ![0, t.val % 2] := by decide +kernel
theorem index12 : ∀ t : Fin grid0.N, cc0_transform_12 (grid0.coords t) = ![t.val % 2, 0] := by decide +kernel
theorem index13 : ∀ i : grid0.Coords, cc0_transform_13 i = ![min (2 * (i 0).val + (i 1).val) 127, 0] := by decide +kernel
theorem index16 : ∀ i : grid0.Coords, cc0_transform_16 i = ![(i 0).val, 0] := by decide +kernel

theorem sample_iff : ∀ t : Fin grid0.N, Scalar.cmpi CmpIPredicate.eq (BitVec.ofNat 32 (grid0.coords t 0).val) 64#32 =
    if t.val / 2 = 64 then 1#1 else 0#1 := by decide +kernel

section Arrays

variable (c : Dev nD)

theorem V_xp (R : Fin 32768) (k : Fin 1024) : (V m c (Pipeline.arrRef spec0 0) : S32768x1024.Idx → EReal) (ix2 R k) =
    m ((c : Thread nD τ).loc main_arg0) (ix3 ⟨R.val / 8192, by omega⟩ ⟨R.val % 8192, by omega⟩ k) := by
  simp only [V, hostOps0]
  entry_read
  pointwise []

theorem V_xs (R : Fin 512) (k : Fin 1024) : (V m c (Pipeline.arrRef spec0 1) : S512x1024.Idx → EReal) (ix2 R k) =
    m ((c : Thread nD τ).loc main_arg1) (ix3 ⟨R.val / 32, by omega⟩ ⟨R.val % 32, by omega⟩ k) := by
  simp only [V, hostOps0]
  entry_read
  pointwise []

theorem V_op (p : Fin 8) (R : Fin 32768) (q : Fin 128) : (V m c (Pipeline.arrRef spec0 2) : S8x32768x128.Idx → EReal) (ix3 p R q) =
    m ((c : Thread nD τ).loc main_arg2) (ix4 ⟨R.val / 8192, by omega⟩ ⟨R.val % 8192, by omega⟩ ⟨p.val * 2 + q.val / 64, by omega⟩
      ⟨q.val % 64, by omega⟩) := by
  simp only [V, hostOps0]
  entry_read
  pointwise []

theorem V_os (p : Fin 8) (R : Fin 512) (q : Fin 128) : (V m c (Pipeline.arrRef spec0 3) : S8x512x128.Idx → EReal) (ix3 p R q) =
    m ((c : Thread nD τ).loc main_arg3) (ix4 ⟨R.val / 32, by omega⟩ ⟨R.val % 32, by omega⟩ ⟨p.val * 2 + q.val / 64, by omega⟩
      ⟨q.val % 64, by omega⟩) := by
  simp only [V, hostOps0]
  entry_read
  pointwise []

theorem V_wo : V m c (Pipeline.arrRef spec0 4) = m ((c : Thread nD τ).loc main_arg4) := by
  simp only [V, hostOps0]
  entry_read
  rfl

theorem V_md5 (R : Fin 80) (k : Fin 6144) : (V m c (Pipeline.arrRef spec0 5) : S80x6144.Idx → EReal) (ix2 R k) =
    if h : R.val < 16 then (m ((c : Thread nD τ).loc main_arg6) (ix2 ⟨R.val, h⟩ k) : EReal)
    else m ((c : Thread nD τ).loc main_arg5) (ix2 ⟨(R.val - 16) / 16, by omega⟩ k) := by
  simp only [V, hostOps0]
  entry_read
  pointwise []

theorem V_md7 (R : Fin 80) (k : Fin 6144) : (V m c (Pipeline.arrRef spec0 7) : S80x6144.Idx → EReal) (ix2 R k) =
    if h : R.val < 16 then (m ((c : Thread nD τ).loc main_arg6) (ix2 ⟨R.val, h⟩ k) : EReal)
    else m ((c : Thread nD τ).loc main_arg5) (ix2 ⟨(R.val - 16) / 16, by omega⟩ k) := by
  simp only [V, hostOps0]
  entry_read
  pointwise []

theorem V_md8 (R : Fin 80) (k : Fin 6144) : (V m c (Pipeline.arrRef spec0 8) : S80x6144.Idx → EReal) (ix2 R k) =
    if h : R.val < 16 then (m ((c : Thread nD τ).loc main_arg6) (ix2 ⟨R.val, h⟩ k) : EReal)
    else m ((c : Thread nD τ).loc main_arg5) (ix2 ⟨(R.val - 16) / 16, by omega⟩ k) := by
  simp only [V, hostOps0]
  entry_read
  pointwise []

theorem V_md9 (R : Fin 80) (k : Fin 6144) : (V m c (Pipeline.arrRef spec0 9) : S80x6144.Idx → EReal) (ix2 R k) =
    if h : R.val < 16 then (m ((c : Thread nD τ).loc main_arg6) (ix2 ⟨R.val, h⟩ k) : EReal)
    else m ((c : Thread nD τ).loc main_arg5) (ix2 ⟨(R.val - 16) / 16, by omega⟩ k) := by
  simp only [V, hostOps0]
  entry_read
  pointwise []

theorem V_n2 (k : Fin 1024) : (V m c (Pipeline.arrRef spec0 6) : S1x1024.Idx → EReal) (ix2 0 k) =
    m ((c : Thread nD τ).loc main_arg7) (ix1 k) := by
  simp only [V, hostOps0]
  entry_read
  pointwise []

theorem V_wg : V m c (Pipeline.arrRef spec0 10) = m ((c : Thread nD τ).loc main_arg8) := by
  simp only [V, hostOps0]
  entry_read
  rfl

theorem V_wu : V m c (Pipeline.arrRef spec0 11) = m ((c : Thread nD τ).loc main_arg9) := by
  simp only [V, hostOps0]
  entry_read
  rfl

theorem V_wd : V m c (Pipeline.arrRef spec0 12) = m ((c : Thread nD τ).loc main_arg10) := by
  simp only [V, hostOps0]
  entry_read
  rfl

theorem V_c1 : V m c (Pipeline.arrRef spec0 13) = shapeCast S8192x3584 (m ((c : Thread nD τ).loc main_arg11)) shapeCasts_S8x1024x3584_S8192x3584 := by
  simp only [V, hostOps0]
  entry_read
  rfl

theorem V_c2 : V m c (Pipeline.arrRef spec0 14) = shapeCast S8192x3584 (m ((c : Thread nD τ).loc main_arg12)) shapeCasts_S8x1024x3584_S8192x3584 := by
  simp only [V, hostOps0]
  entry_read
  rfl

theorem V_c3 : V m c (Pipeline.arrRef spec0 15) = shapeCast S28672x1024 (m ((c : Thread nD τ).loc main_arg13)) shapeCasts_S8x3584x1024_S28672x1024 := by
  simp only [V, hostOps0]
  entry_read
  rfl

end Arrays

/-- The blocks of a point, as the body reads them. -/
def b0 (c : Dev nD) (t : Fin cfg0.N) : Vec Ideal S512x1024 .f32 := iblk m c 0 t
def b1 (c : Dev nD) (t : Fin cfg0.N) : Vec Ideal S512x1024 .f32 := iblk m c 1 t
def b2 (c : Dev nD) (t : Fin cfg0.N) : Vec Ideal S8x512x128 .bf16 := iblk m c 2 t
def b3 (c : Dev nD) (t : Fin cfg0.N) : Vec Ideal S8x512x128 .bf16 := iblk m c 3 t
def b4 (c : Dev nD) (t : Fin cfg0.N) : Vec Ideal S1024x1024 .bf16 := iblk m c 4 t
def b5 (c : Dev nD) (t : Fin cfg0.N) : Vec Ideal S16x1024 .f32 := iblk m c 5 t
def b6 (c : Dev nD) (t : Fin cfg0.N) : Vec Ideal S1x1024 .f32 := iblk m c 6 t
def b7 (c : Dev nD) (t : Fin cfg0.N) : Vec Ideal S16x1024 .f32 := iblk m c 7 t
def b8 (c : Dev nD) (t : Fin cfg0.N) : Vec Ideal S16x1024 .f32 := iblk m c 8 t
def b9 (c : Dev nD) (t : Fin cfg0.N) : Vec Ideal S16x1024 .f32 := iblk m c 9 t
def b10 (c : Dev nD) (t : Fin cfg0.N) : Vec Ideal S1024x1792 .bf16 := iblk m c 10 t
def b11 (c : Dev nD) (t : Fin cfg0.N) : Vec Ideal S1024x1792 .bf16 := iblk m c 11 t
def b12 (c : Dev nD) (t : Fin cfg0.N) : Vec Ideal S1792x1024 .bf16 := iblk m c 12 t
def b13 (c : Dev nD) (t : Fin cfg0.N) : Vec Ideal S64x3584 .f32 := iblk m c 13 t
def b14 (c : Dev nD) (t : Fin cfg0.N) : Vec Ideal S64x3584 .f32 := iblk m c 14 t
def b15 (c : Dev nD) (t : Fin cfg0.N) : Vec Ideal S224x1024 .f32 := iblk m c 15 t

theorem emb0 (t : Fin cfg0.N) (y : S512x1024.Idx) (a : Fin 2) :
    (((cfg0.win 0).blk t).view.emb y a : ℕ) = cc0_transform_0 (grid0.coords t) a * S512x1024.size a + (y a).val :=
  Window.rect_emb_val (cfg0.win 0) t y a rfl

theorem emb1 (t : Fin cfg0.N) (y : S512x1024.Idx) (a : Fin 2) :
    (((cfg0.win 1).blk t).view.emb y a : ℕ) = cc0_transform_1 (grid0.coords t) a * S512x1024.size a + (y a).val :=
  Window.rect_emb_val (cfg0.win 1) t y a rfl

theorem emb2 (t : Fin cfg0.N) (y : S8x512x128.Idx) (a : Fin 3) :
    (((cfg0.win 2).blk t).view.emb y a : ℕ) = cc0_transform_2 (grid0.coords t) a * S8x512x128.size a + (y a).val :=
  Window.rect_emb_val (cfg0.win 2) t y a rfl

theorem emb3 (t : Fin cfg0.N) (y : S8x512x128.Idx) (a : Fin 3) :
    (((cfg0.win 3).blk t).view.emb y a : ℕ) = cc0_transform_3 (grid0.coords t) a * S8x512x128.size a + (y a).val :=
  Window.rect_emb_val (cfg0.win 3) t y a rfl

theorem emb4 (t : Fin cfg0.N) (y : S1024x1024.Idx) (a : Fin 2) :
    (((cfg0.win 4).blk t).view.emb y a : ℕ) = cc0_transform_4 (grid0.coords t) a * S1024x1024.size a + (y a).val :=
  Window.rect_emb_val (cfg0.win 4) t y a rfl

theorem emb5 (t : Fin cfg0.N) (y : S16x1024.Idx) (a : Fin 2) :
    (((cfg0.win 5).blk t).view.emb y a : ℕ) = cc0_transform_5 (grid0.coords t) a * S16x1024.size a + (y a).val :=
  Window.rect_emb_val (cfg0.win 5) t y a rfl

theorem emb6 (t : Fin cfg0.N) (y : S1x1024.Idx) (a : Fin 2) :
    (((cfg0.win 6).blk t).view.emb y a : ℕ) = cc0_transform_6 (grid0.coords t) a * S1x1024.size a + (y a).val :=
  Window.rect_emb_val (cfg0.win 6) t y a rfl

theorem emb7 (t : Fin cfg0.N) (y : S16x1024.Idx) (a : Fin 2) :
    (((cfg0.win 7).blk t).view.emb y a : ℕ) = cc0_transform_7 (grid0.coords t) a * S16x1024.size a + (y a).val :=
  Window.rect_emb_val (cfg0.win 7) t y a rfl

theorem emb8 (t : Fin cfg0.N) (y : S16x1024.Idx) (a : Fin 2) :
    (((cfg0.win 8).blk t).view.emb y a : ℕ) = cc0_transform_8 (grid0.coords t) a * S16x1024.size a + (y a).val :=
  Window.rect_emb_val (cfg0.win 8) t y a rfl

theorem emb9 (t : Fin cfg0.N) (y : S16x1024.Idx) (a : Fin 2) :
    (((cfg0.win 9).blk t).view.emb y a : ℕ) = cc0_transform_9 (grid0.coords t) a * S16x1024.size a + (y a).val :=
  Window.rect_emb_val (cfg0.win 9) t y a rfl

theorem emb10 (t : Fin cfg0.N) (y : S1024x1792.Idx) (a : Fin 2) :
    (((cfg0.win 10).blk t).view.emb y a : ℕ) = cc0_transform_10 (grid0.coords t) a * S1024x1792.size a + (y a).val :=
  Window.rect_emb_val (cfg0.win 10) t y a rfl

theorem emb11 (t : Fin cfg0.N) (y : S1024x1792.Idx) (a : Fin 2) :
    (((cfg0.win 11).blk t).view.emb y a : ℕ) = cc0_transform_11 (grid0.coords t) a * S1024x1792.size a + (y a).val :=
  Window.rect_emb_val (cfg0.win 11) t y a rfl

theorem emb12 (t : Fin cfg0.N) (y : S1792x1024.Idx) (a : Fin 2) :
    (((cfg0.win 12).blk t).view.emb y a : ℕ) = cc0_transform_12 (grid0.coords t) a * S1792x1024.size a + (y a).val :=
  Window.rect_emb_val (cfg0.win 12) t y a rfl

theorem emb13 (t : Fin cfg0.N) (y : S64x3584.Idx) (a : Fin 2) :
    (((cfg0.win 13).blk t).view.emb y a : ℕ) = cc0_transform_13 (grid0.coords t) a * S64x3584.size a + (y a).val :=
  Window.rect_emb_val (cfg0.win 13) t y a rfl

theorem emb14 (t : Fin cfg0.N) (y : S64x3584.Idx) (a : Fin 2) :
    (((cfg0.win 14).blk t).view.emb y a : ℕ) = cc0_transform_14 (grid0.coords t) a * S64x3584.size a + (y a).val :=
  Window.rect_emb_val (cfg0.win 14) t y a rfl

theorem emb15 (t : Fin cfg0.N) (y : S224x1024.Idx) (a : Fin 2) :
    (((cfg0.win 15).blk t).view.emb y a : ℕ) = cc0_transform_15 (grid0.coords t) a * S224x1024.size a + (y a).val :=
  Window.rect_emb_val (cfg0.win 15) t y a rfl

theorem emb16 (t : Fin cfg0.N) (y : S512x1024.Idx) (a : Fin 2) :
    (((cfg0.win 16).blk t).view.emb y a : ℕ) = cc0_transform_16 (grid0.coords t) a * S512x1024.size a + (y a).val :=
  Window.rect_emb_val (cfg0.win 16) t y a rfl

theorem emb17 (t : Fin cfg0.N) (y : S64x3584.Idx) (a : Fin 2) :
    (((cfg0.win 17).blk t).view.emb y a : ℕ) = cc0_transform_17 (grid0.coords t) a * S64x3584.size a + (y a).val :=
  Window.rect_emb_val (cfg0.win 17) t y a rfl

theorem emb18 (t : Fin cfg0.N) (y : S64x3584.Idx) (a : Fin 2) :
    (((cfg0.win 18).blk t).view.emb y a : ℕ) = cc0_transform_18 (grid0.coords t) a * S64x3584.size a + (y a).val :=
  Window.rect_emb_val (cfg0.win 18) t y a rfl

theorem emb19 (t : Fin cfg0.N) (y : S224x1024.Idx) (a : Fin 2) :
    (((cfg0.win 19).blk t).view.emb y a : ℕ) = cc0_transform_19 (grid0.coords t) a * S224x1024.size a + (y a).val :=
  Window.rect_emb_val (cfg0.win 19) t y a rfl

section Blocks

variable (c : Dev nD) (t : Fin cfg0.N)

theorem t_lt : t.val < 130 := t.isLt

/-- The row of the streams at row `r` of the point's tile. -/
def at_ (r : Fin 512) : Fin 33280 := ⟨t.val / 2 * 512 + r.val, by have := t_lt t; omega⟩

theorem blk0 (h : t.val / 2 ≠ 64) (r : Fin 512) (k : Fin 1024) : b0 m c t (ix2 r k) =
    m ((c : Thread nD τ).loc main_arg0) (ix3 ⟨(at_ t r).val / 8192, by have := t_lt t; simp only [at_]; omega⟩ ⟨(at_ t r).val % 8192, by omega⟩ k) := by
  have ht := t_lt t
  refine Eq.trans (congrArg (V m c (Pipeline.arrRef spec0 0)) (funext fun a => Fin.ext ?_))
    (V_xp m c ⟨(at_ t r).val, by simp only [at_]; omega⟩ k)
  refine (emb0 t (ix2 r k) a).trans ?_
  rw [index0]
  match a with
  | 0 => show min (t.val / 2) 63 * 512 + r.val = t.val / 2 * 512 + r.val; rw [Nat.min_eq_left (by omega)]
  | 1 => show 0 * 1024 + k.val = k.val; omega

theorem blk1 (h : t.val / 2 = 64) (r : Fin 512) (k : Fin 1024) : b1 m c t (ix2 r k) =
    m ((c : Thread nD τ).loc main_arg1) (ix3 ⟨r.val / 32, by omega⟩ ⟨r.val % 32, by omega⟩ k) := by
  refine Eq.trans (congrArg (V m c (Pipeline.arrRef spec0 1)) (funext fun a => Fin.ext ?_)) (V_xs m c r k)
  refine (emb1 t (ix2 r k) a).trans ?_
  match a with
  | 0 => show 0 * 512 + r.val = r.val; omega
  | 1 => show 0 * 1024 + k.val = k.val; omega

theorem blk2 (h : t.val / 2 ≠ 64) (p : Fin 8) (r : Fin 512) (q : Fin 128) : b2 m c t (ix3 p r q) =
    m ((c : Thread nD τ).loc main_arg2) (ix4 ⟨(at_ t r).val / 8192, by have := t_lt t; simp only [at_]; omega⟩ ⟨(at_ t r).val % 8192, by omega⟩
      ⟨p.val * 2 + q.val / 64, by omega⟩ ⟨q.val % 64, by omega⟩) := by
  have ht := t_lt t
  refine Eq.trans (congrArg (V m c (Pipeline.arrRef spec0 2)) (funext fun a => Fin.ext ?_))
    (V_op m c p ⟨(at_ t r).val, by simp only [at_]; omega⟩ q)
  refine (emb2 t (ix3 p r q) a).trans ?_
  rw [index2]
  match a with
  | 0 => show 0 * 8 + p.val = p.val; omega
  | 1 => show min (t.val / 2) 63 * 512 + r.val = t.val / 2 * 512 + r.val; rw [Nat.min_eq_left (by omega)]
  | 2 => show 0 * 128 + q.val = q.val; omega

theorem blk3 (h : t.val / 2 = 64) (p : Fin 8) (r : Fin 512) (q : Fin 128) : b3 m c t (ix3 p r q) =
    m ((c : Thread nD τ).loc main_arg3) (ix4 ⟨r.val / 32, by omega⟩ ⟨r.val % 32, by omega⟩
      ⟨p.val * 2 + q.val / 64, by omega⟩ ⟨q.val % 64, by omega⟩) := by
  refine Eq.trans (congrArg (V m c (Pipeline.arrRef spec0 3)) (funext fun a => Fin.ext ?_)) (V_os m c p r q)
  refine (emb3 t (ix3 p r q) a).trans ?_
  match a with
  | 0 => show 0 * 8 + p.val = p.val; omega
  | 1 => show 0 * 512 + r.val = r.val; omega
  | 2 => show 0 * 128 + q.val = q.val; omega

theorem blk4 (k n : Fin 1024) : b4 m c t (ix2 k n) = m ((c : Thread nD τ).loc main_arg4) (ix2 k n) := by
  refine (congrFun (V_wo m c) _).trans (congrArg (m ((c : Thread nD τ).loc main_arg4)) (funext fun a => Fin.ext ?_))
  refine (emb4 t (ix2 k n) a).trans ?_
  match a with
  | 0 => show 0 * 1024 + k.val = k.val; omega
  | 1 => show 0 * 1024 + n.val = n.val; omega

theorem blk6 (k : Fin 1024) : b6 m c t (ix2 0 k) = m ((c : Thread nD τ).loc main_arg7) (ix1 k) := by
  refine Eq.trans (congrArg (V m c (Pipeline.arrRef spec0 6)) (funext fun a => Fin.ext ?_)) (V_n2 m c k)
  refine (emb6 t (ix2 0 k) a).trans ?_
  match a with
  | 0 => rfl
  | 1 => show 0 * 1024 + k.val = k.val; omega

/-- The modulation at a block's row: the row's own stream's. -/
theorem md_row (r : Fin 512) (R : Fin 80) (hR : R.val = mrow (t.val / 2) * 16 + r.val / 32) (k : Fin 6144)
    (A : S80x6144.Idx → EReal) (hA : A (ix2 R k) = if h : R.val < 16 then (m ((c : Thread nD τ).loc main_arg6) (ix2 ⟨R.val, h⟩ k) : EReal)
      else m ((c : Thread nD τ).loc main_arg5) (ix2 ⟨(R.val - 16) / 16, by omega⟩ k)) :
    A (ix2 R k) = rowM (m ((c : Thread nD τ).loc main_arg5)) (m ((c : Thread nD τ).loc main_arg6)) (at_ t r) k := by
  have ht := t_lt t
  rw [hA]
  unfold rowM
  by_cases h : t.val / 2 = 64
  · have h1 : R.val < 16 := by rw [hR, mrow, if_pos (by omega)]; omega
    have h2 : ¬(at_ t r).val < 32768 := by simp only [at_]; omega
    rw [dif_pos h1, dif_neg h2]
    congr 2
    refine Fin.ext ?_
    simp only [at_, hR, mrow, if_pos (show 64 ≤ t.val / 2 by omega)]
    omega
  · have h0 : mrow (t.val / 2) = 1 + t.val / 2 / 16 := by rw [mrow, if_neg (by omega)]
    have h1 : ¬R.val < 16 := by rw [hR, h0]; omega
    have h2 : (at_ t r).val < 32768 := by simp only [at_]; omega
    rw [dif_neg h1, dif_pos h2]
    congr 2
    refine Fin.ext ?_
    simp only [at_, hR, h0]
    omega

theorem md_lt (r : Fin 512) : mrow (t.val / 2) * 16 + r.val / 32 < 80 := by
  have ht := t_lt t
  unfold mrow
  split <;> omega

theorem blk5 (r : Fin 512) (n : Fin 1024) : b5 m c t (ix2 ⟨r.val / 32, by omega⟩ n) =
    part (rowM (m ((c : Thread nD τ).loc main_arg5)) (m ((c : Thread nD τ).loc main_arg6)) (at_ t r)) 2 n := by
  have key := md_row m c t r ⟨_, md_lt t r⟩ rfl ⟨1024 * 2 + n.val, by omega⟩ _ (V_md5 m c _ _)
  refine Eq.trans (congrArg (V m c (Pipeline.arrRef spec0 5)) (funext fun a => Fin.ext ?_)) (key.trans (by unfold part; rfl))
  refine (emb5 t (ix2 ⟨r.val / 32, by omega⟩ n) a).trans ?_
  rw [index5]
  match a with
  | 0 => rfl
  | 1 => show 2 * 1024 + n.val = 1024 * 2 + n.val; omega

theorem blk7 (r : Fin 512) (n : Fin 1024) : b7 m c t (ix2 ⟨r.val / 32, by omega⟩ n) =
    part (rowM (m ((c : Thread nD τ).loc main_arg5)) (m ((c : Thread nD τ).loc main_arg6)) (at_ t r)) 3 n := by
  have key := md_row m c t r ⟨_, md_lt t r⟩ rfl ⟨1024 * 3 + n.val, by omega⟩ _ (V_md7 m c _ _)
  refine Eq.trans (congrArg (V m c (Pipeline.arrRef spec0 7)) (funext fun a => Fin.ext ?_)) (key.trans (by unfold part; rfl))
  refine (emb7 t (ix2 ⟨r.val / 32, by omega⟩ n) a).trans ?_
  rw [index7]
  match a with
  | 0 => rfl
  | 1 => show 3 * 1024 + n.val = 1024 * 3 + n.val; omega

theorem blk8 (r : Fin 512) (n : Fin 1024) : b8 m c t (ix2 ⟨r.val / 32, by omega⟩ n) =
    part (rowM (m ((c : Thread nD τ).loc main_arg5)) (m ((c : Thread nD τ).loc main_arg6)) (at_ t r)) 4 n := by
  have key := md_row m c t r ⟨_, md_lt t r⟩ rfl ⟨1024 * 4 + n.val, by omega⟩ _ (V_md8 m c _ _)
  refine Eq.trans (congrArg (V m c (Pipeline.arrRef spec0 8)) (funext fun a => Fin.ext ?_)) (key.trans (by unfold part; rfl))
  refine (emb8 t (ix2 ⟨r.val / 32, by omega⟩ n) a).trans ?_
  rw [index8]
  match a with
  | 0 => rfl
  | 1 => show 4 * 1024 + n.val = 1024 * 4 + n.val; omega

theorem blk9 (r : Fin 512) (n : Fin 1024) : b9 m c t (ix2 ⟨r.val / 32, by omega⟩ n) =
    part (rowM (m ((c : Thread nD τ).loc main_arg5)) (m ((c : Thread nD τ).loc main_arg6)) (at_ t r)) 5 n := by
  have key := md_row m c t r ⟨_, md_lt t r⟩ rfl ⟨1024 * 5 + n.val, by omega⟩ _ (V_md9 m c _ _)
  refine Eq.trans (congrArg (V m c (Pipeline.arrRef spec0 9)) (funext fun a => Fin.ext ?_)) (key.trans (by unfold part; rfl))
  refine (emb9 t (ix2 ⟨r.val / 32, by omega⟩ n) a).trans ?_
  rw [index9]
  match a with
  | 0 => rfl
  | 1 => show 5 * 1024 + n.val = 1024 * 5 + n.val; omega

theorem blk10 (k : Fin 1024) (f : Fin 1792) (g : Fin 3584) (hg : g.val = t.val % 2 * 1792 + f.val) :
    b10 m c t (ix2 k f) = m ((c : Thread nD τ).loc main_arg8) (ix2 k g) := by
  refine (congrFun (V_wg m c) _).trans (congrArg (m ((c : Thread nD τ).loc main_arg8)) (funext fun a => Fin.ext ?_))
  refine (emb10 t (ix2 k f) a).trans ?_
  rw [show cc0_transform_10 (grid0.coords t) = _ from index10 t]
  match a with
  | 0 => show 0 * 1024 + k.val = k.val; omega
  | 1 => exact hg.symm

theorem blk11 (k : Fin 1024) (f : Fin 1792) (g : Fin 3584) (hg : g.val = t.val % 2 * 1792 + f.val) :
    b11 m c t (ix2 k f) = m ((c : Thread nD τ).loc main_arg9) (ix2 k g) := by
  refine (congrFun (V_wu m c) _).trans (congrArg (m ((c : Thread nD τ).loc main_arg9)) (funext fun a => Fin.ext ?_))
  refine (emb11 t (ix2 k f) a).trans ?_
  rw [show cc0_transform_11 (grid0.coords t) = _ from index10 t]
  match a with
  | 0 => show 0 * 1024 + k.val = k.val; omega
  | 1 => exact hg.symm

theorem blk12 (f : Fin 1792) (n : Fin 1024) (g : Fin 3584) (hg : g.val = t.val % 2 * 1792 + f.val) :
    b12 m c t (ix2 f n) = m ((c : Thread nD τ).loc main_arg10) (ix2 g n) := by
  refine (congrFun (V_wd m c) _).trans (congrArg (m ((c : Thread nD τ).loc main_arg10)) (funext fun a => Fin.ext ?_))
  refine (emb12 t (ix2 f n) a).trans ?_
  rw [index12]
  match a with
  | 0 => exact hg.symm
  | 1 => show 0 * 1024 + n.val = n.val; omega

/-- The row's input, whichever stream it is of; -/
theorem sel_x (r : Fin 512) (k : Fin 1024) :
    Scalar.select (Scalar.cmpi CmpIPredicate.eq (BitVec.ofNat 32 (grid0.coords t 0).val) 64#32) (b1 m c t (ix2 r k)) (b0 m c t (ix2 r k)) =
      rowX (m ((c : Thread nD τ).loc main_arg0)) (m ((c : Thread nD τ).loc main_arg1)) (at_ t r) k := by
  have ht := t_lt t
  rw [show Scalar.cmpi CmpIPredicate.eq (BitVec.ofNat 32 (grid0.coords t 0).val) 64#32 = _ from sample_iff t]
  unfold rowX
  by_cases h : t.val / 2 = 64
  · have h2 : ¬(at_ t r).val < 32768 := by simp only [at_]; omega
    have e : (at_ t r).val - 32768 = r.val := by simp only [at_]; omega
    rw [if_pos h, dif_neg h2]
    refine Eq.trans (show _ = b1 m c t (ix2 r k) from rfl) ((blk1 m c t h r k).trans ?_)
    simp only [e]
  · have h2 : (at_ t r).val < 32768 := by simp only [at_]; omega
    rw [if_neg h, dif_pos h2]
    exact Eq.trans (show _ = b0 m c t (ix2 r k) from rfl) (blk0 m c t h r k)

/-- and its attention output. -/
theorem sel_o (r : Fin 512) (k : Fin 1024) :
    Scalar.select (Scalar.cmpi CmpIPredicate.eq (BitVec.ofNat 32 (grid0.coords t 0).val) 64#32)
      (b3 m c t (ix3 ⟨k.val / 128, by omega⟩ r ⟨k.val % 128, by omega⟩)) (b2 m c t (ix3 ⟨k.val / 128, by omega⟩ r ⟨k.val % 128, by omega⟩)) =
      rowO (m ((c : Thread nD τ).loc main_arg2)) (m ((c : Thread nD τ).loc main_arg3)) (at_ t r) k := by
  have ht := t_lt t
  have e1 : k.val / 128 * 2 + k.val % 128 / 64 = k.val / 64 := by omega
  have e2 : k.val % 128 % 64 = k.val % 64 := by omega
  rw [show Scalar.cmpi CmpIPredicate.eq (BitVec.ofNat 32 (grid0.coords t 0).val) 64#32 = _ from sample_iff t]
  unfold rowO
  by_cases h : t.val / 2 = 64
  · have h2 : ¬(at_ t r).val < 32768 := by simp only [at_]; omega
    have e : (at_ t r).val - 32768 = r.val := by simp only [at_]; omega
    rw [if_pos h, dif_neg h2]
    refine Eq.trans (show _ = b3 m c t (ix3 ⟨k.val / 128, by omega⟩ r ⟨k.val % 128, by omega⟩) from rfl) ((blk3 m c t h _ r _).trans ?_)
    simp only [e, e1, e2]
  · have h2 : (at_ t r).val < 32768 := by simp only [at_]; omega
    rw [if_neg h, dif_pos h2]
    refine Eq.trans (show _ = b2 m c t (ix3 ⟨k.val / 128, by omega⟩ r ⟨k.val % 128, by omega⟩) from rfl) ((blk2 m c t h _ r _).trans ?_)
    simp only [e1, e2]

/-- After the projection, as the first half's point leaves it; -/
def X1 (c : Dev nD) (t : Fin cfg0.N) : Vec Ideal S512x1024 .f32 :=
  k0_pay3 (BitVec.ofNat 32 (grid0.coords t 0).val) (b1 m c t) (b0 m c t) (b3 m c t) (b2 m c t) (b5 m c t) (b4 m c t)

/-- and normalised. -/
def H2 (c : Dev nD) (t : Fin cfg0.N) : Vec Ideal S512x1024 .bf16 := k0_pay9 (X1 m c t) (k0_pay4 (b6 m c t)) (b7 m c t) (b8 m c t)

/-- The same two of a row of the streams. -/
def midR (R : Fin 33280) : Fin 1024 → EReal :=
  mid (rowX (m ((c : Thread nD τ).loc main_arg0)) (m ((c : Thread nD τ).loc main_arg1)) R)
    (rowO (m ((c : Thread nD τ).loc main_arg2)) (m ((c : Thread nD τ).loc main_arg3)) R)
    (part (rowM (m ((c : Thread nD τ).loc main_arg5)) (m ((c : Thread nD τ).loc main_arg6)) R) 2)
    (fun k n => m ((c : Thread nD τ).loc main_arg4) (ix2 k n))

def normedR (R : Fin 33280) : Fin 1024 → EReal :=
  normed (midR m c R) (fun k => m ((c : Thread nD τ).loc main_arg7) (ix1 k))
    (part (rowM (m ((c : Thread nD τ).loc main_arg5)) (m ((c : Thread nD τ).loc main_arg6)) R) 3)
    (part (rowM (m ((c : Thread nD τ).loc main_arg5)) (m ((c : Thread nD τ).loc main_arg6)) R) 4)

theorem X1_apply (r : Fin 512) (n : Fin 1024) : X1 m c t (ix2 r n) = midR m c (at_ t r) n := by
  unfold X1
  rw [pay3_apply, sel_x, blk5]
  refine congrArg (fun s => rowX (m ((c : Thread nD τ).loc main_arg0)) (m ((c : Thread nD τ).loc main_arg1)) (at_ t r) n +
    part (rowM (m ((c : Thread nD τ).loc main_arg5)) (m ((c : Thread nD τ).loc main_arg6)) (at_ t r)) 2 n * s)
    (Finset.sum_congr rfl fun k _ => congrArg₂ (· * ·) (sel_o m c t r k) (blk4 m c t k n))

theorem H2_apply (r : Fin 512) (n : Fin 1024) : H2 m c t (ix2 r n) = normedR m c (at_ t r) n := by
  unfold H2
  rw [pay9_apply]
  simp only [X1_apply, blk6, blk7, blk8]
  rfl

/-- One feature's share of an output at a point. -/
theorem share (f : Fin 1792) (g : Fin 3584) (hg : g.val = t.val % 2 * 1792 + f.val) (h : Fin 1024 → EReal) (n : Fin 1024) :
    glu (∑ k : Fin 1024, h k * b10 m c t (ix2 k f)) (∑ k : Fin 1024, h k * b11 m c t (ix2 k f)) * b12 m c t (ix2 f n) =
      term h (fun k f => m ((c : Thread nD τ).loc main_arg8) (ix2 k f)) (fun k f => m ((c : Thread nD τ).loc main_arg9) (ix2 k f))
        (fun f n => m ((c : Thread nD τ).loc main_arg10) (ix2 f n)) n g :=
  congrArg₂ (· * ·)
    (congrArg₂ glu (Finset.sum_congr rfl fun k _ => congrArg (h k * ·) (blk10 m c t k f g hg))
      (Finset.sum_congr rfl fun k _ => congrArg (h k * ·) (blk11 m c t k f g hg)))
    (blk12 m c t f n g hg)

/-- The first half's point leaves the projected rows, the normalised ones and half of the sum; -/
theorem first_left (h : t.val % 2 = 0) : (outsAt0 m c t.val t.isLt).2.2.2.2 = (k0_pay8 (F := Ideal) (X1 m c t), H2 m c t,
    k0_pay1 (H2 m c t) (k0_pay11 (H2 m c t) (b10 m c t)) (k0_pay12 (b11 m c t)) (constant (F := Ideal) S512x1792 .f32 0x00000000#32)
      (k0_pay10 (F := Ideal)) (b12 m c t)) := by
  rw [outsAt0_A m c t h (by omega)]
  dsimp only
  exact Prod.ext (by dsimp only; exact first_x (F := Ideal) ..) (Prod.ext (by dsimp only; exact first_h (F := Ideal) ..) (by dsimp only; exact first_acc (F := Ideal) ..))

/-- the second half's adds the other half and the gate. -/
theorem second_left (h : t.val % 2 = 1) : (outsAt0 m c t.val t.isLt).1 =
    k0_pay2 (outsAt0 m c (t.val - 1) (Nat.lt_of_le_of_lt (Nat.sub_le _ _) t.isLt)).2.2.2.2.1 (b9 m c t)
      (k0_pay1 (outsAt0 m c (t.val - 1) (Nat.lt_of_le_of_lt (Nat.sub_le _ _) t.isLt)).2.2.2.2.2.1
        (k0_pay11 (outsAt0 m c (t.val - 1) (Nat.lt_of_le_of_lt (Nat.sub_le _ _) t.isLt)).2.2.2.2.2.1 (b10 m c t))
        (k0_pay12 (b11 m c t)) (constant (F := Ideal) S512x1792 .f32 0x00000000#32)
        (outsAt0 m c (t.val - 1) (Nat.lt_of_le_of_lt (Nat.sub_le _ _) t.isLt)).2.2.2.2.2.2 (b12 m c t)) := by
  rw [outsAt0_B m c t (by omega) h]
  dsimp only
  exact second_out ..

theorem cast1_left : (outsAt0 m c t.val t.isLt).2.1 = k0_pay5 (b13 m c t) := by
  by_cases h : t.val % 2 = 0
  · rw [outsAt0_A m c t h (by omega)]
    dsimp only
    exact first_c1 ..
  · rw [outsAt0_B m c t h (by omega)]
    dsimp only
    exact second_c1 ..

theorem cast2_left : (outsAt0 m c t.val t.isLt).2.2.1 = k0_pay6 (b14 m c t) := by
  by_cases h : t.val % 2 = 0
  · rw [outsAt0_A m c t h (by omega)]
    dsimp only
    exact first_c2 ..
  · rw [outsAt0_B m c t h (by omega)]
    dsimp only
    exact second_c2 ..

theorem cast3_left : (outsAt0 m c t.val t.isLt).2.2.2.1 = k0_pay7 (b15 m c t) := by
  by_cases h : t.val % 2 = 0
  · rw [outsAt0_A m c t h (by omega)]
    dsimp only
    exact first_c3 ..
  · rw [outsAt0_B m c t h (by omega)]
    dsimp only
    exact second_c3 ..

/-- What a tile's second point leaves for the result. -/
theorem out_apply (h : t.val % 2 = 1) (r : Fin 512) (n : Fin 1024) :
    (outsAt0 m c t.val t.isLt).1 (ix2 r n) =
      row (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (at_ t r) n := by
  obtain ⟨p, hp⟩ : ∃ p : Fin cfg0.N, p.val = t.val - 1 := ⟨⟨t.val - 1, by omega⟩, rfl⟩
  have hat : at_ p r = at_ t r := Fin.ext (show p.val / 2 * 512 + r.val = t.val / 2 * 512 + r.val by omega)
  have hprev : ∀ (k : ℕ) (hk), k = p.val → outsAt0 m c k hk = outsAt0 m c p.val p.isLt := by rintro k hk rfl; rfl
  rw [second_left m c t h, hprev _ _ hp.symm, first_left m c p (by omega), pay2_apply]
  dsimp only
  rw [pay1_apply, pay1_apply, pay10_apply, zero_add, pay8_apply, X1_apply, blk9]
  simp only [H2_apply, hat]
  refine congrArg (fun s => midR m c (at_ t r) n +
    part (rowM (m ((c : Thread nD τ).loc main_arg5)) (m ((c : Thread nD τ).loc main_arg6)) (at_ t r)) 5 n * s) ?_
  rw [Fin.sum_univ_two_halves 1792 1792 (N := 3584) (by decide)]
  refine congrArg₂ (· + ·) (Finset.sum_congr rfl fun f _ => ?_) (Finset.sum_congr rfl fun f _ => ?_)
  · refine share m c p f _ ?_ _ n
    show f.val = p.val % 2 * 1792 + f.val
    omega
  · refine share m c t f _ ?_ _ n
    show 1792 + f.val = t.val % 2 * 1792 + f.val
    omega

end Blocks

/-- The first result as a function of the arguments. -/
def result (c : Dev nD) : S33280x1024.Idx → EReal := fun i =>
  row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (i 0) (i 1)

theorem final_at (c : Dev nD) (t : Fin cfg0.N) (ht : t.val % 2 = 1) (y : S512x1024.Idx) :
    (outsAt0 m c t.val t.isLt).1 y = result m c (((cfg0.win 16).blk t).view.emb y) := by
  rw [eq_ix2 y]
  have hi : ((cfg0.win 16).blk t).view.emb (ix2 (y 0) (y 1) : S512x1024.Idx) = (ix2 (at_ t (y 0)) (y 1) : S33280x1024.Idx) :=
    funext fun a => Fin.ext (by
      refine (emb16 t _ a).trans ?_
      rw [index16]
      match a with
      | 0 =>
        show (grid0.coords t 0).val * 512 + (y 0).val = t.val / 2 * 512 + (y 0).val
        rw [(coords_val t).1]
      | 1 => exact (congrArg (· + (y 1).val) (Nat.zero_mul 1024)).trans (Nat.zero_add _))
  exact (out_apply m c t ht (y 0) (y 1)).trans (congrArg (result m c) hi.symm)

theorem final (c : Dev nD) : (dats m 0 c).arrAt 16 cfg0.N = result m c := by
  refine (dats m 0 c).arrAt_eq_of_covers 16 _ ?_ fun t hf y => ?_
  · refine Window.covers_of_indexMap_surj _ rfl (fun a => (by decide : ∀ a : Fin 2, 0 < S512x1024.size a) a) fun β => ?_
    have hb : ∀ a : Fin 2, (β a).val < (![65, 1] : Fin 2 → ℕ) a := fun a => by
      refine lt_of_lt_of_eq (β a).isLt ?_
      match a with
      | 0 => exact (by decide : (33280 + 512 - 1) / 512 = 65)
      | 1 => exact (by decide : (1024 + 1024 - 1) / 1024 = 1)
    obtain ⟨i, hi⟩ : ∃ i : grid0.Coords, (i 0).val = (β (⟨0, by decide⟩ : Fin 2)).val :=
      ⟨fun | ⟨0, _⟩ => ⟨_, hb 0⟩ | ⟨1, _⟩ => ⟨0, Nat.two_pos⟩, rfl⟩
    refine ⟨i, fun a => ?_⟩
    match a with
    | ⟨0, _⟩ => exact (congrFun (index16 i) 0).trans hi
    | ⟨1, _⟩ => exact (congrFun (index16 i) 1).trans (Nat.lt_one_iff.mp (hb 1)).symm
  · exact (congrFun (after0_16 m c t) _).trans (final_at m c t ((flush0_16 t).1 hf) y)

/-- Cast result 1: the argument in the smaller format, which changes no value. -/
def cast1 (c : Dev nD) : FVec Ideal S8192x3584 .bf16 :=
  truncf .bf16 (shapeCast S8192x3584 (m ((c : Thread nD τ).loc main_arg11)) shapeCasts_S8x1024x3584_S8192x3584 : FVec Ideal S8192x3584 .f32) bitsLt_bf16_f32

theorem final_c1 (c : Dev nD) : (dats m 0 c).arrAt 17 cfg0.N =
    cast1 m c := by
  refine (dats m 0 c).arrAt_eq_of_covers 17 _ ?_ fun t hf y => ?_
  · refine Window.covers_of_indexMap_surj _ rfl (fun a => (by decide : ∀ a : Fin 2, 0 < S64x3584.size a) a) fun β => ?_
    have hb : ∀ a : Fin 2, (β a).val < (![128, 1] : Fin 2 → ℕ) a := fun a => by
      refine lt_of_lt_of_eq (β a).isLt ?_
      match a with
      | 0 => exact (by decide : (8192 + 64 - 1) / 64 = 128)
      | 1 => exact (by decide : (3584 + 3584 - 1) / 3584 = 1)
    have hb0 : (β (⟨0, by decide⟩ : Fin 2)).val < 128 := hb 0
    obtain ⟨i, hi0, hi1⟩ : ∃ i : grid0.Coords, (i 0).val = (β (⟨0, by decide⟩ : Fin 2)).val / 2 ∧ (i 1).val = (β (⟨0, by decide⟩ : Fin 2)).val % 2 :=
      ⟨fun | ⟨0, _⟩ => ⟨(β (⟨0, by decide⟩ : Fin 2)).val / 2, by show _ < 65; omega⟩ | ⟨1, _⟩ => ⟨(β (⟨0, by decide⟩ : Fin 2)).val % 2, by show _ < 2; omega⟩, rfl, rfl⟩
    refine ⟨i, fun a => ?_⟩
    match a with
    | ⟨0, _⟩ =>
      refine (congrFun (index13 i) 0).trans ?_
      show min (2 * (i 0).val + (i 1).val) 127 = _
      rw [hi0, hi1, Nat.min_eq_left (by omega)]
      omega
    | ⟨1, _⟩ => exact (congrFun (index13 i) 1).trans (Nat.lt_one_iff.mp (hb 1)).symm
  · have he : ((cfg0.win 13).blk t).view.emb y = (((cfg0.win 17).blk t).view.emb y : S8192x3584.Idx) :=
      funext fun a => Fin.ext ((emb13 t y a).trans (emb17 t y a).symm)
    refine (congrFun (((after0_17 m c t).trans (cast1_left m c t)).trans (pay5_id _)) y).trans ?_
    exact (congrFun (V_c1 m c) _).trans
      (congrArg (shapeCast S8192x3584 (m ((c : Thread nD τ).loc main_arg11)) shapeCasts_S8x1024x3584_S8192x3584) he)

/-- Cast result 2: the argument in the smaller format, which changes no value. -/
def cast2 (c : Dev nD) : FVec Ideal S8192x3584 .bf16 :=
  truncf .bf16 (shapeCast S8192x3584 (m ((c : Thread nD τ).loc main_arg12)) shapeCasts_S8x1024x3584_S8192x3584 : FVec Ideal S8192x3584 .f32) bitsLt_bf16_f32

theorem final_c2 (c : Dev nD) : (dats m 0 c).arrAt 18 cfg0.N =
    cast2 m c := by
  refine (dats m 0 c).arrAt_eq_of_covers 18 _ ?_ fun t hf y => ?_
  · refine Window.covers_of_indexMap_surj _ rfl (fun a => (by decide : ∀ a : Fin 2, 0 < S64x3584.size a) a) fun β => ?_
    have hb : ∀ a : Fin 2, (β a).val < (![128, 1] : Fin 2 → ℕ) a := fun a => by
      refine lt_of_lt_of_eq (β a).isLt ?_
      match a with
      | 0 => exact (by decide : (8192 + 64 - 1) / 64 = 128)
      | 1 => exact (by decide : (3584 + 3584 - 1) / 3584 = 1)
    have hb0 : (β (⟨0, by decide⟩ : Fin 2)).val < 128 := hb 0
    obtain ⟨i, hi0, hi1⟩ : ∃ i : grid0.Coords, (i 0).val = (β (⟨0, by decide⟩ : Fin 2)).val / 2 ∧ (i 1).val = (β (⟨0, by decide⟩ : Fin 2)).val % 2 :=
      ⟨fun | ⟨0, _⟩ => ⟨(β (⟨0, by decide⟩ : Fin 2)).val / 2, by show _ < 65; omega⟩ | ⟨1, _⟩ => ⟨(β (⟨0, by decide⟩ : Fin 2)).val % 2, by show _ < 2; omega⟩, rfl, rfl⟩
    refine ⟨i, fun a => ?_⟩
    match a with
    | ⟨0, _⟩ =>
      refine (congrFun (index13 i) 0).trans ?_
      show min (2 * (i 0).val + (i 1).val) 127 = _
      rw [hi0, hi1, Nat.min_eq_left (by omega)]
      omega
    | ⟨1, _⟩ => exact (congrFun (index13 i) 1).trans (Nat.lt_one_iff.mp (hb 1)).symm
  · have he : ((cfg0.win 14).blk t).view.emb y = (((cfg0.win 18).blk t).view.emb y : S8192x3584.Idx) :=
      funext fun a => Fin.ext ((emb14 t y a).trans (emb18 t y a).symm)
    refine (congrFun (((after0_18 m c t).trans (cast2_left m c t)).trans (pay6_id _)) y).trans ?_
    exact (congrFun (V_c2 m c) _).trans
      (congrArg (shapeCast S8192x3584 (m ((c : Thread nD τ).loc main_arg12)) shapeCasts_S8x1024x3584_S8192x3584) he)

/-- Cast result 3: the argument in the smaller format, which changes no value. -/
def cast3 (c : Dev nD) : FVec Ideal S28672x1024 .bf16 :=
  truncf .bf16 (shapeCast S28672x1024 (m ((c : Thread nD τ).loc main_arg13)) shapeCasts_S8x3584x1024_S28672x1024 : FVec Ideal S28672x1024 .f32) bitsLt_bf16_f32

theorem final_c3 (c : Dev nD) : (dats m 0 c).arrAt 19 cfg0.N =
    cast3 m c := by
  refine (dats m 0 c).arrAt_eq_of_covers 19 _ ?_ fun t hf y => ?_
  · refine Window.covers_of_indexMap_surj _ rfl (fun a => (by decide : ∀ a : Fin 2, 0 < S224x1024.size a) a) fun β => ?_
    have hb : ∀ a : Fin 2, (β a).val < (![128, 1] : Fin 2 → ℕ) a := fun a => by
      refine lt_of_lt_of_eq (β a).isLt ?_
      match a with
      | 0 => exact (by decide : (28672 + 224 - 1) / 224 = 128)
      | 1 => exact (by decide : (1024 + 1024 - 1) / 1024 = 1)
    have hb0 : (β (⟨0, by decide⟩ : Fin 2)).val < 128 := hb 0
    obtain ⟨i, hi0, hi1⟩ : ∃ i : grid0.Coords, (i 0).val = (β (⟨0, by decide⟩ : Fin 2)).val / 2 ∧ (i 1).val = (β (⟨0, by decide⟩ : Fin 2)).val % 2 :=
      ⟨fun | ⟨0, _⟩ => ⟨(β (⟨0, by decide⟩ : Fin 2)).val / 2, by show _ < 65; omega⟩ | ⟨1, _⟩ => ⟨(β (⟨0, by decide⟩ : Fin 2)).val % 2, by show _ < 2; omega⟩, rfl, rfl⟩
    refine ⟨i, fun a => ?_⟩
    match a with
    | ⟨0, _⟩ =>
      refine (congrFun (index13 i) 0).trans ?_
      show min (2 * (i 0).val + (i 1).val) 127 = _
      rw [hi0, hi1, Nat.min_eq_left (by omega)]
      omega
    | ⟨1, _⟩ => exact (congrFun (index13 i) 1).trans (Nat.lt_one_iff.mp (hb 1)).symm
  · have he : ((cfg0.win 15).blk t).view.emb y = (((cfg0.win 19).blk t).view.emb y : S28672x1024.Idx) :=
      funext fun a => Fin.ext ((emb15 t y a).trans (emb19 t y a).symm)
    refine (congrFun (((after0_19 m c t).trans (cast3_left m c t)).trans (pay7_id _)) y).trans ?_
    exact (congrFun (V_c3 m c) _).trans
      (congrArg (shapeCast S28672x1024 (m ((c : Thread nD τ).loc main_arg13)) shapeCasts_S8x3584x1024_S28672x1024) he)

end Cert.DenseIdeal.Value
-- ==== Proof.DenseClaims.lean ====
/- The claim about the dense kernel's values: its four results are its reference's. -/
module

public import proofs.«01_k».proof.Defs
public import proofs.«01_k».proof.Proof.DenseValue
public import Idealize.ShloMosaic.Lib.Claim

@[expose] public section

set_option maxRecDepth 16384

noncomputable section

namespace Cert.Proof.Dense

open Idealize.ShloMosaic Idealize.ShloMosaic.TcCoe Idealize.SL.Sem
open Idealize.ShloMosaic.Pointwise
open Cert.DenseIdeal.Value

/-- The kernel runs to its four results. -/
theorem kernel_run (m : (ℓ : Loc Cert.DenseIdeal.nD Cert.DenseIdeal.τ Cert.DenseIdeal.sig) → Buf (Elt Ideal) ℓ) (g) :
    θ_run Cert.DenseIdeal.defs (onTc (τ := Cert.DenseIdeal.τ) Cert.DenseIdeal.main) ⟨m, fun _ => 0, g⟩ fun r =>
      ∀ c : Dev Cert.DenseIdeal.nD,
        r.2.mem ((c.tc : Thread Cert.DenseIdeal.nD Cert.DenseIdeal.τ).loc Cert.DenseIdeal.main_v19_0) = result m c
        ∧ r.2.mem ((c.tc : Thread Cert.DenseIdeal.nD Cert.DenseIdeal.τ).loc Cert.DenseIdeal.main_v19_1) = cast1 m c
        ∧ r.2.mem ((c.tc : Thread Cert.DenseIdeal.nD Cert.DenseIdeal.τ).loc Cert.DenseIdeal.main_v19_2) = cast2 m c
        ∧ r.2.mem ((c.tc : Thread Cert.DenseIdeal.nD Cert.DenseIdeal.τ).loc Cert.DenseIdeal.main_v19_3) = cast3 m c :=
  (θ_run Cert.DenseIdeal.defs _ _).mono (fun _ hr c => ⟨((hr c).1 16).trans (final m c), ((hr c).1 17).trans (final_c1 m c),
    ((hr c).1 18).trans (final_c2 m c), ((hr c).1 19).trans (final_c3 m c)⟩) (Cert.DenseIdeal.Gen.run_main m g)

theorem algebraic : Cert.algebraic_DenseIdeal_DenseReferenceIdeal := by
  intro m g m' g' _ hagree
  refine ⟨fun c => result m c, fun c => cast1 m c, fun c => cast2 m c, fun c => cast3 m c, ?_, ?_⟩
  · exact (θ_run Cert.DenseIdeal.defs _ _).mono (fun r h c => ⟨(h.1 c).1, (h.1 c).2.1, (h.1 c).2.2.1, (h.1 c).2.2.2, h.2 c⟩)
      (θ_run_and (kernel_run m g) (Cert.DenseIdeal.Gen.unchanged m g))
  · refine (θ_run Cert.DenseReferenceIdeal.defs _ _).mono (fun r h c => ⟨(h c).1.trans ?_, (h c).2.1.trans ?_, (h c).2.2.1.trans ?_,
      (h c).2.2.2.1.trans ?_, (h c).2.2.2.2⟩) (Cert.DenseReferenceIdeal.Value.run m' g')
    · obtain ⟨h0, h1, h2, h3, h4, h5, h6, h7, h8, h9, h10, _⟩ := hagree c
      obtain rfl : c = 0 := Subsingleton.elim _ _
      refine (res_eq m' 0 _ _ _ _ _ _ _ _ _ _ _ h0 h1 h2 h3 h4 h5 h6 h7 h8 h9 h10).trans (funext fun i => ?_)
      obtain ⟨r, n, rfl⟩ : ∃ (r : Fin 33280) (n : Fin 1024), i = ix2 r n := ⟨i 0, i 1, eq_ix2 (n0 := 33280) (n1 := 1024) i⟩
      exact rows_apply _ _ _ _ _ _ _ _ _ _ _ r n
    · obtain ⟨_, _, _, _, _, _, _, _, _, _, _, h11, _⟩ := hagree c
      rw [h11]; rfl
    · obtain ⟨_, _, _, _, _, _, _, _, _, _, _, _, h12, _⟩ := hagree c
      rw [h12]; rfl
    · obtain ⟨_, _, _, _, _, _, _, _, _, _, _, _, _, h13⟩ := hagree c
      rw [h13]; rfl

end Cert.Proof.Dense
-- ==== Proof.ProjectReference.lean ====
/- The second layer's projections of the prompts: what they are in exact numbers, and that the reference computes them. -/
module

public import proofs.«01_k».proof.Proof.Gen.ProjectReferenceIdeal.Run
public import proofs.«01_k».proof.Proof.DenseReference
public import Idealize.ShloMosaic.Lib.Pointwise

@[expose] public section

set_option maxRecDepth 16384

noncomputable section

namespace Cert.ProjectIdeal.Value

open Idealize.ShloMosaic Idealize.ShloMosaic.TcCoe Idealize.SL.Sem
open Idealize.ShloMosaic.Pointwise
open Cert.DenseIdeal.Value (normed)

/-- A row before its projection: normalised, scaled and shifted by the first two parts of the modulation. -/
def row (x g : Fin 1024 → EReal) (md : Fin 6144 → EReal) : Fin 1024 → EReal :=
  normed x g (fun n => md ⟨n.val, by omega⟩) (fun n => md ⟨1024 + n.val, by omega⟩)

/-- A row's projection at a column of the three weights laid side by side. -/
def proj (h : Fin 1024 → EReal) (w : Fin 1024 → Fin 3072 → EReal) (n : Fin 3072) : EReal := ∑ k : Fin 1024, h k * w k n

open Cert.ProjectReferenceIdeal Cert.ProjectReferenceIdeal.Gen Cert.ProjectReferenceIdeal.Value

section

variable (a0 : FVec Ideal S33280x1024 .f32) (a1 : FVec Ideal S1024 .f32) (a2 : FVec Ideal S4x6144 .f32) (a4 : FVec Ideal S1024x3072 .f32)

/-- The prompts' normalised rows, as the reference writes them. -/
def pH : FVec Ideal S4x8192x1024 .f32 :=
  (addf (mulf (mulf (mulf (shapeCast _ (extractStridedSlice S32768x1024 ![0, 0] a0 slices_S33280x1024_S32768x1024_0_0) shapeCasts_S32768x1024_S4x8192x1024) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (shapeCast _ (extractStridedSlice S32768x1024 ![0, 0] a0 slices_S33280x1024_S32768x1024_0_0) shapeCasts_S32768x1024_S4x8192x1024) (shapeCast _ (extractStridedSlice S32768x1024 ![0, 0] a0 slices_S33280x1024_S32768x1024_0_0) shapeCasts_S32768x1024_S4x8192x1024)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a1))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 1024] a2 slices_S4x6144_S4x1024_0_1024))))) (broadcastInDim S4x8192x1024 ![0, 1, 2] bcast_S4x1x1024_S4x8192x1024_0_1_2 (broadcastInDim S4x1x1024 ![0, 2] bcast_S4x1024_S4x1x1024_0_2 (extractStridedSlice S4x1024 ![0, 0] a2 slices_S4x6144_S4x1024_0_0))))

/-- The prompts' projections, as the reference writes them. -/
def pY : FVec Ideal S4x8192x3072 .f32 := Host.dotGeneral dot_S4x8192x1024_S1024x3072_S4x8192x3072_2_0_01_1_n_n none (pH a0 a1 a2) a4

/-- The projection of position `s` of row `b` of the prompts, at column `n`. -/
def pOut (b : Fin 4) (s : Fin 8192) (n : Fin 3072) : EReal :=
  proj (row (fun k => a0 (ix2 ⟨b.val * 8192 + s.val, by omega⟩ k)) (fun k => a1 (ix1 k)) (fun k => a2 (ix2 b k))) (fun k n => a4 (ix2 k n)) n

theorem pH_apply (b : Fin 4) (s : Fin 8192) (n : Fin 1024) : pH a0 a1 a2 (ix3 b s n) =
    row (fun k => a0 (ix2 ⟨b.val * 8192 + s.val, by omega⟩ k)) (fun k => a1 (ix1 k)) (fun k => a2 (ix2 b k)) n := by
  pointwise [pH]
  rfl

theorem pY_apply (b : Fin 4) (s : Fin 8192) (n : Fin 3072) : pY a0 a1 a2 a4 (ix3 b s n) = pOut a0 a1 a2 a4 b s n := by
  pointwise [pY]
  exact (Finset.sum_congr rfl fun k _ => congrArg (· * a4 (ix2 k n)) (pH_apply a0 a1 a2 b s k))

/-- The queries, scaled, two heads side by side. -/
def pQ : FVec Ideal S8x32768x128 .bf16 := fun i =>
  pOut a0 a1 a2 a4 ⟨(i 1).val / 8192, by have : (i 1).val < 32768 := (i 1).isLt; omega⟩ ⟨(i 1).val % 8192, by omega⟩
    ⟨(i 0).val * 128 + (i 2).val, by have : (i 0).val < 8 := (i 0).isLt; have : (i 2).val < 128 := (i 2).isLt; omega⟩ * Ideal.ofBits FTy.f32 0x3E000000#32

/-- The keys or the values with positions along the last axis: columns `off` and on. -/
def pT (off : ℕ) (hoff : off ≤ 2048) : FVec Ideal S4x1024x8192 .bf16 := fun i =>
  pOut a0 a1 a2 a4 (i 0) (i 2) ⟨off + (i 1).val, by have : (i 1).val < 1024 := (i 1).isLt; omega⟩

/-- The keys or the values, position by position and head by head: columns `off` and on. -/
def pK (off : ℕ) (hoff : off ≤ 2048) : FVec Ideal S4x8192x16x64 .f32 := fun i =>
  pOut a0 a1 a2 a4 (i 0) (i 1) ⟨off + ((i 2).val * 64 + (i 3).val), by
    have : (i 2).val < 16 := (i 2).isLt; have : (i 3).val < 64 := (i 3).isLt; omega⟩

theorem pQ_eq : truncf .bf16 (transpose S8x32768x128 [1, 0, 2] (shapeCast _ (mulf (shapeCast _ (extractStridedSlice S4x8192x1024 ![0, 0, 0] (pY a0 a1 a2 a4) slices_S4x8192x3072_S4x8192x1024_0_0_0) shapeCasts_S4x8192x1024_S4x8192x16x64) (broadcastInDim S4x8192x16x64 ![] bcast_S_S4x8192x16x64 (constant S_ .f32 0x3E000000#32))) shapeCasts_S4x8192x16x64_S32768x8x128) transposes_S32768x8x128_S8x32768x128_1_0_2) bitsLt_bf16_f32 = pQ a0 a1 a2 a4 := by
  funext i
  rw [eq_ix3 (n0 := 8) (n1 := 32768) (n2 := 128) i]
  have h0 : (i 0).val < 8 := (i 0).isLt
  have h1 : (i 1).val < 32768 := (i 1).isLt
  have h2 : (i 2).val < 128 := (i 2).isLt
  refine Eq.trans (b := pY a0 a1 a2 a4 (ix3 ⟨(i 1).val / 8192, by omega⟩ ⟨(i 1).val % 8192, by omega⟩
    ⟨((i 0).val * 2 + (i 2).val / 64) * 64 + (i 2).val % 64, by omega⟩) * Ideal.ofBits FTy.f32 0x3E000000#32) (by pointwise []) ?_
  rw [pY_apply]
  refine congrArg (· * Ideal.ofBits FTy.f32 0x3E000000#32) (congrArg (pOut a0 a1 a2 a4 _ _) (Fin.ext ?_))
  show ((i 0).val * 2 + (i 2).val / 64) * 64 + (i 2).val % 64 = (i 0).val * 128 + (i 2).val
  omega

theorem pk_eq : shapeCast _ (extractStridedSlice S4x8192x1024 ![0, 0, 1024] (pY a0 a1 a2 a4) slices_S4x8192x3072_S4x8192x1024_0_0_1024) shapeCasts_S4x8192x1024_S4x8192x16x64 = pK a0 a1 a2 a4 1024 (by omega) := by
  funext i
  rw [eq_ix4 (n0 := 4) (n1 := 8192) (n2 := 16) (n3 := 64) i]
  pointwise []
  exact pY_apply a0 a1 a2 a4 _ _ _

theorem pv_eq : shapeCast _ (extractStridedSlice S4x8192x1024 ![0, 0, 2048] (pY a0 a1 a2 a4) slices_S4x8192x3072_S4x8192x1024_0_0_2048) shapeCasts_S4x8192x1024_S4x8192x16x64 = pK a0 a1 a2 a4 2048 (by omega) := by
  funext i
  rw [eq_ix4 (n0 := 4) (n1 := 8192) (n2 := 16) (n3 := 64) i]
  pointwise []
  exact pY_apply a0 a1 a2 a4 _ _ _

theorem pkt_eq : truncf .bf16 (shapeCast _ (transpose S4x16x64x8192 [0, 2, 3, 1] (shapeCast _ (extractStridedSlice S4x8192x1024 ![0, 0, 1024] (pY a0 a1 a2 a4) slices_S4x8192x3072_S4x8192x1024_0_0_1024) shapeCasts_S4x8192x1024_S4x8192x16x64) transposes_S4x8192x16x64_S4x16x64x8192_0_2_3_1) shapeCasts_S4x16x64x8192_S4x1024x8192) bitsLt_bf16_f32 = pT a0 a1 a2 a4 1024 (by omega) := by
  funext i
  rw [eq_ix3 (n0 := 4) (n1 := 1024) (n2 := 8192) i]
  pointwise []
  exact pY_apply a0 a1 a2 a4 _ _ _

theorem pvt_eq : truncf .bf16 (shapeCast _ (transpose S4x16x64x8192 [0, 2, 3, 1] (shapeCast _ (extractStridedSlice S4x8192x1024 ![0, 0, 2048] (pY a0 a1 a2 a4) slices_S4x8192x3072_S4x8192x1024_0_0_2048) shapeCasts_S4x8192x1024_S4x8192x16x64) transposes_S4x8192x16x64_S4x16x64x8192_0_2_3_1) shapeCasts_S4x16x64x8192_S4x1024x8192) bitsLt_bf16_f32 = pT a0 a1 a2 a4 2048 (by omega) := by
  funext i
  rw [eq_ix3 (n0 := 4) (n1 := 1024) (n2 := 8192) i]
  pointwise []
  exact pY_apply a0 a1 a2 a4 _ _ _

end

end Cert.ProjectIdeal.Value
-- ==== Proof.ProjectPay.lean ====
/- The projection kernel's payloads at an index. -/
module

public import proofs.«01_k».proof.Proof.Gen.ProjectIdeal.Frame
public import proofs.«01_k».proof.Proof.ProjectReference
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ProjectIdeal.Value

open Idealize.ShloMosaic Idealize.ShloMosaic.TcCoe Idealize.SL.Sem
open Cert.ProjectIdeal Cert.ProjectIdeal.Gen
open Idealize.ShloMosaic.Pointwise
open Cert.DenseIdeal.Value (normed)

section

variable (x : Vec Ideal S512x1024 .f32) (g : Vec Ideal S1x1024 .f32) (sh sc : Vec Ideal S16x1024 .f32)

/-- A tile's row before its projections, from the blocks the body reads. -/
def tileRow (r : Fin 512) : Fin 1024 → EReal := normed (fun k => x (ix2 r k)) (fun k => g (ix2 0 k)) (fun k => sh (ix2 ⟨r.val / 32, by omega⟩ k))
  (fun k => sc (ix2 ⟨r.val / 32, by omega⟩ k))

theorem pay6_apply (r : Fin 512) (n : Fin 1024) : k0_pay6 x g sh sc (ix2 r n) = tileRow x g sh sc r n := by
  pointwise [k0_pay6]
  rfl

theorem pay7_apply (w : Vec Ideal S1024x1024 .bf16) (r : Fin 512) (n : Fin 1024) :
    k0_pay7 x g sh sc w (ix2 r n) = ∑ k : Fin 1024, tileRow x g sh sc r k * w (ix2 k n) := by
  pointwise [k0_pay7]
  exact Finset.sum_congr rfl fun k _ => congrArg (· * w (ix2 k n)) (pay6_apply x g sh sc r k)

theorem pay9_apply (w : Vec Ideal S2048x1024 .bf16) (n : Fin 1024) (r : Fin 512) :
    k0_pay9 x g sh sc w (ix2 n r) = ∑ k : Fin 1024, tileRow x g sh sc r k * w (ix2 ⟨n.val, by omega⟩ k) := by
  pointwise [k0_pay9, k0_pay8]
  exact Finset.sum_congr rfl fun k _ => (mul_comm _ _).trans (congrArg (· * w (ix2 ⟨n.val, by omega⟩ k)) (pay6_apply x g sh sc r k))

theorem pay10_apply (w : Vec Ideal S2048x1024 .bf16) (n : Fin 1024) (r : Fin 512) :
    k0_pay10 x g sh sc w (ix2 n r) = ∑ k : Fin 1024, tileRow x g sh sc r k * w (ix2 ⟨1024 + n.val, by omega⟩ k) := by
  pointwise [k0_pay10, k0_pay8]
  exact Finset.sum_congr rfl fun k _ => (mul_comm _ _).trans (congrArg (· * w (ix2 ⟨1024 + n.val, by omega⟩ k)) (pay6_apply x g sh sc r k))

end

section

variable (y : FVec Ideal S512x1024 .f32) (a : EReal)

theorem pay12_apply (r : Fin 512) (l : Fin 128) : k0_pay12 (F := Ideal) y a (ix3 0 r l) = y (ix2 r ⟨l.val, by omega⟩) * a := by
  pointwise [k0_pay12, k0_pay11]

theorem pay13_apply (r : Fin 512) (l : Fin 128) : k0_pay13 (F := Ideal) y a (ix3 0 r l) = y (ix2 r ⟨128 + l.val, by omega⟩) * a := by
  pointwise [k0_pay13, k0_pay11]

theorem pay14_apply (r : Fin 512) (l : Fin 128) : k0_pay14 (F := Ideal) y a (ix3 0 r l) = y (ix2 r ⟨256 + l.val, by omega⟩) * a := by
  pointwise [k0_pay14, k0_pay11]

theorem pay15_apply (r : Fin 512) (l : Fin 128) : k0_pay15 (F := Ideal) y a (ix3 0 r l) = y (ix2 r ⟨384 + l.val, by omega⟩) * a := by
  pointwise [k0_pay15, k0_pay11]

theorem pay16_apply (r : Fin 512) (l : Fin 128) : k0_pay16 (F := Ideal) y a (ix3 0 r l) = y (ix2 r ⟨512 + l.val, by omega⟩) * a := by
  pointwise [k0_pay16, k0_pay11]

theorem pay17_apply (r : Fin 512) (l : Fin 128) : k0_pay17 (F := Ideal) y a (ix3 0 r l) = y (ix2 r ⟨640 + l.val, by omega⟩) * a := by
  pointwise [k0_pay17, k0_pay11]

theorem pay18_apply (r : Fin 512) (l : Fin 128) : k0_pay18 (F := Ideal) y a (ix3 0 r l) = y (ix2 r ⟨768 + l.val, by omega⟩) * a := by
  pointwise [k0_pay18, k0_pay11]

theorem pay19_apply (r : Fin 512) (l : Fin 128) : k0_pay1 (k0_pay19 (F := Ideal) y a) (ix3 0 r l) = y (ix2 r ⟨896 + l.val, by omega⟩) * a := by
  pointwise [k0_pay1, k0_pay19, k0_pay11]

end

section

variable (y : FVec Ideal S1024x512 .f32)

theorem pay2_apply (n : Fin 1024) (r : Fin 512) : k0_pay2 y (ix3 0 n r) = y (ix2 n r) := by
  pointwise [k0_pay2]

theorem pay3_apply (n : Fin 1024) (r : Fin 512) : k0_pay3 y (ix3 0 n r) = y (ix2 n r) := by
  pointwise [k0_pay3]

theorem pay4_apply (n : Fin 1024) (r : Fin 512) : k0_pay4 y (ix3 0 n r) = y (ix2 n r) := by
  pointwise [k0_pay4]

theorem pay5_apply (n : Fin 1024) (r : Fin 512) : k0_pay5 y (ix3 0 n r) = y (ix2 n r) := by
  pointwise [k0_pay5]

end

end Cert.ProjectIdeal.Value
-- ==== Proof.ProjectTiles.lean ====
/- What the projection kernel's body leaves in its five output blocks. -/
module

public import proofs.«01_k».proof.Proof.ProjectPay
public import Idealize.ShloMosaic.Lib.Pipeline.Value

@[expose] public section

set_option maxRecDepth 16384

noncomputable section

namespace Cert.ProjectIdeal.Value

open Idealize.ShloMosaic Idealize.ShloMosaic.TcCoe Idealize.SL.Sem
open Cert.ProjectIdeal Cert.ProjectIdeal.Gen
open Idealize.ShloMosaic.Pointwise

theorem zeros2 : (![0, 0] : Fin 2 → ℕ) = fun _ => 0 := by decide
theorem zeros3 : (![0, 0, 0] : Fin 3 → ℕ) = fun _ => 0 := by decide

section

variable (x : Vec Ideal S512x1024 .f32) (g : Vec Ideal S1x1024 .f32) (sh sc : Vec Ideal S16x1024 .f32)
  (wq : Vec Ideal S1024x1024 .bf16) (wkvt : Vec Ideal S2048x1024 .bf16)
  (x6 : Vec Ideal S1x1024 .f32) (x7 : Vec Ideal S1024x1 .f32) (x8 : Vec Ideal S256x256 .bf16)

/-- A query of the tile before its scale. -/
def tileQ (r : Fin 512) (n : Fin 1024) : EReal := ∑ k : Fin 1024, tileRow x g sh sc r k * wq (ix2 k n)

/-- A key of the tile, and after 1024 of them a value. -/
def tileKV (r : Fin 512) (n : Fin 2048) : EReal := ∑ k : Fin 1024, tileRow x g sh sc r k * wkvt (ix2 n k)

theorem pay20_apply (r : Fin 512) (n : Fin 1024) : k0_pay20 x g sh sc wq wkvt x6 x7 x8 (ix2 r n) = tileQ x g sh sc wq r n := by
  unfold k0_pay20
  rw [View.ld_unit_zero zeros2, View.ld_unit_zero zeros2, View.ld_unit_zero zeros2, View.ld_unit_zero zeros2, View.ld_unit_zero zeros2]
  exact pay7_apply x g sh sc wq r n

theorem pay21_apply (n : Fin 1024) (r : Fin 512) : k0_pay21 x g sh sc wq wkvt x6 x7 x8 (ix2 n r) = tileKV x g sh sc wkvt r ⟨n.val, by omega⟩ := by
  unfold k0_pay21
  rw [View.ld_unit_zero zeros2, View.ld_unit_zero zeros2, View.ld_unit_zero zeros2, View.ld_unit_zero zeros2, View.ld_unit_zero zeros2]
  exact pay9_apply x g sh sc wkvt n r

theorem pay22_apply (n : Fin 1024) (r : Fin 512) : k0_pay22 x g sh sc wq wkvt x6 x7 x8 (ix2 n r) = tileKV x g sh sc wkvt r ⟨1024 + n.val, by omega⟩ := by
  unfold k0_pay22
  rw [View.ld_unit_zero zeros2, View.ld_unit_zero zeros2, View.ld_unit_zero zeros2, View.ld_unit_zero zeros2, View.ld_unit_zero zeros2]
  exact pay10_apply x g sh sc wkvt n r

/-- The queries' block: 128 columns to a slot. -/
def blockQ : FVec Ideal S8x512x128 .bf16 := fun i => tileQ x g sh sc wq (i 1)
  ⟨(i 0).val * 128 + (i 2).val, by have : (i 0).val < 8 := (i 0).isLt; have : (i 2).val < 128 := (i 2).isLt; omega⟩ * Ideal.ofBits FTy.f32 0x3E000000#32

/-- A store of one slot agrees with it. -/
theorem slot (p : Fin 8) (w : FVec Ideal S1x512x128 .bf16) (R : Rect S8x512x128) (hsh : R.shape = S1x512x128)
    (y : S1x512x128.Idx) (e : S8x512x128.Idx)
    (hw : ∀ (r : Fin 512) (l : Fin 128), w (ix3 0 r l) = tileQ x g sh sc wq r ⟨p.val * 128 + l.val, by omega⟩ * Ideal.ofBits FTy.f32 0x3E000000#32)
    (h0 : (e 0).val = p.val) (h1 : (e 1).val = (y 1).val) (h2 : (e 2).val = (y 2).val) : w y = blockQ x g sh sc wq e := by
  have hy : y = ix3 0 (y 1) (y 2) := by
    rw [eq_ix3 (n0 := 1) (n1 := 512) (n2 := 128) y]
    refine congrArg (fun z => ix3 z (y 1) (y 2)) (Fin.ext ?_)
    have : (y 0).val < 1 := (y 0).isLt
    show (y 0).val = 0
    omega
  rw [hy]
  refine (hw (y 1) (y 2)).trans (congrArg (· * Ideal.ofBits FTy.f32 0x3E000000#32) (congrArg₂ (tileQ x g sh sc wq) (Fin.ext h1.symm) (Fin.ext ?_)))
  show p.val * 128 + (y 2).val = (e 0).val * 128 + (e 2).val
  rw [h0, h2]

theorem out9_eq : out0_9 x g sh sc wq wkvt x6 x7 x8 = blockQ x g sh sc wq := by
  funext i
  unfold out0_9
  refine View.canon_apply_of_pieces (Val := Elt Ideal) (blockQ x g sh sc wq) _ ?_ i (cover0_9 _ _ _ _ _ _ _ _ i)
  intro p hp
  simp only [List.mem_cons, List.not_mem_nil, or_false] at hp
  rcases hp with rfl | rfl | rfl | rfl | rfl | rfl | rfl | rfl
  · refine fun y => slot x g sh sc wq 7 _ r0_12 rfl y _ (fun r l => (pay19_apply _ _ r l).trans ?_) ?_ ?_ ?_
    · refine congrArg (· * Ideal.ofBits FTy.f32 0x3E000000#32) ((pay20_apply x g sh sc wq wkvt x6 x7 x8 r _).trans (congrArg (tileQ x g sh sc wq r) (Fin.ext ?_)))
      show 896 + l.val = 7 * 128 + l.val
      omega
    · show 7 + 1 * (y 0).val = 7
      have : (y 0).val < 1 := (y 0).isLt
      omega
    · show 0 + 1 * (y 1).val = (y 1).val
      omega
    · show 0 + 1 * (y 2).val = (y 2).val
      omega
  · refine fun y => slot x g sh sc wq 6 _ r0_11 rfl y _ (fun r l => (pay18_apply _ _ r l).trans ?_) ?_ ?_ ?_
    · refine congrArg (· * Ideal.ofBits FTy.f32 0x3E000000#32) ((pay20_apply x g sh sc wq wkvt x6 x7 x8 r _).trans (congrArg (tileQ x g sh sc wq r) (Fin.ext ?_)))
      show 768 + l.val = 6 * 128 + l.val
      omega
    · show 6 + 1 * (y 0).val = 6
      have : (y 0).val < 1 := (y 0).isLt
      omega
    · show 0 + 1 * (y 1).val = (y 1).val
      omega
    · show 0 + 1 * (y 2).val = (y 2).val
      omega
  · refine fun y => slot x g sh sc wq 5 _ r0_10 rfl y _ (fun r l => (pay17_apply _ _ r l).trans ?_) ?_ ?_ ?_
    · refine congrArg (· * Ideal.ofBits FTy.f32 0x3E000000#32) ((pay20_apply x g sh sc wq wkvt x6 x7 x8 r _).trans (congrArg (tileQ x g sh sc wq r) (Fin.ext ?_)))
      show 640 + l.val = 5 * 128 + l.val
      omega
    · show 5 + 1 * (y 0).val = 5
      have : (y 0).val < 1 := (y 0).isLt
      omega
    · show 0 + 1 * (y 1).val = (y 1).val
      omega
    · show 0 + 1 * (y 2).val = (y 2).val
      omega
  · refine fun y => slot x g sh sc wq 4 _ r0_9 rfl y _ (fun r l => (pay16_apply _ _ r l).trans ?_) ?_ ?_ ?_
    · refine congrArg (· * Ideal.ofBits FTy.f32 0x3E000000#32) ((pay20_apply x g sh sc wq wkvt x6 x7 x8 r _).trans (congrArg (tileQ x g sh sc wq r) (Fin.ext ?_)))
      show 512 + l.val = 4 * 128 + l.val
      omega
    · show 4 + 1 * (y 0).val = 4
      have : (y 0).val < 1 := (y 0).isLt
      omega
    · show 0 + 1 * (y 1).val = (y 1).val
      omega
    · show 0 + 1 * (y 2).val = (y 2).val
      omega
  · refine fun y => slot x g sh sc wq 3 _ r0_8 rfl y _ (fun r l => (pay15_apply _ _ r l).trans ?_) ?_ ?_ ?_
    · refine congrArg (· * Ideal.ofBits FTy.f32 0x3E000000#32) ((pay20_apply x g sh sc wq wkvt x6 x7 x8 r _).trans (congrArg (tileQ x g sh sc wq r) (Fin.ext ?_)))
      show 384 + l.val = 3 * 128 + l.val
      omega
    · show 3 + 1 * (y 0).val = 3
      have : (y 0).val < 1 := (y 0).isLt
      omega
    · show 0 + 1 * (y 1).val = (y 1).val
      omega
    · show 0 + 1 * (y 2).val = (y 2).val
      omega
  · refine fun y => slot x g sh sc wq 2 _ r0_7 rfl y _ (fun r l => (pay14_apply _ _ r l).trans ?_) ?_ ?_ ?_
    · refine congrArg (· * Ideal.ofBits FTy.f32 0x3E000000#32) ((pay20_apply x g sh sc wq wkvt x6 x7 x8 r _).trans (congrArg (tileQ x g sh sc wq r) (Fin.ext ?_)))
      show 256 + l.val = 2 * 128 + l.val
      omega
    · show 2 + 1 * (y 0).val = 2
      have : (y 0).val < 1 := (y 0).isLt
      omega
    · show 0 + 1 * (y 1).val = (y 1).val
      omega
    · show 0 + 1 * (y 2).val = (y 2).val
      omega
  · refine fun y => slot x g sh sc wq 1 _ r0_6 rfl y _ (fun r l => (pay13_apply _ _ r l).trans ?_) ?_ ?_ ?_
    · refine congrArg (· * Ideal.ofBits FTy.f32 0x3E000000#32) ((pay20_apply x g sh sc wq wkvt x6 x7 x8 r _).trans (congrArg (tileQ x g sh sc wq r) (Fin.ext ?_)))
      show 128 + l.val = 1 * 128 + l.val
      omega
    · show 1 + 1 * (y 0).val = 1
      have : (y 0).val < 1 := (y 0).isLt
      omega
    · show 0 + 1 * (y 1).val = (y 1).val
      omega
    · show 0 + 1 * (y 2).val = (y 2).val
      omega
  · refine fun y => slot x g sh sc wq 0 _ r0_5 rfl y _ (fun r l => (pay12_apply _ _ r l).trans ?_) ?_ ?_ ?_
    · refine congrArg (· * Ideal.ofBits FTy.f32 0x3E000000#32) ((pay20_apply x g sh sc wq wkvt x6 x7 x8 r _).trans (congrArg (tileQ x g sh sc wq r) (Fin.ext ?_)))
      show l.val = 0 * 128 + l.val
      omega
    · show 0 + 1 * (y 0).val = 0
      have : (y 0).val < 1 := (y 0).isLt
      omega
    · show 0 + 1 * (y 1).val = (y 1).val
      omega
    · show 0 + 1 * (y 2).val = (y 2).val
      omega

/-- A block of keys or values: positions along the last axis. -/
def blockT (off : ℕ) (hoff : off ≤ 1024) : FVec Ideal S1x1024x512 .bf16 := fun i => tileKV x g sh sc wkvt (i 2)
  ⟨off + (i 1).val, by have : (i 1).val < 1024 := (i 1).isLt; omega⟩

theorem front (y : S1x1024x512.Idx) : y = ix3 0 (y 1) (y 2) := by
  rw [eq_ix3 (n0 := 1) (n1 := 1024) (n2 := 512) y]
  refine congrArg (fun z => ix3 z (y 1) (y 2)) (Fin.ext ?_)
  have : (y 0).val < 1 := (y 0).isLt
  show (y 0).val = 0
  omega

theorem out10_eq : out0_10 x g sh sc wq wkvt x6 x7 x8 = blockT x g sh sc wkvt 0 (by omega) := by
  funext i
  unfold out0_10
  rw [View.canon_unit_zero zeros3]
  rw [front i]
  refine (pay2_apply _ (i 1) (i 2)).trans ((pay21_apply x g sh sc wq wkvt x6 x7 x8 (i 1) (i 2)).trans ?_)
  exact congrArg (tileKV x g sh sc wkvt (i 2)) (Fin.ext (Nat.zero_add _).symm)

theorem out11_eq : out0_11 x g sh sc wq wkvt x6 x7 x8 = blockT x g sh sc wkvt 1024 (by omega) := by
  funext i
  unfold out0_11
  rw [View.canon_unit_zero zeros3]
  rw [front i]
  refine (pay3_apply _ (i 1) (i 2)).trans ((pay22_apply x g sh sc wq wkvt x6 x7 x8 (i 1) (i 2)).trans ?_)
  rfl

theorem out12_eq : out0_12 x g sh sc wq wkvt x6 x7 x8 = blockT x g sh sc wkvt 0 (by omega) := by
  funext i
  unfold out0_12
  rw [View.canon_unit_zero zeros3]
  rw [front i]
  refine (pay4_apply _ (i 1) (i 2)).trans ((pay21_apply x g sh sc wq wkvt x6 x7 x8 (i 1) (i 2)).trans ?_)
  exact congrArg (tileKV x g sh sc wkvt (i 2)) (Fin.ext (Nat.zero_add _).symm)

theorem out13_eq : out0_13 x g sh sc wq wkvt x6 x7 x8 = blockT x g sh sc wkvt 1024 (by omega) := by
  funext i
  unfold out0_13
  rw [View.canon_unit_zero zeros3]
  rw [front i]
  refine (pay5_apply _ (i 1) (i 2)).trans ((pay22_apply x g sh sc wq wkvt x6 x7 x8 (i 1) (i 2)).trans ?_)
  rfl

end

end Cert.ProjectIdeal.Value
-- ==== Proof.ProjectValue.lean ====
/- The arrays the projection kernel of the prompts leaves. -/
module

public import proofs.«01_k».proof.Proof.ProjectTiles
public import Idealize.ShloMosaic.Lib.Pipeline.Covers

@[expose] public section

set_option maxRecDepth 16384

noncomputable section

namespace Cert.ProjectIdeal.Value

open Idealize.ShloMosaic Idealize.ShloMosaic.TcCoe Idealize.SL.Sem
open Cert.ProjectIdeal Cert.ProjectIdeal.Gen
open Idealize.ShloMosaic.Pipeline (Dat Cfg Window)
open Idealize.ShloMosaic.Pointwise

variable (m : (ℓ : Loc nD τ sig) → Buf (Elt Ideal) ℓ)

/-- The arguments: the stream, the gain, the prompts' modulation and the weights. -/
def arg0 (c : Dev nD) : FVec Ideal S33280x1024 .f32 := m ((c : Thread nD τ).loc main_arg0)
def arg1 (c : Dev nD) : FVec Ideal S1024 .f32 := m ((c : Thread nD τ).loc main_arg1)
def arg2 (c : Dev nD) : FVec Ideal S4x6144 .f32 := m ((c : Thread nD τ).loc main_arg2)
def arg4 (c : Dev nD) : FVec Ideal S1024x3072 .f32 := m ((c : Thread nD τ).loc main_arg4)

theorem index0 : ∀ t : Fin grid0.N, cc0_transform_0 (grid0.coords t) = ![t.val, 0] := by decide +kernel
theorem index2 : ∀ t : Fin grid0.N, cc0_transform_2 (grid0.coords t) = ![1 + t.val / 16, 0] := by decide +kernel
theorem index3 : ∀ t : Fin grid0.N, cc0_transform_3 (grid0.coords t) = ![1 + t.val / 16, 1] := by decide +kernel
theorem index9 : ∀ i : grid0.Coords, cc0_transform_9 i = ![0, (i 0).val, 0] := by decide +kernel
theorem index10 : ∀ i : grid0.Coords, cc0_transform_10 i = ![(i 0).val / 16, 0, (i 0).val % 16] := by decide +kernel
theorem index11 : ∀ i : grid0.Coords, cc0_transform_11 i = ![(i 0).val / 16, 0, (i 0).val % 16] := by decide +kernel
theorem index12 : ∀ i : grid0.Coords, cc0_transform_12 i = ![(i 0).val / 16, 0, (i 0).val % 16] := by decide +kernel
theorem index13 : ∀ i : grid0.Coords, cc0_transform_13 i = ![(i 0).val / 16, 0, (i 0).val % 16] := by decide +kernel

theorem coords_val : ∀ t : Fin grid0.N, (grid0.coords t 0 : ℕ) = t.val := by decide +kernel

section Arrays

variable (c : Dev nD)

theorem V_x : V m c (Pipeline.arrRef spec0 0) = arg0 m c := by
  entry_read
  rfl

theorem V_g (k : Fin 1024) : (V m c (Pipeline.arrRef spec0 1) : S1x1024.Idx → EReal) (ix2 0 k) = arg1 m c (ix1 k) := by
  show StableHlo.after hostOps0 (fun b => m (c, b)) (Proc.tc.devRef (Pipeline.arrRef spec0 1)) (ix2 0 k) = _
  simp only [hostOps0]
  entry_read
  pointwise [arg1]

theorem V_md (R : Fin 80) (k : Fin 6144) (hR : 16 ≤ R.val) : (V m c (Pipeline.arrRef spec0 2) : S80x6144.Idx → EReal) (ix2 R k) =
    arg2 m c (ix2 ⟨(R.val - 16) / 16, by omega⟩ k) := by
  refine Eq.trans (b := if h : R.val < 16 then (m ((c : Thread nD τ).loc main_arg3) (ix2 ⟨R.val, h⟩ k) : EReal)
    else m ((c : Thread nD τ).loc main_arg2) (ix2 ⟨(R.val - 16) / 16, by omega⟩ k)) ?_ (dif_neg (by omega))
  show StableHlo.after hostOps0 (fun b => m (c, b)) (Proc.tc.devRef (Pipeline.arrRef spec0 2)) (ix2 R k) = _
  simp only [hostOps0]
  entry_read
  pointwise []

theorem V_wq (k n : Fin 1024) : (V m c (Pipeline.arrRef spec0 4) : S1024x1024.Idx → EReal) (ix2 k n) =
    arg4 m c (ix2 k ⟨n.val, by omega⟩) := by
  show StableHlo.after hostOps0 (fun b => m (c, b)) (Proc.tc.devRef (Pipeline.arrRef spec0 4)) (ix2 k n) = _
  simp only [hostOps0]
  entry_read
  pointwise [arg4]

theorem V_wkvt (n : Fin 2048) (k : Fin 1024) : (V m c (Pipeline.arrRef spec0 5) : S2048x1024.Idx → EReal) (ix2 n k) =
    arg4 m c (ix2 k ⟨1024 + n.val, by omega⟩) := by
  show StableHlo.after hostOps0 (fun b => m (c, b)) (Proc.tc.devRef (Pipeline.arrRef spec0 5)) (ix2 n k) = _
  simp only [hostOps0]
  entry_read
  pointwise [arg4]

end Arrays

/-- The blocks of a point, as the body reads them. -/
def b0 (c : Dev nD) (t : Fin cfg0.N) : Vec Ideal S512x1024 .f32 := iblk m c 0 t
def b1 (c : Dev nD) (t : Fin cfg0.N) : Vec Ideal S1x1024 .f32 := iblk m c 1 t
def b2 (c : Dev nD) (t : Fin cfg0.N) : Vec Ideal S16x1024 .f32 := iblk m c 2 t
def b3 (c : Dev nD) (t : Fin cfg0.N) : Vec Ideal S16x1024 .f32 := iblk m c 3 t
def b4 (c : Dev nD) (t : Fin cfg0.N) : Vec Ideal S1024x1024 .bf16 := iblk m c 4 t
def b5 (c : Dev nD) (t : Fin cfg0.N) : Vec Ideal S2048x1024 .bf16 := iblk m c 5 t

theorem emb0 (t : Fin cfg0.N) (y : S512x1024.Idx) (a : Fin 2) :
    (((cfg0.win 0).blk t).view.emb y a : ℕ) = cc0_transform_0 (grid0.coords t) a * S512x1024.size a + (y a).val :=
  Window.rect_emb_val (cfg0.win 0) t y a rfl

theorem emb1 (t : Fin cfg0.N) (y : S1x1024.Idx) (a : Fin 2) :
    (((cfg0.win 1).blk t).view.emb y a : ℕ) = cc0_transform_1 (grid0.coords t) a * S1x1024.size a + (y a).val :=
  Window.rect_emb_val (cfg0.win 1) t y a rfl

theorem emb2 (t : Fin cfg0.N) (y : S16x1024.Idx) (a : Fin 2) :
    (((cfg0.win 2).blk t).view.emb y a : ℕ) = cc0_transform_2 (grid0.coords t) a * S16x1024.size a + (y a).val :=
  Window.rect_emb_val (cfg0.win 2) t y a rfl

theorem emb3 (t : Fin cfg0.N) (y : S16x1024.Idx) (a : Fin 2) :
    (((cfg0.win 3).blk t).view.emb y a : ℕ) = cc0_transform_3 (grid0.coords t) a * S16x1024.size a + (y a).val :=
  Window.rect_emb_val (cfg0.win 3) t y a rfl

theorem emb4 (t : Fin cfg0.N) (y : S1024x1024.Idx) (a : Fin 2) :
    (((cfg0.win 4).blk t).view.emb y a : ℕ) = cc0_transform_4 (grid0.coords t) a * S1024x1024.size a + (y a).val :=
  Window.rect_emb_val (cfg0.win 4) t y a rfl

theorem emb5 (t : Fin cfg0.N) (y : S2048x1024.Idx) (a : Fin 2) :
    (((cfg0.win 5).blk t).view.emb y a : ℕ) = cc0_transform_5 (grid0.coords t) a * S2048x1024.size a + (y a).val :=
  Window.rect_emb_val (cfg0.win 5) t y a rfl

theorem emb9 (t : Fin cfg0.N) (y : S8x512x128.Idx) (a : Fin 3) :
    (((cfg0.win 9).blk t).view.emb y a : ℕ) = cc0_transform_9 (grid0.coords t) a * S8x512x128.size a + (y a).val :=
  Window.rect_emb_val (cfg0.win 9) t y a rfl

theorem emb10 (t : Fin cfg0.N) (y : S1x1024x512.Idx) (a : Fin 3) :
    (((cfg0.win 10).blk t).view.emb y a : ℕ) = cc0_transform_10 (grid0.coords t) a * S1x1024x512.size a + (y a).val :=
  Window.rect_emb_val (cfg0.win 10) t y a rfl

theorem emb11 (t : Fin cfg0.N) (y : S1x1024x512.Idx) (a : Fin 3) :
    (((cfg0.win 11).blk t).view.emb y a : ℕ) = cc0_transform_11 (grid0.coords t) a * S1x1024x512.size a + (y a).val :=
  Window.rect_emb_val (cfg0.win 11) t y a rfl

theorem emb12 (t : Fin cfg0.N) (y : S1x1024x512.Idx) (a : Fin 3) :
    (((cfg0.win 12).blk t).view.emb y a : ℕ) = cc0_transform_12 (grid0.coords t) a * S1x1024x512.size a + (y a).val :=
  Window.rect_emb_val (cfg0.win 12) t y a rfl

theorem emb13 (t : Fin cfg0.N) (y : S1x1024x512.Idx) (a : Fin 3) :
    (((cfg0.win 13).blk t).view.emb y a : ℕ) = cc0_transform_13 (grid0.coords t) a * S1x1024x512.size a + (y a).val :=
  Window.rect_emb_val (cfg0.win 13) t y a rfl

section Blocks

variable (c : Dev nD) (t : Fin cfg0.N)

theorem t_lt : t.val < 64 := t.isLt

theorem blk0 (r : Fin 512) (k : Fin 1024) : b0 m c t (ix2 r k) = arg0 m c (ix2 ⟨t.val * 512 + r.val, by have := t_lt t; omega⟩ k) := by
  refine (congrFun (V_x m c) _).trans (congrArg (arg0 m c) (funext fun a => Fin.ext ?_))
  refine (emb0 t (ix2 r k) a).trans ?_
  rw [index0]
  match a with
  | 0 => rfl
  | 1 => show 0 * 1024 + k.val = k.val; omega

theorem blk1 (k : Fin 1024) : b1 m c t (ix2 0 k) = arg1 m c (ix1 k) := by
  refine Eq.trans (congrArg (V m c (Pipeline.arrRef spec0 1)) (funext fun a => Fin.ext ?_)) (V_g m c k)
  refine (emb1 t (ix2 0 k) a).trans ?_
  match a with
  | 0 => rfl
  | 1 => show 0 * 1024 + k.val = k.val; omega

theorem md_lt (r : Fin 512) : (1 + t.val / 16) * 16 + r.val / 32 < 80 := by
  have ht := t_lt t
  omega

theorem blk2 (r : Fin 512) (n : Fin 1024) : b2 m c t (ix2 ⟨r.val / 32, by omega⟩ n) =
    arg2 m c (ix2 ⟨t.val / 16, by have := t_lt t; omega⟩ ⟨n.val, by omega⟩) := by
  refine Eq.trans (congrArg (V m c (Pipeline.arrRef spec0 2)) (funext fun a => Fin.ext ?_))
    ((V_md m c ⟨_, md_lt t r⟩ ⟨n.val, by omega⟩ (by show 16 ≤ (1 + t.val / 16) * 16 + r.val / 32; omega)).trans
      (congrArg (fun z => arg2 m c (ix2 z ⟨n.val, by omega⟩)) (Fin.ext ?_)))
  · refine (emb2 t (ix2 ⟨r.val / 32, by omega⟩ n) a).trans ?_
    rw [index2]
    match a with
    | 0 => rfl
    | 1 => show 0 * 1024 + n.val = n.val; omega
  · show ((1 + t.val / 16) * 16 + r.val / 32 - 16) / 16 = t.val / 16
    omega

theorem blk3 (r : Fin 512) (n : Fin 1024) : b3 m c t (ix2 ⟨r.val / 32, by omega⟩ n) =
    arg2 m c (ix2 ⟨t.val / 16, by have := t_lt t; omega⟩ ⟨1024 + n.val, by omega⟩) := by
  refine Eq.trans (congrArg (V m c (Pipeline.arrRef spec0 2)) (funext fun a => Fin.ext ?_))
    ((V_md m c ⟨_, md_lt t r⟩ ⟨1024 + n.val, by omega⟩ (by show 16 ≤ (1 + t.val / 16) * 16 + r.val / 32; omega)).trans
      (congrArg (fun z => arg2 m c (ix2 z ⟨1024 + n.val, by omega⟩)) (Fin.ext ?_)))
  · refine (emb3 t (ix2 ⟨r.val / 32, by omega⟩ n) a).trans ?_
    rw [index3]
    match a with
    | 0 => rfl
    | 1 => show 1 * 1024 + n.val = 1024 + n.val; omega
  · show ((1 + t.val / 16) * 16 + r.val / 32 - 16) / 16 = t.val / 16
    omega

theorem blk4 (k n : Fin 1024) : b4 m c t (ix2 k n) = arg4 m c (ix2 k ⟨n.val, by omega⟩) := by
  refine Eq.trans (congrArg (V m c (Pipeline.arrRef spec0 4)) (funext fun a => Fin.ext ?_)) (V_wq m c k n)
  refine (emb4 t (ix2 k n) a).trans ?_
  match a with
  | 0 => show 0 * 1024 + k.val = k.val; omega
  | 1 => show 0 * 1024 + n.val = n.val; omega

theorem blk5 (n : Fin 2048) (k : Fin 1024) : b5 m c t (ix2 n k) = arg4 m c (ix2 k ⟨1024 + n.val, by omega⟩) := by
  refine Eq.trans (congrArg (V m c (Pipeline.arrRef spec0 5)) (funext fun a => Fin.ext ?_)) (V_wkvt m c n k)
  refine (emb5 t (ix2 n k) a).trans ?_
  match a with
  | 0 => show 0 * 2048 + n.val = n.val; omega
  | 1 => show 0 * 1024 + k.val = k.val; omega

/-- A row of the point's tile is its row of the stream, with its prompt's modulation. -/
theorem tileRow_eq (r : Fin 512) (b : Fin 4) (s : Fin 8192) (hb : b.val = t.val / 16) (hs : s.val = t.val % 16 * 512 + r.val) :
    tileRow (b0 m c t) (b1 m c t) (b2 m c t) (b3 m c t) r =
      row (fun k => arg0 m c (ix2 ⟨b.val * 8192 + s.val, by omega⟩ k)) (fun k => arg1 m c (ix1 k)) (fun k => arg2 m c (ix2 b k)) := by
  have ht := t_lt t
  have e : (⟨t.val * 512 + r.val, by omega⟩ : Fin 33280) = ⟨b.val * 8192 + s.val, by omega⟩ := Fin.ext (by show t.val * 512 + r.val = b.val * 8192 + s.val; omega)
  have eb : (⟨t.val / 16, by omega⟩ : Fin 4) = b := Fin.ext hb.symm
  unfold tileRow row
  rw [show (fun k => b0 m c t (ix2 r k)) = fun k => arg0 m c (ix2 ⟨b.val * 8192 + s.val, by omega⟩ k) from funext fun k => (blk0 m c t r k).trans (by rw [e]),
    show (fun k => b1 m c t (ix2 0 k)) = fun k => arg1 m c (ix1 k) from funext fun k => blk1 m c t k,
    show (fun k => b2 m c t (ix2 ⟨r.val / 32, by omega⟩ k)) = fun n => arg2 m c (ix2 b ⟨n.val, by omega⟩) from funext fun k => (blk2 m c t r k).trans (by rw [eb]),
    show (fun k => b3 m c t (ix2 ⟨r.val / 32, by omega⟩ k)) = fun n => arg2 m c (ix2 b ⟨1024 + n.val, by omega⟩) from funext fun k => (blk3 m c t r k).trans (by rw [eb])]

theorem tileQ_eq (r : Fin 512) (n : Fin 1024) (b : Fin 4) (s : Fin 8192) (n' : Fin 3072) (hb : b.val = t.val / 16)
    (hs : s.val = t.val % 16 * 512 + r.val) (hn : n'.val = n.val) :
    tileQ (b0 m c t) (b1 m c t) (b2 m c t) (b3 m c t) (b4 m c t) r n = pOut (arg0 m c) (arg1 m c) (arg2 m c) (arg4 m c) b s n' := by
  unfold tileQ pOut proj
  rw [tileRow_eq m c t r b s hb hs]
  refine Finset.sum_congr rfl fun k _ => congrArg (_ * ·) ((blk4 m c t k n).trans ?_)
  exact congrArg (fun z => arg4 m c (ix2 k z)) (Fin.ext hn.symm)

theorem tileKV_eq (r : Fin 512) (n : Fin 2048) (b : Fin 4) (s : Fin 8192) (n' : Fin 3072) (hb : b.val = t.val / 16)
    (hs : s.val = t.val % 16 * 512 + r.val) (hn : n'.val = 1024 + n.val) :
    tileKV (b0 m c t) (b1 m c t) (b2 m c t) (b3 m c t) (b5 m c t) r n = pOut (arg0 m c) (arg1 m c) (arg2 m c) (arg4 m c) b s n' := by
  unfold tileKV pOut proj
  rw [tileRow_eq m c t r b s hb hs]
  refine Finset.sum_congr rfl fun k _ => congrArg (_ * ·) ((blk5 m c t n k).trans ?_)
  exact congrArg (fun z => arg4 m c (ix2 k z)) (Fin.ext hn.symm)

end Blocks

/-- The queries' array. -/
theorem final9 (c : Dev nD) : (dats m 0 c).arrAt 9 cfg0.N = pQ (arg0 m c) (arg1 m c) (arg2 m c) (arg4 m c) := by
  refine (dats m 0 c).arrAt_eq_of_covers 9 _ ?_ fun t hf y => ?_
  · refine Window.covers_of_indexMap_surj _ rfl (fun a => (by decide : ∀ a : Fin 3, 0 < S8x512x128.size a) a) fun β => ?_
    have hb : ∀ a : Fin 3, (β a).val < (![1, 64, 1] : Fin 3 → ℕ) a := fun a => by
      refine lt_of_lt_of_eq (β a).isLt ?_
      match a with
      | 0 => exact (by decide : (8 + 8 - 1) / 8 = 1)
      | 1 => exact (by decide : (32768 + 512 - 1) / 512 = 64)
      | 2 => exact (by decide : (128 + 128 - 1) / 128 = 1)
    obtain ⟨i, hi⟩ : ∃ i : grid0.Coords, (i 0).val = (β (⟨1, by decide⟩ : Fin 3)).val :=
      ⟨fun | ⟨0, _⟩ => ⟨_, hb 1⟩, rfl⟩
    refine ⟨i, fun a => ?_⟩
    match a with
    | ⟨0, _⟩ => exact (congrFun (index9 i) 0).trans (Nat.lt_one_iff.mp (hb 0)).symm
    | ⟨1, _⟩ => exact (congrFun (index9 i) 1).trans hi
    | ⟨2, _⟩ => exact (congrFun (index9 i) 2).trans (Nat.lt_one_iff.mp (hb 2)).symm
  · have ht := t_lt t
    refine (congrFun ((after0_9 m c t).trans (out9_eq (b0 m c t) (b1 m c t) (b2 m c t) (b3 m c t) (b4 m c t) (b5 m c t) _ _ _)) y).trans ?_
    have h1 : (y 1).val < 512 := (y 1).isLt
    have e0 : ((((cfg0.win 9).blk t).view.emb y : S8x32768x128.Idx) 0 : ℕ) = (y 0).val :=
      (emb9 t y 0).trans (by rw [index9]; show 0 * 8 + (y 0).val = (y 0).val; omega)
    have e1 : ((((cfg0.win 9).blk t).view.emb y : S8x32768x128.Idx) 1 : ℕ) = t.val * 512 + (y 1).val :=
      (emb9 t y 1).trans (by rw [index9, ← coords_val t]; rfl)
    have e2 : ((((cfg0.win 9).blk t).view.emb y : S8x32768x128.Idx) 2 : ℕ) = (y 2).val :=
      (emb9 t y 2).trans (by rw [index9]; show 0 * 128 + (y 2).val = (y 2).val; omega)
    refine congrArg (· * Ideal.ofBits FTy.f32 0x3E000000#32) (tileQ_eq m c t (y 1) _ _ _ _ ?_ ?_ ?_)
    · show ((((cfg0.win 9).blk t).view.emb y : S8x32768x128.Idx) 1 : ℕ) / 8192 = t.val / 16
      rw [e1]; omega
    · show ((((cfg0.win 9).blk t).view.emb y : S8x32768x128.Idx) 1 : ℕ) % 8192 = t.val % 16 * 512 + (y 1).val
      rw [e1]; omega
    · show ((((cfg0.win 9).blk t).view.emb y : S8x32768x128.Idx) 0 : ℕ) * 128 + ((((cfg0.win 9).blk t).view.emb y : S8x32768x128.Idx) 2 : ℕ) = (y 0).val * 128 + (y 2).val
      rw [e0, e2]

/-- The keys' array in the smaller format; -/
theorem final10 (c : Dev nD) : (dats m 0 c).arrAt 10 cfg0.N = pT (arg0 m c) (arg1 m c) (arg2 m c) (arg4 m c) 1024 (by omega) := by
  refine (dats m 0 c).arrAt_eq_of_covers 10 _ ?_ fun t hf y => ?_
  · refine Window.covers_of_indexMap_surj _ rfl (fun a => (by decide : ∀ a : Fin 3, 0 < S1x1024x512.size a) a) fun β => ?_
    have hb : ∀ a : Fin 3, (β a).val < (![4, 1, 16] : Fin 3 → ℕ) a := fun a => by
      refine lt_of_lt_of_eq (β a).isLt ?_
      match a with
      | 0 => exact (by decide : (4 + 1 - 1) / 1 = 4)
      | 1 => exact (by decide : (1024 + 1024 - 1) / 1024 = 1)
      | 2 => exact (by decide : (8192 + 512 - 1) / 512 = 16)
    have hb0 : (β (⟨0, by decide⟩ : Fin 3)).val < 4 := hb 0
    have hb2 : (β (⟨2, by decide⟩ : Fin 3)).val < 16 := hb 2
    obtain ⟨i, hi⟩ : ∃ i : grid0.Coords, (i 0).val = (β (⟨0, by decide⟩ : Fin 3)).val * 16 + (β (⟨2, by decide⟩ : Fin 3)).val :=
      ⟨fun | ⟨0, _⟩ => ⟨(β (⟨0, by decide⟩ : Fin 3)).val * 16 + (β (⟨2, by decide⟩ : Fin 3)).val, by show _ < 64; omega⟩, rfl⟩
    refine ⟨i, fun a => ?_⟩
    match a with
    | ⟨0, _⟩ => exact (congrFun (index10 i) 0).trans (by show (i 0).val / 16 = _; rw [hi]; omega)
    | ⟨1, _⟩ => exact (congrFun (index10 i) 1).trans (Nat.lt_one_iff.mp (hb 1)).symm
    | ⟨2, _⟩ => exact (congrFun (index10 i) 2).trans (by show (i 0).val % 16 = _; rw [hi]; omega)
  · have ht := t_lt t
    refine (congrFun ((after0_10 m c t).trans (out10_eq (b0 m c t) (b1 m c t) (b2 m c t) (b3 m c t) (b4 m c t) (b5 m c t) _ _ _)) y).trans ?_
    have h0 : (y 0).val < 1 := (y 0).isLt
    have e0 : ((((cfg0.win 10).blk t).view.emb y : S4x1024x8192.Idx) 0 : ℕ) = t.val / 16 :=
      (emb10 t y 0).trans (by rw [index10, ← coords_val t]; show (grid0.coords t 0).val / 16 * 1 + (y 0).val = (grid0.coords t 0).val / 16; omega)
    have e1 : ((((cfg0.win 10).blk t).view.emb y : S4x1024x8192.Idx) 1 : ℕ) = (y 1).val :=
      (emb10 t y 1).trans (by rw [index10]; show 0 * 1024 + (y 1).val = (y 1).val; omega)
    have e2 : ((((cfg0.win 10).blk t).view.emb y : S4x1024x8192.Idx) 2 : ℕ) = t.val % 16 * 512 + (y 2).val :=
      (emb10 t y 2).trans (by rw [index10, ← coords_val t]; rfl)
    refine tileKV_eq m c t (y 2) _ _ _ _ e0 e2 ?_
    show 1024 + ((((cfg0.win 10).blk t).view.emb y : S4x1024x8192.Idx) 1 : ℕ) = 1024 + (0 + (y 1).val)
    rw [e1]; omega

/-- the values'; -/
theorem final11 (c : Dev nD) : (dats m 0 c).arrAt 11 cfg0.N = pT (arg0 m c) (arg1 m c) (arg2 m c) (arg4 m c) 2048 (by omega) := by
  refine (dats m 0 c).arrAt_eq_of_covers 11 _ ?_ fun t hf y => ?_
  · refine Window.covers_of_indexMap_surj _ rfl (fun a => (by decide : ∀ a : Fin 3, 0 < S1x1024x512.size a) a) fun β => ?_
    have hb : ∀ a : Fin 3, (β a).val < (![4, 1, 16] : Fin 3 → ℕ) a := fun a => by
      refine lt_of_lt_of_eq (β a).isLt ?_
      match a with
      | 0 => exact (by decide : (4 + 1 - 1) / 1 = 4)
      | 1 => exact (by decide : (1024 + 1024 - 1) / 1024 = 1)
      | 2 => exact (by decide : (8192 + 512 - 1) / 512 = 16)
    have hb0 : (β (⟨0, by decide⟩ : Fin 3)).val < 4 := hb 0
    have hb2 : (β (⟨2, by decide⟩ : Fin 3)).val < 16 := hb 2
    obtain ⟨i, hi⟩ : ∃ i : grid0.Coords, (i 0).val = (β (⟨0, by decide⟩ : Fin 3)).val * 16 + (β (⟨2, by decide⟩ : Fin 3)).val :=
      ⟨fun | ⟨0, _⟩ => ⟨(β (⟨0, by decide⟩ : Fin 3)).val * 16 + (β (⟨2, by decide⟩ : Fin 3)).val, by show _ < 64; omega⟩, rfl⟩
    refine ⟨i, fun a => ?_⟩
    match a with
    | ⟨0, _⟩ => exact (congrFun (index11 i) 0).trans (by show (i 0).val / 16 = _; rw [hi]; omega)
    | ⟨1, _⟩ => exact (congrFun (index11 i) 1).trans (Nat.lt_one_iff.mp (hb 1)).symm
    | ⟨2, _⟩ => exact (congrFun (index11 i) 2).trans (by show (i 0).val % 16 = _; rw [hi]; omega)
  · have ht := t_lt t
    refine (congrFun ((after0_11 m c t).trans (out11_eq (b0 m c t) (b1 m c t) (b2 m c t) (b3 m c t) (b4 m c t) (b5 m c t) _ _ _)) y).trans ?_
    have h0 : (y 0).val < 1 := (y 0).isLt
    have e0 : ((((cfg0.win 11).blk t).view.emb y : S4x1024x8192.Idx) 0 : ℕ) = t.val / 16 :=
      (emb11 t y 0).trans (by rw [index11, ← coords_val t]; show (grid0.coords t 0).val / 16 * 1 + (y 0).val = (grid0.coords t 0).val / 16; omega)
    have e1 : ((((cfg0.win 11).blk t).view.emb y : S4x1024x8192.Idx) 1 : ℕ) = (y 1).val :=
      (emb11 t y 1).trans (by rw [index11]; show 0 * 1024 + (y 1).val = (y 1).val; omega)
    have e2 : ((((cfg0.win 11).blk t).view.emb y : S4x1024x8192.Idx) 2 : ℕ) = t.val % 16 * 512 + (y 2).val :=
      (emb11 t y 2).trans (by rw [index11, ← coords_val t]; rfl)
    refine tileKV_eq m c t (y 2) _ _ _ _ e0 e2 ?_
    show 2048 + ((((cfg0.win 11).blk t).view.emb y : S4x1024x8192.Idx) 1 : ℕ) = 1024 + (1024 + (y 1).val)
    rw [e1]; omega

/-- the keys' in the larger format; -/
theorem final12 (c : Dev nD) : (dats m 0 c).arrAt 12 cfg0.N = pT (arg0 m c) (arg1 m c) (arg2 m c) (arg4 m c) 1024 (by omega) := by
  refine (dats m 0 c).arrAt_eq_of_covers 12 _ ?_ fun t hf y => ?_
  · refine Window.covers_of_indexMap_surj _ rfl (fun a => (by decide : ∀ a : Fin 3, 0 < S1x1024x512.size a) a) fun β => ?_
    have hb : ∀ a : Fin 3, (β a).val < (![4, 1, 16] : Fin 3 → ℕ) a := fun a => by
      refine lt_of_lt_of_eq (β a).isLt ?_
      match a with
      | 0 => exact (by decide : (4 + 1 - 1) / 1 = 4)
      | 1 => exact (by decide : (1024 + 1024 - 1) / 1024 = 1)
      | 2 => exact (by decide : (8192 + 512 - 1) / 512 = 16)
    have hb0 : (β (⟨0, by decide⟩ : Fin 3)).val < 4 := hb 0
    have hb2 : (β (⟨2, by decide⟩ : Fin 3)).val < 16 := hb 2
    obtain ⟨i, hi⟩ : ∃ i : grid0.Coords, (i 0).val = (β (⟨0, by decide⟩ : Fin 3)).val * 16 + (β (⟨2, by decide⟩ : Fin 3)).val :=
      ⟨fun | ⟨0, _⟩ => ⟨(β (⟨0, by decide⟩ : Fin 3)).val * 16 + (β (⟨2, by decide⟩ : Fin 3)).val, by show _ < 64; omega⟩, rfl⟩
    refine ⟨i, fun a => ?_⟩
    match a with
    | ⟨0, _⟩ => exact (congrFun (index12 i) 0).trans (by show (i 0).val / 16 = _; rw [hi]; omega)
    | ⟨1, _⟩ => exact (congrFun (index12 i) 1).trans (Nat.lt_one_iff.mp (hb 1)).symm
    | ⟨2, _⟩ => exact (congrFun (index12 i) 2).trans (by show (i 0).val % 16 = _; rw [hi]; omega)
  · have ht := t_lt t
    refine (congrFun ((after0_12 m c t).trans (out12_eq (b0 m c t) (b1 m c t) (b2 m c t) (b3 m c t) (b4 m c t) (b5 m c t) _ _ _)) y).trans ?_
    have h0 : (y 0).val < 1 := (y 0).isLt
    have e0 : ((((cfg0.win 12).blk t).view.emb y : S4x1024x8192.Idx) 0 : ℕ) = t.val / 16 :=
      (emb12 t y 0).trans (by rw [index12, ← coords_val t]; show (grid0.coords t 0).val / 16 * 1 + (y 0).val = (grid0.coords t 0).val / 16; omega)
    have e1 : ((((cfg0.win 12).blk t).view.emb y : S4x1024x8192.Idx) 1 : ℕ) = (y 1).val :=
      (emb12 t y 1).trans (by rw [index12]; show 0 * 1024 + (y 1).val = (y 1).val; omega)
    have e2 : ((((cfg0.win 12).blk t).view.emb y : S4x1024x8192.Idx) 2 : ℕ) = t.val % 16 * 512 + (y 2).val :=
      (emb12 t y 2).trans (by rw [index12, ← coords_val t]; rfl)
    refine tileKV_eq m c t (y 2) _ _ _ _ e0 e2 ?_
    show 1024 + ((((cfg0.win 12).blk t).view.emb y : S4x1024x8192.Idx) 1 : ℕ) = 1024 + (0 + (y 1).val)
    rw [e1]; omega

/-- and the values'. -/
theorem final13 (c : Dev nD) : (dats m 0 c).arrAt 13 cfg0.N = pT (arg0 m c) (arg1 m c) (arg2 m c) (arg4 m c) 2048 (by omega) := by
  refine (dats m 0 c).arrAt_eq_of_covers 13 _ ?_ fun t hf y => ?_
  · refine Window.covers_of_indexMap_surj _ rfl (fun a => (by decide : ∀ a : Fin 3, 0 < S1x1024x512.size a) a) fun β => ?_
    have hb : ∀ a : Fin 3, (β a).val < (![4, 1, 16] : Fin 3 → ℕ) a := fun a => by
      refine lt_of_lt_of_eq (β a).isLt ?_
      match a with
      | 0 => exact (by decide : (4 + 1 - 1) / 1 = 4)
      | 1 => exact (by decide : (1024 + 1024 - 1) / 1024 = 1)
      | 2 => exact (by decide : (8192 + 512 - 1) / 512 = 16)
    have hb0 : (β (⟨0, by decide⟩ : Fin 3)).val < 4 := hb 0
    have hb2 : (β (⟨2, by decide⟩ : Fin 3)).val < 16 := hb 2
    obtain ⟨i, hi⟩ : ∃ i : grid0.Coords, (i 0).val = (β (⟨0, by decide⟩ : Fin 3)).val * 16 + (β (⟨2, by decide⟩ : Fin 3)).val :=
      ⟨fun | ⟨0, _⟩ => ⟨(β (⟨0, by decide⟩ : Fin 3)).val * 16 + (β (⟨2, by decide⟩ : Fin 3)).val, by show _ < 64; omega⟩, rfl⟩
    refine ⟨i, fun a => ?_⟩
    match a with
    | ⟨0, _⟩ => exact (congrFun (index13 i) 0).trans (by show (i 0).val / 16 = _; rw [hi]; omega)
    | ⟨1, _⟩ => exact (congrFun (index13 i) 1).trans (Nat.lt_one_iff.mp (hb 1)).symm
    | ⟨2, _⟩ => exact (congrFun (index13 i) 2).trans (by show (i 0).val % 16 = _; rw [hi]; omega)
  · have ht := t_lt t
    refine (congrFun ((after0_13 m c t).trans (out13_eq (b0 m c t) (b1 m c t) (b2 m c t) (b3 m c t) (b4 m c t) (b5 m c t) _ _ _)) y).trans ?_
    have h0 : (y 0).val < 1 := (y 0).isLt
    have e0 : ((((cfg0.win 13).blk t).view.emb y : S4x1024x8192.Idx) 0 : ℕ) = t.val / 16 :=
      (emb13 t y 0).trans (by rw [index13, ← coords_val t]; show (grid0.coords t 0).val / 16 * 1 + (y 0).val = (grid0.coords t 0).val / 16; omega)
    have e1 : ((((cfg0.win 13).blk t).view.emb y : S4x1024x8192.Idx) 1 : ℕ) = (y 1).val :=
      (emb13 t y 1).trans (by rw [index13]; show 0 * 1024 + (y 1).val = (y 1).val; omega)
    have e2 : ((((cfg0.win 13).blk t).view.emb y : S4x1024x8192.Idx) 2 : ℕ) = t.val % 16 * 512 + (y 2).val :=
      (emb13 t y 2).trans (by rw [index13, ← coords_val t]; rfl)
    refine tileKV_eq m c t (y 2) _ _ _ _ e0 e2 ?_
    show 2048 + ((((cfg0.win 13).blk t).view.emb y : S4x1024x8192.Idx) 1 : ℕ) = 1024 + (1024 + (y 1).val)
    rw [e1]; omega

end Cert.ProjectIdeal.Value
-- ==== Proof.ProjectClaims.lean ====
/- The claim about the prompts' projection kernel's values: its five results are its reference's. -/
module

public import proofs.«01_k».proof.Defs
public import proofs.«01_k».proof.Proof.ProjectValue
public import Idealize.ShloMosaic.Lib.Claim

@[expose] public section

set_option maxRecDepth 16384

noncomputable section

namespace Cert.ProjectIdeal.Value

open Idealize.ShloMosaic Idealize.ShloMosaic.TcCoe Idealize.SL.Sem
open Cert.ProjectIdeal Cert.ProjectIdeal.Gen
open Idealize.ShloMosaic.Pointwise

/-- Keys or values turned from positions last to position by position and head by head. -/
def turned (X : FVec Ideal S4x1024x8192 .f32) : FVec Ideal S4x8192x16x64 .f32 :=
  transpose S4x8192x16x64 [0, 3, 1, 2] (shapeCast S4x16x64x8192 X shapeCasts_S4x1024x8192_S4x16x64x8192) transposes_S4x16x64x8192_S4x8192x16x64_0_3_1_2

theorem turned_apply (X : FVec Ideal S4x1024x8192 .f32) (b : Fin 4) (s : Fin 8192) (h : Fin 16) (d : Fin 64) :
    turned X (ix4 b s h d) = X (ix3 b ⟨h.val * 64 + d.val, by omega⟩ s) := by
  pointwise [turned]

theorem turned_pT (a0 : FVec Ideal S33280x1024 .f32) (a1 : FVec Ideal S1024 .f32) (a2 : FVec Ideal S4x6144 .f32) (a4 : FVec Ideal S1024x3072 .f32)
    (off : ℕ) (hoff : off ≤ 2048) : turned (pT a0 a1 a2 a4 off hoff) = pK a0 a1 a2 a4 off hoff := by
  funext i
  rw [eq_ix4 (n0 := 4) (n1 := 8192) (n2 := 16) (n3 := 64) i]
  exact turned_apply _ _ _ _ _

variable (m : (ℓ : Loc nD τ sig) → Buf (Elt Ideal) ℓ) (c : Dev nD)

theorem tail13 (W : Valuation τ sig (Elt Ideal)) : StableHlo.after hostOps1 W (Proc.tc.devRef main_v13) = turned (W (Proc.tc.devRef main_v11_3)) := by
  simp only [hostOps1]
  after_results
  rfl

theorem tail15 (W : Valuation τ sig (Elt Ideal)) : StableHlo.after hostOps1 W (Proc.tc.devRef main_v15) = turned (W (Proc.tc.devRef main_v11_4)) := by
  simp only [hostOps1]
  after_results
  rfl

theorem exit12 : Pipeline.withArrays spec0 c (V0 m c) (fun w => (dats m 0 c).arrAt w cfg0.N) (Proc.tc.devRef main_v11_3) = (dats m 0 c).arrAt 12 cfg0.N :=
  Pipeline.withArrays_arr_shared spec0 c (V0 m c) (fun w => (dats m 0 c).arrAt w cfg0.N)
    ((dats m 0 c).arrAt_sharedIn sharedIn0 (V0 m c) (A_eq m c) cfg0.N) 12

theorem exit13 : Pipeline.withArrays spec0 c (V0 m c) (fun w => (dats m 0 c).arrAt w cfg0.N) (Proc.tc.devRef main_v11_4) = (dats m 0 c).arrAt 13 cfg0.N :=
  Pipeline.withArrays_arr_shared spec0 c (V0 m c) (fun w => (dats m 0 c).arrAt w cfg0.N)
    ((dats m 0 c).arrAt_sharedIn sharedIn0 (V0 m c) (A_eq m c) cfg0.N) 13

/-- The keys, position by position; -/
theorem last13 : Pipeline.afterTail₀ cfgs (dats m) 0 (V0 m) [hostOps1] c main_v13 = pK (arg0 m c) (arg1 m c) (arg2 m c) (arg4 m c) 1024 (by omega) :=
  (tail13 _).trans ((congrArg turned ((exit12 m c).trans (final12 m c))).trans (turned_pT _ _ _ _ _ _))

/-- and the values. -/
theorem last15 : Pipeline.afterTail₀ cfgs (dats m) 0 (V0 m) [hostOps1] c main_v15 = pK (arg0 m c) (arg1 m c) (arg2 m c) (arg4 m c) 2048 (by omega) :=
  (tail15 _).trans ((congrArg turned ((exit13 m c).trans (final13 m c))).trans (turned_pT _ _ _ _ _ _))

end Cert.ProjectIdeal.Value

namespace Cert.Proof.Project

open Idealize.ShloMosaic Idealize.ShloMosaic.TcCoe Idealize.SL.Sem
open Cert.ProjectIdeal.Value

/-- The kernel runs to its five results. -/
theorem kernel_run (m : (ℓ : Loc Cert.ProjectIdeal.nD Cert.ProjectIdeal.τ Cert.ProjectIdeal.sig) → Buf (Elt Ideal) ℓ) (g) :
    θ_run Cert.ProjectIdeal.defs (onTc (τ := Cert.ProjectIdeal.τ) Cert.ProjectIdeal.main) ⟨m, fun _ => 0, g⟩ fun r =>
      ∀ c : Dev Cert.ProjectIdeal.nD,
        r.2.mem ((c.tc : Thread Cert.ProjectIdeal.nD Cert.ProjectIdeal.τ).loc Cert.ProjectIdeal.main_v11_0) = pQ (arg0 m c) (arg1 m c) (arg2 m c) (arg4 m c)
        ∧ r.2.mem ((c.tc : Thread Cert.ProjectIdeal.nD Cert.ProjectIdeal.τ).loc Cert.ProjectIdeal.main_v11_1) = pT (arg0 m c) (arg1 m c) (arg2 m c) (arg4 m c) 1024 (by omega)
        ∧ r.2.mem ((c.tc : Thread Cert.ProjectIdeal.nD Cert.ProjectIdeal.τ).loc Cert.ProjectIdeal.main_v11_2) = pT (arg0 m c) (arg1 m c) (arg2 m c) (arg4 m c) 2048 (by omega)
        ∧ r.2.mem ((c.tc : Thread Cert.ProjectIdeal.nD Cert.ProjectIdeal.τ).loc Cert.ProjectIdeal.main_v13) = pK (arg0 m c) (arg1 m c) (arg2 m c) (arg4 m c) 1024 (by omega)
        ∧ r.2.mem ((c.tc : Thread Cert.ProjectIdeal.nD Cert.ProjectIdeal.τ).loc Cert.ProjectIdeal.main_v15) = pK (arg0 m c) (arg1 m c) (arg2 m c) (arg4 m c) 2048 (by omega) :=
  (θ_run Cert.ProjectIdeal.defs _ _).mono (fun _ hr c => ⟨((hr c).1 9).trans (final9 m c), ((hr c).1 10).trans (final10 m c),
    ((hr c).1 11).trans (final11 m c),
    ((hr c).2 Cert.ProjectIdeal.main_v13 (Pipeline.mem_restRefs_of Cert.ProjectIdeal.main_v13 (by decide) (by decide))).trans (last13 m c),
    ((hr c).2 Cert.ProjectIdeal.main_v15 (Pipeline.mem_restRefs_of Cert.ProjectIdeal.main_v15 (by decide) (by decide))).trans (last15 m c)⟩)
    (Cert.ProjectIdeal.Gen.run_main m g)

theorem algebraic : Cert.algebraic_ProjectIdeal_ProjectReferenceIdeal := by
  intro m g m' g' _ hagree
  refine ⟨fun c => pQ (arg0 m c) (arg1 m c) (arg2 m c) (arg4 m c), fun c => pT (arg0 m c) (arg1 m c) (arg2 m c) (arg4 m c) 1024 (by omega),
    fun c => pT (arg0 m c) (arg1 m c) (arg2 m c) (arg4 m c) 2048 (by omega), fun c => pK (arg0 m c) (arg1 m c) (arg2 m c) (arg4 m c) 1024 (by omega),
    fun c => pK (arg0 m c) (arg1 m c) (arg2 m c) (arg4 m c) 2048 (by omega), ?_, ?_⟩
  · exact (θ_run Cert.ProjectIdeal.defs _ _).mono (fun r h c => ⟨(h.1 c).1, (h.1 c).2.1, (h.1 c).2.2.1, (h.1 c).2.2.2.1, (h.1 c).2.2.2.2, h.2 c⟩)
      (θ_run_and (kernel_run m g) (Cert.ProjectIdeal.Gen.unchanged m g))
  · refine (θ_run Cert.ProjectReferenceIdeal.defs _ _).mono (fun r h c => ⟨(h c).1.trans ?_, (h c).2.1.trans ?_, (h c).2.2.1.trans ?_,
      (h c).2.2.2.1.trans ?_, (h c).2.2.2.2.1.trans ?_, (h c).2.2.2.2.2⟩) (Cert.ProjectReferenceIdeal.Value.run m' g')
    · obtain ⟨h0, h1, h2, _, h4⟩ := hagree c
      rw [h0, h1, h2, h4]
      exact pQ_eq _ _ _ _
    · obtain ⟨h0, h1, h2, _, h4⟩ := hagree c
      rw [h0, h1, h2, h4]
      exact pkt_eq _ _ _ _
    · obtain ⟨h0, h1, h2, _, h4⟩ := hagree c
      rw [h0, h1, h2, h4]
      exact pvt_eq _ _ _ _
    · obtain ⟨h0, h1, h2, _, h4⟩ := hagree c
      rw [h0, h1, h2, h4]
      exact pk_eq _ _ _ _
    · obtain ⟨h0, h1, h2, _, h4⟩ := hagree c
      rw [h0, h1, h2, h4]
      exact pv_eq _ _ _ _

end Cert.Proof.Project
-- ==== Proof.ProjectSampleReference.lean ====
/- The second layer's projections of the samples: what they are in exact numbers, and that the reference computes them. -/
module

public import proofs.«01_k».proof.Proof.Gen.ProjectSampleReferenceIdeal.Run
public import proofs.«01_k».proof.Proof.ProjectReference
public import Idealize.ShloMosaic.Lib.Pointwise

@[expose] public section

set_option maxRecDepth 16384

noncomputable section

namespace Cert.ProjectIdeal.Value

open Idealize.ShloMosaic Idealize.ShloMosaic.TcCoe Idealize.SL.Sem
open Idealize.ShloMosaic.Pointwise
open Cert.DenseIdeal.Value (normed)

open Cert.ProjectSampleReferenceIdeal Cert.ProjectSampleReferenceIdeal.Gen Cert.ProjectSampleReferenceIdeal.Value

section

variable (a0 : FVec Ideal S33280x1024 .f32) (a1 : FVec Ideal S1024 .f32) (a3 : FVec Ideal S16x6144 .f32) (a4 : FVec Ideal S1024x3072 .f32)

/-- The samples' normalised rows, as the reference writes them. -/
def sH : FVec Ideal S16x32x1024 .f32 :=
  (addf (mulf (mulf (mulf (shapeCast _ (extractStridedSlice S512x1024 ![32768, 0] a0 slices_S33280x1024_S512x1024_32768_0) shapeCasts_S512x1024_S16x32x1024) (broadcastInDim S16x32x1024 ![0, 1, 2] bcast_S16x32x1_S16x32x1024_0_1_2 (Host.rsqrt (addf (Host.divf (broadcastInDim S16x32x1 ![0, 1] bcast_S16x32_S16x32x1_0_1 (Host.reduceAdd (mulf (shapeCast _ (extractStridedSlice S512x1024 ![32768, 0] a0 slices_S33280x1024_S512x1024_32768_0) shapeCasts_S512x1024_S16x32x1024) (shapeCast _ (extractStridedSlice S512x1024 ![32768, 0] a0 slices_S33280x1024_S512x1024_32768_0) shapeCasts_S512x1024_S16x32x1024)) (constant S_ .f32 0x00000000#32) reducesTo_S16x32x1024_S16x32_d2 h_S_)) (broadcastInDim S16x32x1 ![] bcast_S_S16x32x1 (constant S_ .f32 0x44800000#32))) (broadcastInDim S16x32x1 ![] bcast_S_S16x32x1 (constant S_ .f32 0x358637BD#32)))))) (broadcastInDim S16x32x1024 ![0, 1, 2] bcast_S1x1x1024_S16x32x1024_0_1_2 (broadcastInDim S1x1x1024 ![2] bcast_S1024_S1x1x1024_2 a1))) (broadcastInDim S16x32x1024 ![0, 1, 2] bcast_S16x1x1024_S16x32x1024_0_1_2 (addf (broadcastInDim S16x1x1024 ![] bcast_S_S16x1x1024 (constant S_ .f32 0x3F800000#32)) (broadcastInDim S16x1x1024 ![0, 2] bcast_S16x1024_S16x1x1024_0_2 (extractStridedSlice S16x1024 ![0, 1024] a3 slices_S16x6144_S16x1024_0_1024))))) (broadcastInDim S16x32x1024 ![0, 1, 2] bcast_S16x1x1024_S16x32x1024_0_1_2 (broadcastInDim S16x1x1024 ![0, 2] bcast_S16x1024_S16x1x1024_0_2 (extractStridedSlice S16x1024 ![0, 0] a3 slices_S16x6144_S16x1024_0_0))))

/-- The samples' projections, as the reference writes them. -/
def sY : FVec Ideal S16x32x3072 .f32 := Host.dotGeneral dot_S16x32x1024_S1024x3072_S16x32x3072_2_0_01_1_n_n none (sH a0 a1 a3) a4

/-- The projection of position `s` of row `b` of the samples, at column `n`. -/
def sOut (b : Fin 16) (s : Fin 32) (n : Fin 3072) : EReal :=
  proj (row (fun k => a0 (ix2 ⟨32768 + (b.val * 32 + s.val), by omega⟩ k)) (fun k => a1 (ix1 k)) (fun k => a3 (ix2 b k))) (fun k n => a4 (ix2 k n)) n

theorem sH_apply (b : Fin 16) (s : Fin 32) (n : Fin 1024) : sH a0 a1 a3 (ix3 b s n) =
    row (fun k => a0 (ix2 ⟨32768 + (b.val * 32 + s.val), by omega⟩ k)) (fun k => a1 (ix1 k)) (fun k => a3 (ix2 b k)) n := by
  pointwise [sH]
  rfl

theorem sY_apply (b : Fin 16) (s : Fin 32) (n : Fin 3072) : sY a0 a1 a3 a4 (ix3 b s n) = sOut a0 a1 a3 a4 b s n := by
  pointwise [sY]
  exact (Finset.sum_congr rfl fun k _ => congrArg (· * a4 (ix2 k n)) (sH_apply a0 a1 a3 b s k))

/-- The queries, scaled, two heads side by side. -/
def sQ : FVec Ideal S8x512x128 .bf16 := fun i =>
  sOut a0 a1 a3 a4 ⟨(i 1).val / 32, by have : (i 1).val < 512 := (i 1).isLt; omega⟩ ⟨(i 1).val % 32, by omega⟩
    ⟨(i 0).val * 128 + (i 2).val, by have : (i 0).val < 8 := (i 0).isLt; have : (i 2).val < 128 := (i 2).isLt; omega⟩ * Ideal.ofBits FTy.f32 0x3E000000#32

/-- The keys and then the values, two heads side by side. -/
def sKV : FVec Ideal S16x512x128 .bf16 := fun i =>
  sOut a0 a1 a3 a4 ⟨(i 1).val / 32, by have : (i 1).val < 512 := (i 1).isLt; omega⟩ ⟨(i 1).val % 32, by omega⟩
    ⟨1024 + ((i 0).val * 128 + (i 2).val), by have : (i 0).val < 16 := (i 0).isLt; have : (i 2).val < 128 := (i 2).isLt; omega⟩

/-- The keys or the values, position by position and head by head: columns `off` and on. -/
def sK (off : ℕ) (hoff : off ≤ 2048) : FVec Ideal S16x32x16x64 .f32 := fun i =>
  sOut a0 a1 a3 a4 (i 0) (i 1) ⟨off + ((i 2).val * 64 + (i 3).val), by
    have : (i 2).val < 16 := (i 2).isLt; have : (i 3).val < 64 := (i 3).isLt; omega⟩

theorem sQ_eq : truncf .bf16 (transpose S8x512x128 [1, 0, 2] (shapeCast _ (mulf (shapeCast _ (extractStridedSlice S16x32x1024 ![0, 0, 0] (sY a0 a1 a3 a4) slices_S16x32x3072_S16x32x1024_0_0_0) shapeCasts_S16x32x1024_S16x32x16x64) (broadcastInDim S16x32x16x64 ![] bcast_S_S16x32x16x64 (constant S_ .f32 0x3E000000#32))) shapeCasts_S16x32x16x64_S512x8x128) transposes_S512x8x128_S8x512x128_1_0_2) bitsLt_bf16_f32 = sQ a0 a1 a3 a4 := by
  funext i
  rw [eq_ix3 (n0 := 8) (n1 := 512) (n2 := 128) i]
  have h0 : (i 0).val < 8 := (i 0).isLt
  have h1 : (i 1).val < 512 := (i 1).isLt
  have h2 : (i 2).val < 128 := (i 2).isLt
  refine Eq.trans (b := sY a0 a1 a3 a4 (ix3 ⟨(i 1).val / 32, by omega⟩ ⟨(i 1).val % 32, by omega⟩
    ⟨((i 0).val * 2 + (i 2).val / 64) * 64 + (i 2).val % 64, by omega⟩) * Ideal.ofBits FTy.f32 0x3E000000#32) (by pointwise []) ?_
  rw [sY_apply]
  refine congrArg (· * Ideal.ofBits FTy.f32 0x3E000000#32) (congrArg (sOut a0 a1 a3 a4 _ _) (Fin.ext ?_))
  show ((i 0).val * 2 + (i 2).val / 64) * 64 + (i 2).val % 64 = (i 0).val * 128 + (i 2).val
  omega

theorem sk_eq : shapeCast _ (extractStridedSlice S16x32x1024 ![0, 0, 1024] (sY a0 a1 a3 a4) slices_S16x32x3072_S16x32x1024_0_0_1024) shapeCasts_S16x32x1024_S16x32x16x64 = sK a0 a1 a3 a4 1024 (by omega) := by
  funext i
  rw [eq_ix4 (n0 := 16) (n1 := 32) (n2 := 16) (n3 := 64) i]
  pointwise []
  exact sY_apply a0 a1 a3 a4 _ _ _

theorem sv_eq : shapeCast _ (extractStridedSlice S16x32x1024 ![0, 0, 2048] (sY a0 a1 a3 a4) slices_S16x32x3072_S16x32x1024_0_0_2048) shapeCasts_S16x32x1024_S16x32x16x64 = sK a0 a1 a3 a4 2048 (by omega) := by
  funext i
  rw [eq_ix4 (n0 := 16) (n1 := 32) (n2 := 16) (n3 := 64) i]
  pointwise []
  exact sY_apply a0 a1 a3 a4 _ _ _

theorem sKV_eq : concatenate S16x512x128 0 [⟨S8x512x128, (truncf .bf16 (transpose S8x512x128 [1, 0, 2] (shapeCast _ (shapeCast _ (extractStridedSlice S16x32x1024 ![0, 0, 1024] (sY a0 a1 a3 a4) slices_S16x32x3072_S16x32x1024_0_0_1024) shapeCasts_S16x32x1024_S16x32x16x64) shapeCasts_S16x32x16x64_S512x8x128) transposes_S512x8x128_S8x512x128_1_0_2) bitsLt_bf16_f32)⟩, ⟨S8x512x128, (truncf .bf16 (transpose S8x512x128 [1, 0, 2] (shapeCast _ (shapeCast _ (extractStridedSlice S16x32x1024 ![0, 0, 2048] (sY a0 a1 a3 a4) slices_S16x32x3072_S16x32x1024_0_0_2048) shapeCasts_S16x32x1024_S16x32x16x64) shapeCasts_S16x32x16x64_S512x8x128) transposes_S512x8x128_S8x512x128_1_0_2) bitsLt_bf16_f32)⟩] concatenates_S8x512x128_S8x512x128_S16x512x128_d0 = sKV a0 a1 a3 a4 := by
  funext i
  rw [eq_ix3 (n0 := 16) (n1 := 512) (n2 := 128) i]
  have h0 : (i 0).val < 16 := (i 0).isLt
  pointwise []
  by_cases h : (i 0).val < 8
  · exact (dif_pos h).trans (sY_apply a0 a1 a3 a4 _ _ _)
  · refine ((dif_neg h).trans (sY_apply a0 a1 a3 a4 _ _ _)).trans (congrArg (sOut a0 a1 a3 a4 _ _) (Fin.ext ?_))
    show 2048 + (((i 0).val - 8) * 128 + (i 2).val) = 1024 + ((i 0).val * 128 + (i 2).val)
    omega

end

end Cert.ProjectIdeal.Value
-- ==== Proof.ProjectSampleTiles.lean ====
/- The samples' projection kernel: its payloads at an index and what its body leaves in its four output blocks. -/
module

public import proofs.«01_k».proof.Proof.Gen.ProjectSampleIdeal.Frame
public import proofs.«01_k».proof.Proof.ProjectTiles
public import proofs.«01_k».proof.Proof.ProjectSampleReference
public import Idealize.ShloMosaic.Lib.Pointwise
public import Idealize.ShloMosaic.Lib.Pipeline.Value

@[expose] public section

set_option maxRecDepth 16384

noncomputable section

namespace Cert.ProjectSampleIdeal.Value

open Idealize.ShloMosaic Idealize.ShloMosaic.TcCoe Idealize.SL.Sem
open Cert.ProjectSampleIdeal Cert.ProjectSampleIdeal.Gen
open Idealize.ShloMosaic.Pointwise
open Cert.ProjectIdeal.Value (tileRow tileQ tileKV zeros2)

section

variable (x : Vec Ideal S512x1024 .f32) (g : Vec Ideal S1x1024 .f32) (sh sc : Vec Ideal S16x1024 .f32)

theorem pay5_apply (r : Fin 512) (n : Fin 1024) : k0_pay5 x g sh sc (ix2 r n) = tileRow x g sh sc r n := by
  pointwise [k0_pay5]
  rfl

theorem pay6_apply (w : Vec Ideal S1024x1024 .bf16) (r : Fin 512) (n : Fin 1024) :
    k0_pay6 x g sh sc w (ix2 r n) = tileQ x g sh sc w r n := by
  pointwise [k0_pay6]
  exact Finset.sum_congr rfl fun k _ => congrArg (· * w (ix2 k n)) (pay5_apply x g sh sc r k)

theorem pay8_apply (w : Vec Ideal S2048x1024 .bf16) (n : Fin 1024) (r : Fin 512) :
    k0_pay8 x g sh sc w (ix2 n r) = tileKV x g sh sc w r ⟨n.val, by omega⟩ := by
  pointwise [k0_pay8, k0_pay7]
  exact Finset.sum_congr rfl fun k _ => (mul_comm _ _).trans (congrArg (· * w (ix2 ⟨n.val, by omega⟩ k)) (pay5_apply x g sh sc r k))

theorem pay9_apply (w : Vec Ideal S2048x1024 .bf16) (n : Fin 1024) (r : Fin 512) :
    k0_pay9 x g sh sc w (ix2 n r) = tileKV x g sh sc w r ⟨1024 + n.val, by omega⟩ := by
  pointwise [k0_pay9, k0_pay7]
  exact Finset.sum_congr rfl fun k _ => (mul_comm _ _).trans (congrArg (· * w (ix2 ⟨1024 + n.val, by omega⟩ k)) (pay5_apply x g sh sc r k))

end

section

variable (y : FVec Ideal S512x1024 .f32) (a : EReal)

theorem pay15_apply (r : Fin 512) (l : Fin 128) : k0_pay15 (F := Ideal) y a (ix3 0 r l) = y (ix2 r ⟨l.val, by omega⟩) * a := by
  pointwise [k0_pay15, k0_pay10]

theorem pay18_apply (r : Fin 512) (l : Fin 128) : k0_pay18 (F := Ideal) y a (ix3 0 r l) = y (ix2 r ⟨128 + l.val, by omega⟩) * a := by
  pointwise [k0_pay18, k0_pay10]

theorem pay10_apply (r : Fin 512) (n : Fin 1024) : k0_pay10 (F := Ideal) y a (ix2 r n) = y (ix2 r n) * a := by
  pointwise [k0_pay10]

end

section

variable (y : FVec Ideal S512x1024 .bf16)

theorem pay2_apply (r : Fin 512) (l : Fin 128) : k0_pay2 y (ix3 0 r l) = y (ix2 r ⟨896 + l.val, by omega⟩) := by
  pointwise [k0_pay2]

theorem pay35_apply (r : Fin 512) (l : Fin 128) : k0_pay35 y (ix3 0 r l) = y (ix2 r ⟨768 + l.val, by omega⟩) := by
  pointwise [k0_pay35]

theorem pay32_apply (r : Fin 512) (l : Fin 128) : k0_pay32 y (ix3 0 r l) = y (ix2 r ⟨640 + l.val, by omega⟩) := by
  pointwise [k0_pay32]

theorem pay28_apply (r : Fin 512) (l : Fin 128) : k0_pay28 y (ix3 0 r l) = y (ix2 r ⟨512 + l.val, by omega⟩) := by
  pointwise [k0_pay28]

theorem pay25_apply (r : Fin 512) (l : Fin 128) : k0_pay25 y (ix3 0 r l) = y (ix2 r ⟨384 + l.val, by omega⟩) := by
  pointwise [k0_pay25]

theorem pay22_apply (r : Fin 512) (l : Fin 128) : k0_pay22 y (ix3 0 r l) = y (ix2 r ⟨256 + l.val, by omega⟩) := by
  pointwise [k0_pay22]

theorem pay4_apply (r : Fin 512) (l : Fin 128) : k0_pay4 y (ix3 0 r l) = y (ix2 r ⟨896 + l.val, by omega⟩) := by
  pointwise [k0_pay4]

theorem pay3_apply (r : Fin 512) (l : Fin 128) : k0_pay3 y (ix3 0 r l) = y (ix2 r ⟨896 + l.val, by omega⟩) := by
  pointwise [k0_pay3]

theorem pay1_apply (r : Fin 512) (l : Fin 128) : k0_pay1 (k0_pay37 y) (ix3 0 r l) = y (ix2 r ⟨768 + l.val, by omega⟩) := by
  pointwise [k0_pay1, k0_pay37]

theorem pay36_apply (r : Fin 512) (l : Fin 128) : k0_pay36 y (ix3 0 r l) = y (ix2 r ⟨768 + l.val, by omega⟩) := by
  pointwise [k0_pay36]

theorem pay34_apply (r : Fin 512) (l : Fin 128) : k0_pay34 y (ix3 0 r l) = y (ix2 r ⟨640 + l.val, by omega⟩) := by
  pointwise [k0_pay34]

theorem pay33_apply (r : Fin 512) (l : Fin 128) : k0_pay33 y (ix3 0 r l) = y (ix2 r ⟨640 + l.val, by omega⟩) := by
  pointwise [k0_pay33]

theorem pay31_apply (r : Fin 512) (l : Fin 128) : k0_pay31 y (ix3 0 r l) = y (ix2 r ⟨512 + l.val, by omega⟩) := by
  pointwise [k0_pay31]

theorem pay30_apply (r : Fin 512) (l : Fin 128) : k0_pay30 (k0_pay29 y) (ix3 0 r l) = y (ix2 r ⟨512 + l.val, by omega⟩) := by
  pointwise [k0_pay30, k0_pay29]

theorem pay27_apply (r : Fin 512) (l : Fin 128) : k0_pay27 y (ix3 0 r l) = y (ix2 r ⟨384 + l.val, by omega⟩) := by
  pointwise [k0_pay27]

theorem pay26_apply (r : Fin 512) (l : Fin 128) : k0_pay26 y (ix3 0 r l) = y (ix2 r ⟨384 + l.val, by omega⟩) := by
  pointwise [k0_pay26]

theorem pay24_apply (r : Fin 512) (l : Fin 128) : k0_pay24 y (ix3 0 r l) = y (ix2 r ⟨256 + l.val, by omega⟩) := by
  pointwise [k0_pay24]

theorem pay23_apply (r : Fin 512) (l : Fin 128) : k0_pay23 y (ix3 0 r l) = y (ix2 r ⟨256 + l.val, by omega⟩) := by
  pointwise [k0_pay23]

end

section

variable (y : FVec Ideal S1024x512 .f32)

theorem pay11_apply (r : Fin 512) (n : Fin 1024) : k0_pay11 y (ix2 r n) = y (ix2 n r) := by
  pointwise [k0_pay11]

theorem pay12_apply (r : Fin 512) (n : Fin 1024) : k0_pay12 y (ix2 r n) = y (ix2 n r) := by
  pointwise [k0_pay12]

theorem pay13_apply (r : Fin 512) (n : Fin 1024) : k0_pay13 y (ix2 r n) = y (ix2 n r) := by
  pointwise [k0_pay13, k0_pay11]

theorem pay14_apply (r : Fin 512) (n : Fin 1024) : k0_pay14 y (ix2 r n) = y (ix2 n r) := by
  pointwise [k0_pay14, k0_pay12]

theorem pay16_apply (r : Fin 512) (l : Fin 128) : k0_pay16 y (ix3 0 r l) = y (ix2 ⟨l.val, by omega⟩ r) := by
  pointwise [k0_pay16, k0_pay13, k0_pay11]

theorem pay17_apply (r : Fin 512) (l : Fin 128) : k0_pay17 y (ix3 0 r l) = y (ix2 ⟨l.val, by omega⟩ r) := by
  pointwise [k0_pay17, k0_pay14, k0_pay12]

theorem pay19_apply (r : Fin 512) (l : Fin 128) : k0_pay19 y (ix3 0 r l) = y (ix2 ⟨128 + l.val, by omega⟩ r) := by
  pointwise [k0_pay19, k0_pay13, k0_pay11]

theorem pay21_apply (r : Fin 512) (l : Fin 128) : k0_pay21 (k0_pay20 y) (ix3 0 r l) = y (ix2 ⟨128 + l.val, by omega⟩ r) := by
  pointwise [k0_pay21, k0_pay20, k0_pay14, k0_pay12]

end

section

variable (x : Vec Ideal S512x1024 .f32) (g : Vec Ideal S1x1024 .f32) (sh sc : Vec Ideal S16x1024 .f32)
  (wq : Vec Ideal S1024x1024 .bf16) (wkvt : Vec Ideal S2048x1024 .bf16)
  (x6 : Vec Ideal S1x1024 .f32) (x7 : Vec Ideal S1024x1 .f32) (x8 : Vec Ideal S256x256 .bf16)

theorem pay38_apply (r : Fin 512) (n : Fin 1024) : k0_pay38 x g sh sc wq wkvt x6 x7 x8 (ix2 r n) = tileQ x g sh sc wq r n := by
  unfold k0_pay38
  rw [View.ld_unit_zero zeros2, View.ld_unit_zero zeros2, View.ld_unit_zero zeros2, View.ld_unit_zero zeros2, View.ld_unit_zero zeros2]
  exact pay6_apply x g sh sc wq r n

theorem pay39_apply (n : Fin 1024) (r : Fin 512) : k0_pay39 x g sh sc wq wkvt x6 x7 x8 (ix2 n r) = tileKV x g sh sc wkvt r ⟨n.val, by omega⟩ := by
  unfold k0_pay39
  rw [View.ld_unit_zero zeros2, View.ld_unit_zero zeros2, View.ld_unit_zero zeros2, View.ld_unit_zero zeros2, View.ld_unit_zero zeros2]
  exact pay8_apply x g sh sc wkvt n r

theorem pay40_apply (n : Fin 1024) (r : Fin 512) : k0_pay40 x g sh sc wq wkvt x6 x7 x8 (ix2 n r) = tileKV x g sh sc wkvt r ⟨1024 + n.val, by omega⟩ := by
  unfold k0_pay40
  rw [View.ld_unit_zero zeros2, View.ld_unit_zero zeros2, View.ld_unit_zero zeros2, View.ld_unit_zero zeros2, View.ld_unit_zero zeros2]
  exact pay9_apply x g sh sc wkvt n r

theorem pay41_apply (r : Fin 512) (n : Fin 1024) : k0_pay41 x g sh sc wq wkvt x6 x7 x8 (ix2 r n) = tileQ x g sh sc wq r n * Ideal.ofBits FTy.f32 0x3E000000#32 := by
  unfold k0_pay41
  exact (pay10_apply _ _ r n).trans (congrArg (· * Ideal.ofBits FTy.f32 0x3E000000#32) (pay38_apply x g sh sc wq wkvt x6 x7 x8 r n))

theorem pay42_apply (r : Fin 512) (n : Fin 1024) : k0_pay42 x g sh sc wq wkvt x6 x7 x8 (ix2 r n) = tileKV x g sh sc wkvt r ⟨n.val, by omega⟩ := by
  unfold k0_pay42
  exact (pay13_apply _ r n).trans (pay39_apply x g sh sc wq wkvt x6 x7 x8 n r)

theorem pay43_apply (r : Fin 512) (n : Fin 1024) : k0_pay43 x g sh sc wq wkvt x6 x7 x8 (ix2 r n) = tileKV x g sh sc wkvt r ⟨1024 + n.val, by omega⟩ := by
  unfold k0_pay43
  exact (pay14_apply _ r n).trans (pay40_apply x g sh sc wq wkvt x6 x7 x8 n r)

/-- The queries' block: 128 columns to a slot. -/
def blockQ : FVec Ideal S8x512x128 .bf16 := fun i => tileQ x g sh sc wq (i 1)
  ⟨(i 0).val * 128 + (i 2).val, by have : (i 0).val < 8 := (i 0).isLt; have : (i 2).val < 128 := (i 2).isLt; omega⟩ * Ideal.ofBits FTy.f32 0x3E000000#32

/-- The keys' and values' block: 128 columns to a slot, the values after the keys. -/
def blockKV : FVec Ideal S16x512x128 .bf16 := fun i => tileKV x g sh sc wkvt (i 1)
  ⟨(i 0).val * 128 + (i 2).val, by have : (i 0).val < 16 := (i 0).isLt; have : (i 2).val < 128 := (i 2).isLt; omega⟩

theorem front (y : S1x512x128.Idx) : y = ix3 0 (y 1) (y 2) := by
  rw [eq_ix3 (n0 := 1) (n1 := 512) (n2 := 128) y]
  refine congrArg (fun z => ix3 z (y 1) (y 2)) (Fin.ext ?_)
  have : (y 0).val < 1 := (y 0).isLt
  show (y 0).val = 0
  omega

/-- A store of one slot agrees with the queries' block; -/
theorem slotQ (p : Fin 8) (w : FVec Ideal S1x512x128 .bf16) (y : S1x512x128.Idx) (e : S8x512x128.Idx)
    (hw : ∀ (r : Fin 512) (l : Fin 128), w (ix3 0 r l) = tileQ x g sh sc wq r ⟨p.val * 128 + l.val, by omega⟩ * Ideal.ofBits FTy.f32 0x3E000000#32)
    (h0 : (e 0).val = p.val) (h1 : (e 1).val = (y 1).val) (h2 : (e 2).val = (y 2).val) : w y = blockQ x g sh sc wq e := by
  rw [front y]
  refine (hw (y 1) (y 2)).trans (congrArg (· * Ideal.ofBits FTy.f32 0x3E000000#32) (congrArg₂ (tileQ x g sh sc wq) (Fin.ext h1.symm) (Fin.ext ?_)))
  show p.val * 128 + (y 2).val = (e 0).val * 128 + (e 2).val
  rw [h0, h2]

/-- and so of the keys and values. -/
theorem slotKV (p : Fin 16) (w : FVec Ideal S1x512x128 .bf16) (y : S1x512x128.Idx) (e : S16x512x128.Idx)
    (hw : ∀ (r : Fin 512) (l : Fin 128), w (ix3 0 r l) = tileKV x g sh sc wkvt r ⟨p.val * 128 + l.val, by omega⟩)
    (h0 : (e 0).val = p.val) (h1 : (e 1).val = (y 1).val) (h2 : (e 2).val = (y 2).val) : w y = blockKV x g sh sc wkvt e := by
  rw [front y]
  refine (hw (y 1) (y 2)).trans (congrArg₂ (tileKV x g sh sc wkvt) (Fin.ext h1.symm) (Fin.ext ?_))
  show p.val * 128 + (y 2).val = (e 0).val * 128 + (e 2).val
  rw [h0, h2]

theorem out9_eq : out0_9 x g sh sc wq wkvt x6 x7 x8 = blockQ x g sh sc wq := by
  funext i
  unfold out0_9
  refine View.canon_apply_of_pieces (Val := Elt Ideal) (blockQ x g sh sc wq) _ ?_ i (cover0_9 _ _ _ _ _ _ _ _ i)
  intro p hp
  simp only [List.mem_cons, List.not_mem_nil, or_false] at hp
  rcases hp with rfl | rfl | rfl | rfl | rfl | rfl | rfl | rfl
  · refine fun y => slotQ x g sh sc wq 7 _ y _ (fun r l => (pay2_apply (k0_pay41 x g sh sc wq wkvt x6 x7 x8) r l).trans ?_) ?_ ?_ ?_
    · refine (pay41_apply x g sh sc wq wkvt x6 x7 x8 r _).trans (congrArg (fun n => tileQ x g sh sc wq r n * Ideal.ofBits FTy.f32 0x3E000000#32) (Fin.ext ?_))
      show 896 + l.val = 7 * 128 + l.val
      omega
    · show 7 + 1 * (y 0).val = 7
      have : (y 0).val < 1 := (y 0).isLt
      omega
    · show 0 + 1 * (y 1).val = (y 1).val
      omega
    · show 0 + 1 * (y 2).val = (y 2).val
      omega
  · refine fun y => slotQ x g sh sc wq 6 _ y _ (fun r l => (pay35_apply (k0_pay41 x g sh sc wq wkvt x6 x7 x8) r l).trans ?_) ?_ ?_ ?_
    · refine (pay41_apply x g sh sc wq wkvt x6 x7 x8 r _).trans (congrArg (fun n => tileQ x g sh sc wq r n * Ideal.ofBits FTy.f32 0x3E000000#32) (Fin.ext ?_))
      show 768 + l.val = 6 * 128 + l.val
      omega
    · show 6 + 1 * (y 0).val = 6
      have : (y 0).val < 1 := (y 0).isLt
      omega
    · show 0 + 1 * (y 1).val = (y 1).val
      omega
    · show 0 + 1 * (y 2).val = (y 2).val
      omega
  · refine fun y => slotQ x g sh sc wq 5 _ y _ (fun r l => (pay32_apply (k0_pay41 x g sh sc wq wkvt x6 x7 x8) r l).trans ?_) ?_ ?_ ?_
    · refine (pay41_apply x g sh sc wq wkvt x6 x7 x8 r _).trans (congrArg (fun n => tileQ x g sh sc wq r n * Ideal.ofBits FTy.f32 0x3E000000#32) (Fin.ext ?_))
      show 640 + l.val = 5 * 128 + l.val
      omega
    · show 5 + 1 * (y 0).val = 5
      have : (y 0).val < 1 := (y 0).isLt
      omega
    · show 0 + 1 * (y 1).val = (y 1).val
      omega
    · show 0 + 1 * (y 2).val = (y 2).val
      omega
  · refine fun y => slotQ x g sh sc wq 4 _ y _ (fun r l => (pay28_apply (k0_pay41 x g sh sc wq wkvt x6 x7 x8) r l).trans ?_) ?_ ?_ ?_
    · refine (pay41_apply x g sh sc wq wkvt x6 x7 x8 r _).trans (congrArg (fun n => tileQ x g sh sc wq r n * Ideal.ofBits FTy.f32 0x3E000000#32) (Fin.ext ?_))
      show 512 + l.val = 4 * 128 + l.val
      omega
    · show 4 + 1 * (y 0).val = 4
      have : (y 0).val < 1 := (y 0).isLt
      omega
    · show 0 + 1 * (y 1).val = (y 1).val
      omega
    · show 0 + 1 * (y 2).val = (y 2).val
      omega
  · refine fun y => slotQ x g sh sc wq 3 _ y _ (fun r l => (pay25_apply (k0_pay41 x g sh sc wq wkvt x6 x7 x8) r l).trans ?_) ?_ ?_ ?_
    · refine (pay41_apply x g sh sc wq wkvt x6 x7 x8 r _).trans (congrArg (fun n => tileQ x g sh sc wq r n * Ideal.ofBits FTy.f32 0x3E000000#32) (Fin.ext ?_))
      show 384 + l.val = 3 * 128 + l.val
      omega
    · show 3 + 1 * (y 0).val = 3
      have : (y 0).val < 1 := (y 0).isLt
      omega
    · show 0 + 1 * (y 1).val = (y 1).val
      omega
    · show 0 + 1 * (y 2).val = (y 2).val
      omega
  · refine fun y => slotQ x g sh sc wq 2 _ y _ (fun r l => (pay22_apply (k0_pay41 x g sh sc wq wkvt x6 x7 x8) r l).trans ?_) ?_ ?_ ?_
    · refine (pay41_apply x g sh sc wq wkvt x6 x7 x8 r _).trans (congrArg (fun n => tileQ x g sh sc wq r n * Ideal.ofBits FTy.f32 0x3E000000#32) (Fin.ext ?_))
      show 256 + l.val = 2 * 128 + l.val
      omega
    · show 2 + 1 * (y 0).val = 2
      have : (y 0).val < 1 := (y 0).isLt
      omega
    · show 0 + 1 * (y 1).val = (y 1).val
      omega
    · show 0 + 1 * (y 2).val = (y 2).val
      omega
  · refine fun y => slotQ x g sh sc wq 1 _ y _ (fun r l => (pay18_apply (k0_pay38 x g sh sc wq wkvt x6 x7 x8) (Ideal.ofBits FTy.f32 0x3E000000#32) r l).trans ?_) ?_ ?_ ?_
    · refine congrArg (· * Ideal.ofBits FTy.f32 0x3E000000#32) ((pay38_apply x g sh sc wq wkvt x6 x7 x8 r _).trans (congrArg (tileQ x g sh sc wq r) (Fin.ext ?_)))
      show 128 + l.val = 1 * 128 + l.val
      omega
    · show 1 + 1 * (y 0).val = 1
      have : (y 0).val < 1 := (y 0).isLt
      omega
    · show 0 + 1 * (y 1).val = (y 1).val
      omega
    · show 0 + 1 * (y 2).val = (y 2).val
      omega
  · refine fun y => slotQ x g sh sc wq 0 _ y _ (fun r l => (pay15_apply (k0_pay38 x g sh sc wq wkvt x6 x7 x8) (Ideal.ofBits FTy.f32 0x3E000000#32) r l).trans ?_) ?_ ?_ ?_
    · refine congrArg (· * Ideal.ofBits FTy.f32 0x3E000000#32) ((pay38_apply x g sh sc wq wkvt x6 x7 x8 r _).trans (congrArg (tileQ x g sh sc wq r) (Fin.ext ?_)))
      show l.val = 0 * 128 + l.val
      omega
    · show 0 + 1 * (y 0).val = 0
      have : (y 0).val < 1 := (y 0).isLt
      omega
    · show 0 + 1 * (y 1).val = (y 1).val
      omega
    · show 0 + 1 * (y 2).val = (y 2).val
      omega

theorem out10_eq : out0_10 x g sh sc wq wkvt x6 x7 x8 = blockKV x g sh sc wkvt := by
  funext i
  unfold out0_10
  refine View.canon_apply_of_pieces (Val := Elt Ideal) (blockKV x g sh sc wkvt) _ ?_ i (cover0_10 _ _ _ _ _ _ _ _ _ _ _ _ _ _ _ _ i)
  intro p hp
  simp only [List.mem_cons, List.not_mem_nil, or_false] at hp
  rcases hp with rfl | rfl | rfl | rfl | rfl | rfl | rfl | rfl | rfl | rfl | rfl | rfl | rfl | rfl | rfl | rfl
  · refine fun y => slotKV x g sh sc wkvt 15 _ y _ (fun r l => (pay4_apply (k0_pay43 x g sh sc wq wkvt x6 x7 x8) r l).trans ?_) ?_ ?_ ?_
    · refine (pay43_apply x g sh sc wq wkvt x6 x7 x8 r _).trans (congrArg (tileKV x g sh sc wkvt r) (Fin.ext ?_))
      show 1024 + (896 + l.val) = 15 * 128 + l.val
      omega
    · show 15 + 1 * (y 0).val = 15
      have : (y 0).val < 1 := (y 0).isLt
      omega
    · show 0 + 1 * (y 1).val = (y 1).val
      omega
    · show 0 + 1 * (y 2).val = (y 2).val
      omega
  · refine fun y => slotKV x g sh sc wkvt 7 _ y _ (fun r l => (pay3_apply (k0_pay42 x g sh sc wq wkvt x6 x7 x8) r l).trans ?_) ?_ ?_ ?_
    · refine (pay42_apply x g sh sc wq wkvt x6 x7 x8 r _).trans (congrArg (tileKV x g sh sc wkvt r) (Fin.ext ?_))
      show 896 + l.val = 7 * 128 + l.val
      omega
    · show 7 + 1 * (y 0).val = 7
      have : (y 0).val < 1 := (y 0).isLt
      omega
    · show 0 + 1 * (y 1).val = (y 1).val
      omega
    · show 0 + 1 * (y 2).val = (y 2).val
      omega
  · refine fun y => slotKV x g sh sc wkvt 14 _ y _ (fun r l => (pay1_apply (k0_pay43 x g sh sc wq wkvt x6 x7 x8) r l).trans ?_) ?_ ?_ ?_
    · refine (pay43_apply x g sh sc wq wkvt x6 x7 x8 r _).trans (congrArg (tileKV x g sh sc wkvt r) (Fin.ext ?_))
      show 1024 + (768 + l.val) = 14 * 128 + l.val
      omega
    · show 14 + 1 * (y 0).val = 14
      have : (y 0).val < 1 := (y 0).isLt
      omega
    · show 0 + 1 * (y 1).val = (y 1).val
      omega
    · show 0 + 1 * (y 2).val = (y 2).val
      omega
  · refine fun y => slotKV x g sh sc wkvt 6 _ y _ (fun r l => (pay36_apply (k0_pay42 x g sh sc wq wkvt x6 x7 x8) r l).trans ?_) ?_ ?_ ?_
    · refine (pay42_apply x g sh sc wq wkvt x6 x7 x8 r _).trans (congrArg (tileKV x g sh sc wkvt r) (Fin.ext ?_))
      show 768 + l.val = 6 * 128 + l.val
      omega
    · show 6 + 1 * (y 0).val = 6
      have : (y 0).val < 1 := (y 0).isLt
      omega
    · show 0 + 1 * (y 1).val = (y 1).val
      omega
    · show 0 + 1 * (y 2).val = (y 2).val
      omega
  · refine fun y => slotKV x g sh sc wkvt 13 _ y _ (fun r l => (pay34_apply (k0_pay43 x g sh sc wq wkvt x6 x7 x8) r l).trans ?_) ?_ ?_ ?_
    · refine (pay43_apply x g sh sc wq wkvt x6 x7 x8 r _).trans (congrArg (tileKV x g sh sc wkvt r) (Fin.ext ?_))
      show 1024 + (640 + l.val) = 13 * 128 + l.val
      omega
    · show 13 + 1 * (y 0).val = 13
      have : (y 0).val < 1 := (y 0).isLt
      omega
    · show 0 + 1 * (y 1).val = (y 1).val
      omega
    · show 0 + 1 * (y 2).val = (y 2).val
      omega
  · refine fun y => slotKV x g sh sc wkvt 5 _ y _ (fun r l => (pay33_apply (k0_pay42 x g sh sc wq wkvt x6 x7 x8) r l).trans ?_) ?_ ?_ ?_
    · refine (pay42_apply x g sh sc wq wkvt x6 x7 x8 r _).trans (congrArg (tileKV x g sh sc wkvt r) (Fin.ext ?_))
      show 640 + l.val = 5 * 128 + l.val
      omega
    · show 5 + 1 * (y 0).val = 5
      have : (y 0).val < 1 := (y 0).isLt
      omega
    · show 0 + 1 * (y 1).val = (y 1).val
      omega
    · show 0 + 1 * (y 2).val = (y 2).val
      omega
  · refine fun y => slotKV x g sh sc wkvt 12 _ y _ (fun r l => (pay31_apply (k0_pay43 x g sh sc wq wkvt x6 x7 x8) r l).trans ?_) ?_ ?_ ?_
    · refine (pay43_apply x g sh sc wq wkvt x6 x7 x8 r _).trans (congrArg (tileKV x g sh sc wkvt r) (Fin.ext ?_))
      show 1024 + (512 + l.val) = 12 * 128 + l.val
      omega
    · show 12 + 1 * (y 0).val = 12
      have : (y 0).val < 1 := (y 0).isLt
      omega
    · show 0 + 1 * (y 1).val = (y 1).val
      omega
    · show 0 + 1 * (y 2).val = (y 2).val
      omega
  · refine fun y => slotKV x g sh sc wkvt 4 _ y _ (fun r l => (pay30_apply (k0_pay42 x g sh sc wq wkvt x6 x7 x8) r l).trans ?_) ?_ ?_ ?_
    · refine (pay42_apply x g sh sc wq wkvt x6 x7 x8 r _).trans (congrArg (tileKV x g sh sc wkvt r) (Fin.ext ?_))
      show 512 + l.val = 4 * 128 + l.val
      omega
    · show 4 + 1 * (y 0).val = 4
      have : (y 0).val < 1 := (y 0).isLt
      omega
    · show 0 + 1 * (y 1).val = (y 1).val
      omega
    · show 0 + 1 * (y 2).val = (y 2).val
      omega
  · refine fun y => slotKV x g sh sc wkvt 11 _ y _ (fun r l => (pay27_apply (k0_pay43 x g sh sc wq wkvt x6 x7 x8) r l).trans ?_) ?_ ?_ ?_
    · refine (pay43_apply x g sh sc wq wkvt x6 x7 x8 r _).trans (congrArg (tileKV x g sh sc wkvt r) (Fin.ext ?_))
      show 1024 + (384 + l.val) = 11 * 128 + l.val
      omega
    · show 11 + 1 * (y 0).val = 11
      have : (y 0).val < 1 := (y 0).isLt
      omega
    · show 0 + 1 * (y 1).val = (y 1).val
      omega
    · show 0 + 1 * (y 2).val = (y 2).val
      omega
  · refine fun y => slotKV x g sh sc wkvt 3 _ y _ (fun r l => (pay26_apply (k0_pay42 x g sh sc wq wkvt x6 x7 x8) r l).trans ?_) ?_ ?_ ?_
    · refine (pay42_apply x g sh sc wq wkvt x6 x7 x8 r _).trans (congrArg (tileKV x g sh sc wkvt r) (Fin.ext ?_))
      show 384 + l.val = 3 * 128 + l.val
      omega
    · show 3 + 1 * (y 0).val = 3
      have : (y 0).val < 1 := (y 0).isLt
      omega
    · show 0 + 1 * (y 1).val = (y 1).val
      omega
    · show 0 + 1 * (y 2).val = (y 2).val
      omega
  · refine fun y => slotKV x g sh sc wkvt 10 _ y _ (fun r l => (pay24_apply (k0_pay43 x g sh sc wq wkvt x6 x7 x8) r l).trans ?_) ?_ ?_ ?_
    · refine (pay43_apply x g sh sc wq wkvt x6 x7 x8 r _).trans (congrArg (tileKV x g sh sc wkvt r) (Fin.ext ?_))
      show 1024 + (256 + l.val) = 10 * 128 + l.val
      omega
    · show 10 + 1 * (y 0).val = 10
      have : (y 0).val < 1 := (y 0).isLt
      omega
    · show 0 + 1 * (y 1).val = (y 1).val
      omega
    · show 0 + 1 * (y 2).val = (y 2).val
      omega
  · refine fun y => slotKV x g sh sc wkvt 2 _ y _ (fun r l => (pay23_apply (k0_pay42 x g sh sc wq wkvt x6 x7 x8) r l).trans ?_) ?_ ?_ ?_
    · refine (pay42_apply x g sh sc wq wkvt x6 x7 x8 r _).trans (congrArg (tileKV x g sh sc wkvt r) (Fin.ext ?_))
      show 256 + l.val = 2 * 128 + l.val
      omega
    · show 2 + 1 * (y 0).val = 2
      have : (y 0).val < 1 := (y 0).isLt
      omega
    · show 0 + 1 * (y 1).val = (y 1).val
      omega
    · show 0 + 1 * (y 2).val = (y 2).val
      omega
  · refine fun y => slotKV x g sh sc wkvt 9 _ y _ (fun r l => (pay21_apply (k0_pay40 x g sh sc wq wkvt x6 x7 x8) r l).trans ?_) ?_ ?_ ?_
    · refine (pay40_apply x g sh sc wq wkvt x6 x7 x8 _ r).trans (congrArg (tileKV x g sh sc wkvt r) (Fin.ext ?_))
      show 1024 + (128 + l.val) = 9 * 128 + l.val
      omega
    · show 9 + 1 * (y 0).val = 9
      have : (y 0).val < 1 := (y 0).isLt
      omega
    · show 0 + 1 * (y 1).val = (y 1).val
      omega
    · show 0 + 1 * (y 2).val = (y 2).val
      omega
  · refine fun y => slotKV x g sh sc wkvt 1 _ y _ (fun r l => (pay19_apply (k0_pay39 x g sh sc wq wkvt x6 x7 x8) r l).trans ?_) ?_ ?_ ?_
    · refine (pay39_apply x g sh sc wq wkvt x6 x7 x8 _ r).trans (congrArg (tileKV x g sh sc wkvt r) (Fin.ext ?_))
      show 128 + l.val = 1 * 128 + l.val
      omega
    · show 1 + 1 * (y 0).val = 1
      have : (y 0).val < 1 := (y 0).isLt
      omega
    · show 0 + 1 * (y 1).val = (y 1).val
      omega
    · show 0 + 1 * (y 2).val = (y 2).val
      omega
  · refine fun y => slotKV x g sh sc wkvt 8 _ y _ (fun r l => (pay17_apply (k0_pay40 x g sh sc wq wkvt x6 x7 x8) r l).trans ?_) ?_ ?_ ?_
    · refine (pay40_apply x g sh sc wq wkvt x6 x7 x8 _ r).trans (congrArg (tileKV x g sh sc wkvt r) (Fin.ext ?_))
      show 1024 + (l.val) = 8 * 128 + l.val
      omega
    · show 8 + 1 * (y 0).val = 8
      have : (y 0).val < 1 := (y 0).isLt
      omega
    · show 0 + 1 * (y 1).val = (y 1).val
      omega
    · show 0 + 1 * (y 2).val = (y 2).val
      omega
  · refine fun y => slotKV x g sh sc wkvt 0 _ y _ (fun r l => (pay16_apply (k0_pay39 x g sh sc wq wkvt x6 x7 x8) r l).trans ?_) ?_ ?_ ?_
    · refine (pay39_apply x g sh sc wq wkvt x6 x7 x8 _ r).trans (congrArg (tileKV x g sh sc wkvt r) (Fin.ext ?_))
      show l.val = 0 * 128 + l.val
      omega
    · show 0 + 1 * (y 0).val = 0
      have : (y 0).val < 1 := (y 0).isLt
      omega
    · show 0 + 1 * (y 1).val = (y 1).val
      omega
    · show 0 + 1 * (y 2).val = (y 2).val
      omega

/-- The keys' block in the larger format, or the values'. -/
def blockF (off : ℕ) (hoff : off ≤ 1024) : FVec Ideal S512x1024 .f32 := fun i => tileKV x g sh sc wkvt (i 0)
  ⟨off + (i 1).val, by have : (i 1).val < 1024 := (i 1).isLt; omega⟩

theorem out11_eq : out0_11 x g sh sc wq wkvt x6 x7 x8 = blockF x g sh sc wkvt 0 (by omega) := by
  funext i
  unfold out0_11
  rw [View.canon_unit_zero zeros2]
  rw [eq_ix2 (n0 := 512) (n1 := 1024) i]
  refine (pay11_apply _ (i 0) (i 1)).trans ((pay39_apply x g sh sc wq wkvt x6 x7 x8 (i 1) (i 0)).trans ?_)
  exact congrArg (tileKV x g sh sc wkvt (i 0)) (Fin.ext (Nat.zero_add _).symm)

theorem out12_eq : out0_12 x g sh sc wq wkvt x6 x7 x8 = blockF x g sh sc wkvt 1024 (by omega) := by
  funext i
  unfold out0_12
  rw [View.canon_unit_zero zeros2]
  rw [eq_ix2 (n0 := 512) (n1 := 1024) i]
  exact (pay12_apply _ (i 0) (i 1)).trans (pay40_apply x g sh sc wq wkvt x6 x7 x8 (i 1) (i 0))

end

end Cert.ProjectSampleIdeal.Value
-- ==== Proof.ProjectSampleValue.lean ====
/- The arrays the projection kernel of the samples leaves. -/
module

public import proofs.«01_k».proof.Proof.ProjectSampleTiles
public import Idealize.ShloMosaic.Lib.Pipeline.Covers

@[expose] public section

set_option maxRecDepth 16384

noncomputable section

namespace Cert.ProjectSampleIdeal.Value

open Idealize.ShloMosaic Idealize.ShloMosaic.TcCoe Idealize.SL.Sem
open Cert.ProjectSampleIdeal Cert.ProjectSampleIdeal.Gen
open Idealize.ShloMosaic.Pipeline (Dat Cfg Window)
open Idealize.ShloMosaic.Pointwise
open Cert.ProjectIdeal.Value (row proj tileRow tileQ tileKV sOut sQ sKV sK)

variable (m : (ℓ : Loc nD τ sig) → Buf (Elt Ideal) ℓ)

/-- The arguments: the stream, the gain, the samples' modulation and the weights. -/
def arg0 (c : Dev nD) : FVec Ideal S33280x1024 .f32 := m ((c : Thread nD τ).loc main_arg0)
def arg1 (c : Dev nD) : FVec Ideal S1024 .f32 := m ((c : Thread nD τ).loc main_arg1)
def arg3 (c : Dev nD) : FVec Ideal S16x6144 .f32 := m ((c : Thread nD τ).loc main_arg3)
def arg4 (c : Dev nD) : FVec Ideal S1024x3072 .f32 := m ((c : Thread nD τ).loc main_arg4)

theorem index0 : ∀ t : Fin grid0.N, cc0_transform_0 (grid0.coords t) = ![64, 0] := by decide +kernel
theorem index2 : ∀ t : Fin grid0.N, cc0_transform_2 (grid0.coords t) = ![0, 0] := by decide +kernel
theorem index3 : ∀ t : Fin grid0.N, cc0_transform_3 (grid0.coords t) = ![0, 1] := by decide +kernel
theorem index9 : ∀ i : grid0.Coords, cc0_transform_9 i = ![0, 0, 0] := by decide +kernel
theorem index10 : ∀ i : grid0.Coords, cc0_transform_10 i = ![0, 0, 0] := by decide +kernel
theorem index11 : ∀ i : grid0.Coords, cc0_transform_11 i = ![0, 0] := by decide +kernel
theorem index12 : ∀ i : grid0.Coords, cc0_transform_12 i = ![0, 0] := by decide +kernel

section Arrays

variable (c : Dev nD)

theorem V_x : V m c (Pipeline.arrRef spec0 0) = arg0 m c := by
  entry_read
  rfl

theorem V_g (k : Fin 1024) : (V m c (Pipeline.arrRef spec0 1) : S1x1024.Idx → EReal) (ix2 0 k) = arg1 m c (ix1 k) := by
  show StableHlo.after hostOps0 (fun b => m (c, b)) (Proc.tc.devRef (Pipeline.arrRef spec0 1)) (ix2 0 k) = _
  simp only [hostOps0]
  entry_read
  pointwise [arg1]

theorem V_md (R : Fin 80) (k : Fin 6144) (hR : R.val < 16) : (V m c (Pipeline.arrRef spec0 2) : S80x6144.Idx → EReal) (ix2 R k) =
    arg3 m c (ix2 ⟨R.val, hR⟩ k) := by
  refine Eq.trans (b := if h : R.val < 16 then (m ((c : Thread nD τ).loc main_arg3) (ix2 ⟨R.val, h⟩ k) : EReal)
    else m ((c : Thread nD τ).loc main_arg2) (ix2 ⟨(R.val - 16) / 16, by omega⟩ k)) ?_ (dif_pos hR)
  show StableHlo.after hostOps0 (fun b => m (c, b)) (Proc.tc.devRef (Pipeline.arrRef spec0 2)) (ix2 R k) = _
  simp only [hostOps0]
  entry_read
  pointwise []

theorem V_wq (k n : Fin 1024) : (V m c (Pipeline.arrRef spec0 4) : S1024x1024.Idx → EReal) (ix2 k n) =
    arg4 m c (ix2 k ⟨n.val, by omega⟩) := by
  show StableHlo.after hostOps0 (fun b => m (c, b)) (Proc.tc.devRef (Pipeline.arrRef spec0 4)) (ix2 k n) = _
  simp only [hostOps0]
  entry_read
  pointwise [arg4]

theorem V_wkvt (n : Fin 2048) (k : Fin 1024) : (V m c (Pipeline.arrRef spec0 5) : S2048x1024.Idx → EReal) (ix2 n k) =
    arg4 m c (ix2 k ⟨1024 + n.val, by omega⟩) := by
  show StableHlo.after hostOps0 (fun b => m (c, b)) (Proc.tc.devRef (Pipeline.arrRef spec0 5)) (ix2 n k) = _
  simp only [hostOps0]
  entry_read
  pointwise [arg4]

end Arrays

/-- The blocks of the one point, as the body reads them. -/
def b0 (c : Dev nD) (t : Fin cfg0.N) : Vec Ideal S512x1024 .f32 := iblk m c 0 t
def b1 (c : Dev nD) (t : Fin cfg0.N) : Vec Ideal S1x1024 .f32 := iblk m c 1 t
def b2 (c : Dev nD) (t : Fin cfg0.N) : Vec Ideal S16x1024 .f32 := iblk m c 2 t
def b3 (c : Dev nD) (t : Fin cfg0.N) : Vec Ideal S16x1024 .f32 := iblk m c 3 t
def b4 (c : Dev nD) (t : Fin cfg0.N) : Vec Ideal S1024x1024 .bf16 := iblk m c 4 t
def b5 (c : Dev nD) (t : Fin cfg0.N) : Vec Ideal S2048x1024 .bf16 := iblk m c 5 t

theorem emb0 (t : Fin cfg0.N) (y : S512x1024.Idx) (a : Fin 2) :
    (((cfg0.win 0).blk t).view.emb y a : ℕ) = cc0_transform_0 (grid0.coords t) a * S512x1024.size a + (y a).val :=
  Window.rect_emb_val (cfg0.win 0) t y a rfl

theorem emb1 (t : Fin cfg0.N) (y : S1x1024.Idx) (a : Fin 2) :
    (((cfg0.win 1).blk t).view.emb y a : ℕ) = cc0_transform_1 (grid0.coords t) a * S1x1024.size a + (y a).val :=
  Window.rect_emb_val (cfg0.win 1) t y a rfl

theorem emb2 (t : Fin cfg0.N) (y : S16x1024.Idx) (a : Fin 2) :
    (((cfg0.win 2).blk t).view.emb y a : ℕ) = cc0_transform_2 (grid0.coords t) a * S16x1024.size a + (y a).val :=
  Window.rect_emb_val (cfg0.win 2) t y a rfl

theorem emb3 (t : Fin cfg0.N) (y : S16x1024.Idx) (a : Fin 2) :
    (((cfg0.win 3).blk t).view.emb y a : ℕ) = cc0_transform_3 (grid0.coords t) a * S16x1024.size a + (y a).val :=
  Window.rect_emb_val (cfg0.win 3) t y a rfl

theorem emb4 (t : Fin cfg0.N) (y : S1024x1024.Idx) (a : Fin 2) :
    (((cfg0.win 4).blk t).view.emb y a : ℕ) = cc0_transform_4 (grid0.coords t) a * S1024x1024.size a + (y a).val :=
  Window.rect_emb_val (cfg0.win 4) t y a rfl

theorem emb5 (t : Fin cfg0.N) (y : S2048x1024.Idx) (a : Fin 2) :
    (((cfg0.win 5).blk t).view.emb y a : ℕ) = cc0_transform_5 (grid0.coords t) a * S2048x1024.size a + (y a).val :=
  Window.rect_emb_val (cfg0.win 5) t y a rfl

theorem emb9 (t : Fin cfg0.N) (y : S8x512x128.Idx) (a : Fin 3) :
    (((cfg0.win 9).blk t).view.emb y a : ℕ) = cc0_transform_9 (grid0.coords t) a * S8x512x128.size a + (y a).val :=
  Window.rect_emb_val (cfg0.win 9) t y a rfl

theorem emb10 (t : Fin cfg0.N) (y : S16x512x128.Idx) (a : Fin 3) :
    (((cfg0.win 10).blk t).view.emb y a : ℕ) = cc0_transform_10 (grid0.coords t) a * S16x512x128.size a + (y a).val :=
  Window.rect_emb_val (cfg0.win 10) t y a rfl

theorem emb11 (t : Fin cfg0.N) (y : S512x1024.Idx) (a : Fin 2) :
    (((cfg0.win 11).blk t).view.emb y a : ℕ) = cc0_transform_11 (grid0.coords t) a * S512x1024.size a + (y a).val :=
  Window.rect_emb_val (cfg0.win 11) t y a rfl

theorem emb12 (t : Fin cfg0.N) (y : S512x1024.Idx) (a : Fin 2) :
    (((cfg0.win 12).blk t).view.emb y a : ℕ) = cc0_transform_12 (grid0.coords t) a * S512x1024.size a + (y a).val :=
  Window.rect_emb_val (cfg0.win 12) t y a rfl

section Blocks

variable (c : Dev nD) (t : Fin cfg0.N)

theorem blk0 (r : Fin 512) (k : Fin 1024) : b0 m c t (ix2 r k) = arg0 m c (ix2 ⟨32768 + r.val, by omega⟩ k) := by
  refine (congrFun (V_x m c) _).trans (congrArg (arg0 m c) (funext fun a => Fin.ext ?_))
  refine (emb0 t (ix2 r k) a).trans ?_
  rw [index0]
  match a with
  | 0 => show 64 * 512 + r.val = 32768 + r.val; omega
  | 1 => show 0 * 1024 + k.val = k.val; omega

theorem blk1 (k : Fin 1024) : b1 m c t (ix2 0 k) = arg1 m c (ix1 k) := by
  refine Eq.trans (congrArg (V m c (Pipeline.arrRef spec0 1)) (funext fun a => Fin.ext ?_)) (V_g m c k)
  refine (emb1 t (ix2 0 k) a).trans ?_
  match a with
  | 0 => rfl
  | 1 => show 0 * 1024 + k.val = k.val; omega

theorem blk2 (b : Fin 16) (n : Fin 1024) : b2 m c t (ix2 b n) = arg3 m c (ix2 b ⟨n.val, by omega⟩) := by
  refine Eq.trans (congrArg (V m c (Pipeline.arrRef spec0 2)) (funext fun a => Fin.ext ?_))
    (V_md m c ⟨b.val, by omega⟩ ⟨n.val, by omega⟩ b.isLt)
  refine (emb2 t (ix2 b n) a).trans ?_
  rw [index2]
  match a with
  | 0 => show 0 * 16 + b.val = b.val; omega
  | 1 => show 0 * 1024 + n.val = n.val; omega

theorem blk3 (b : Fin 16) (n : Fin 1024) : b3 m c t (ix2 b n) = arg3 m c (ix2 b ⟨1024 + n.val, by omega⟩) := by
  refine Eq.trans (congrArg (V m c (Pipeline.arrRef spec0 2)) (funext fun a => Fin.ext ?_))
    (V_md m c ⟨b.val, by omega⟩ ⟨1024 + n.val, by omega⟩ b.isLt)
  refine (emb3 t (ix2 b n) a).trans ?_
  rw [index3]
  match a with
  | 0 => show 0 * 16 + b.val = b.val; omega
  | 1 => show 1 * 1024 + n.val = 1024 + n.val; omega

theorem blk4 (k n : Fin 1024) : b4 m c t (ix2 k n) = arg4 m c (ix2 k ⟨n.val, by omega⟩) := by
  refine Eq.trans (congrArg (V m c (Pipeline.arrRef spec0 4)) (funext fun a => Fin.ext ?_)) (V_wq m c k n)
  refine (emb4 t (ix2 k n) a).trans ?_
  match a with
  | 0 => show 0 * 1024 + k.val = k.val; omega
  | 1 => show 0 * 1024 + n.val = n.val; omega

theorem blk5 (n : Fin 2048) (k : Fin 1024) : b5 m c t (ix2 n k) = arg4 m c (ix2 k ⟨1024 + n.val, by omega⟩) := by
  refine Eq.trans (congrArg (V m c (Pipeline.arrRef spec0 5)) (funext fun a => Fin.ext ?_)) (V_wkvt m c n k)
  refine (emb5 t (ix2 n k) a).trans ?_
  match a with
  | 0 => show 0 * 2048 + n.val = n.val; omega
  | 1 => show 0 * 1024 + k.val = k.val; omega

/-- A row of the tile is its row of the stream, with its sample's modulation. -/
theorem tileRow_eq (r : Fin 512) (b : Fin 16) (s : Fin 32) (hb : b.val = r.val / 32) (hs : s.val = r.val % 32) :
    tileRow (b0 m c t) (b1 m c t) (b2 m c t) (b3 m c t) r =
      row (fun k => arg0 m c (ix2 ⟨32768 + (b.val * 32 + s.val), by omega⟩ k)) (fun k => arg1 m c (ix1 k)) (fun k => arg3 m c (ix2 b k)) := by
  have e : (⟨32768 + r.val, by omega⟩ : Fin 33280) = ⟨32768 + (b.val * 32 + s.val), by omega⟩ :=
    Fin.ext (by show 32768 + r.val = 32768 + (b.val * 32 + s.val); omega)
  have eb : (⟨r.val / 32, by omega⟩ : Fin 16) = b := Fin.ext hb.symm
  unfold tileRow row
  rw [show (fun k => b0 m c t (ix2 r k)) = fun k => arg0 m c (ix2 ⟨32768 + (b.val * 32 + s.val), by omega⟩ k) from funext fun k => (blk0 m c t r k).trans (by rw [e]),
    show (fun k => b1 m c t (ix2 0 k)) = fun k => arg1 m c (ix1 k) from funext fun k => blk1 m c t k,
    show (fun k => b2 m c t (ix2 ⟨r.val / 32, by omega⟩ k)) = fun n => arg3 m c (ix2 b ⟨n.val, by omega⟩) from funext fun k => (blk2 m c t _ k).trans (by rw [eb]),
    show (fun k => b3 m c t (ix2 ⟨r.val / 32, by omega⟩ k)) = fun n => arg3 m c (ix2 b ⟨1024 + n.val, by omega⟩) from funext fun k => (blk3 m c t _ k).trans (by rw [eb])]

theorem tileQ_eq (r : Fin 512) (n : Fin 1024) (b : Fin 16) (s : Fin 32) (n' : Fin 3072) (hb : b.val = r.val / 32)
    (hs : s.val = r.val % 32) (hn : n'.val = n.val) :
    tileQ (b0 m c t) (b1 m c t) (b2 m c t) (b3 m c t) (b4 m c t) r n = sOut (arg0 m c) (arg1 m c) (arg3 m c) (arg4 m c) b s n' := by
  unfold tileQ sOut proj
  rw [tileRow_eq m c t r b s hb hs]
  refine Finset.sum_congr rfl fun k _ => congrArg (_ * ·) ((blk4 m c t k n).trans ?_)
  exact congrArg (fun z => arg4 m c (ix2 k z)) (Fin.ext hn.symm)

theorem tileKV_eq (r : Fin 512) (n : Fin 2048) (b : Fin 16) (s : Fin 32) (n' : Fin 3072) (hb : b.val = r.val / 32)
    (hs : s.val = r.val % 32) (hn : n'.val = 1024 + n.val) :
    tileKV (b0 m c t) (b1 m c t) (b2 m c t) (b3 m c t) (b5 m c t) r n = sOut (arg0 m c) (arg1 m c) (arg3 m c) (arg4 m c) b s n' := by
  unfold tileKV sOut proj
  rw [tileRow_eq m c t r b s hb hs]
  refine Finset.sum_congr rfl fun k _ => congrArg (_ * ·) ((blk5 m c t n k).trans ?_)
  exact congrArg (fun z => arg4 m c (ix2 k z)) (Fin.ext hn.symm)

end Blocks

/-- The keys or values, row by row of the samples. -/
def sF (a0 : FVec Ideal S33280x1024 .f32) (a1 : FVec Ideal S1024 .f32) (a3 : FVec Ideal S16x6144 .f32) (a4 : FVec Ideal S1024x3072 .f32)
    (off : ℕ) (hoff : off ≤ 2048) : FVec Ideal S512x1024 .f32 := fun i =>
  sOut a0 a1 a3 a4 ⟨(i 0).val / 32, by have : (i 0).val < 512 := (i 0).isLt; omega⟩ ⟨(i 0).val % 32, by omega⟩
    ⟨off + (i 1).val, by have : (i 1).val < 1024 := (i 1).isLt; omega⟩

/-- The queries' array. -/
theorem final9 (c : Dev nD) : (dats m 0 c).arrAt 9 cfg0.N = sQ (arg0 m c) (arg1 m c) (arg3 m c) (arg4 m c) := by
  refine (dats m 0 c).arrAt_eq_of_covers 9 _ ?_ fun t hf y => ?_
  · refine Window.covers_of_indexMap_surj _ rfl (fun a => (by decide : ∀ a : Fin 3, 0 < S8x512x128.size a) a) fun β => ?_
    have hb : ∀ a : Fin 3, (β a).val < 1 := fun a => by
      refine lt_of_lt_of_eq (β a).isLt ?_
      match a with
      | 0 => exact (by decide : (8 + 8 - 1) / 8 = 1)
      | 1 => exact (by decide : (512 + 512 - 1) / 512 = 1)
      | 2 => exact (by decide : (128 + 128 - 1) / 128 = 1)
    obtain ⟨i, _⟩ : ∃ i : grid0.Coords, True := ⟨fun | ⟨0, _⟩ => ⟨0, Nat.one_pos⟩, trivial⟩
    refine ⟨i, fun a => ?_⟩
    match a with
    | ⟨0, _⟩ => exact (congrFun (index9 i) 0).trans (Nat.lt_one_iff.mp (hb 0)).symm
    | ⟨1, _⟩ => exact (congrFun (index9 i) 1).trans (Nat.lt_one_iff.mp (hb 1)).symm
    | ⟨2, _⟩ => exact (congrFun (index9 i) 2).trans (Nat.lt_one_iff.mp (hb 2)).symm
  · refine (congrFun ((after0_9 m c t).trans (out9_eq (b0 m c t) (b1 m c t) (b2 m c t) (b3 m c t) (b4 m c t) (b5 m c t) _ _ _)) y).trans ?_
    have e0 : ((((cfg0.win 9).blk t).view.emb y : S8x512x128.Idx) 0 : ℕ) = (y 0).val :=
      (emb9 t y 0).trans (by rw [index9]; show 0 * 8 + (y 0).val = (y 0).val; omega)
    have e1 : ((((cfg0.win 9).blk t).view.emb y : S8x512x128.Idx) 1 : ℕ) = (y 1).val :=
      (emb9 t y 1).trans (by rw [index9]; show 0 * 512 + (y 1).val = (y 1).val; omega)
    have e2 : ((((cfg0.win 9).blk t).view.emb y : S8x512x128.Idx) 2 : ℕ) = (y 2).val :=
      (emb9 t y 2).trans (by rw [index9]; show 0 * 128 + (y 2).val = (y 2).val; omega)
    refine congrArg (· * Ideal.ofBits FTy.f32 0x3E000000#32) (tileQ_eq m c t (y 1) _ _ _ _ ?_ ?_ ?_)
    · show ((((cfg0.win 9).blk t).view.emb y : S8x512x128.Idx) 1 : ℕ) / 32 = (y 1).val / 32
      rw [e1]
    · show ((((cfg0.win 9).blk t).view.emb y : S8x512x128.Idx) 1 : ℕ) % 32 = (y 1).val % 32
      rw [e1]
    · show ((((cfg0.win 9).blk t).view.emb y : S8x512x128.Idx) 0 : ℕ) * 128 + ((((cfg0.win 9).blk t).view.emb y : S8x512x128.Idx) 2 : ℕ) = (y 0).val * 128 + (y 2).val
      rw [e0, e2]

/-- The keys' and values' array. -/
theorem final10 (c : Dev nD) : (dats m 0 c).arrAt 10 cfg0.N = sKV (arg0 m c) (arg1 m c) (arg3 m c) (arg4 m c) := by
  refine (dats m 0 c).arrAt_eq_of_covers 10 _ ?_ fun t hf y => ?_
  · refine Window.covers_of_indexMap_surj _ rfl (fun a => (by decide : ∀ a : Fin 3, 0 < S16x512x128.size a) a) fun β => ?_
    have hb : ∀ a : Fin 3, (β a).val < 1 := fun a => by
      refine lt_of_lt_of_eq (β a).isLt ?_
      match a with
      | 0 => exact (by decide : (16 + 16 - 1) / 16 = 1)
      | 1 => exact (by decide : (512 + 512 - 1) / 512 = 1)
      | 2 => exact (by decide : (128 + 128 - 1) / 128 = 1)
    obtain ⟨i, _⟩ : ∃ i : grid0.Coords, True := ⟨fun | ⟨0, _⟩ => ⟨0, Nat.one_pos⟩, trivial⟩
    refine ⟨i, fun a => ?_⟩
    match a with
    | ⟨0, _⟩ => exact (congrFun (index10 i) 0).trans (Nat.lt_one_iff.mp (hb 0)).symm
    | ⟨1, _⟩ => exact (congrFun (index10 i) 1).trans (Nat.lt_one_iff.mp (hb 1)).symm
    | ⟨2, _⟩ => exact (congrFun (index10 i) 2).trans (Nat.lt_one_iff.mp (hb 2)).symm
  · refine (congrFun ((after0_10 m c t).trans (out10_eq (b0 m c t) (b1 m c t) (b2 m c t) (b3 m c t) (b4 m c t) (b5 m c t) _ _ _)) y).trans ?_
    have e0 : ((((cfg0.win 10).blk t).view.emb y : S16x512x128.Idx) 0 : ℕ) = (y 0).val :=
      (emb10 t y 0).trans (by rw [index10]; show 0 * 16 + (y 0).val = (y 0).val; omega)
    have e1 : ((((cfg0.win 10).blk t).view.emb y : S16x512x128.Idx) 1 : ℕ) = (y 1).val :=
      (emb10 t y 1).trans (by rw [index10]; show 0 * 512 + (y 1).val = (y 1).val; omega)
    have e2 : ((((cfg0.win 10).blk t).view.emb y : S16x512x128.Idx) 2 : ℕ) = (y 2).val :=
      (emb10 t y 2).trans (by rw [index10]; show 0 * 128 + (y 2).val = (y 2).val; omega)
    refine tileKV_eq m c t (y 1) _ _ _ _ ?_ ?_ ?_
    · show ((((cfg0.win 10).blk t).view.emb y : S16x512x128.Idx) 1 : ℕ) / 32 = (y 1).val / 32
      rw [e1]
    · show ((((cfg0.win 10).blk t).view.emb y : S16x512x128.Idx) 1 : ℕ) % 32 = (y 1).val % 32
      rw [e1]
    · show 1024 + (((((cfg0.win 10).blk t).view.emb y : S16x512x128.Idx) 0 : ℕ) * 128 + ((((cfg0.win 10).blk t).view.emb y : S16x512x128.Idx) 2 : ℕ)) = 1024 + ((y 0).val * 128 + (y 2).val)
      rw [e0, e2]

/-- The keys in the larger format; -/
theorem final11 (c : Dev nD) : (dats m 0 c).arrAt 11 cfg0.N = sF (arg0 m c) (arg1 m c) (arg3 m c) (arg4 m c) 1024 (by omega) := by
  refine (dats m 0 c).arrAt_eq_of_covers 11 _ ?_ fun t hf y => ?_
  · refine Window.covers_of_indexMap_surj _ rfl (fun a => (by decide : ∀ a : Fin 2, 0 < S512x1024.size a) a) fun β => ?_
    have hb : ∀ a : Fin 2, (β a).val < 1 := fun a => by
      refine lt_of_lt_of_eq (β a).isLt ?_
      match a with
      | 0 => exact (by decide : (512 + 512 - 1) / 512 = 1)
      | 1 => exact (by decide : (1024 + 1024 - 1) / 1024 = 1)
    obtain ⟨i, _⟩ : ∃ i : grid0.Coords, True := ⟨fun | ⟨0, _⟩ => ⟨0, Nat.one_pos⟩, trivial⟩
    refine ⟨i, fun a => ?_⟩
    match a with
    | ⟨0, _⟩ => exact (congrFun (index11 i) 0).trans (Nat.lt_one_iff.mp (hb 0)).symm
    | ⟨1, _⟩ => exact (congrFun (index11 i) 1).trans (Nat.lt_one_iff.mp (hb 1)).symm
  · refine (congrFun ((after0_11 m c t).trans (out11_eq (b0 m c t) (b1 m c t) (b2 m c t) (b3 m c t) (b4 m c t) (b5 m c t) _ _ _)) y).trans ?_
    have e0 : ((((cfg0.win 11).blk t).view.emb y : S512x1024.Idx) 0 : ℕ) = (y 0).val :=
      (emb11 t y 0).trans (by rw [index11]; show 0 * 512 + (y 0).val = (y 0).val; omega)
    have e1 : ((((cfg0.win 11).blk t).view.emb y : S512x1024.Idx) 1 : ℕ) = (y 1).val :=
      (emb11 t y 1).trans (by rw [index11]; show 0 * 1024 + (y 1).val = (y 1).val; omega)
    refine tileKV_eq m c t (y 0) _ _ _ _ ?_ ?_ ?_
    · show ((((cfg0.win 11).blk t).view.emb y : S512x1024.Idx) 0 : ℕ) / 32 = (y 0).val / 32
      rw [e0]
    · show ((((cfg0.win 11).blk t).view.emb y : S512x1024.Idx) 0 : ℕ) % 32 = (y 0).val % 32
      rw [e0]
    · show 1024 + ((((cfg0.win 11).blk t).view.emb y : S512x1024.Idx) 1 : ℕ) = 1024 + (0 + (y 1).val)
      rw [e1]; omega

/-- and the values. -/
theorem final12 (c : Dev nD) : (dats m 0 c).arrAt 12 cfg0.N = sF (arg0 m c) (arg1 m c) (arg3 m c) (arg4 m c) 2048 (by omega) := by
  refine (dats m 0 c).arrAt_eq_of_covers 12 _ ?_ fun t hf y => ?_
  · refine Window.covers_of_indexMap_surj _ rfl (fun a => (by decide : ∀ a : Fin 2, 0 < S512x1024.size a) a) fun β => ?_
    have hb : ∀ a : Fin 2, (β a).val < 1 := fun a => by
      refine lt_of_lt_of_eq (β a).isLt ?_
      match a with
      | 0 => exact (by decide : (512 + 512 - 1) / 512 = 1)
      | 1 => exact (by decide : (1024 + 1024 - 1) / 1024 = 1)
    obtain ⟨i, _⟩ : ∃ i : grid0.Coords, True := ⟨fun | ⟨0, _⟩ => ⟨0, Nat.one_pos⟩, trivial⟩
    refine ⟨i, fun a => ?_⟩
    match a with
    | ⟨0, _⟩ => exact (congrFun (index12 i) 0).trans (Nat.lt_one_iff.mp (hb 0)).symm
    | ⟨1, _⟩ => exact (congrFun (index12 i) 1).trans (Nat.lt_one_iff.mp (hb 1)).symm
  · refine (congrFun ((after0_12 m c t).trans (out12_eq (b0 m c t) (b1 m c t) (b2 m c t) (b3 m c t) (b4 m c t) (b5 m c t) _ _ _)) y).trans ?_
    have e0 : ((((cfg0.win 12).blk t).view.emb y : S512x1024.Idx) 0 : ℕ) = (y 0).val :=
      (emb12 t y 0).trans (by rw [index12]; show 0 * 512 + (y 0).val = (y 0).val; omega)
    have e1 : ((((cfg0.win 12).blk t).view.emb y : S512x1024.Idx) 1 : ℕ) = (y 1).val :=
      (emb12 t y 1).trans (by rw [index12]; show 0 * 1024 + (y 1).val = (y 1).val; omega)
    refine tileKV_eq m c t (y 0) _ _ _ _ ?_ ?_ ?_
    · show ((((cfg0.win 12).blk t).view.emb y : S512x1024.Idx) 0 : ℕ) / 32 = (y 0).val / 32
      rw [e0]
    · show ((((cfg0.win 12).blk t).view.emb y : S512x1024.Idx) 0 : ℕ) % 32 = (y 0).val % 32
      rw [e0]
    · show 2048 + ((((cfg0.win 12).blk t).view.emb y : S512x1024.Idx) 1 : ℕ) = 1024 + (1024 + (y 1).val)
      rw [e1]; omega

end Cert.ProjectSampleIdeal.Value
-- ==== Proof.ProjectSampleClaims.lean ====
/- The claim about the samples' projection kernel's values: its four results are its reference's. -/
module

public import proofs.«01_k».proof.Defs
public import proofs.«01_k».proof.Proof.ProjectSampleValue
public import Idealize.ShloMosaic.Lib.Claim

@[expose] public section

set_option maxRecDepth 16384

noncomputable section

namespace Cert.ProjectSampleIdeal.Value

open Idealize.ShloMosaic Idealize.ShloMosaic.TcCoe Idealize.SL.Sem
open Cert.ProjectSampleIdeal Cert.ProjectSampleIdeal.Gen
open Idealize.ShloMosaic.Pointwise
open Cert.ProjectIdeal.Value (sOut sQ sKV sK)

/-- Rows of the samples split into sample and position, and columns into heads. -/
def split (X : FVec Ideal S512x1024 .f32) : FVec Ideal S16x32x16x64 .f32 :=
  shapeCast S16x32x16x64 X shapeCasts_S512x1024_S16x32x16x64

theorem split_apply (X : FVec Ideal S512x1024 .f32) (b : Fin 16) (s : Fin 32) (h : Fin 16) (d : Fin 64) :
    split X (ix4 b s h d) = X (ix2 ⟨b.val * 32 + s.val, by omega⟩ ⟨h.val * 64 + d.val, by omega⟩) := by
  pointwise [split]

theorem split_sF (a0 : FVec Ideal S33280x1024 .f32) (a1 : FVec Ideal S1024 .f32) (a3 : FVec Ideal S16x6144 .f32) (a4 : FVec Ideal S1024x3072 .f32)
    (off : ℕ) (hoff : off ≤ 2048) : split (sF a0 a1 a3 a4 off hoff) = sK a0 a1 a3 a4 off hoff := by
  funext i
  rw [eq_ix4 (n0 := 16) (n1 := 32) (n2 := 16) (n3 := 64) i]
  refine (split_apply _ (i 0) (i 1) (i 2) (i 3)).trans ?_
  have h1 : (i 1).val < 32 := (i 1).isLt
  have e0 : ((i 0).val * 32 + (i 1).val) / 32 = (i 0).val := by omega
  have e1 : ((i 0).val * 32 + (i 1).val) % 32 = (i 1).val := by omega
  exact congrArg₂ (fun b s => sOut a0 a1 a3 a4 b s _) (Fin.ext e0) (Fin.ext e1)

variable (m : (ℓ : Loc nD τ sig) → Buf (Elt Ideal) ℓ) (c : Dev nD)

theorem tail12 (W : Valuation τ sig (Elt Ideal)) : StableHlo.after hostOps1 W (Proc.tc.devRef main_v12) = split (W (Proc.tc.devRef main_v11_2)) := by
  simp only [hostOps1]
  after_results
  rfl

theorem tail13 (W : Valuation τ sig (Elt Ideal)) : StableHlo.after hostOps1 W (Proc.tc.devRef main_v13) = split (W (Proc.tc.devRef main_v11_3)) := by
  simp only [hostOps1]
  after_results
  rfl

theorem exit11 : Pipeline.withArrays spec0 c (V0 m c) (fun w => (dats m 0 c).arrAt w cfg0.N) (Proc.tc.devRef main_v11_2) = (dats m 0 c).arrAt 11 cfg0.N :=
  Pipeline.withArrays_arr_shared spec0 c (V0 m c) (fun w => (dats m 0 c).arrAt w cfg0.N)
    ((dats m 0 c).arrAt_sharedIn sharedIn0 (V0 m c) (A_eq m c) cfg0.N) 11

theorem exit12 : Pipeline.withArrays spec0 c (V0 m c) (fun w => (dats m 0 c).arrAt w cfg0.N) (Proc.tc.devRef main_v11_3) = (dats m 0 c).arrAt 12 cfg0.N :=
  Pipeline.withArrays_arr_shared spec0 c (V0 m c) (fun w => (dats m 0 c).arrAt w cfg0.N)
    ((dats m 0 c).arrAt_sharedIn sharedIn0 (V0 m c) (A_eq m c) cfg0.N) 12

/-- The keys, position by position; -/
theorem last12 : Pipeline.afterTail₀ cfgs (dats m) 0 (V0 m) [hostOps1] c main_v12 = sK (arg0 m c) (arg1 m c) (arg3 m c) (arg4 m c) 1024 (by omega) :=
  (tail12 _).trans ((congrArg split ((exit11 m c).trans (final11 m c))).trans (split_sF _ _ _ _ _ _))

/-- and the values. -/
theorem last13 : Pipeline.afterTail₀ cfgs (dats m) 0 (V0 m) [hostOps1] c main_v13 = sK (arg0 m c) (arg1 m c) (arg3 m c) (arg4 m c) 2048 (by omega) :=
  (tail13 _).trans ((congrArg split ((exit12 m c).trans (final12 m c))).trans (split_sF _ _ _ _ _ _))

end Cert.ProjectSampleIdeal.Value

namespace Cert.Proof.ProjectSample

open Idealize.ShloMosaic Idealize.ShloMosaic.TcCoe Idealize.SL.Sem
open Cert.ProjectSampleIdeal.Value
open Cert.ProjectIdeal.Value (sQ sKV sK sQ_eq sKV_eq sk_eq sv_eq)

/-- The kernel runs to its four results. -/
theorem kernel_run (m : (ℓ : Loc Cert.ProjectSampleIdeal.nD Cert.ProjectSampleIdeal.τ Cert.ProjectSampleIdeal.sig) → Buf (Elt Ideal) ℓ) (g) :
    θ_run Cert.ProjectSampleIdeal.defs (onTc (τ := Cert.ProjectSampleIdeal.τ) Cert.ProjectSampleIdeal.main) ⟨m, fun _ => 0, g⟩ fun r =>
      ∀ c : Dev Cert.ProjectSampleIdeal.nD,
        r.2.mem ((c.tc : Thread Cert.ProjectSampleIdeal.nD Cert.ProjectSampleIdeal.τ).loc Cert.ProjectSampleIdeal.main_v11_0) = sQ (arg0 m c) (arg1 m c) (arg3 m c) (arg4 m c)
        ∧ r.2.mem ((c.tc : Thread Cert.ProjectSampleIdeal.nD Cert.ProjectSampleIdeal.τ).loc Cert.ProjectSampleIdeal.main_v11_1) = sKV (arg0 m c) (arg1 m c) (arg3 m c) (arg4 m c)
        ∧ r.2.mem ((c.tc : Thread Cert.ProjectSampleIdeal.nD Cert.ProjectSampleIdeal.τ).loc Cert.ProjectSampleIdeal.main_v12) = sK (arg0 m c) (arg1 m c) (arg3 m c) (arg4 m c) 1024 (by omega)
        ∧ r.2.mem ((c.tc : Thread Cert.ProjectSampleIdeal.nD Cert.ProjectSampleIdeal.τ).loc Cert.ProjectSampleIdeal.main_v13) = sK (arg0 m c) (arg1 m c) (arg3 m c) (arg4 m c) 2048 (by omega) :=
  (θ_run Cert.ProjectSampleIdeal.defs _ _).mono (fun _ hr c => ⟨((hr c).1 9).trans (final9 m c), ((hr c).1 10).trans (final10 m c),
    ((hr c).2 Cert.ProjectSampleIdeal.main_v12 (Pipeline.mem_restRefs_of Cert.ProjectSampleIdeal.main_v12 (by decide) (by decide))).trans (last12 m c),
    ((hr c).2 Cert.ProjectSampleIdeal.main_v13 (Pipeline.mem_restRefs_of Cert.ProjectSampleIdeal.main_v13 (by decide) (by decide))).trans (last13 m c)⟩)
    (Cert.ProjectSampleIdeal.Gen.run_main m g)

theorem algebraic : Cert.algebraic_ProjectSampleIdeal_ProjectSampleReferenceIdeal := by
  intro m g m' g' _ hagree
  refine ⟨fun c => sQ (arg0 m c) (arg1 m c) (arg3 m c) (arg4 m c), fun c => sKV (arg0 m c) (arg1 m c) (arg3 m c) (arg4 m c), fun c => sK (arg0 m c) (arg1 m c) (arg3 m c) (arg4 m c) 1024 (by omega), fun c => sK (arg0 m c) (arg1 m c) (arg3 m c) (arg4 m c) 2048 (by omega), ?_, ?_⟩
  · exact (θ_run Cert.ProjectSampleIdeal.defs _ _).mono (fun r h c => ⟨(h.1 c).1, (h.1 c).2.1, (h.1 c).2.2.1, (h.1 c).2.2.2, h.2 c⟩)
      (θ_run_and (kernel_run m g) (Cert.ProjectSampleIdeal.Gen.unchanged m g))
  · refine (θ_run Cert.ProjectSampleReferenceIdeal.defs _ _).mono (fun r h c => ⟨(h c).1.trans ?_, (h c).2.1.trans ?_, (h c).2.2.1.trans ?_,
      (h c).2.2.2.1.trans ?_, (h c).2.2.2.2⟩) (Cert.ProjectSampleReferenceIdeal.Value.run m' g')
    · obtain ⟨h0, h1, _, h3, h4⟩ := hagree c
      rw [h0, h1, h3, h4]
      exact sQ_eq _ _ _ _
    · obtain ⟨h0, h1, _, h3, h4⟩ := hagree c
      unfold Cert.ProjectSampleReferenceIdeal.Value.res_main_v47
      rw [h0, h1, h3, h4]
      exact sKV_eq _ _ _ _
    · obtain ⟨h0, h1, _, h3, h4⟩ := hagree c
      rw [h0, h1, h3, h4]
      exact sk_eq _ _ _ _
    · obtain ⟨h0, h1, _, h3, h4⟩ := hagree c
      rw [h0, h1, h3, h4]
      exact sv_eq _ _ _ _

end Cert.Proof.ProjectSample
-- ==== Proof.ProjectNormReference.lean ====
/- The first layer's projections of the prompts, with queries and keys normalised head by head: what they are in exact numbers, and that the reference computes them. -/
module

public import proofs.«01_k».proof.Proof.Gen.ProjectNormReferenceIdeal.Run
public import proofs.«01_k».proof.Proof.ProjectReference
public import Idealize.ShloMosaic.Lib.Pointwise

@[expose] public section

set_option maxRecDepth 16384

noncomputable section

namespace Cert.ProjectNormIdeal.Value

open Idealize.ShloMosaic Idealize.ShloMosaic.TcCoe Idealize.SL.Sem
open Idealize.ShloMosaic.Pointwise
open Cert.ProjectIdeal.Value (row proj)

/-- The mean of a head's 64 squares. -/
def headMean (y : Fin 64 → EReal) : EReal := Ideal.div (∑ j : Fin 64, y j * y j) (Ideal.ofBits FTy.f32 0x42800000#32)

/-- A head normalised by its root mean square, with its gain. -/
def headNorm (y g : Fin 64 → EReal) (d : Fin 64) : EReal := y d * Ideal.rsqrt (headMean y + Ideal.ofBits FTy.f32 0x358637BD#32) * g d

open Cert.ProjectNormReferenceIdeal Cert.ProjectNormReferenceIdeal.Gen Cert.ProjectNormReferenceIdeal.Value

section

variable (a0 : FVec Ideal S4x8192x1024 .f32) (a1 : FVec Ideal S1024 .f32) (a2 : FVec Ideal S4x6144 .f32) (a4 : FVec Ideal S1024x3072 .f32) (a5 a6 g : FVec Ideal S64 .f32)
  (X : FVec Ideal S4x8192x16x64 .f32)

/-- The prompts' normalised rows, as the reference writes them. -/
def nH : FVec Ideal S4x8192x1024 .f32 :=
  (addf (mulf (mulf (mulf a0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf a0 a0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a1))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 1024] a2 slices_S4x6144_S4x1024_0_1024))))) (broadcastInDim S4x8192x1024 ![0, 1, 2] bcast_S4x1x1024_S4x8192x1024_0_1_2 (broadcastInDim S4x1x1024 ![0, 2] bcast_S4x1024_S4x1x1024_0_2 (extractStridedSlice S4x1024 ![0, 0] a2 slices_S4x6144_S4x1024_0_0))))

/-- The prompts' projections, as the reference writes them. -/
def nY : FVec Ideal S4x8192x3072 .f32 := Host.dotGeneral dot_S4x8192x1024_S1024x3072_S4x8192x3072_2_0_01_1_n_n none (nH a0 a1 a2) a4

/-- The projection of position `s` of row `b` of the prompts, at column `n`. -/
def nOut (b : Fin 4) (s : Fin 8192) (n : Fin 3072) : EReal :=
  proj (row (fun k => a0 (ix3 b s k)) (fun k => a1 (ix1 k)) (fun k => a2 (ix2 b k))) (fun k n => a4 (ix2 k n)) n

theorem nH_apply (b : Fin 4) (s : Fin 8192) (n : Fin 1024) : nH a0 a1 a2 (ix3 b s n) =
    row (fun k => a0 (ix3 b s k)) (fun k => a1 (ix1 k)) (fun k => a2 (ix2 b k)) n := by
  pointwise [nH]
  rfl

theorem nY_apply (b : Fin 4) (s : Fin 8192) (n : Fin 3072) : nY a0 a1 a2 a4 (ix3 b s n) = nOut a0 a1 a2 a4 b s n := by
  pointwise [nY]
  exact (Finset.sum_congr rfl fun k _ => congrArg (· * a4 (ix2 k n)) (nH_apply a0 a1 a2 b s k))

/-- Heads normalised, as the reference writes it. -/
def nN : FVec Ideal S4x8192x16x64 .f32 :=
  mulf (mulf X (broadcastInDim S4x8192x16x64 ![0, 1, 2, 3] bcast_S4x8192x16x1_S4x8192x16x64_0_1_2_3 (Host.rsqrt (addf (Host.divf (broadcastInDim S4x8192x16x1 ![0, 1, 2] bcast_S4x8192x16_S4x8192x16x1_0_1_2 (Host.reduceAdd (mulf X X) (constant S_ .f32 0x00000000#32) reducesTo_S4x8192x16x64_S4x8192x16_d3 h_S_)) (broadcastInDim S4x8192x16x1 ![] bcast_S_S4x8192x16x1 (constant S_ .f32 0x42800000#32))) (broadcastInDim S4x8192x16x1 ![] bcast_S_S4x8192x16x1 (constant S_ .f32 0x358637BD#32)))))) (broadcastInDim S4x8192x16x64 ![0, 1, 2, 3] bcast_S1x1x1x64_S4x8192x16x64_0_1_2_3 (broadcastInDim S1x1x1x64 ![3] bcast_S64_S1x1x1x64_3 g))

theorem nN_apply (b : Fin 4) (s : Fin 8192) (h : Fin 16) (d : Fin 64) : nN g X (ix4 b s h d) =
    headNorm (fun j => X (ix4 b s h j)) (fun j => g (ix1 j)) d := by
  pointwise [nN]
  rfl

/-- The queries, head by head. -/
def nS0 : FVec Ideal S4x8192x16x64 .f32 :=
  shapeCast _ (extractStridedSlice S4x8192x1024 ![0, 0, 0] (nY a0 a1 a2 a4) slices_S4x8192x3072_S4x8192x1024_0_0_0) shapeCasts_S4x8192x1024_S4x8192x16x64

theorem nS0_apply (b : Fin 4) (s : Fin 8192) (h : Fin 16) (d : Fin 64) : nS0 a0 a1 a2 a4 (ix4 b s h d) =
    nOut a0 a1 a2 a4 b s ⟨0 + (h.val * 64 + d.val), by omega⟩ := by
  refine Eq.trans (b := nY a0 a1 a2 a4 (ix3 b s ⟨0 + (h.val * 64 + d.val), by omega⟩)) ?_ (nY_apply a0 a1 a2 a4 _ _ _)
  pointwise [nS0]

/-- The keys, head by head. -/
def nS1024 : FVec Ideal S4x8192x16x64 .f32 :=
  shapeCast _ (extractStridedSlice S4x8192x1024 ![0, 0, 1024] (nY a0 a1 a2 a4) slices_S4x8192x3072_S4x8192x1024_0_0_1024) shapeCasts_S4x8192x1024_S4x8192x16x64

theorem nS1024_apply (b : Fin 4) (s : Fin 8192) (h : Fin 16) (d : Fin 64) : nS1024 a0 a1 a2 a4 (ix4 b s h d) =
    nOut a0 a1 a2 a4 b s ⟨1024 + (h.val * 64 + d.val), by omega⟩ := by
  refine Eq.trans (b := nY a0 a1 a2 a4 (ix3 b s ⟨1024 + (h.val * 64 + d.val), by omega⟩)) ?_ (nY_apply a0 a1 a2 a4 _ _ _)
  pointwise [nS1024]

/-- The values, head by head. -/
def nS2048 : FVec Ideal S4x8192x16x64 .f32 :=
  shapeCast _ (extractStridedSlice S4x8192x1024 ![0, 0, 2048] (nY a0 a1 a2 a4) slices_S4x8192x3072_S4x8192x1024_0_0_2048) shapeCasts_S4x8192x1024_S4x8192x16x64

theorem nS2048_apply (b : Fin 4) (s : Fin 8192) (h : Fin 16) (d : Fin 64) : nS2048 a0 a1 a2 a4 (ix4 b s h d) =
    nOut a0 a1 a2 a4 b s ⟨2048 + (h.val * 64 + d.val), by omega⟩ := by
  refine Eq.trans (b := nY a0 a1 a2 a4 (ix3 b s ⟨2048 + (h.val * 64 + d.val), by omega⟩)) ?_ (nY_apply a0 a1 a2 a4 _ _ _)
  pointwise [nS2048]

/-- Column `n` of the queries or the keys (those of the projection from `off` on), normalised within its head. -/
def nNorm (off : ℕ) (hoff : off ≤ 2048) (b : Fin 4) (s : Fin 8192) (n : Fin 1024) : EReal :=
  headNorm (fun j => nOut a0 a1 a2 a4 b s ⟨off + (n.val / 64 * 64 + j.val), by omega⟩) (fun j => g (ix1 j)) ⟨n.val % 64, by omega⟩

/-- The queries, normalised and scaled, two heads side by side. -/
def nQ : FVec Ideal S8x32768x128 .bf16 := fun i =>
  nNorm a0 a1 a2 a4 a5 0 (by omega) ⟨(i 1).val / 8192, by have : (i 1).val < 32768 := (i 1).isLt; omega⟩ ⟨(i 1).val % 8192, by omega⟩
    ⟨(i 0).val * 128 + (i 2).val, by have : (i 0).val < 8 := (i 0).isLt; have : (i 2).val < 128 := (i 2).isLt; omega⟩ * Ideal.ofBits FTy.f32 0x3E000000#32

/-- The normalised keys with positions along the last axis, -/
def nKT : FVec Ideal S4x1024x8192 .bf16 := fun i => nNorm a0 a1 a2 a4 a6 1024 (by omega) (i 0) (i 2) (i 1)

/-- and the values. -/
def nVT : FVec Ideal S4x1024x8192 .bf16 := fun i =>
  nOut a0 a1 a2 a4 (i 0) (i 2) ⟨2048 + (i 1).val, by have : (i 1).val < 1024 := (i 1).isLt; omega⟩

/-- The normalised keys of each prompt's last 512 positions, head by head, -/
def nK : FVec Ideal S1x4x512x16x64 .f32 := fun i =>
  nNorm a0 a1 a2 a4 a6 1024 (by omega) (i 1) ⟨7680 + (i 2).val, by have : (i 2).val < 512 := (i 2).isLt; omega⟩
    ⟨(i 3).val * 64 + (i 4).val, by have : (i 3).val < 16 := (i 3).isLt; have : (i 4).val < 64 := (i 4).isLt; omega⟩

/-- and the values of those. -/
def nV : FVec Ideal S1x4x512x16x64 .f32 := fun i =>
  nOut a0 a1 a2 a4 (i 1) ⟨7680 + (i 2).val, by have : (i 2).val < 512 := (i 2).isLt; omega⟩
    ⟨2048 + ((i 3).val * 64 + (i 4).val), by have : (i 3).val < 16 := (i 3).isLt; have : (i 4).val < 64 := (i 4).isLt; omega⟩

theorem nN0_apply (b : Fin 4) (s : Fin 8192) (h : Fin 16) (d : Fin 64) (n : Fin 1024) (hn : n.val = h.val * 64 + d.val) :
    nN a5 (nS0 a0 a1 a2 a4) (ix4 b s h d) = nNorm a0 a1 a2 a4 a5 0 (by omega) b s n := by
  refine (nN_apply a5 _ b s h d).trans ?_
  have e1 : n.val / 64 = h.val := by omega
  have e2 : n.val % 64 = d.val := by omega
  unfold nNorm
  rw [show (⟨n.val % 64, by omega⟩ : Fin 64) = d from Fin.ext e2]
  refine congrArg (fun y => headNorm y (fun j => a5 (ix1 j)) d) (funext fun j => (nS0_apply a0 a1 a2 a4 b s h j).trans ?_)
  refine congrArg (nOut a0 a1 a2 a4 b s) (Fin.ext ?_)
  show 0 + (h.val * 64 + j.val) = 0 + (n.val / 64 * 64 + j.val)
  rw [e1]

theorem nN1024_apply (b : Fin 4) (s : Fin 8192) (h : Fin 16) (d : Fin 64) (n : Fin 1024) (hn : n.val = h.val * 64 + d.val) :
    nN a6 (nS1024 a0 a1 a2 a4) (ix4 b s h d) = nNorm a0 a1 a2 a4 a6 1024 (by omega) b s n := by
  refine (nN_apply a6 _ b s h d).trans ?_
  have e1 : n.val / 64 = h.val := by omega
  have e2 : n.val % 64 = d.val := by omega
  unfold nNorm
  rw [show (⟨n.val % 64, by omega⟩ : Fin 64) = d from Fin.ext e2]
  refine congrArg (fun y => headNorm y (fun j => a6 (ix1 j)) d) (funext fun j => (nS1024_apply a0 a1 a2 a4 b s h j).trans ?_)
  refine congrArg (nOut a0 a1 a2 a4 b s) (Fin.ext ?_)
  show 1024 + (h.val * 64 + j.val) = 1024 + (n.val / 64 * 64 + j.val)
  rw [e1]

theorem nQ_eq : truncf .bf16 (transpose S8x32768x128 [1, 0, 2] (shapeCast _ (mulf (nN a5 (nS0 a0 a1 a2 a4)) (broadcastInDim S4x8192x16x64 ![] bcast_S_S4x8192x16x64 (constant S_ .f32 0x3E000000#32))) shapeCasts_S4x8192x16x64_S32768x8x128) transposes_S32768x8x128_S8x32768x128_1_0_2) bitsLt_bf16_f32 = nQ a0 a1 a2 a4 a5 := by
  funext i
  rw [eq_ix3 (n0 := 8) (n1 := 32768) (n2 := 128) i]
  have h0 : (i 0).val < 8 := (i 0).isLt
  have h1 : (i 1).val < 32768 := (i 1).isLt
  have h2 : (i 2).val < 128 := (i 2).isLt
  refine Eq.trans (b := nN a5 (nS0 a0 a1 a2 a4) (ix4 ⟨(i 1).val / 8192, by omega⟩ ⟨(i 1).val % 8192, by omega⟩
    ⟨(i 0).val * 2 + (i 2).val / 64, by omega⟩ ⟨(i 2).val % 64, by omega⟩) * Ideal.ofBits FTy.f32 0x3E000000#32) (by pointwise []) ?_
  refine congrArg (· * Ideal.ofBits FTy.f32 0x3E000000#32) (nN0_apply a0 a1 a2 a4 a5 _ _ _ _ _ ?_)
  show (i 0).val * 128 + (i 2).val = ((i 0).val * 2 + (i 2).val / 64) * 64 + (i 2).val % 64
  omega

theorem nKT_eq : truncf .bf16 (shapeCast _ (transpose S4x16x64x8192 [0, 2, 3, 1] (nN a6 (nS1024 a0 a1 a2 a4)) transposes_S4x8192x16x64_S4x16x64x8192_0_2_3_1) shapeCasts_S4x16x64x8192_S4x1024x8192) bitsLt_bf16_f32 = nKT a0 a1 a2 a4 a6 := by
  funext i
  rw [eq_ix3 (n0 := 4) (n1 := 1024) (n2 := 8192) i]
  have h1 : (i 1).val < 1024 := (i 1).isLt
  refine Eq.trans (b := nN a6 (nS1024 a0 a1 a2 a4) (ix4 (i 0) (i 2) ⟨(i 1).val / 64, by omega⟩ ⟨(i 1).val % 64, by omega⟩)) (by pointwise []) ?_
  refine nN1024_apply a0 a1 a2 a4 a6 _ _ _ _ _ ?_
  show (i 1).val = (i 1).val / 64 * 64 + (i 1).val % 64
  omega

theorem nVT_eq : truncf .bf16 (shapeCast _ (transpose S4x16x64x8192 [0, 2, 3, 1] (nS2048 a0 a1 a2 a4) transposes_S4x8192x16x64_S4x16x64x8192_0_2_3_1) shapeCasts_S4x16x64x8192_S4x1024x8192) bitsLt_bf16_f32 = nVT a0 a1 a2 a4 := by
  funext i
  rw [eq_ix3 (n0 := 4) (n1 := 1024) (n2 := 8192) i]
  have h1 : (i 1).val < 1024 := (i 1).isLt
  refine Eq.trans (b := nS2048 a0 a1 a2 a4 (ix4 (i 0) (i 2) ⟨(i 1).val / 64, by omega⟩ ⟨(i 1).val % 64, by omega⟩)) (by pointwise []) ?_
  refine (nS2048_apply a0 a1 a2 a4 _ _ _ _).trans (congrArg (nOut a0 a1 a2 a4 _ _) (Fin.ext ?_))
  show 2048 + ((i 1).val / 64 * 64 + (i 1).val % 64) = 2048 + (i 1).val
  omega

theorem nK_eq : broadcastInDim S1x4x512x16x64 ![1, 2, 3, 4] bcast_S4x512x16x64_S1x4x512x16x64_1_2_3_4 (extractStridedSlice S4x512x16x64 ![0, 7680, 0, 0] (nN a6 (nS1024 a0 a1 a2 a4)) slices_S4x8192x16x64_S4x512x16x64_0_7680_0_0) = nK a0 a1 a2 a4 a6 := by
  funext i
  rw [eq_ix5 (n0 := 1) (n1 := 4) (n2 := 512) (n3 := 16) (n4 := 64) i]
  have h2 : (i 2).val < 512 := (i 2).isLt
  refine Eq.trans (b := nN a6 (nS1024 a0 a1 a2 a4) (ix4 (i 1) ⟨7680 + (i 2).val, by omega⟩ (i 3) (i 4))) (by pointwise []) ?_
  exact nN1024_apply a0 a1 a2 a4 a6 _ _ _ _ _ rfl

theorem nV_eq : broadcastInDim S1x4x512x16x64 ![1, 2, 3, 4] bcast_S4x512x16x64_S1x4x512x16x64_1_2_3_4 (extractStridedSlice S4x512x16x64 ![0, 7680, 0, 0] (nS2048 a0 a1 a2 a4) slices_S4x8192x16x64_S4x512x16x64_0_7680_0_0) = nV a0 a1 a2 a4 := by
  funext i
  rw [eq_ix5 (n0 := 1) (n1 := 4) (n2 := 512) (n3 := 16) (n4 := 64) i]
  have h2 : (i 2).val < 512 := (i 2).isLt
  refine Eq.trans (b := nS2048 a0 a1 a2 a4 (ix4 (i 1) ⟨7680 + (i 2).val, by omega⟩ (i 3) (i 4))) (by pointwise []) ?_
  exact nS2048_apply a0 a1 a2 a4 _ _ _ _

end

end Cert.ProjectNormIdeal.Value
-- ==== Proof.ProjectNormMean.lean ====
/- Arithmetic of the head means: real numbers among the extended ones, a mean taken by a table of the heads, and the projection of real inputs. -/
module

public import proofs.«01_k».proof.Proof.ProjectReference
public import Idealize.ShloMosaic.Lib.Pointwise

@[expose] public section

noncomputable section

namespace Cert.ProjectNormIdeal.Value

open Idealize.ShloMosaic
open Cert.ProjectIdeal.Value (row proj)
open Cert.DenseIdeal.Value (normed)

/-- The value is a real number. -/
def Real' (x : EReal) : Prop := ∃ r : ℝ, x = (r : EReal)

theorem Real'.mul {x y : EReal} (hx : Real' x) (hy : Real' y) : Real' (x * y) := by
  obtain ⟨a, rfl⟩ := hx
  obtain ⟨b, rfl⟩ := hy
  exact ⟨a * b, (EReal.coe_mul a b).symm⟩

theorem Real'.add {x y : EReal} (hx : Real' x) (hy : Real' y) : Real' (x + y) := by
  obtain ⟨a, rfl⟩ := hx
  obtain ⟨b, rfl⟩ := hy
  exact ⟨a + b, (EReal.coe_add a b).symm⟩

theorem sum_coe {n : ℕ} (f : Fin n → ℝ) : (∑ k : Fin n, (f k : EReal)) = ((∑ k : Fin n, f k : ℝ) : EReal) :=
  (map_sum (⟨⟨Real.toEReal, rfl⟩, EReal.coe_add⟩ : ℝ →+ EReal) f Finset.univ).symm

theorem Real'.sum {n : ℕ} {f : Fin n → EReal} (h : ∀ k, Real' (f k)) : Real' (∑ k : Fin n, f k) := by
  choose r hr using h
  exact ⟨∑ k, r k, (Finset.sum_congr rfl fun k _ => hr k).trans (sum_coe r)⟩

theorem Real'.one : Real' 1 := ⟨1, rfl⟩

theorem Real'.of_abs {x : EReal} (h : max x (-x) < ⊤) : Real' x := by
  induction x with
  | bot => simp at h
  | top => simp at h
  | coe r => exact ⟨r, rfl⟩

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem rsqrt_pos (a : ℝ) (ha : 0 < a) : Real' (Ideal.rsqrt (a : EReal)) := by
  refine ⟨(Real.sqrt a)⁻¹, ?_⟩
  show (if a < 0 then (⊥ : EReal) else if a = 0 then ⊤ else ((Real.sqrt a)⁻¹ : ℝ)) = _
  rw [if_neg (by linarith), if_neg (by linarith)]

theorem bits_1024 : Ideal.ofBits FTy.f32 0x44800000#32 = ((1024 : ℝ) : EReal) := by
  simp [Ideal.ofBits, Ideal.ieee]
  norm_num
  rw [← EReal.coe_mul]
  norm_num

theorem bits_64 : Ideal.ofBits FTy.f32 0x42800000#32 = ((64 : ℝ) : EReal) := by
  simp [Ideal.ofBits, Ideal.ieee]
  norm_num
  rw [← EReal.coe_mul]
  norm_num

theorem bits_64th : Ideal.ofBits FTy.bf16 0x3C80#16 = ((1 / 64 : ℝ) : EReal) := by
  simp [Ideal.ofBits, Ideal.ieee]
  norm_num
  rw [← EReal.coe_mul]
  norm_num

theorem bits_0 : Ideal.ofBits FTy.bf16 0x0000#16 = 0 := by
  simp [Ideal.ofBits, Ideal.ieee]

theorem bits_top : Ideal.ofBits FTy.f32 0x7F800000#32 = ⊤ := by
  simp [Ideal.ofBits, Ideal.ieee]

theorem bits_eps : ∃ e : ℝ, 0 < e ∧ Ideal.ofBits FTy.f32 0x358637BD#32 = (e : EReal) := by
  refine ⟨_, ?_, by simp [Ideal.ofBits, Ideal.ieee]; rfl⟩
  norm_num

/-- A square's real second part is zero. -/
theorem sub_self' {x : EReal} (hx : Real' x) : x - x = 0 := by
  obtain ⟨a, rfl⟩ := hx
  rw [← EReal.coe_sub, sub_self, EReal.coe_zero]

/-- A row's 64 columns, weighed by the table that has 1/64 within their head and nothing elsewhere, add up to their mean. -/
theorem table_mean (v : Fin 256 → EReal) (hv : ∀ k, Real' (v k)) (q : Fin 4) (w : Fin 256 → EReal)
    (hw : ∀ k, w k = if k.val / 64 = q.val then ((1 / 64 : ℝ) : EReal) else 0) :
    ∑ k : Fin 256, v k * w k = Ideal.div (∑ j : Fin 64, v ⟨q.val * 64 + j.val, by omega⟩) (Ideal.ofBits FTy.f32 0x42800000#32) := by
  choose r hr using hv
  have e1 : ∑ k : Fin 256, v k * w k = ((∑ k : Fin 256, r k * (if k.val / 64 = q.val then 1 / 64 else 0) : ℝ) : EReal) := by
    rw [← sum_coe]
    refine Finset.sum_congr rfl fun k _ => ?_
    rw [hr k, hw k, EReal.coe_mul]
    refine congrArg (_ * ·) ?_
    split
    · rfl
    · rfl
  have e2 : (∑ j : Fin 64, v ⟨q.val * 64 + j.val, by omega⟩) = ((∑ j : Fin 64, r ⟨q.val * 64 + j.val, by omega⟩ : ℝ) : EReal) := by
    rw [← sum_coe]
    exact Finset.sum_congr rfl fun j _ => hr _
  rw [e1, e2, bits_64, div_coe _ _ (by norm_num)]
  refine congrArg Real.toEReal ?_
  have e3 : ∑ k : Fin 256, r k * (if k.val / 64 = q.val then 1 / 64 else 0) =
      ∑ p : Fin 4 × Fin 64, r ⟨p.1.val * 64 + p.2.val, by omega⟩ * (if p.1 = q then 1 / 64 else 0) := by
    refine Eq.symm (Fintype.sum_equiv (finProdFinEquiv (m := 4) (n := 64)) _ _ fun p => ?_)
    have hp : ((finProdFinEquiv (m := 4) (n := 64) p : Fin (4 * 64)).val) = p.2.val + 64 * p.1.val := rfl
    refine congrArg₂ (· * ·) (congrArg r (Fin.ext ?_)) ?_
    · refine Eq.trans ?_ hp.symm
      show p.1.val * 64 + p.2.val = p.2.val + 64 * p.1.val
      omega
    · refine if_congr ?_ rfl rfl
      rw [show ((finProdFinEquiv (m := 4) (n := 64) p : Fin (4 * 64)).val) / 64 = p.1.val by rw [hp]; omega]
      exact Fin.ext_iff
  rw [e3, Fintype.sum_prod_type, Finset.sum_eq_single q]
  · rw [Finset.sum_div]
    refine Finset.sum_congr rfl fun j _ => ?_
    rw [if_pos rfl]
    show r _ * (1 / 64) = r _ / 64
    ring
  · intro b _ hb
    refine Finset.sum_eq_zero fun j _ => ?_
    show r _ * (if b = q then 1 / 64 else 0) = 0
    rw [if_neg hb, mul_zero]
  · intro h
    exact absurd (Finset.mem_univ q) h

/-- The normalised row of real numbers is one. -/
theorem Real'.row {x g : Fin 1024 → EReal} {md : Fin 6144 → EReal} (hx : ∀ k, Real' (x k)) (hg : ∀ k, Real' (g k))
    (hmd : ∀ k : Fin 2048, Real' (md ⟨k.val, by omega⟩)) (n : Fin 1024) : Real' (row x g md n) := by
  have hr : Real' (Ideal.rsqrt (Ideal.div (∑ k : Fin 1024, x k * x k) (Ideal.ofBits FTy.f32 0x44800000#32) + Ideal.ofBits FTy.f32 0x358637BD#32)) := by
    choose r hr using hx
    obtain ⟨e, he, hb⟩ := bits_eps
    rw [show (∑ k : Fin 1024, x k * x k) = ((∑ k : Fin 1024, r k * r k : ℝ) : EReal) by
      rw [← sum_coe]
      exact Finset.sum_congr rfl fun k _ => by rw [hr k, EReal.coe_mul], bits_1024, div_coe _ _ (by norm_num), hb, ← EReal.coe_add]
    refine rsqrt_pos _ ?_
    have h0 : 0 ≤ ∑ k : Fin 1024, r k * r k := Finset.sum_nonneg fun k _ => mul_self_nonneg _
    have h1 : 0 ≤ (∑ k : Fin 1024, r k * r k) / 1024 := div_nonneg h0 (by norm_num)
    linarith
  unfold Cert.ProjectIdeal.Value.row Cert.DenseIdeal.Value.normed
  refine ((((hx n).mul hr).mul (hg n)).mul (Real'.one.add ?_)).add ?_
  · exact hmd ⟨1024 + n.val, by omega⟩
  · exact hmd ⟨n.val, by omega⟩

/-- So is its projection by real weights. -/
theorem Real'.proj {h : Fin 1024 → EReal} {w : Fin 1024 → Fin 3072 → EReal} {n : Fin 3072} (hh : ∀ k, Real' (h k)) (hw : ∀ k, Real' (w k n)) :
    Real' (proj h w n) := Real'.sum fun k => (hh k).mul (hw k)

end Cert.ProjectNormIdeal.Value
-- ==== Proof.ProjectNormPay.lean ====
/- The first layer's projection kernel's payloads at an index. -/
module

public import proofs.«01_k».proof.Proof.Gen.ProjectNormIdeal.Frame
public import proofs.«01_k».proof.Proof.ProjectNormReference
public import proofs.«01_k».proof.Proof.ProjectNormMean
public import proofs.«01_k».proof.Proof.ProjectTiles
public import Idealize.ShloMosaic.Lib.Pointwise

@[expose] public section

set_option maxRecDepth 16384

noncomputable section

namespace Cert.ProjectNormIdeal.Value

open Idealize.ShloMosaic Idealize.ShloMosaic.TcCoe Idealize.SL.Sem
open Cert.ProjectNormIdeal Cert.ProjectNormIdeal.Gen
open Idealize.ShloMosaic.Pointwise
open Cert.DenseIdeal.Value (normed)
open Cert.ProjectIdeal.Value (tileRow tileQ tileKV)

section

variable (x : Vec Ideal S512x1024 .f32) (g : Vec Ideal S1x1024 .f32) (sh sc : Vec Ideal S16x1024 .f32)

theorem pay3_apply (r : Fin 512) (n : Fin 1024) : k0_pay3 x g sh sc (ix2 r n) = tileRow x g sh sc r n := by
  pointwise [k0_pay3]
  rfl

theorem pay4_apply (w : Vec Ideal S1024x1024 .bf16) (r : Fin 512) (n : Fin 1024) :
    k0_pay4 x g sh sc w (ix2 r n) = tileQ x g sh sc w r n := by
  pointwise [k0_pay4]
  exact Finset.sum_congr rfl fun k _ => congrArg (· * w (ix2 k n)) (pay3_apply x g sh sc r k)

theorem pay6_apply (w : Vec Ideal S2048x1024 .bf16) (n : Fin 1024) (r : Fin 512) :
    k0_pay6 x g sh sc w (ix2 n r) = tileKV x g sh sc w r ⟨n.val, by omega⟩ := by
  pointwise [k0_pay6, k0_pay5]
  exact Finset.sum_congr rfl fun k _ => (mul_comm _ _).trans (congrArg (· * w (ix2 ⟨n.val, by omega⟩ k)) (pay3_apply x g sh sc r k))

theorem pay7_apply (w : Vec Ideal S2048x1024 .bf16) (n : Fin 1024) (r : Fin 512) :
    k0_pay7 x g sh sc w (ix2 n r) = tileKV x g sh sc w r ⟨1024 + n.val, by omega⟩ := by
  pointwise [k0_pay7, k0_pay5]
  exact Finset.sum_congr rfl fun k _ => (mul_comm _ _).trans (congrArg (· * w (ix2 ⟨1024 + n.val, by omega⟩ k)) (pay3_apply x g sh sc r k))

end

section

variable (y m e : FVec Ideal S512x1024 .f32) (g : Vec Ideal S1x1024 .f32) (q : FVec Ideal S512x1024 .bf16)

theorem pay12_apply (r : Fin 512) (l : Fin 128) : k0_pay12 y m e g (ix3 0 r l) = k0_pay11 y m e g (ix2 r ⟨l.val, by omega⟩) := by
  pointwise [k0_pay12]

theorem pay13_apply (r : Fin 512) (l : Fin 128) : k0_pay13 y m e g (ix3 0 r l) = k0_pay11 y m e g (ix2 r ⟨128 + l.val, by omega⟩) := by
  pointwise [k0_pay13]

theorem pay14_apply (r : Fin 512) (l : Fin 128) : k0_pay14 y m e g (ix3 0 r l) = k0_pay11 y m e g (ix2 r ⟨256 + l.val, by omega⟩) := by
  pointwise [k0_pay14]

theorem pay16_apply (r : Fin 512) (l : Fin 128) : k0_pay16 (k0_pay15 y m e g) (ix3 0 r l) = k0_pay11 y m e g (ix2 r ⟨384 + l.val, by omega⟩) := by
  pointwise [k0_pay16, k0_pay15]

theorem pay17_apply (r : Fin 512) (l : Fin 128) : k0_pay17 q (ix3 0 r l) = q (ix2 r ⟨512 + l.val, by omega⟩) := by
  pointwise [k0_pay17]

theorem pay18_apply (r : Fin 512) (l : Fin 128) : k0_pay18 q (ix3 0 r l) = q (ix2 r ⟨640 + l.val, by omega⟩) := by
  pointwise [k0_pay18]

theorem pay19_apply (r : Fin 512) (l : Fin 128) : k0_pay19 q (ix3 0 r l) = q (ix2 r ⟨768 + l.val, by omega⟩) := by
  pointwise [k0_pay19]

theorem pay20_apply (r : Fin 512) (l : Fin 128) : k0_pay20 q (ix3 0 r l) = q (ix2 r ⟨896 + l.val, by omega⟩) := by
  pointwise [k0_pay20]

theorem pay11_apply (r : Fin 512) (n : Fin 1024) : k0_pay11 y m e g (ix2 r n) =
    y (ix2 r n) * Ideal.rsqrt (m (ix2 r n) + e (ix2 r n)) * g (ix2 0 n) * Ideal.ofBits FTy.f32 0x3E000000#32 := by
  pointwise [k0_pay11]

theorem pay9_apply (r : Fin 512) (n : Fin 1024) : k0_pay9 (F := Ideal) (ix2 r n) = Ideal.ofBits FTy.f32 0x358637BD#32 := by
  pointwise [k0_pay9]

end

section

variable (y : FVec Ideal S1024x512 .f32)

theorem pay1_apply (n : Fin 1024) (r : Fin 512) : k0_pay1 y (ix3 0 n r) = y (ix2 n r) := by
  pointwise [k0_pay1]

theorem pay2_apply (n : Fin 1024) (r : Fin 512) : k0_pay2 y (ix3 0 n r) = y (ix2 n r) := by
  pointwise [k0_pay2]

theorem pay21_apply (n : Fin 1024) (r : Fin 512) : k0_pay21 y (ix3 0 n r) = y (ix2 n r) := by
  pointwise [k0_pay21]

theorem pay22_apply (n : Fin 1024) (r : Fin 512) : k0_pay22 y (ix3 0 n r) = y (ix2 n r) := by
  pointwise [k0_pay22]

/-- 1024 columns normalised head by head. -/
def heads (y : Fin 1024 → EReal) (g : Fin 64 → EReal) (n : Fin 1024) : EReal :=
  headNorm (fun j => y ⟨n.val / 64 * 64 + j.val, by omega⟩) g ⟨n.val % 64, by omega⟩

/-- The keys, normalised head by head. -/
theorem pay10_apply (kg : Vec Ideal S1024x1 .f32) (g : Fin 64 → EReal) (hg : ∀ n : Fin 1024, kg (ix2 n 0) = g ⟨n.val % 64, by omega⟩)
    (n : Fin 1024) (r : Fin 512) : k0_pay10 y kg (ix2 n r) = heads (fun n => y (ix2 n r)) g n := by
  unfold heads headNorm headMean
  rw [← hg n]
  refine Eq.trans (b := y (ix2 n r) * Ideal.rsqrt (Ideal.div (∑ j : Fin 64, y (ix2 ⟨n.val / 64 * 64 + j.val, by omega⟩ r) * y (ix2 ⟨n.val / 64 * 64 + j.val, by omega⟩ r))
    (Ideal.ofBits FTy.f32 0x42800000#32) + Ideal.ofBits FTy.f32 0x358637BD#32) * kg (ix2 n 0)) ?_ ?_
  · pointwise [k0_pay10]
  · have e : n = ⟨n.val / 64 * 64 + n.val % 64, by omega⟩ := Fin.ext (by show n.val = n.val / 64 * 64 + n.val % 64; omega)
    exact congrArg (fun z => y (ix2 z r) * _ * _) e

end

end Cert.ProjectNormIdeal.Value
-- ==== Proof.ProjectNormCases.lean ====
/- What the body of the first layer's projection kernel leaves in its buffers, in the interior and at a prompt's last point. -/
module

public import proofs.«01_k».proof.Proof.Gen.ProjectNormIdeal.Frame
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.ProjectNormIdeal.Value

open Idealize.ShloMosaic Idealize.ShloMosaic.TcCoe Idealize.SL.Sem
open Cert.ProjectNormIdeal.Gen
open Idealize.ShloMosaic.Pipeline (Dat Cfg Window)

variable {F : FTy → Type} [FloatOps F]

/-- The queries' block, slot by slot. -/
def slots (x0 : Vec F S512x1024 .f32) (x1 : Vec F S1x1024 .f32) (x2 : Vec F S16x1024 .f32) (x3 : Vec F S16x1024 .f32) (x4 : Vec F S1024x1024 .bf16) (x5 : Vec F S2048x1024 .bf16) (x6 : Vec F S1x1024 .f32) (x7 : Vec F S1024x1 .f32) (x8 : Vec F S256x256 .bf16) : Vec F S8x512x128 .bf16 :=
    View.canon [
      ⟨Rect.unit ![7, 0, 0] ![1, 512, 128] inb_S8x512x128_S1x512x128_7_0_0, k0_pay20 (k0_pay11 (k0_pay4 x0 x1 x2 x3 x4) (k0_pay8 (k0_pay4 x0 x1 x2 x3 x4) x8 x8 x8 x8 x8 x8 x8 x8) k0_pay9 x6)⟩,
      ⟨Rect.unit ![6, 0, 0] ![1, 512, 128] inb_S8x512x128_S1x512x128_6_0_0, k0_pay19 (k0_pay11 (k0_pay4 x0 x1 x2 x3 x4) (k0_pay8 (k0_pay4 x0 x1 x2 x3 x4) x8 x8 x8 x8 x8 x8 x8 x8) k0_pay9 x6)⟩,
      ⟨Rect.unit ![5, 0, 0] ![1, 512, 128] inb_S8x512x128_S1x512x128_5_0_0, k0_pay18 (k0_pay11 (k0_pay4 x0 x1 x2 x3 x4) (k0_pay8 (k0_pay4 x0 x1 x2 x3 x4) x8 x8 x8 x8 x8 x8 x8 x8) k0_pay9 x6)⟩,
      ⟨Rect.unit ![4, 0, 0] ![1, 512, 128] inb_S8x512x128_S1x512x128_4_0_0, k0_pay17 (k0_pay11 (k0_pay4 x0 x1 x2 x3 x4) (k0_pay8 (k0_pay4 x0 x1 x2 x3 x4) x8 x8 x8 x8 x8 x8 x8 x8) k0_pay9 x6)⟩,
      ⟨Rect.unit ![3, 0, 0] ![1, 512, 128] inb_S8x512x128_S1x512x128_3_0_0, k0_pay16 (k0_pay15 (k0_pay4 x0 x1 x2 x3 x4) (k0_pay8 (k0_pay4 x0 x1 x2 x3 x4) x8 x8 x8 x8 x8 x8 x8 x8) k0_pay9 x6)⟩,
      ⟨Rect.unit ![2, 0, 0] ![1, 512, 128] inb_S8x512x128_S1x512x128_2_0_0, k0_pay14 (k0_pay4 x0 x1 x2 x3 x4) (k0_pay8 (k0_pay4 x0 x1 x2 x3 x4) x8 x8 x8 x8 x8 x8 x8 x8) k0_pay9 x6⟩,
      ⟨Rect.unit ![1, 0, 0] ![1, 512, 128] inb_S8x512x128_S1x512x128_1_0_0, k0_pay13 (k0_pay4 x0 x1 x2 x3 x4) (k0_pay8 (k0_pay4 x0 x1 x2 x3 x4) x8 x8 x8 x8 x8 x8 x8 x8) k0_pay9 x6⟩,
      ⟨Rect.unit ![0, 0, 0] ![1, 512, 128] inb_S8x512x128_S1x512x128_0_0_0, k0_pay12 (k0_pay4 x0 x1 x2 x3 x4) (k0_pay8 (k0_pay4 x0 x1 x2 x3 x4) x8 x8 x8 x8 x8 x8 x8 x8) k0_pay9 x6⟩]

theorem left_A_9 (c : Dev nD) (i a1 h1 a2 h2 a3 h3 a4 h4 a5 h5 a6 h6 a7 h7 a8 h8 a9 h9 a10 h10 a11 h11 a12 h12 a13 h13 a14 h14 hc0) (x0 : Vec F S512x1024 .f32) (x1 : Vec F S1x1024 .f32) (x2 : Vec F S16x1024 .f32) (x3 : Vec F S16x1024 .f32) (x4 : Vec F S1024x1024 .bf16) (x5 : Vec F S2048x1024 .bf16) (x6 : Vec F S1x1024 .f32) (x7 : Vec F S1024x1 .f32) (x8 : Vec F S256x256 .bf16) :
    out0_A_9 c i a1 h1 a2 h2 a3 h3 a4 h4 a5 h5 a6 h6 a7 h7 a8 h8 a9 h9 a10 h10 a11 h11 a12 h12 a13 h13 a14 h14 hc0 x0 x1 x2 x3 x4 x5 x6 x7 x8 = slots x0 x1 x2 x3 x4 x5 x6 x7 x8 := by
  unfold slots
  frame_out

theorem left_A_10 (c : Dev nD) (i a1 h1 a2 h2 a3 h3 a4 h4 a5 h5 a6 h6 a7 h7 a8 h8 a9 h9 a10 h10 a11 h11 a12 h12 a13 h13 a14 h14 hc0) (x0 : Vec F S512x1024 .f32) (x1 : Vec F S1x1024 .f32) (x2 : Vec F S16x1024 .f32) (x3 : Vec F S16x1024 .f32) (x4 : Vec F S1024x1024 .bf16) (x5 : Vec F S2048x1024 .bf16) (x6 : Vec F S1x1024 .f32) (x7 : Vec F S1024x1 .f32) (x8 : Vec F S256x256 .bf16) :
    out0_A_10 c i a1 h1 a2 h2 a3 h3 a4 h4 a5 h5 a6 h6 a7 h7 a8 h8 a9 h9 a10 h10 a11 h11 a12 h12 a13 h13 a14 h14 hc0 x0 x1 x2 x3 x4 x5 x6 x7 x8 = k0_pay21 (k0_pay10 (k0_pay6 x0 x1 x2 x3 x5) x7) := by
  frame_out

theorem left_A_11 (c : Dev nD) (i a1 h1 a2 h2 a3 h3 a4 h4 a5 h5 a6 h6 a7 h7 a8 h8 a9 h9 a10 h10 a11 h11 a12 h12 a13 h13 a14 h14 hc0) (x0 : Vec F S512x1024 .f32) (x1 : Vec F S1x1024 .f32) (x2 : Vec F S16x1024 .f32) (x3 : Vec F S16x1024 .f32) (x4 : Vec F S1024x1024 .bf16) (x5 : Vec F S2048x1024 .bf16) (x6 : Vec F S1x1024 .f32) (x7 : Vec F S1024x1 .f32) (x8 : Vec F S256x256 .bf16) :
    out0_A_11 c i a1 h1 a2 h2 a3 h3 a4 h4 a5 h5 a6 h6 a7 h7 a8 h8 a9 h9 a10 h10 a11 h11 a12 h12 a13 h13 a14 h14 hc0 x0 x1 x2 x3 x4 x5 x6 x7 x8 = k0_pay22 (k0_pay7 x0 x1 x2 x3 x5) := by
  frame_out

theorem left_B_9 (c : Dev nD) (i a1 h1 a2 h2 a3 h3 a4 h4 a5 h5 a6 h6 a7 h7 a8 h8 a9 h9 a10 h10 a11 h11 a12 h12 a13 h13 a14 h14 hc0) (x0 : Vec F S512x1024 .f32) (x1 : Vec F S1x1024 .f32) (x2 : Vec F S16x1024 .f32) (x3 : Vec F S16x1024 .f32) (x4 : Vec F S1024x1024 .bf16) (x5 : Vec F S2048x1024 .bf16) (x6 : Vec F S1x1024 .f32) (x7 : Vec F S1024x1 .f32) (x8 : Vec F S256x256 .bf16) :
    out0_B_9 c i a1 h1 a2 h2 a3 h3 a4 h4 a5 h5 a6 h6 a7 h7 a8 h8 a9 h9 a10 h10 a11 h11 a12 h12 a13 h13 a14 h14 hc0 x0 x1 x2 x3 x4 x5 x6 x7 x8 = slots x0 x1 x2 x3 x4 x5 x6 x7 x8 := by
  unfold slots
  frame_out

theorem left_B_10 (c : Dev nD) (i a1 h1 a2 h2 a3 h3 a4 h4 a5 h5 a6 h6 a7 h7 a8 h8 a9 h9 a10 h10 a11 h11 a12 h12 a13 h13 a14 h14 hc0) (x0 : Vec F S512x1024 .f32) (x1 : Vec F S1x1024 .f32) (x2 : Vec F S16x1024 .f32) (x3 : Vec F S16x1024 .f32) (x4 : Vec F S1024x1024 .bf16) (x5 : Vec F S2048x1024 .bf16) (x6 : Vec F S1x1024 .f32) (x7 : Vec F S1024x1 .f32) (x8 : Vec F S256x256 .bf16) :
    out0_B_10 c i a1 h1 a2 h2 a3 h3 a4 h4 a5 h5 a6 h6 a7 h7 a8 h8 a9 h9 a10 h10 a11 h11 a12 h12 a13 h13 a14 h14 hc0 x0 x1 x2 x3 x4 x5 x6 x7 x8 = k0_pay21 (k0_pay10 (k0_pay6 x0 x1 x2 x3 x5) x7) := by
  frame_out

theorem left_B_11 (c : Dev nD) (i a1 h1 a2 h2 a3 h3 a4 h4 a5 h5 a6 h6 a7 h7 a8 h8 a9 h9 a10 h10 a11 h11 a12 h12 a13 h13 a14 h14 hc0) (x0 : Vec F S512x1024 .f32) (x1 : Vec F S1x1024 .f32) (x2 : Vec F S16x1024 .f32) (x3 : Vec F S16x1024 .f32) (x4 : Vec F S1024x1024 .bf16) (x5 : Vec F S2048x1024 .bf16) (x6 : Vec F S1x1024 .f32) (x7 : Vec F S1024x1 .f32) (x8 : Vec F S256x256 .bf16) :
    out0_B_11 c i a1 h1 a2 h2 a3 h3 a4 h4 a5 h5 a6 h6 a7 h7 a8 h8 a9 h9 a10 h10 a11 h11 a12 h12 a13 h13 a14 h14 hc0 x0 x1 x2 x3 x4 x5 x6 x7 x8 = k0_pay22 (k0_pay7 x0 x1 x2 x3 x5) := by
  frame_out

theorem left_B_12 (c : Dev nD) (i a1 h1 a2 h2 a3 h3 a4 h4 a5 h5 a6 h6 a7 h7 a8 h8 a9 h9 a10 h10 a11 h11 a12 h12 a13 h13 a14 h14 hc0) (x0 : Vec F S512x1024 .f32) (x1 : Vec F S1x1024 .f32) (x2 : Vec F S16x1024 .f32) (x3 : Vec F S16x1024 .f32) (x4 : Vec F S1024x1024 .bf16) (x5 : Vec F S2048x1024 .bf16) (x6 : Vec F S1x1024 .f32) (x7 : Vec F S1024x1 .f32) (x8 : Vec F S256x256 .bf16) :
    out0_B_12 c i a1 h1 a2 h2 a3 h3 a4 h4 a5 h5 a6 h6 a7 h7 a8 h8 a9 h9 a10 h10 a11 h11 a12 h12 a13 h13 a14 h14 hc0 x0 x1 x2 x3 x4 x5 x6 x7 x8 = k0_pay1 (k0_pay10 (k0_pay6 x0 x1 x2 x3 x5) x7) := by
  frame_out

theorem left_B_13 (c : Dev nD) (i a1 h1 a2 h2 a3 h3 a4 h4 a5 h5 a6 h6 a7 h7 a8 h8 a9 h9 a10 h10 a11 h11 a12 h12 a13 h13 a14 h14 hc0) (x0 : Vec F S512x1024 .f32) (x1 : Vec F S1x1024 .f32) (x2 : Vec F S16x1024 .f32) (x3 : Vec F S16x1024 .f32) (x4 : Vec F S1024x1024 .bf16) (x5 : Vec F S2048x1024 .bf16) (x6 : Vec F S1x1024 .f32) (x7 : Vec F S1024x1 .f32) (x8 : Vec F S256x256 .bf16) :
    out0_B_13 c i a1 h1 a2 h2 a3 h3 a4 h4 a5 h5 a6 h6 a7 h7 a8 h8 a9 h9 a10 h10 a11 h11 a12 h12 a13 h13 a14 h14 hc0 x0 x1 x2 x3 x4 x5 x6 x7 x8 = k0_pay2 (k0_pay7 x0 x1 x2 x3 x5) := by
  frame_out

section

variable (m : (ℓ : Loc nD τ sig) → Buf (Elt Ideal) ℓ) (c : Dev nD) (t : Fin cfg0.N)

/-- The blocks of a point, as the body reads them. -/
def b0 : Vec Ideal S512x1024 .f32 := iblk m c 0 t
def b1 : Vec Ideal S1x1024 .f32 := iblk m c 1 t
def b2 : Vec Ideal S16x1024 .f32 := iblk m c 2 t
def b3 : Vec Ideal S16x1024 .f32 := iblk m c 3 t
def b4 : Vec Ideal S1024x1024 .bf16 := iblk m c 4 t
def b5 : Vec Ideal S2048x1024 .bf16 := iblk m c 5 t
def b6 : Vec Ideal S1x1024 .f32 := iblk m c 6 t
def b7 : Vec Ideal S1024x1 .f32 := iblk m c 7 t
def b8 : Vec Ideal S256x256 .bf16 := iblk m c 8 t

/-- What the body leaves does not depend on the point being a prompt's last: the queries, -/
theorem at_9 : (outsAt0 m c t.val t.isLt).1 = slots (b0 m c t) (b1 m c t) (b2 m c t) (b3 m c t) (b4 m c t) (b5 m c t) (b6 m c t) (b7 m c t) (b8 m c t) := by
  by_cases h : t.val % 16 = 15
  · rw [outsAt0_B m c t h]
    dsimp only
    exact left_B_9 (F := Ideal) ..
  · rw [outsAt0_A m c t h]
    dsimp only
    exact left_A_9 (F := Ideal) ..

/-- the keys, -/
theorem at_10 : (outsAt0 m c t.val t.isLt).2.1 = k0_pay21 (k0_pay10 (k0_pay6 (b0 m c t) (b1 m c t) (b2 m c t) (b3 m c t) (b5 m c t)) (b7 m c t)) := by
  by_cases h : t.val % 16 = 15
  · rw [outsAt0_B m c t h]
    dsimp only
    exact left_B_10 (F := Ideal) ..
  · rw [outsAt0_A m c t h]
    dsimp only
    exact left_A_10 (F := Ideal) ..

/-- and the values. -/
theorem at_11 : (outsAt0 m c t.val t.isLt).2.2.1 = k0_pay22 (k0_pay7 (b0 m c t) (b1 m c t) (b2 m c t) (b3 m c t) (b5 m c t)) := by
  by_cases h : t.val % 16 = 15
  · rw [outsAt0_B m c t h]
    dsimp only
    exact left_B_11 (F := Ideal) ..
  · rw [outsAt0_A m c t h]
    dsimp only
    exact left_A_11 (F := Ideal) ..

/-- At a prompt's last point the keys again, -/
theorem at_12 (h : t.val % 16 = 15) : (outsAt0 m c t.val t.isLt).2.2.2.1 = k0_pay1 (k0_pay10 (k0_pay6 (b0 m c t) (b1 m c t) (b2 m c t) (b3 m c t) (b5 m c t)) (b7 m c t)) := by
  rw [outsAt0_B m c t h]
  dsimp only
  exact left_B_12 (F := Ideal) ..

/-- and the values again. -/
theorem at_13 (h : t.val % 16 = 15) : (outsAt0 m c t.val t.isLt).2.2.2.2 = k0_pay2 (k0_pay7 (b0 m c t) (b1 m c t) (b2 m c t) (b3 m c t) (b5 m c t)) := by
  rw [outsAt0_B m c t h]
  dsimp only
  exact left_B_13 (F := Ideal) ..

end

end Cert.ProjectNormIdeal.Value
-- ==== Proof.ProjectNormTiles.lean ====
/- The queries' means through the table of the heads, and the blocks the first layer's projection kernel leaves. -/
module

public import proofs.«01_k».proof.Proof.ProjectNormPay
public import proofs.«01_k».proof.Proof.ProjectNormCases

@[expose] public section

set_option maxRecDepth 16384

noncomputable section

namespace Cert.ProjectNormIdeal.Value

open Idealize.ShloMosaic Idealize.ShloMosaic.TcCoe Idealize.SL.Sem
open Cert.ProjectNormIdeal Cert.ProjectNormIdeal.Gen
open Idealize.ShloMosaic.Pointwise
open Cert.ProjectIdeal.Value (tileRow tileQ tileKV zeros2 zeros3 front)

section

variable (y : FVec Ideal S512x1024 .f32) (w : Vec Ideal S256x256 .bf16)

theorem mean0 (r : Fin 512) (j : Fin 256) : k0_pay8 y w w w w w w w w (ix2 r ⟨0 + j.val, by omega⟩) =
    (∑ k : Fin 256, y (ix2 r ⟨0 + k.val, by omega⟩) * y (ix2 r ⟨0 + k.val, by omega⟩) * w (ix2 k j)) +
    ∑ k : Fin 256, (y (ix2 r ⟨0 + k.val, by omega⟩) * y (ix2 r ⟨0 + k.val, by omega⟩) - y (ix2 r ⟨0 + k.val, by omega⟩) * y (ix2 r ⟨0 + k.val, by omega⟩)) * w (ix2 k j) := by
  pointwise [k0_pay8]

theorem mean0_real (r : Fin 512) (j : Fin 256) (n : Fin 1024) (hn : n.val = 0 + j.val) (hy : ∀ n, Real' (y (ix2 r n)))
    (hw : ∀ k j : Fin 256, w (ix2 k j) = if k.val / 64 = j.val / 64 then ((1 / 64 : ℝ) : EReal) else 0) :
    k0_pay8 y w w w w w w w w (ix2 r n) = headMean (fun i => y (ix2 r ⟨n.val / 64 * 64 + i.val, by omega⟩)) := by
  refine (congrArg (fun z => k0_pay8 y w w w w w w w w (ix2 r z)) (Fin.ext hn : n = ⟨0 + j.val, by omega⟩)).trans ((mean0 y w r j).trans ?_)
  refine (congrArg₂ (· + ·) (table_mean (fun k => y (ix2 r ⟨0 + k.val, by omega⟩) * y (ix2 r ⟨0 + k.val, by omega⟩)) (fun k => (hy _).mul (hy _)) ⟨j.val / 64, by omega⟩ (fun k => w (ix2 k j))
    (fun k => hw k j)) (Finset.sum_eq_zero fun k _ => by rw [sub_self' ((hy _).mul (hy _)), zero_mul])).trans ?_
  refine (add_zero _).trans ?_
  unfold headMean
  refine congrArg (fun s => Ideal.div s _) (Finset.sum_congr rfl fun i _ => ?_)
  have e : (⟨0 + (j.val / 64 * 64 + i.val), by omega⟩ : Fin 1024) = ⟨n.val / 64 * 64 + i.val, by omega⟩ :=
    Fin.ext (by show 0 + (j.val / 64 * 64 + i.val) = n.val / 64 * 64 + i.val; omega)
  exact congrArg (fun z => y (ix2 r z) * y (ix2 r z)) e

theorem mean1 (r : Fin 512) (j : Fin 256) : k0_pay8 y w w w w w w w w (ix2 r ⟨256 + j.val, by omega⟩) =
    (∑ k : Fin 256, y (ix2 r ⟨256 + k.val, by omega⟩) * y (ix2 r ⟨256 + k.val, by omega⟩) * w (ix2 k j)) +
    ∑ k : Fin 256, (y (ix2 r ⟨256 + k.val, by omega⟩) * y (ix2 r ⟨256 + k.val, by omega⟩) - y (ix2 r ⟨256 + k.val, by omega⟩) * y (ix2 r ⟨256 + k.val, by omega⟩)) * w (ix2 k j) := by
  pointwise [k0_pay8]

theorem mean1_real (r : Fin 512) (j : Fin 256) (n : Fin 1024) (hn : n.val = 256 + j.val) (hy : ∀ n, Real' (y (ix2 r n)))
    (hw : ∀ k j : Fin 256, w (ix2 k j) = if k.val / 64 = j.val / 64 then ((1 / 64 : ℝ) : EReal) else 0) :
    k0_pay8 y w w w w w w w w (ix2 r n) = headMean (fun i => y (ix2 r ⟨n.val / 64 * 64 + i.val, by omega⟩)) := by
  refine (congrArg (fun z => k0_pay8 y w w w w w w w w (ix2 r z)) (Fin.ext hn : n = ⟨256 + j.val, by omega⟩)).trans ((mean1 y w r j).trans ?_)
  refine (congrArg₂ (· + ·) (table_mean (fun k => y (ix2 r ⟨256 + k.val, by omega⟩) * y (ix2 r ⟨256 + k.val, by omega⟩)) (fun k => (hy _).mul (hy _)) ⟨j.val / 64, by omega⟩ (fun k => w (ix2 k j))
    (fun k => hw k j)) (Finset.sum_eq_zero fun k _ => by rw [sub_self' ((hy _).mul (hy _)), zero_mul])).trans ?_
  refine (add_zero _).trans ?_
  unfold headMean
  refine congrArg (fun s => Ideal.div s _) (Finset.sum_congr rfl fun i _ => ?_)
  have e : (⟨256 + (j.val / 64 * 64 + i.val), by omega⟩ : Fin 1024) = ⟨n.val / 64 * 64 + i.val, by omega⟩ :=
    Fin.ext (by show 256 + (j.val / 64 * 64 + i.val) = n.val / 64 * 64 + i.val; omega)
  exact congrArg (fun z => y (ix2 r z) * y (ix2 r z)) e

theorem mean2 (r : Fin 512) (j : Fin 256) : k0_pay8 y w w w w w w w w (ix2 r ⟨512 + j.val, by omega⟩) =
    (∑ k : Fin 256, y (ix2 r ⟨512 + k.val, by omega⟩) * y (ix2 r ⟨512 + k.val, by omega⟩) * w (ix2 k j)) +
    ∑ k : Fin 256, (y (ix2 r ⟨512 + k.val, by omega⟩) * y (ix2 r ⟨512 + k.val, by omega⟩) - y (ix2 r ⟨512 + k.val, by omega⟩) * y (ix2 r ⟨512 + k.val, by omega⟩)) * w (ix2 k j) := by
  pointwise [k0_pay8]
  have e : (⟨512 + j.val - 256 - 256, by omega⟩ : Fin 256) = j := Fin.ext (by show 512 + j.val - 256 - 256 = j.val; omega)
  rw [dif_neg (by omega), dif_neg (by omega), dif_pos (by omega)]
  exact congrArg₂ (· + ·) (Finset.sum_congr rfl fun k _ => congrArg (fun z => _ * w (ix2 k z)) e)
    (Finset.sum_congr rfl fun k _ => congrArg (fun z => _ * w (ix2 k z)) e)

theorem mean2_real (r : Fin 512) (j : Fin 256) (n : Fin 1024) (hn : n.val = 512 + j.val) (hy : ∀ n, Real' (y (ix2 r n)))
    (hw : ∀ k j : Fin 256, w (ix2 k j) = if k.val / 64 = j.val / 64 then ((1 / 64 : ℝ) : EReal) else 0) :
    k0_pay8 y w w w w w w w w (ix2 r n) = headMean (fun i => y (ix2 r ⟨n.val / 64 * 64 + i.val, by omega⟩)) := by
  refine (congrArg (fun z => k0_pay8 y w w w w w w w w (ix2 r z)) (Fin.ext hn : n = ⟨512 + j.val, by omega⟩)).trans ((mean2 y w r j).trans ?_)
  refine (congrArg₂ (· + ·) (table_mean (fun k => y (ix2 r ⟨512 + k.val, by omega⟩) * y (ix2 r ⟨512 + k.val, by omega⟩)) (fun k => (hy _).mul (hy _)) ⟨j.val / 64, by omega⟩ (fun k => w (ix2 k j))
    (fun k => hw k j)) (Finset.sum_eq_zero fun k _ => by rw [sub_self' ((hy _).mul (hy _)), zero_mul])).trans ?_
  refine (add_zero _).trans ?_
  unfold headMean
  refine congrArg (fun s => Ideal.div s _) (Finset.sum_congr rfl fun i _ => ?_)
  have e : (⟨512 + (j.val / 64 * 64 + i.val), by omega⟩ : Fin 1024) = ⟨n.val / 64 * 64 + i.val, by omega⟩ :=
    Fin.ext (by show 512 + (j.val / 64 * 64 + i.val) = n.val / 64 * 64 + i.val; omega)
  exact congrArg (fun z => y (ix2 r z) * y (ix2 r z)) e

theorem mean3 (r : Fin 512) (j : Fin 256) : k0_pay8 y w w w w w w w w (ix2 r ⟨768 + j.val, by omega⟩) =
    (∑ k : Fin 256, y (ix2 r ⟨768 + k.val, by omega⟩) * y (ix2 r ⟨768 + k.val, by omega⟩) * w (ix2 k j)) +
    ∑ k : Fin 256, (y (ix2 r ⟨768 + k.val, by omega⟩) * y (ix2 r ⟨768 + k.val, by omega⟩) - y (ix2 r ⟨768 + k.val, by omega⟩) * y (ix2 r ⟨768 + k.val, by omega⟩)) * w (ix2 k j) := by
  pointwise [k0_pay8]
  have e : (⟨768 + j.val - 256 - 256 - 256, by omega⟩ : Fin 256) = j := Fin.ext (by show 768 + j.val - 256 - 256 - 256 = j.val; omega)
  rw [dif_neg (by omega), dif_neg (by omega), dif_neg (by omega)]
  exact congrArg₂ (· + ·) (Finset.sum_congr rfl fun k _ => congrArg (fun z => _ * w (ix2 k z)) e)
    (Finset.sum_congr rfl fun k _ => congrArg (fun z => _ * w (ix2 k z)) e)

theorem mean3_real (r : Fin 512) (j : Fin 256) (n : Fin 1024) (hn : n.val = 768 + j.val) (hy : ∀ n, Real' (y (ix2 r n)))
    (hw : ∀ k j : Fin 256, w (ix2 k j) = if k.val / 64 = j.val / 64 then ((1 / 64 : ℝ) : EReal) else 0) :
    k0_pay8 y w w w w w w w w (ix2 r n) = headMean (fun i => y (ix2 r ⟨n.val / 64 * 64 + i.val, by omega⟩)) := by
  refine (congrArg (fun z => k0_pay8 y w w w w w w w w (ix2 r z)) (Fin.ext hn : n = ⟨768 + j.val, by omega⟩)).trans ((mean3 y w r j).trans ?_)
  refine (congrArg₂ (· + ·) (table_mean (fun k => y (ix2 r ⟨768 + k.val, by omega⟩) * y (ix2 r ⟨768 + k.val, by omega⟩)) (fun k => (hy _).mul (hy _)) ⟨j.val / 64, by omega⟩ (fun k => w (ix2 k j))
    (fun k => hw k j)) (Finset.sum_eq_zero fun k _ => by rw [sub_self' ((hy _).mul (hy _)), zero_mul])).trans ?_
  refine (add_zero _).trans ?_
  unfold headMean
  refine congrArg (fun s => Ideal.div s _) (Finset.sum_congr rfl fun i _ => ?_)
  have e : (⟨768 + (j.val / 64 * 64 + i.val), by omega⟩ : Fin 1024) = ⟨n.val / 64 * 64 + i.val, by omega⟩ :=
    Fin.ext (by show 768 + (j.val / 64 * 64 + i.val) = n.val / 64 * 64 + i.val; omega)
  exact congrArg (fun z => y (ix2 r z) * y (ix2 r z)) e

/-- A query's mean of squares over its head, through the table. -/
theorem mean_real (r : Fin 512) (n : Fin 1024) (hy : ∀ n, Real' (y (ix2 r n)))
    (hw : ∀ k j : Fin 256, w (ix2 k j) = if k.val / 64 = j.val / 64 then ((1 / 64 : ℝ) : EReal) else 0) :
    k0_pay8 y w w w w w w w w (ix2 r n) = headMean (fun i => y (ix2 r ⟨n.val / 64 * 64 + i.val, by omega⟩)) := by
  have hn := n.isLt
  have h : n.val / 256 = 0 ∨ n.val / 256 = 1 ∨ n.val / 256 = 2 ∨ n.val / 256 = 3 := by omega
  rcases h with h | h | h | h
  · exact mean0_real y w r ⟨n.val - 0, by omega⟩ n (by show n.val = 0 + (n.val - 0); omega) hy hw
  · exact mean1_real y w r ⟨n.val - 256, by omega⟩ n (by show n.val = 256 + (n.val - 256); omega) hy hw
  · exact mean2_real y w r ⟨n.val - 512, by omega⟩ n (by show n.val = 512 + (n.val - 512); omega) hy hw
  · exact mean3_real y w r ⟨n.val - 768, by omega⟩ n (by show n.val = 768 + (n.val - 768); omega) hy hw

/-- The queries, normalised head by head and scaled. -/
theorem queries_apply (x6 : Vec Ideal S1x1024 .f32) (g : Fin 64 → EReal) (hg : ∀ n : Fin 1024, x6 (ix2 0 n) = g ⟨n.val % 64, by omega⟩)
    (r : Fin 512) (n : Fin 1024) (hy : ∀ n, Real' (y (ix2 r n)))
    (hw : ∀ k j : Fin 256, w (ix2 k j) = if k.val / 64 = j.val / 64 then ((1 / 64 : ℝ) : EReal) else 0) :
    k0_pay11 y (k0_pay8 y w w w w w w w w) k0_pay9 x6 (ix2 r n) = heads (fun n => y (ix2 r n)) g n * Ideal.ofBits FTy.f32 0x3E000000#32 := by
  refine (pay11_apply _ _ _ _ r n).trans (congrArg (· * Ideal.ofBits FTy.f32 0x3E000000#32) ?_)
  rw [mean_real y w r n hy hw, pay9_apply, hg]
  unfold heads headNorm
  have e : n = ⟨n.val / 64 * 64 + n.val % 64, by omega⟩ := Fin.ext (by show n.val = n.val / 64 * 64 + n.val % 64; omega)
  exact congrArg (fun z => y (ix2 r z) * _ * _) e

end

section

variable (x0 : Vec Ideal S512x1024 .f32) (x1 : Vec Ideal S1x1024 .f32) (x2 x3 : Vec Ideal S16x1024 .f32) (x4 : Vec Ideal S1024x1024 .bf16) (x5 : Vec Ideal S2048x1024 .bf16)
  (x6 : Vec Ideal S1x1024 .f32) (x7 : Vec Ideal S1024x1 .f32) (x8 : Vec Ideal S256x256 .bf16)

/-- The queries' block: 128 columns to a slot. -/
def blockQ (gq : Fin 64 → EReal) : FVec Ideal S8x512x128 .bf16 := fun i => heads (tileQ x0 x1 x2 x3 x4 (i 1)) gq
  ⟨(i 0).val * 128 + (i 2).val, by have : (i 0).val < 8 := (i 0).isLt; have : (i 2).val < 128 := (i 2).isLt; omega⟩ * Ideal.ofBits FTy.f32 0x3E000000#32

/-- A store of one slot agrees with it. -/
theorem slot (gq : Fin 64 → EReal) (p : Fin 8) (w : FVec Ideal S1x512x128 .bf16) (y : S1x512x128.Idx) (e : S8x512x128.Idx)
    (hw : ∀ (r : Fin 512) (l : Fin 128), w (ix3 0 r l) = heads (tileQ x0 x1 x2 x3 x4 r) gq ⟨p.val * 128 + l.val, by omega⟩ * Ideal.ofBits FTy.f32 0x3E000000#32)
    (h0 : (e 0).val = p.val) (h1 : (e 1).val = (y 1).val) (h2 : (e 2).val = (y 2).val) : w y = blockQ x0 x1 x2 x3 x4 gq e := by
  have hy : y = ix3 0 (y 1) (y 2) := by
    rw [eq_ix3 (n0 := 1) (n1 := 512) (n2 := 128) y]
    refine congrArg (fun z => ix3 z (y 1) (y 2)) (Fin.ext ?_)
    have : (y 0).val < 1 := (y 0).isLt
    show (y 0).val = 0
    omega
  rw [hy]
  refine (hw (y 1) (y 2)).trans (congrArg (· * Ideal.ofBits FTy.f32 0x3E000000#32)
    (congrArg₂ (fun r z => heads (tileQ x0 x1 x2 x3 x4 r) gq z) (Fin.ext h1.symm) (Fin.ext ?_)))
  show p.val * 128 + (y 2).val = (e 0).val * 128 + (e 2).val
  rw [h0, h2]

theorem slots_eq (gq : Fin 64 → EReal) (hg : ∀ n : Fin 1024, x6 (ix2 0 n) = gq ⟨n.val % 64, by omega⟩)
    (hy : ∀ (r : Fin 512) (n : Fin 1024), Real' (tileQ x0 x1 x2 x3 x4 r n))
    (hw : ∀ k j : Fin 256, x8 (ix2 k j) = if k.val / 64 = j.val / 64 then ((1 / 64 : ℝ) : EReal) else 0) :
    slots x0 x1 x2 x3 x4 x5 x6 x7 x8 = blockQ x0 x1 x2 x3 x4 gq := by
  have hq : ∀ (r : Fin 512) (n n' : Fin 1024), n.val = n'.val → k0_pay11 (k0_pay4 x0 x1 x2 x3 x4) (k0_pay8 (k0_pay4 x0 x1 x2 x3 x4) x8 x8 x8 x8 x8 x8 x8 x8) k0_pay9 x6 (ix2 r n) =
      heads (tileQ x0 x1 x2 x3 x4 r) gq n' * Ideal.ofBits FTy.f32 0x3E000000#32 := fun r n n' h => by
    rw [show n' = n from Fin.ext h.symm]
    refine (queries_apply _ x8 x6 gq hg r n (fun n => by rw [pay4_apply]; exact hy r n) hw).trans ?_
    rw [show (fun n => k0_pay4 x0 x1 x2 x3 x4 (ix2 r n)) = tileQ x0 x1 x2 x3 x4 r from funext fun n => pay4_apply x0 x1 x2 x3 x4 r n]
  funext i
  unfold slots
  refine View.canon_apply_of_pieces (Val := Elt Ideal) (blockQ x0 x1 x2 x3 x4 gq) _ ?_ i (View.cover_of_tiledL (s := S8x512x128) (e := .bf16) (Val := Elt Ideal) _ S1x512x128.size (by sl_kernel_rfl) i)
  intro p hp
  simp only [List.mem_cons, List.not_mem_nil, or_false] at hp
  rcases hp with rfl | rfl | rfl | rfl | rfl | rfl | rfl | rfl
  · refine fun y => slot x0 x1 x2 x3 x4 gq 7 _ y _ (fun r l => (pay20_apply _ r l).trans (hq r _ _ ?_)) ?_ ?_ ?_
    · show 896 + l.val = 7 * 128 + l.val
      omega
    · show 7 + 1 * (y 0).val = 7
      have : (y 0).val < 1 := (y 0).isLt
      omega
    · show 0 + 1 * (y 1).val = (y 1).val
      omega
    · show 0 + 1 * (y 2).val = (y 2).val
      omega
  · refine fun y => slot x0 x1 x2 x3 x4 gq 6 _ y _ (fun r l => (pay19_apply _ r l).trans (hq r _ _ ?_)) ?_ ?_ ?_
    · show 768 + l.val = 6 * 128 + l.val
      omega
    · show 6 + 1 * (y 0).val = 6
      have : (y 0).val < 1 := (y 0).isLt
      omega
    · show 0 + 1 * (y 1).val = (y 1).val
      omega
    · show 0 + 1 * (y 2).val = (y 2).val
      omega
  · refine fun y => slot x0 x1 x2 x3 x4 gq 5 _ y _ (fun r l => (pay18_apply _ r l).trans (hq r _ _ ?_)) ?_ ?_ ?_
    · show 640 + l.val = 5 * 128 + l.val
      omega
    · show 5 + 1 * (y 0).val = 5
      have : (y 0).val < 1 := (y 0).isLt
      omega
    · show 0 + 1 * (y 1).val = (y 1).val
      omega
    · show 0 + 1 * (y 2).val = (y 2).val
      omega
  · refine fun y => slot x0 x1 x2 x3 x4 gq 4 _ y _ (fun r l => (pay17_apply _ r l).trans (hq r _ _ ?_)) ?_ ?_ ?_
    · show 512 + l.val = 4 * 128 + l.val
      omega
    · show 4 + 1 * (y 0).val = 4
      have : (y 0).val < 1 := (y 0).isLt
      omega
    · show 0 + 1 * (y 1).val = (y 1).val
      omega
    · show 0 + 1 * (y 2).val = (y 2).val
      omega
  · refine fun y => slot x0 x1 x2 x3 x4 gq 3 _ y _ (fun r l => (pay16_apply _ _ _ _ r l).trans (hq r _ _ ?_)) ?_ ?_ ?_
    · show 384 + l.val = 3 * 128 + l.val
      omega
    · show 3 + 1 * (y 0).val = 3
      have : (y 0).val < 1 := (y 0).isLt
      omega
    · show 0 + 1 * (y 1).val = (y 1).val
      omega
    · show 0 + 1 * (y 2).val = (y 2).val
      omega
  · refine fun y => slot x0 x1 x2 x3 x4 gq 2 _ y _ (fun r l => (pay14_apply _ _ _ _ r l).trans (hq r _ _ ?_)) ?_ ?_ ?_
    · show 256 + l.val = 2 * 128 + l.val
      omega
    · show 2 + 1 * (y 0).val = 2
      have : (y 0).val < 1 := (y 0).isLt
      omega
    · show 0 + 1 * (y 1).val = (y 1).val
      omega
    · show 0 + 1 * (y 2).val = (y 2).val
      omega
  · refine fun y => slot x0 x1 x2 x3 x4 gq 1 _ y _ (fun r l => (pay13_apply _ _ _ _ r l).trans (hq r _ _ ?_)) ?_ ?_ ?_
    · show 128 + l.val = 1 * 128 + l.val
      omega
    · show 1 + 1 * (y 0).val = 1
      have : (y 0).val < 1 := (y 0).isLt
      omega
    · show 0 + 1 * (y 1).val = (y 1).val
      omega
    · show 0 + 1 * (y 2).val = (y 2).val
      omega
  · refine fun y => slot x0 x1 x2 x3 x4 gq 0 _ y _ (fun r l => (pay12_apply _ _ _ _ r l).trans (hq r _ _ ?_)) ?_ ?_ ?_
    · show l.val = 0 * 128 + l.val
      omega
    · show 0 + 1 * (y 0).val = 0
      have : (y 0).val < 1 := (y 0).isLt
      omega
    · show 0 + 1 * (y 1).val = (y 1).val
      omega
    · show 0 + 1 * (y 2).val = (y 2).val
      omega

/-- A block of keys: positions along the last axis, -/
def blockK (gk : Fin 64 → EReal) : FVec Ideal S1x1024x512 .bf16 := fun i => heads (fun n => tileKV x0 x1 x2 x3 x5 (i 2) ⟨n.val, by omega⟩) gk (i 1)

/-- and one of values. -/
def blockV : FVec Ideal S1x1024x512 .bf16 := fun i => tileKV x0 x1 x2 x3 x5 (i 2) ⟨1024 + (i 1).val, by have : (i 1).val < 1024 := (i 1).isLt; omega⟩

theorem keys_apply (gk : Fin 64 → EReal) (hg : ∀ n : Fin 1024, x7 (ix2 n 0) = gk ⟨n.val % 64, by omega⟩) (n : Fin 1024) (r : Fin 512) :
    k0_pay10 (k0_pay6 x0 x1 x2 x3 x5) x7 (ix2 n r) = heads (fun n => tileKV x0 x1 x2 x3 x5 r ⟨n.val, by omega⟩) gk n := by
  refine (pay10_apply _ x7 gk hg n r).trans (congrArg (fun y => heads y gk n) (funext fun n => pay6_apply x0 x1 x2 x3 x5 n r))

theorem keys_eq (gk : Fin 64 → EReal) (hg : ∀ n : Fin 1024, x7 (ix2 n 0) = gk ⟨n.val % 64, by omega⟩) :
    k0_pay21 (k0_pay10 (k0_pay6 x0 x1 x2 x3 x5) x7) = blockK x0 x1 x2 x3 x5 gk := by
  funext i
  rw [front i]
  exact (pay21_apply _ (i 1) (i 2)).trans (keys_apply x0 x1 x2 x3 x5 x7 gk hg (i 1) (i 2))

theorem keysF_eq (gk : Fin 64 → EReal) (hg : ∀ n : Fin 1024, x7 (ix2 n 0) = gk ⟨n.val % 64, by omega⟩) :
    k0_pay1 (k0_pay10 (k0_pay6 x0 x1 x2 x3 x5) x7) = blockK x0 x1 x2 x3 x5 gk := by
  funext i
  rw [front i]
  exact (pay1_apply _ (i 1) (i 2)).trans (keys_apply x0 x1 x2 x3 x5 x7 gk hg (i 1) (i 2))

theorem values_eq : k0_pay22 (k0_pay7 x0 x1 x2 x3 x5) = blockV x0 x1 x2 x3 x5 := by
  funext i
  rw [front i]
  exact (pay22_apply _ (i 1) (i 2)).trans (pay7_apply x0 x1 x2 x3 x5 (i 1) (i 2))

theorem valuesF_eq : k0_pay2 (k0_pay7 x0 x1 x2 x3 x5) = blockV x0 x1 x2 x3 x5 := by
  funext i
  rw [front i]
  exact (pay2_apply _ (i 1) (i 2)).trans (pay7_apply x0 x1 x2 x3 x5 (i 1) (i 2))

end

end Cert.ProjectNormIdeal.Value
-- ==== Proof.ProjectNormValue.lean ====
/- The arrays the first layer's projection kernel of the prompts leaves. -/
module

public import proofs.«01_k».proof.Proof.ProjectNormTiles
public import proofs.«01_k».proof.Proof.ProjectNormReference
public import Idealize.ShloMosaic.Lib.Pipeline.Covers

@[expose] public section

set_option maxRecDepth 16384

noncomputable section

namespace Cert.ProjectNormIdeal.Value

open Idealize.ShloMosaic Idealize.ShloMosaic.TcCoe Idealize.SL.Sem
open Cert.ProjectNormIdeal Cert.ProjectNormIdeal.Gen
open Idealize.ShloMosaic.Pipeline (Dat Cfg Window)
open Idealize.ShloMosaic.Pointwise
open Cert.ProjectIdeal.Value (row proj tileRow tileQ tileKV)

variable (m : (ℓ : Loc nD τ sig) → Buf (Elt Ideal) ℓ)

/-- The arguments: the prompts, the gain, the prompts' modulation, the weights and the gains of queries and keys. -/
def arg0 (c : Dev nD) : FVec Ideal S4x8192x1024 .f32 := m ((c : Thread nD τ).loc main_arg0)
def arg1 (c : Dev nD) : FVec Ideal S1024 .f32 := m ((c : Thread nD τ).loc main_arg1)
def arg2 (c : Dev nD) : FVec Ideal S4x6144 .f32 := m ((c : Thread nD τ).loc main_arg2)
def arg4 (c : Dev nD) : FVec Ideal S1024x3072 .f32 := m ((c : Thread nD τ).loc main_arg4)
def arg5 (c : Dev nD) : FVec Ideal S64 .f32 := m ((c : Thread nD τ).loc main_arg5)
def arg6 (c : Dev nD) : FVec Ideal S64 .f32 := m ((c : Thread nD τ).loc main_arg6)

theorem index0 : ∀ t : Fin grid0.N, cc0_transform_0 (grid0.coords t) = ![t.val, 0] := by decide +kernel
theorem index2 : ∀ t : Fin grid0.N, cc0_transform_2 (grid0.coords t) = ![1 + t.val / 16, 0] := by decide +kernel
theorem index3 : ∀ t : Fin grid0.N, cc0_transform_3 (grid0.coords t) = ![1 + t.val / 16, 1] := by decide +kernel
theorem index9 : ∀ i : grid0.Coords, cc0_transform_9 i = ![0, (i 0).val, 0] := by decide +kernel
theorem index10 : ∀ i : grid0.Coords, cc0_transform_10 i = ![(i 0).val / 16, 0, (i 0).val % 16] := by decide +kernel
theorem index11 : ∀ i : grid0.Coords, cc0_transform_11 i = ![(i 0).val / 16, 0, (i 0).val % 16] := by decide +kernel
theorem index12 : ∀ i : grid0.Coords, cc0_transform_12 i = ![(i 0).val / 16, 0, 0] := by decide +kernel
theorem index13 : ∀ i : grid0.Coords, cc0_transform_13 i = ![(i 0).val / 16, 0, 0] := by decide +kernel

theorem coords_val : ∀ t : Fin grid0.N, (grid0.coords t 0 : ℕ) = t.val := by decide +kernel

section Arrays

variable (c : Dev nD)

theorem V_x (R : Fin 32768) (k : Fin 1024) : (V m c (Pipeline.arrRef spec0 0) : S32768x1024.Idx → EReal) (ix2 R k) =
    arg0 m c (ix3 ⟨R.val / 8192, by omega⟩ ⟨R.val % 8192, by omega⟩ k) := by
  show StableHlo.after hostOps0 (fun b => m (c, b)) (Proc.tc.devRef (Pipeline.arrRef spec0 0)) (ix2 R k) = _
  simp only [hostOps0]
  entry_read
  pointwise [arg0]

theorem V_g (k : Fin 1024) : (V m c (Pipeline.arrRef spec0 1) : S1x1024.Idx → EReal) (ix2 0 k) = arg1 m c (ix1 k) := by
  show StableHlo.after hostOps0 (fun b => m (c, b)) (Proc.tc.devRef (Pipeline.arrRef spec0 1)) (ix2 0 k) = _
  simp only [hostOps0]
  entry_read
  pointwise [arg1]

theorem V_md (R : Fin 80) (k : Fin 6144) (hR : 16 ≤ R.val) : (V m c (Pipeline.arrRef spec0 2) : S80x6144.Idx → EReal) (ix2 R k) =
    arg2 m c (ix2 ⟨(R.val - 16) / 16, by omega⟩ k) := by
  refine Eq.trans (b := if h : R.val < 16 then (m ((c : Thread nD τ).loc main_arg3) (ix2 ⟨R.val, h⟩ k) : EReal)
    else m ((c : Thread nD τ).loc main_arg2) (ix2 ⟨(R.val - 16) / 16, by omega⟩ k)) ?_ (dif_neg (by omega))
  show StableHlo.after hostOps0 (fun b => m (c, b)) (Proc.tc.devRef (Pipeline.arrRef spec0 2)) (ix2 R k) = _
  simp only [hostOps0]
  entry_read
  pointwise []

theorem V_wq (k n : Fin 1024) : (V m c (Pipeline.arrRef spec0 4) : S1024x1024.Idx → EReal) (ix2 k n) =
    arg4 m c (ix2 k ⟨n.val, by omega⟩) := by
  show StableHlo.after hostOps0 (fun b => m (c, b)) (Proc.tc.devRef (Pipeline.arrRef spec0 4)) (ix2 k n) = _
  simp only [hostOps0]
  entry_read
  pointwise [arg4]

theorem V_wkvt (n : Fin 2048) (k : Fin 1024) : (V m c (Pipeline.arrRef spec0 5) : S2048x1024.Idx → EReal) (ix2 n k) =
    arg4 m c (ix2 k ⟨1024 + n.val, by omega⟩) := by
  show StableHlo.after hostOps0 (fun b => m (c, b)) (Proc.tc.devRef (Pipeline.arrRef spec0 5)) (ix2 n k) = _
  simp only [hostOps0]
  entry_read
  pointwise [arg4]

theorem V_gq (n : Fin 1024) : (V m c (Pipeline.arrRef spec0 6) : S1x1024.Idx → EReal) (ix2 0 n) =
    arg5 m c (ix1 ⟨n.val % 64, by omega⟩) := by
  show StableHlo.after hostOps0 (fun b => m (c, b)) (Proc.tc.devRef (Pipeline.arrRef spec0 6)) (ix2 0 n) = _
  simp only [hostOps0]
  entry_read
  pointwise [arg5]

theorem V_gk (n : Fin 1024) : (V m c (Pipeline.arrRef spec0 7) : S1024x1.Idx → EReal) (ix2 n 0) =
    arg6 m c (ix1 ⟨n.val % 64, by omega⟩) := by
  show StableHlo.after hostOps0 (fun b => m (c, b)) (Proc.tc.devRef (Pipeline.arrRef spec0 7)) (ix2 n 0) = _
  simp only [hostOps0]
  entry_read
  pointwise [arg6]

end Arrays

theorem emb0 (t : Fin cfg0.N) (y : S512x1024.Idx) (a : Fin 2) :
    (((cfg0.win 0).blk t).view.emb y a : ℕ) = cc0_transform_0 (grid0.coords t) a * S512x1024.size a + (y a).val :=
  Window.rect_emb_val (cfg0.win 0) t y a rfl

theorem emb1 (t : Fin cfg0.N) (y : S1x1024.Idx) (a : Fin 2) :
    (((cfg0.win 1).blk t).view.emb y a : ℕ) = cc0_transform_1 (grid0.coords t) a * S1x1024.size a + (y a).val :=
  Window.rect_emb_val (cfg0.win 1) t y a rfl

theorem emb2 (t : Fin cfg0.N) (y : S16x1024.Idx) (a : Fin 2) :
    (((cfg0.win 2).blk t).view.emb y a : ℕ) = cc0_transform_2 (grid0.coords t) a * S16x1024.size a + (y a).val :=
  Window.rect_emb_val (cfg0.win 2) t y a rfl

theorem emb3 (t : Fin cfg0.N) (y : S16x1024.Idx) (a : Fin 2) :
    (((cfg0.win 3).blk t).view.emb y a : ℕ) = cc0_transform_3 (grid0.coords t) a * S16x1024.size a + (y a).val :=
  Window.rect_emb_val (cfg0.win 3) t y a rfl

theorem emb4 (t : Fin cfg0.N) (y : S1024x1024.Idx) (a : Fin 2) :
    (((cfg0.win 4).blk t).view.emb y a : ℕ) = cc0_transform_4 (grid0.coords t) a * S1024x1024.size a + (y a).val :=
  Window.rect_emb_val (cfg0.win 4) t y a rfl

theorem emb5 (t : Fin cfg0.N) (y : S2048x1024.Idx) (a : Fin 2) :
    (((cfg0.win 5).blk t).view.emb y a : ℕ) = cc0_transform_5 (grid0.coords t) a * S2048x1024.size a + (y a).val :=
  Window.rect_emb_val (cfg0.win 5) t y a rfl

theorem emb6 (t : Fin cfg0.N) (y : S1x1024.Idx) (a : Fin 2) :
    (((cfg0.win 6).blk t).view.emb y a : ℕ) = cc0_transform_6 (grid0.coords t) a * S1x1024.size a + (y a).val :=
  Window.rect_emb_val (cfg0.win 6) t y a rfl

theorem emb7 (t : Fin cfg0.N) (y : S1024x1.Idx) (a : Fin 2) :
    (((cfg0.win 7).blk t).view.emb y a : ℕ) = cc0_transform_7 (grid0.coords t) a * S1024x1.size a + (y a).val :=
  Window.rect_emb_val (cfg0.win 7) t y a rfl

theorem emb8 (t : Fin cfg0.N) (y : S256x256.Idx) (a : Fin 2) :
    (((cfg0.win 8).blk t).view.emb y a : ℕ) = cc0_transform_8 (grid0.coords t) a * S256x256.size a + (y a).val :=
  Window.rect_emb_val (cfg0.win 8) t y a rfl

theorem emb9 (t : Fin cfg0.N) (y : S8x512x128.Idx) (a : Fin 3) :
    (((cfg0.win 9).blk t).view.emb y a : ℕ) = cc0_transform_9 (grid0.coords t) a * S8x512x128.size a + (y a).val :=
  Window.rect_emb_val (cfg0.win 9) t y a rfl

theorem emb10 (t : Fin cfg0.N) (y : S1x1024x512.Idx) (a : Fin 3) :
    (((cfg0.win 10).blk t).view.emb y a : ℕ) = cc0_transform_10 (grid0.coords t) a * S1x1024x512.size a + (y a).val :=
  Window.rect_emb_val (cfg0.win 10) t y a rfl

theorem emb11 (t : Fin cfg0.N) (y : S1x1024x512.Idx) (a : Fin 3) :
    (((cfg0.win 11).blk t).view.emb y a : ℕ) = cc0_transform_11 (grid0.coords t) a * S1x1024x512.size a + (y a).val :=
  Window.rect_emb_val (cfg0.win 11) t y a rfl

theorem emb12 (t : Fin cfg0.N) (y : S1x1024x512.Idx) (a : Fin 3) :
    (((cfg0.win 12).blk t).view.emb y a : ℕ) = cc0_transform_12 (grid0.coords t) a * S1x1024x512.size a + (y a).val :=
  Window.rect_emb_val (cfg0.win 12) t y a rfl

theorem emb13 (t : Fin cfg0.N) (y : S1x1024x512.Idx) (a : Fin 3) :
    (((cfg0.win 13).blk t).view.emb y a : ℕ) = cc0_transform_13 (grid0.coords t) a * S1x1024x512.size a + (y a).val :=
  Window.rect_emb_val (cfg0.win 13) t y a rfl

section Blocks

variable (c : Dev nD) (t : Fin cfg0.N)

theorem t_lt : t.val < 64 := t.isLt

theorem blk0 (r : Fin 512) (k : Fin 1024) : b0 m c t (ix2 r k) =
    arg0 m c (ix3 ⟨(t.val * 512 + r.val) / 8192, by have := t_lt t; omega⟩ ⟨(t.val * 512 + r.val) % 8192, by omega⟩ k) := by
  have ht := t_lt t
  refine Eq.trans (congrArg (V m c (Pipeline.arrRef spec0 0)) (funext fun a => Fin.ext ?_)) (V_x m c ⟨t.val * 512 + r.val, by omega⟩ k)
  refine (emb0 t (ix2 r k) a).trans ?_
  rw [index0]
  match a with
  | 0 => rfl
  | 1 => show 0 * 1024 + k.val = k.val; omega

theorem blk1 (k : Fin 1024) : b1 m c t (ix2 0 k) = arg1 m c (ix1 k) := by
  refine Eq.trans (congrArg (V m c (Pipeline.arrRef spec0 1)) (funext fun a => Fin.ext ?_)) (V_g m c k)
  refine (emb1 t (ix2 0 k) a).trans ?_
  match a with
  | 0 => rfl
  | 1 => show 0 * 1024 + k.val = k.val; omega

theorem md_lt (r : Fin 512) : (1 + t.val / 16) * 16 + r.val / 32 < 80 := by
  have ht := t_lt t
  omega

theorem blk2 (r : Fin 512) (n : Fin 1024) : b2 m c t (ix2 ⟨r.val / 32, by omega⟩ n) =
    arg2 m c (ix2 ⟨t.val / 16, by have := t_lt t; omega⟩ ⟨n.val, by omega⟩) := by
  refine Eq.trans (congrArg (V m c (Pipeline.arrRef spec0 2)) (funext fun a => Fin.ext ?_))
    ((V_md m c ⟨_, md_lt t r⟩ ⟨n.val, by omega⟩ (by show 16 ≤ (1 + t.val / 16) * 16 + r.val / 32; omega)).trans
      (congrArg (fun z => arg2 m c (ix2 z ⟨n.val, by omega⟩)) (Fin.ext ?_)))
  · refine (emb2 t (ix2 ⟨r.val / 32, by omega⟩ n) a).trans ?_
    rw [index2]
    match a with
    | 0 => rfl
    | 1 => show 0 * 1024 + n.val = n.val; omega
  · show ((1 + t.val / 16) * 16 + r.val / 32 - 16) / 16 = t.val / 16
    omega

theorem blk3 (r : Fin 512) (n : Fin 1024) : b3 m c t (ix2 ⟨r.val / 32, by omega⟩ n) =
    arg2 m c (ix2 ⟨t.val / 16, by have := t_lt t; omega⟩ ⟨1024 + n.val, by omega⟩) := by
  refine Eq.trans (congrArg (V m c (Pipeline.arrRef spec0 2)) (funext fun a => Fin.ext ?_))
    ((V_md m c ⟨_, md_lt t r⟩ ⟨1024 + n.val, by omega⟩ (by show 16 ≤ (1 + t.val / 16) * 16 + r.val / 32; omega)).trans
      (congrArg (fun z => arg2 m c (ix2 z ⟨1024 + n.val, by omega⟩)) (Fin.ext ?_)))
  · refine (emb3 t (ix2 ⟨r.val / 32, by omega⟩ n) a).trans ?_
    rw [index3]
    match a with
    | 0 => rfl
    | 1 => show 1 * 1024 + n.val = 1024 + n.val; omega
  · show ((1 + t.val / 16) * 16 + r.val / 32 - 16) / 16 = t.val / 16
    omega

theorem blk4 (k n : Fin 1024) : b4 m c t (ix2 k n) = arg4 m c (ix2 k ⟨n.val, by omega⟩) := by
  refine Eq.trans (congrArg (V m c (Pipeline.arrRef spec0 4)) (funext fun a => Fin.ext ?_)) (V_wq m c k n)
  refine (emb4 t (ix2 k n) a).trans ?_
  match a with
  | 0 => show 0 * 1024 + k.val = k.val; omega
  | 1 => show 0 * 1024 + n.val = n.val; omega

theorem blk5 (n : Fin 2048) (k : Fin 1024) : b5 m c t (ix2 n k) = arg4 m c (ix2 k ⟨1024 + n.val, by omega⟩) := by
  refine Eq.trans (congrArg (V m c (Pipeline.arrRef spec0 5)) (funext fun a => Fin.ext ?_)) (V_wkvt m c n k)
  refine (emb5 t (ix2 n k) a).trans ?_
  match a with
  | 0 => show 0 * 2048 + n.val = n.val; omega
  | 1 => show 0 * 1024 + k.val = k.val; omega

theorem blk6 (n : Fin 1024) : b6 m c t (ix2 0 n) = arg5 m c (ix1 ⟨n.val % 64, by omega⟩) := by
  refine Eq.trans (congrArg (V m c (Pipeline.arrRef spec0 6)) (funext fun a => Fin.ext ?_)) (V_gq m c n)
  refine (emb6 t (ix2 0 n) a).trans ?_
  match a with
  | 0 => rfl
  | 1 => show 0 * 1024 + n.val = n.val; omega

theorem blk7 (n : Fin 1024) : b7 m c t (ix2 n 0) = arg6 m c (ix1 ⟨n.val % 64, by omega⟩) := by
  refine Eq.trans (congrArg (V m c (Pipeline.arrRef spec0 7)) (funext fun a => Fin.ext ?_)) (V_gk m c n)
  refine (emb7 t (ix2 n 0) a).trans ?_
  match a with
  | 0 => show 0 * 1024 + n.val = n.val; omega
  | 1 => rfl

theorem blk8 (k j : Fin 256) : b8 m c t (ix2 k j) = (V m c (Pipeline.arrRef spec0 8) : S256x256.Idx → EReal) (ix2 k j) := by
  refine congrArg (V m c (Pipeline.arrRef spec0 8)) (funext fun a => Fin.ext ?_)
  refine (emb8 t (ix2 k j) a).trans ?_
  match a with
  | 0 => show 0 * 256 + k.val = k.val; omega
  | 1 => show 0 * 256 + j.val = j.val; omega

/-- A row of the point's tile is its row of the stream, with its prompt's modulation. -/
theorem tileRow_eq (r : Fin 512) (b : Fin 4) (s : Fin 8192) (hb : b.val = t.val / 16) (hs : s.val = t.val % 16 * 512 + r.val) :
    tileRow (b0 m c t) (b1 m c t) (b2 m c t) (b3 m c t) r =
      row (fun k => arg0 m c (ix3 b s k)) (fun k => arg1 m c (ix1 k)) (fun k => arg2 m c (ix2 b k)) := by
  have ht := t_lt t
  have hsl := s.isLt
  have e : (⟨(t.val * 512 + r.val) / 8192, by omega⟩ : Fin 4) = b := Fin.ext (by show (t.val * 512 + r.val) / 8192 = b.val; omega)
  have e' : (⟨(t.val * 512 + r.val) % 8192, by omega⟩ : Fin 8192) = s := Fin.ext (by show (t.val * 512 + r.val) % 8192 = s.val; omega)
  have eb : (⟨t.val / 16, by omega⟩ : Fin 4) = b := Fin.ext hb.symm
  unfold tileRow row
  rw [show (fun k => b0 m c t (ix2 r k)) = fun k => arg0 m c (ix3 b s k) from funext fun k => (blk0 m c t r k).trans (by rw [e, e']),
    show (fun k => b1 m c t (ix2 0 k)) = fun k => arg1 m c (ix1 k) from funext fun k => blk1 m c t k,
    show (fun k => b2 m c t (ix2 ⟨r.val / 32, by omega⟩ k)) = fun n => arg2 m c (ix2 b ⟨n.val, by omega⟩) from funext fun k => (blk2 m c t r k).trans (by rw [eb]),
    show (fun k => b3 m c t (ix2 ⟨r.val / 32, by omega⟩ k)) = fun n => arg2 m c (ix2 b ⟨1024 + n.val, by omega⟩) from funext fun k => (blk3 m c t r k).trans (by rw [eb])]

theorem tileQ_eq (r : Fin 512) (n : Fin 1024) (b : Fin 4) (s : Fin 8192) (n' : Fin 3072) (hb : b.val = t.val / 16)
    (hs : s.val = t.val % 16 * 512 + r.val) (hn : n'.val = n.val) :
    tileQ (b0 m c t) (b1 m c t) (b2 m c t) (b3 m c t) (b4 m c t) r n = nOut (arg0 m c) (arg1 m c) (arg2 m c) (arg4 m c) b s n' := by
  unfold tileQ nOut proj
  rw [tileRow_eq m c t r b s hb hs]
  refine Finset.sum_congr rfl fun k _ => congrArg (_ * ·) ((blk4 m c t k n).trans ?_)
  exact congrArg (fun z => arg4 m c (ix2 k z)) (Fin.ext hn.symm)

theorem tileKV_eq (r : Fin 512) (n : Fin 2048) (b : Fin 4) (s : Fin 8192) (n' : Fin 3072) (hb : b.val = t.val / 16)
    (hs : s.val = t.val % 16 * 512 + r.val) (hn : n'.val = 1024 + n.val) :
    tileKV (b0 m c t) (b1 m c t) (b2 m c t) (b3 m c t) (b5 m c t) r n = nOut (arg0 m c) (arg1 m c) (arg2 m c) (arg4 m c) b s n' := by
  unfold tileKV nOut proj
  rw [tileRow_eq m c t r b s hb hs]
  refine Finset.sum_congr rfl fun k _ => congrArg (_ * ·) ((blk5 m c t n k).trans ?_)
  exact congrArg (fun z => arg4 m c (ix2 k z)) (Fin.ext hn.symm)

end Blocks

/-- A head normalised, of a row of queries or keys. -/
theorem heads_eq (a0 : FVec Ideal S4x8192x1024 .f32) (a1 : FVec Ideal S1024 .f32) (a2 : FVec Ideal S4x6144 .f32) (a4 : FVec Ideal S1024x3072 .f32) (g : FVec Ideal S64 .f32)
    (off : ℕ) (hoff : off ≤ 2048) (y : Fin 1024 → EReal) (b b' : Fin 4) (s s' : Fin 8192) (n n' : Fin 1024) (hb : b'.val = b.val) (hs : s'.val = s.val) (hn : n'.val = n.val)
    (h : ∀ n : Fin 1024, y n = nOut a0 a1 a2 a4 b s ⟨off + n.val, by omega⟩) :
    heads y (fun j => g (ix1 j)) n = nNorm a0 a1 a2 a4 g off hoff b' s' n' := by
  rw [show b' = b from Fin.ext hb, show s' = s from Fin.ext hs, show n' = n from Fin.ext hn]
  unfold heads nNorm
  exact congrArg (fun z => headNorm z (fun j => g (ix1 j)) ⟨n.val % 64, by omega⟩) (funext fun j => h _)

/-- The queries' array. -/
theorem final9 (c : Dev nD) (hq : ∀ (b : Fin 4) (s : Fin 8192) (n : Fin 1024), Real' (nOut (arg0 m c) (arg1 m c) (arg2 m c) (arg4 m c) b s ⟨n.val, by omega⟩))
    (hw : ∀ k j : Fin 256, (V m c (Pipeline.arrRef spec0 8) : S256x256.Idx → EReal) (ix2 k j) = if k.val / 64 = j.val / 64 then ((1 / 64 : ℝ) : EReal) else 0) :
    (dats m 0 c).arrAt 9 cfg0.N = nQ (arg0 m c) (arg1 m c) (arg2 m c) (arg4 m c) (arg5 m c) := by
  refine (dats m 0 c).arrAt_eq_of_covers 9 _ ?_ fun t hf y => ?_
  · refine Window.covers_of_indexMap_surj _ rfl (fun a => (by decide : ∀ a : Fin 3, 0 < S8x512x128.size a) a) fun β => ?_
    have hb : ∀ a : Fin 3, (β a).val < (![1, 64, 1] : Fin 3 → ℕ) a := fun a => by
      refine lt_of_lt_of_eq (β a).isLt ?_
      match a with
      | 0 => exact (by decide : (8 + 8 - 1) / 8 = 1)
      | 1 => exact (by decide : (32768 + 512 - 1) / 512 = 64)
      | 2 => exact (by decide : (128 + 128 - 1) / 128 = 1)
    obtain ⟨i, hi⟩ : ∃ i : grid0.Coords, (i 0).val = (β (⟨1, by decide⟩ : Fin 3)).val :=
      ⟨fun | ⟨0, _⟩ => ⟨_, hb 1⟩, rfl⟩
    refine ⟨i, fun a => ?_⟩
    match a with
    | ⟨0, _⟩ => exact (congrFun (index9 i) 0).trans (Nat.lt_one_iff.mp (hb 0)).symm
    | ⟨1, _⟩ => exact (congrFun (index9 i) 1).trans hi
    | ⟨2, _⟩ => exact (congrFun (index9 i) 2).trans (Nat.lt_one_iff.mp (hb 2)).symm
  · have ht := t_lt t
    refine (congrFun ((after0_9 m c t).trans ((at_9 m c t).trans (slots_eq (b0 m c t) (b1 m c t) (b2 m c t) (b3 m c t) (b4 m c t) (b5 m c t) (b6 m c t) (b7 m c t) (b8 m c t)
      (fun j => arg5 m c (ix1 j)) (fun n => blk6 m c t n)
      (fun r n => by
        rw [tileQ_eq m c t r n ⟨t.val / 16, by omega⟩ ⟨t.val % 16 * 512 + r.val, by omega⟩ ⟨n.val, by omega⟩ rfl rfl rfl]
        exact hq _ _ n)
      (fun k j => (blk8 m c t k j).trans (hw k j))))) y).trans ?_
    have h1 : (y 1).val < 512 := (y 1).isLt
    have e0 : ((((cfg0.win 9).blk t).view.emb y : S8x32768x128.Idx) 0 : ℕ) = (y 0).val :=
      (emb9 t y 0).trans (by rw [index9]; show 0 * 8 + (y 0).val = (y 0).val; omega)
    have e1 : ((((cfg0.win 9).blk t).view.emb y : S8x32768x128.Idx) 1 : ℕ) = t.val * 512 + (y 1).val :=
      (emb9 t y 1).trans (by rw [index9, ← coords_val t]; rfl)
    have e2 : ((((cfg0.win 9).blk t).view.emb y : S8x32768x128.Idx) 2 : ℕ) = (y 2).val :=
      (emb9 t y 2).trans (by rw [index9]; show 0 * 128 + (y 2).val = (y 2).val; omega)
    refine congrArg (· * Ideal.ofBits FTy.f32 0x3E000000#32) (heads_eq (arg0 m c) (arg1 m c) (arg2 m c) (arg4 m c) (arg5 m c) 0 (by omega) _
      ⟨t.val / 16, by omega⟩ _ ⟨t.val % 16 * 512 + (y 1).val, by omega⟩ _ _ _ ?_ ?_ ?_
      (fun n => tileQ_eq m c t (y 1) n ⟨t.val / 16, by omega⟩ ⟨t.val % 16 * 512 + (y 1).val, by omega⟩ _ rfl rfl (Nat.zero_add _)))
    · show ((((cfg0.win 9).blk t).view.emb y : S8x32768x128.Idx) 1 : ℕ) / 8192 = t.val / 16
      rw [e1]; omega
    · show ((((cfg0.win 9).blk t).view.emb y : S8x32768x128.Idx) 1 : ℕ) % 8192 = t.val % 16 * 512 + (y 1).val
      rw [e1]; omega
    · show ((((cfg0.win 9).blk t).view.emb y : S8x32768x128.Idx) 0 : ℕ) * 128 + ((((cfg0.win 9).blk t).view.emb y : S8x32768x128.Idx) 2 : ℕ) = (y 0).val * 128 + (y 2).val
      rw [e0, e2]

/-- The normalised keys of each prompt's last 512 positions, positions last, -/
def nKL (a0 : FVec Ideal S4x8192x1024 .f32) (a1 : FVec Ideal S1024 .f32) (a2 : FVec Ideal S4x6144 .f32) (a4 : FVec Ideal S1024x3072 .f32) (a6 : FVec Ideal S64 .f32) :
    FVec Ideal S4x1024x512 .f32 := fun i =>
  nNorm a0 a1 a2 a4 a6 1024 (by omega) (i 0) ⟨7680 + (i 2).val, by have : (i 2).val < 512 := (i 2).isLt; omega⟩ (i 1)

/-- and the values of those. -/
def nVL (a0 : FVec Ideal S4x8192x1024 .f32) (a1 : FVec Ideal S1024 .f32) (a2 : FVec Ideal S4x6144 .f32) (a4 : FVec Ideal S1024x3072 .f32) :
    FVec Ideal S4x1024x512 .f32 := fun i =>
  nOut a0 a1 a2 a4 (i 0) ⟨7680 + (i 2).val, by have : (i 2).val < 512 := (i 2).isLt; omega⟩
    ⟨2048 + (i 1).val, by have : (i 1).val < 1024 := (i 1).isLt; omega⟩

/-- Only a prompt's last point is written back to these. -/
theorem last_of_flush12 (t : Fin cfg0.N) (hf : (cfg0.win 12).flush t = true) : t.val % 16 = 15 := by
  by_contra h
  exact absurd (hf.symm.trans (noFlush0_12_A t fun hc => h ((hcond0_0 t).mp hc))) (by decide)

theorem last_of_flush13 (t : Fin cfg0.N) (hf : (cfg0.win 13).flush t = true) : t.val % 16 = 15 := by
  by_contra h
  exact absurd (hf.symm.trans (noFlush0_13_A t fun hc => h ((hcond0_0 t).mp hc))) (by decide)

theorem final10 (c : Dev nD) : (dats m 0 c).arrAt 10 cfg0.N = nKT (arg0 m c) (arg1 m c) (arg2 m c) (arg4 m c) (arg6 m c) := by
  refine (dats m 0 c).arrAt_eq_of_covers 10 _ ?_ fun t hf y => ?_
  · refine Window.covers_of_indexMap_surj _ rfl (fun a => (by decide : ∀ a : Fin 3, 0 < S1x1024x512.size a) a) fun β => ?_
    have hb : ∀ a : Fin 3, (β a).val < (![4, 1, 16] : Fin 3 → ℕ) a := fun a => by
      refine lt_of_lt_of_eq (β a).isLt ?_
      match a with
      | 0 => exact (by decide : (4 + 1 - 1) / 1 = 4)
      | 1 => exact (by decide : (1024 + 1024 - 1) / 1024 = 1)
      | 2 => exact (by decide : (8192 + 512 - 1) / 512 = 16)
    have hb0 : (β (⟨0, by decide⟩ : Fin 3)).val < 4 := hb 0
    have hb2 : (β (⟨2, by decide⟩ : Fin 3)).val < 16 := hb 2
    obtain ⟨i, hi⟩ : ∃ i : grid0.Coords, (i 0).val = (β (⟨0, by decide⟩ : Fin 3)).val * 16 + (β (⟨2, by decide⟩ : Fin 3)).val :=
      ⟨fun | ⟨0, _⟩ => ⟨(β (⟨0, by decide⟩ : Fin 3)).val * 16 + (β (⟨2, by decide⟩ : Fin 3)).val, by show _ < 64; omega⟩, rfl⟩
    refine ⟨i, fun a => ?_⟩
    match a with
    | ⟨0, _⟩ => exact (congrFun (index10 i) 0).trans (by show (i 0).val / 16 = _; rw [hi]; omega)
    | ⟨1, _⟩ => exact (congrFun (index10 i) 1).trans (Nat.lt_one_iff.mp (hb 1)).symm
    | ⟨2, _⟩ => exact (congrFun (index10 i) 2).trans (by show (i 0).val % 16 = _; rw [hi]; omega)
  · have ht := t_lt t
    have h0 : (y 0).val < 1 := (y 0).isLt
    have h2 : (y 2).val < 512 := (y 2).isLt
    have e0 : ((((cfg0.win 10).blk t).view.emb y : S4x1024x8192.Idx) 0 : ℕ) = t.val / 16 :=
      (emb10 t y 0).trans (by rw [index10, ← coords_val t]; show (grid0.coords t 0).val / 16 * 1 + (y 0).val = (grid0.coords t 0).val / 16; omega)
    have e1 : ((((cfg0.win 10).blk t).view.emb y : S4x1024x8192.Idx) 1 : ℕ) = (y 1).val :=
      (emb10 t y 1).trans (by rw [index10]; show 0 * 1024 + (y 1).val = (y 1).val; omega)
    have e2 : ((((cfg0.win 10).blk t).view.emb y : S4x1024x8192.Idx) 2 : ℕ) = t.val % 16 * 512 + (y 2).val :=
      (emb10 t y 2).trans (by rw [index10, ← coords_val t]; rfl)
    refine (congrFun ((after0_10 m c t).trans ((at_10 m c t).trans (keys_eq (b0 m c t) (b1 m c t) (b2 m c t) (b3 m c t) (b5 m c t) (b7 m c t) (fun j => arg6 m c (ix1 j)) (fun n => blk7 m c t n)))) y).trans ?_
    exact heads_eq (arg0 m c) (arg1 m c) (arg2 m c) (arg4 m c) (arg6 m c) 1024 (by omega) _ ⟨t.val / 16, by omega⟩ _ ⟨t.val % 16 * 512 + (y 2).val, by omega⟩ _ _ _ e0
      e2 e1
      (fun n => tileKV_eq m c t (y 2) ⟨n.val, by omega⟩ ⟨t.val / 16, by omega⟩ ⟨t.val % 16 * 512 + (y 2).val, by omega⟩ _ rfl rfl rfl)

theorem final11 (c : Dev nD) : (dats m 0 c).arrAt 11 cfg0.N = nVT (arg0 m c) (arg1 m c) (arg2 m c) (arg4 m c) := by
  refine (dats m 0 c).arrAt_eq_of_covers 11 _ ?_ fun t hf y => ?_
  · refine Window.covers_of_indexMap_surj _ rfl (fun a => (by decide : ∀ a : Fin 3, 0 < S1x1024x512.size a) a) fun β => ?_
    have hb : ∀ a : Fin 3, (β a).val < (![4, 1, 16] : Fin 3 → ℕ) a := fun a => by
      refine lt_of_lt_of_eq (β a).isLt ?_
      match a with
      | 0 => exact (by decide : (4 + 1 - 1) / 1 = 4)
      | 1 => exact (by decide : (1024 + 1024 - 1) / 1024 = 1)
      | 2 => exact (by decide : (8192 + 512 - 1) / 512 = 16)
    have hb0 : (β (⟨0, by decide⟩ : Fin 3)).val < 4 := hb 0
    have hb2 : (β (⟨2, by decide⟩ : Fin 3)).val < 16 := hb 2
    obtain ⟨i, hi⟩ : ∃ i : grid0.Coords, (i 0).val = (β (⟨0, by decide⟩ : Fin 3)).val * 16 + (β (⟨2, by decide⟩ : Fin 3)).val :=
      ⟨fun | ⟨0, _⟩ => ⟨(β (⟨0, by decide⟩ : Fin 3)).val * 16 + (β (⟨2, by decide⟩ : Fin 3)).val, by show _ < 64; omega⟩, rfl⟩
    refine ⟨i, fun a => ?_⟩
    match a with
    | ⟨0, _⟩ => exact (congrFun (index11 i) 0).trans (by show (i 0).val / 16 = _; rw [hi]; omega)
    | ⟨1, _⟩ => exact (congrFun (index11 i) 1).trans (Nat.lt_one_iff.mp (hb 1)).symm
    | ⟨2, _⟩ => exact (congrFun (index11 i) 2).trans (by show (i 0).val % 16 = _; rw [hi]; omega)
  · have ht := t_lt t
    have h0 : (y 0).val < 1 := (y 0).isLt
    have h2 : (y 2).val < 512 := (y 2).isLt
    have e0 : ((((cfg0.win 11).blk t).view.emb y : S4x1024x8192.Idx) 0 : ℕ) = t.val / 16 :=
      (emb11 t y 0).trans (by rw [index11, ← coords_val t]; show (grid0.coords t 0).val / 16 * 1 + (y 0).val = (grid0.coords t 0).val / 16; omega)
    have e1 : ((((cfg0.win 11).blk t).view.emb y : S4x1024x8192.Idx) 1 : ℕ) = (y 1).val :=
      (emb11 t y 1).trans (by rw [index11]; show 0 * 1024 + (y 1).val = (y 1).val; omega)
    have e2 : ((((cfg0.win 11).blk t).view.emb y : S4x1024x8192.Idx) 2 : ℕ) = t.val % 16 * 512 + (y 2).val :=
      (emb11 t y 2).trans (by rw [index11, ← coords_val t]; rfl)
    refine (congrFun ((after0_11 m c t).trans ((at_11 m c t).trans (values_eq (b0 m c t) (b1 m c t) (b2 m c t) (b3 m c t) (b5 m c t)))) y).trans ?_
    refine tileKV_eq m c t (y 2) _ _ _ _ e0 e2 ?_
    show 2048 + ((((cfg0.win 11).blk t).view.emb y : S4x1024x8192.Idx) 1 : ℕ) = 1024 + (1024 + (y 1).val)
    rw [e1]; omega

theorem final12 (c : Dev nD) : (dats m 0 c).arrAt 12 cfg0.N = nKL (arg0 m c) (arg1 m c) (arg2 m c) (arg4 m c) (arg6 m c) := by
  refine (dats m 0 c).arrAt_eq_of_covers 12 _ ?_ fun t hf y => ?_
  · refine Window.covers_of_indexMap_surj _ rfl (fun a => (by decide : ∀ a : Fin 3, 0 < S1x1024x512.size a) a) fun β => ?_
    have hb : ∀ a : Fin 3, (β a).val < (![4, 1, 1] : Fin 3 → ℕ) a := fun a => by
      refine lt_of_lt_of_eq (β a).isLt ?_
      match a with
      | 0 => exact (by decide : (4 + 1 - 1) / 1 = 4)
      | 1 => exact (by decide : (1024 + 1024 - 1) / 1024 = 1)
      | 2 => exact (by decide : (512 + 512 - 1) / 512 = 1)
    have hb0 : (β (⟨0, by decide⟩ : Fin 3)).val < 4 := hb 0
    obtain ⟨i, hi⟩ : ∃ i : grid0.Coords, (i 0).val = (β (⟨0, by decide⟩ : Fin 3)).val * 16 :=
      ⟨fun | ⟨0, _⟩ => ⟨(β (⟨0, by decide⟩ : Fin 3)).val * 16, by show _ < 64; omega⟩, rfl⟩
    refine ⟨i, fun a => ?_⟩
    match a with
    | ⟨0, _⟩ => exact (congrFun (index12 i) 0).trans (by show (i 0).val / 16 = _; rw [hi]; omega)
    | ⟨1, _⟩ => exact (congrFun (index12 i) 1).trans (Nat.lt_one_iff.mp (hb 1)).symm
    | ⟨2, _⟩ => exact (congrFun (index12 i) 2).trans (Nat.lt_one_iff.mp (hb 2)).symm
  · have hl := last_of_flush12 t hf
    have ht := t_lt t
    have h0 : (y 0).val < 1 := (y 0).isLt
    have h2 : (y 2).val < 512 := (y 2).isLt
    have e0 : ((((cfg0.win 12).blk t).view.emb y : S4x1024x512.Idx) 0 : ℕ) = t.val / 16 :=
      (emb12 t y 0).trans (by rw [index12, ← coords_val t]; show (grid0.coords t 0).val / 16 * 1 + (y 0).val = (grid0.coords t 0).val / 16; omega)
    have e1 : ((((cfg0.win 12).blk t).view.emb y : S4x1024x512.Idx) 1 : ℕ) = (y 1).val :=
      (emb12 t y 1).trans (by rw [index12]; show 0 * 1024 + (y 1).val = (y 1).val; omega)
    have e2 : ((((cfg0.win 12).blk t).view.emb y : S4x1024x512.Idx) 2 : ℕ) = (y 2).val :=
      (emb12 t y 2).trans (by rw [index12]; show 0 * 512 + (y 2).val = (y 2).val; omega)
    refine (congrFun ((after0_12 m c t).trans ((at_12 m c t hl).trans (keysF_eq (b0 m c t) (b1 m c t) (b2 m c t) (b3 m c t) (b5 m c t) (b7 m c t) (fun j => arg6 m c (ix1 j)) (fun n => blk7 m c t n)))) y).trans ?_
    exact heads_eq (arg0 m c) (arg1 m c) (arg2 m c) (arg4 m c) (arg6 m c) 1024 (by omega) _ ⟨t.val / 16, by omega⟩ _ ⟨t.val % 16 * 512 + (y 2).val, by omega⟩ _ _ _ e0
      (by show 7680 + ((((cfg0.win 12).blk t).view.emb y : S4x1024x512.Idx) 2 : ℕ) = t.val % 16 * 512 + (y 2).val; rw [e2]; omega) e1
      (fun n => tileKV_eq m c t (y 2) ⟨n.val, by omega⟩ ⟨t.val / 16, by omega⟩ ⟨t.val % 16 * 512 + (y 2).val, by omega⟩ _ rfl rfl rfl)

theorem final13 (c : Dev nD) : (dats m 0 c).arrAt 13 cfg0.N = nVL (arg0 m c) (arg1 m c) (arg2 m c) (arg4 m c) := by
  refine (dats m 0 c).arrAt_eq_of_covers 13 _ ?_ fun t hf y => ?_
  · refine Window.covers_of_indexMap_surj _ rfl (fun a => (by decide : ∀ a : Fin 3, 0 < S1x1024x512.size a) a) fun β => ?_
    have hb : ∀ a : Fin 3, (β a).val < (![4, 1, 1] : Fin 3 → ℕ) a := fun a => by
      refine lt_of_lt_of_eq (β a).isLt ?_
      match a with
      | 0 => exact (by decide : (4 + 1 - 1) / 1 = 4)
      | 1 => exact (by decide : (1024 + 1024 - 1) / 1024 = 1)
      | 2 => exact (by decide : (512 + 512 - 1) / 512 = 1)
    have hb0 : (β (⟨0, by decide⟩ : Fin 3)).val < 4 := hb 0
    obtain ⟨i, hi⟩ : ∃ i : grid0.Coords, (i 0).val = (β (⟨0, by decide⟩ : Fin 3)).val * 16 :=
      ⟨fun | ⟨0, _⟩ => ⟨(β (⟨0, by decide⟩ : Fin 3)).val * 16, by show _ < 64; omega⟩, rfl⟩
    refine ⟨i, fun a => ?_⟩
    match a with
    | ⟨0, _⟩ => exact (congrFun (index13 i) 0).trans (by show (i 0).val / 16 = _; rw [hi]; omega)
    | ⟨1, _⟩ => exact (congrFun (index13 i) 1).trans (Nat.lt_one_iff.mp (hb 1)).symm
    | ⟨2, _⟩ => exact (congrFun (index13 i) 2).trans (Nat.lt_one_iff.mp (hb 2)).symm
  · have hl := last_of_flush13 t hf
    have ht := t_lt t
    have h0 : (y 0).val < 1 := (y 0).isLt
    have h2 : (y 2).val < 512 := (y 2).isLt
    have e0 : ((((cfg0.win 13).blk t).view.emb y : S4x1024x512.Idx) 0 : ℕ) = t.val / 16 :=
      (emb13 t y 0).trans (by rw [index13, ← coords_val t]; show (grid0.coords t 0).val / 16 * 1 + (y 0).val = (grid0.coords t 0).val / 16; omega)
    have e1 : ((((cfg0.win 13).blk t).view.emb y : S4x1024x512.Idx) 1 : ℕ) = (y 1).val :=
      (emb13 t y 1).trans (by rw [index13]; show 0 * 1024 + (y 1).val = (y 1).val; omega)
    have e2 : ((((cfg0.win 13).blk t).view.emb y : S4x1024x512.Idx) 2 : ℕ) = (y 2).val :=
      (emb13 t y 2).trans (by rw [index13]; show 0 * 512 + (y 2).val = (y 2).val; omega)
    refine (congrFun ((after0_13 m c t).trans ((at_13 m c t hl).trans (valuesF_eq (b0 m c t) (b1 m c t) (b2 m c t) (b3 m c t) (b5 m c t)))) y).trans ?_
    refine tileKV_eq m c t (y 2) _ _ _ _ e0 (by show 7680 + ((((cfg0.win 13).blk t).view.emb y : S4x1024x512.Idx) 2 : ℕ) = t.val % 16 * 512 + (y 2).val; rw [e2]; omega) ?_
    show 2048 + ((((cfg0.win 13).blk t).view.emb y : S4x1024x512.Idx) 1 : ℕ) = 1024 + (1024 + (y 1).val)
    rw [e1]; omega

end Cert.ProjectNormIdeal.Value
-- ==== Proof.ProjectNormTable.lean ====
/- The table of the heads that the first layer's projection kernel is given: 1/64 where row and column are of one head, else nothing. -/
module

public import proofs.«01_k».proof.Proof.Gen.ProjectNormIdeal.Frame

@[expose] public section

set_option maxRecDepth 16384

noncomputable section

namespace Cert.ProjectNormIdeal.Value

open Cert.ProjectNormIdeal

/-- The table's rows of head 0, in halves of a row, by the number of the half. -/
def half0 (y i : Nat) : BitVec 16 := match y with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | 16 => lit0t0_16 i
  | 17 => lit0t0_17 i
  | 18 => lit0t0_18 i
  | 19 => lit0t0_19 i
  | 20 => lit0t0_20 i
  | 21 => lit0t0_21 i
  | 22 => lit0t0_22 i
  | 23 => lit0t0_23 i
  | 24 => lit0t0_24 i
  | 25 => lit0t0_25 i
  | 26 => lit0t0_26 i
  | 27 => lit0t0_27 i
  | 28 => lit0t0_28 i
  | 29 => lit0t0_29 i
  | 30 => lit0t0_30 i
  | 31 => lit0t0_31 i
  | 32 => lit0t0_32 i
  | 33 => lit0t0_33 i
  | 34 => lit0t0_34 i
  | 35 => lit0t0_35 i
  | 36 => lit0t0_36 i
  | 37 => lit0t0_37 i
  | 38 => lit0t0_38 i
  | 39 => lit0t0_39 i
  | 40 => lit0t0_40 i
  | 41 => lit0t0_41 i
  | 42 => lit0t0_42 i
  | 43 => lit0t0_43 i
  | 44 => lit0t0_44 i
  | 45 => lit0t0_45 i
  | 46 => lit0t0_46 i
  | 47 => lit0t0_47 i
  | 48 => lit0t0_48 i
  | 49 => lit0t0_49 i
  | 50 => lit0t0_50 i
  | 51 => lit0t0_51 i
  | 52 => lit0t0_52 i
  | 53 => lit0t0_53 i
  | 54 => lit0t0_54 i
  | 55 => lit0t0_55 i
  | 56 => lit0t0_56 i
  | 57 => lit0t0_57 i
  | 58 => lit0t0_58 i
  | 59 => lit0t0_59 i
  | 60 => lit0t0_60 i
  | 61 => lit0t0_61 i
  | 62 => lit0t0_62 i
  | 63 => lit0t0_63 i
  | 64 => lit0t0_64 i
  | 65 => lit0t0_65 i
  | 66 => lit0t0_66 i
  | 67 => lit0t0_67 i
  | 68 => lit0t0_68 i
  | 69 => lit0t0_69 i
  | 70 => lit0t0_70 i
  | 71 => lit0t0_71 i
  | 72 => lit0t0_72 i
  | 73 => lit0t0_73 i
  | 74 => lit0t0_74 i
  | 75 => lit0t0_75 i
  | 76 => lit0t0_76 i
  | 77 => lit0t0_77 i
  | 78 => lit0t0_78 i
  | 79 => lit0t0_79 i
  | 80 => lit0t0_80 i
  | 81 => lit0t0_81 i
  | 82 => lit0t0_82 i
  | 83 => lit0t0_83 i
  | 84 => lit0t0_84 i
  | 85 => lit0t0_85 i
  | 86 => lit0t0_86 i
  | 87 => lit0t0_87 i
  | 88 => lit0t0_88 i
  | 89 => lit0t0_89 i
  | 90 => lit0t0_90 i
  | 91 => lit0t0_91 i
  | 92 => lit0t0_92 i
  | 93 => lit0t0_93 i
  | 94 => lit0t0_94 i
  | 95 => lit0t0_95 i
  | 96 => lit0t0_96 i
  | 97 => lit0t0_97 i
  | 98 => lit0t0_98 i
  | 99 => lit0t0_99 i
  | 100 => lit0t0_100 i
  | 101 => lit0t0_101 i
  | 102 => lit0t0_102 i
  | 103 => lit0t0_103 i
  | 104 => lit0t0_104 i
  | 105 => lit0t0_105 i
  | 106 => lit0t0_106 i
  | 107 => lit0t0_107 i
  | 108 => lit0t0_108 i
  | 109 => lit0t0_109 i
  | 110 => lit0t0_110 i
  | 111 => lit0t0_111 i
  | 112 => lit0t0_112 i
  | 113 => lit0t0_113 i
  | 114 => lit0t0_114 i
  | 115 => lit0t0_115 i
  | 116 => lit0t0_116 i
  | 117 => lit0t0_117 i
  | 118 => lit0t0_118 i
  | 119 => lit0t0_119 i
  | 120 => lit0t0_120 i
  | 121 => lit0t0_121 i
  | 122 => lit0t0_122 i
  | 123 => lit0t0_123 i
  | 124 => lit0t0_124 i
  | 125 => lit0t0_125 i
  | 126 => lit0t0_126 i
  | 127 => lit0t0_127 i
  | _ => 0#16

theorem half0_eq (i : Nat) : ∀ y : Nat, y < 128 → half0 y i = if y % 2 = 0 then lit0t0_0 i else lit0t0_1 i
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | 16, _ => rfl
  | 17, _ => rfl
  | 18, _ => rfl
  | 19, _ => rfl
  | 20, _ => rfl
  | 21, _ => rfl
  | 22, _ => rfl
  | 23, _ => rfl
  | 24, _ => rfl
  | 25, _ => rfl
  | 26, _ => rfl
  | 27, _ => rfl
  | 28, _ => rfl
  | 29, _ => rfl
  | 30, _ => rfl
  | 31, _ => rfl
  | 32, _ => rfl
  | 33, _ => rfl
  | 34, _ => rfl
  | 35, _ => rfl
  | 36, _ => rfl
  | 37, _ => rfl
  | 38, _ => rfl
  | 39, _ => rfl
  | 40, _ => rfl
  | 41, _ => rfl
  | 42, _ => rfl
  | 43, _ => rfl
  | 44, _ => rfl
  | 45, _ => rfl
  | 46, _ => rfl
  | 47, _ => rfl
  | 48, _ => rfl
  | 49, _ => rfl
  | 50, _ => rfl
  | 51, _ => rfl
  | 52, _ => rfl
  | 53, _ => rfl
  | 54, _ => rfl
  | 55, _ => rfl
  | 56, _ => rfl
  | 57, _ => rfl
  | 58, _ => rfl
  | 59, _ => rfl
  | 60, _ => rfl
  | 61, _ => rfl
  | 62, _ => rfl
  | 63, _ => rfl
  | 64, _ => rfl
  | 65, _ => rfl
  | 66, _ => rfl
  | 67, _ => rfl
  | 68, _ => rfl
  | 69, _ => rfl
  | 70, _ => rfl
  | 71, _ => rfl
  | 72, _ => rfl
  | 73, _ => rfl
  | 74, _ => rfl
  | 75, _ => rfl
  | 76, _ => rfl
  | 77, _ => rfl
  | 78, _ => rfl
  | 79, _ => rfl
  | 80, _ => rfl
  | 81, _ => rfl
  | 82, _ => rfl
  | 83, _ => rfl
  | 84, _ => rfl
  | 85, _ => rfl
  | 86, _ => rfl
  | 87, _ => rfl
  | 88, _ => rfl
  | 89, _ => rfl
  | 90, _ => rfl
  | 91, _ => rfl
  | 92, _ => rfl
  | 93, _ => rfl
  | 94, _ => rfl
  | 95, _ => rfl
  | 96, _ => rfl
  | 97, _ => rfl
  | 98, _ => rfl
  | 99, _ => rfl
  | 100, _ => rfl
  | 101, _ => rfl
  | 102, _ => rfl
  | 103, _ => rfl
  | 104, _ => rfl
  | 105, _ => rfl
  | 106, _ => rfl
  | 107, _ => rfl
  | 108, _ => rfl
  | 109, _ => rfl
  | 110, _ => rfl
  | 111, _ => rfl
  | 112, _ => rfl
  | 113, _ => rfl
  | 114, _ => rfl
  | 115, _ => rfl
  | 116, _ => rfl
  | 117, _ => rfl
  | 118, _ => rfl
  | 119, _ => rfl
  | 120, _ => rfl
  | 121, _ => rfl
  | 122, _ => rfl
  | 123, _ => rfl
  | 124, _ => rfl
  | 125, _ => rfl
  | 126, _ => rfl
  | 127, _ => rfl
  | y + 128, h => absurd h (by omega)

theorem level0 (i : Nat) : lit0t1_0 i = half0 (i / 128 % 128) i := rfl

theorem leaf0_0 : ∀ z : Fin 128, lit0t0_0 z.val = if 0 = 0 + z.val / 64 then 0x3C80#16 else 0x0000#16 := by
  decide +kernel

theorem mod0_0 (i : Nat) : lit0t0_0 i = lit0t0_0 (i % 128) := by
  unfold lit0t0_0
  rw [Nat.mod_mod]

theorem leaf0_1 : ∀ z : Fin 128, lit0t0_1 z.val = if 0 = 2 + z.val / 64 then 0x3C80#16 else 0x0000#16 := by
  decide +kernel

theorem mod0_1 (i : Nat) : lit0t0_1 i = lit0t0_1 (i % 128) := by
  unfold lit0t0_1
  rw [Nat.mod_mod]

theorem rows0 (a b : Fin 256) (h : a.val / 64 = 0) : lit0t (a.val * 256 + b.val) = if 0 = b.val / 64 then 0x3C80#16 else 0x0000#16 := by
  have hx : (a.val * 256 + b.val) / 16384 = 0 := by omega
  have e : lit0t (a.val * 256 + b.val) = lit0t1_0 (a.val * 256 + b.val) := by
    unfold lit0t
    rw [hx]
    rfl
  rw [e, level0, half0_eq _ _ (by omega)]
  by_cases hb : b.val < 128
  · rw [if_pos (by omega), mod0_0, show (a.val * 256 + b.val) % 128 = b.val by omega, leaf0_0 ⟨b.val, hb⟩]
    exact if_congr (by show 0 = 0 + b.val / 64 ↔ 0 = b.val / 64; omega) rfl rfl
  · rw [if_neg (by omega), mod0_1, show (a.val * 256 + b.val) % 128 = b.val - 128 by omega, leaf0_1 ⟨b.val - 128, by omega⟩]
    exact if_congr (by show 0 = 2 + (b.val - 128) / 64 ↔ 0 = b.val / 64; omega) rfl rfl

/-- The table's rows of head 1, in halves of a row, by the number of the half. -/
def half1 (y i : Nat) : BitVec 16 := match y with
  | 0 => lit0t0_128 i
  | 1 => lit0t0_129 i
  | 2 => lit0t0_130 i
  | 3 => lit0t0_131 i
  | 4 => lit0t0_132 i
  | 5 => lit0t0_133 i
  | 6 => lit0t0_134 i
  | 7 => lit0t0_135 i
  | 8 => lit0t0_136 i
  | 9 => lit0t0_137 i
  | 10 => lit0t0_138 i
  | 11 => lit0t0_139 i
  | 12 => lit0t0_140 i
  | 13 => lit0t0_141 i
  | 14 => lit0t0_142 i
  | 15 => lit0t0_143 i
  | 16 => lit0t0_144 i
  | 17 => lit0t0_145 i
  | 18 => lit0t0_146 i
  | 19 => lit0t0_147 i
  | 20 => lit0t0_148 i
  | 21 => lit0t0_149 i
  | 22 => lit0t0_150 i
  | 23 => lit0t0_151 i
  | 24 => lit0t0_152 i
  | 25 => lit0t0_153 i
  | 26 => lit0t0_154 i
  | 27 => lit0t0_155 i
  | 28 => lit0t0_156 i
  | 29 => lit0t0_157 i
  | 30 => lit0t0_158 i
  | 31 => lit0t0_159 i
  | 32 => lit0t0_160 i
  | 33 => lit0t0_161 i
  | 34 => lit0t0_162 i
  | 35 => lit0t0_163 i
  | 36 => lit0t0_164 i
  | 37 => lit0t0_165 i
  | 38 => lit0t0_166 i
  | 39 => lit0t0_167 i
  | 40 => lit0t0_168 i
  | 41 => lit0t0_169 i
  | 42 => lit0t0_170 i
  | 43 => lit0t0_171 i
  | 44 => lit0t0_172 i
  | 45 => lit0t0_173 i
  | 46 => lit0t0_174 i
  | 47 => lit0t0_175 i
  | 48 => lit0t0_176 i
  | 49 => lit0t0_177 i
  | 50 => lit0t0_178 i
  | 51 => lit0t0_179 i
  | 52 => lit0t0_180 i
  | 53 => lit0t0_181 i
  | 54 => lit0t0_182 i
  | 55 => lit0t0_183 i
  | 56 => lit0t0_184 i
  | 57 => lit0t0_185 i
  | 58 => lit0t0_186 i
  | 59 => lit0t0_187 i
  | 60 => lit0t0_188 i
  | 61 => lit0t0_189 i
  | 62 => lit0t0_190 i
  | 63 => lit0t0_191 i
  | 64 => lit0t0_192 i
  | 65 => lit0t0_193 i
  | 66 => lit0t0_194 i
  | 67 => lit0t0_195 i
  | 68 => lit0t0_196 i
  | 69 => lit0t0_197 i
  | 70 => lit0t0_198 i
  | 71 => lit0t0_199 i
  | 72 => lit0t0_200 i
  | 73 => lit0t0_201 i
  | 74 => lit0t0_202 i
  | 75 => lit0t0_203 i
  | 76 => lit0t0_204 i
  | 77 => lit0t0_205 i
  | 78 => lit0t0_206 i
  | 79 => lit0t0_207 i
  | 80 => lit0t0_208 i
  | 81 => lit0t0_209 i
  | 82 => lit0t0_210 i
  | 83 => lit0t0_211 i
  | 84 => lit0t0_212 i
  | 85 => lit0t0_213 i
  | 86 => lit0t0_214 i
  | 87 => lit0t0_215 i
  | 88 => lit0t0_216 i
  | 89 => lit0t0_217 i
  | 90 => lit0t0_218 i
  | 91 => lit0t0_219 i
  | 92 => lit0t0_220 i
  | 93 => lit0t0_221 i
  | 94 => lit0t0_222 i
  | 95 => lit0t0_223 i
  | 96 => lit0t0_224 i
  | 97 => lit0t0_225 i
  | 98 => lit0t0_226 i
  | 99 => lit0t0_227 i
  | 100 => lit0t0_228 i
  | 101 => lit0t0_229 i
  | 102 => lit0t0_230 i
  | 103 => lit0t0_231 i
  | 104 => lit0t0_232 i
  | 105 => lit0t0_233 i
  | 106 => lit0t0_234 i
  | 107 => lit0t0_235 i
  | 108 => lit0t0_236 i
  | 109 => lit0t0_237 i
  | 110 => lit0t0_238 i
  | 111 => lit0t0_239 i
  | 112 => lit0t0_240 i
  | 113 => lit0t0_241 i
  | 114 => lit0t0_242 i
  | 115 => lit0t0_243 i
  | 116 => lit0t0_244 i
  | 117 => lit0t0_245 i
  | 118 => lit0t0_246 i
  | 119 => lit0t0_247 i
  | 120 => lit0t0_248 i
  | 121 => lit0t0_249 i
  | 122 => lit0t0_250 i
  | 123 => lit0t0_251 i
  | 124 => lit0t0_252 i
  | 125 => lit0t0_253 i
  | 126 => lit0t0_254 i
  | 127 => lit0t0_255 i
  | _ => 0#16

theorem half1_eq (i : Nat) : ∀ y : Nat, y < 128 → half1 y i = if y % 2 = 0 then lit0t0_128 i else lit0t0_129 i
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | 16, _ => rfl
  | 17, _ => rfl
  | 18, _ => rfl
  | 19, _ => rfl
  | 20, _ => rfl
  | 21, _ => rfl
  | 22, _ => rfl
  | 23, _ => rfl
  | 24, _ => rfl
  | 25, _ => rfl
  | 26, _ => rfl
  | 27, _ => rfl
  | 28, _ => rfl
  | 29, _ => rfl
  | 30, _ => rfl
  | 31, _ => rfl
  | 32, _ => rfl
  | 33, _ => rfl
  | 34, _ => rfl
  | 35, _ => rfl
  | 36, _ => rfl
  | 37, _ => rfl
  | 38, _ => rfl
  | 39, _ => rfl
  | 40, _ => rfl
  | 41, _ => rfl
  | 42, _ => rfl
  | 43, _ => rfl
  | 44, _ => rfl
  | 45, _ => rfl
  | 46, _ => rfl
  | 47, _ => rfl
  | 48, _ => rfl
  | 49, _ => rfl
  | 50, _ => rfl
  | 51, _ => rfl
  | 52, _ => rfl
  | 53, _ => rfl
  | 54, _ => rfl
  | 55, _ => rfl
  | 56, _ => rfl
  | 57, _ => rfl
  | 58, _ => rfl
  | 59, _ => rfl
  | 60, _ => rfl
  | 61, _ => rfl
  | 62, _ => rfl
  | 63, _ => rfl
  | 64, _ => rfl
  | 65, _ => rfl
  | 66, _ => rfl
  | 67, _ => rfl
  | 68, _ => rfl
  | 69, _ => rfl
  | 70, _ => rfl
  | 71, _ => rfl
  | 72, _ => rfl
  | 73, _ => rfl
  | 74, _ => rfl
  | 75, _ => rfl
  | 76, _ => rfl
  | 77, _ => rfl
  | 78, _ => rfl
  | 79, _ => rfl
  | 80, _ => rfl
  | 81, _ => rfl
  | 82, _ => rfl
  | 83, _ => rfl
  | 84, _ => rfl
  | 85, _ => rfl
  | 86, _ => rfl
  | 87, _ => rfl
  | 88, _ => rfl
  | 89, _ => rfl
  | 90, _ => rfl
  | 91, _ => rfl
  | 92, _ => rfl
  | 93, _ => rfl
  | 94, _ => rfl
  | 95, _ => rfl
  | 96, _ => rfl
  | 97, _ => rfl
  | 98, _ => rfl
  | 99, _ => rfl
  | 100, _ => rfl
  | 101, _ => rfl
  | 102, _ => rfl
  | 103, _ => rfl
  | 104, _ => rfl
  | 105, _ => rfl
  | 106, _ => rfl
  | 107, _ => rfl
  | 108, _ => rfl
  | 109, _ => rfl
  | 110, _ => rfl
  | 111, _ => rfl
  | 112, _ => rfl
  | 113, _ => rfl
  | 114, _ => rfl
  | 115, _ => rfl
  | 116, _ => rfl
  | 117, _ => rfl
  | 118, _ => rfl
  | 119, _ => rfl
  | 120, _ => rfl
  | 121, _ => rfl
  | 122, _ => rfl
  | 123, _ => rfl
  | 124, _ => rfl
  | 125, _ => rfl
  | 126, _ => rfl
  | 127, _ => rfl
  | y + 128, h => absurd h (by omega)

theorem level1 (i : Nat) : lit0t1_1 i = half1 (i / 128 % 128) i := rfl

theorem leaf1_0 : ∀ z : Fin 128, lit0t0_128 z.val = if 1 = 0 + z.val / 64 then 0x3C80#16 else 0x0000#16 := by
  decide +kernel

theorem mod1_0 (i : Nat) : lit0t0_128 i = lit0t0_128 (i % 128) := by
  unfold lit0t0_128
  rw [Nat.mod_mod]

theorem leaf1_1 : ∀ z : Fin 128, lit0t0_129 z.val = if 1 = 2 + z.val / 64 then 0x3C80#16 else 0x0000#16 := by
  decide +kernel

theorem mod1_1 (i : Nat) : lit0t0_129 i = lit0t0_129 (i % 128) := by
  unfold lit0t0_129
  rw [Nat.mod_mod]

theorem rows1 (a b : Fin 256) (h : a.val / 64 = 1) : lit0t (a.val * 256 + b.val) = if 1 = b.val / 64 then 0x3C80#16 else 0x0000#16 := by
  have hx : (a.val * 256 + b.val) / 16384 = 1 := by omega
  have e : lit0t (a.val * 256 + b.val) = lit0t1_1 (a.val * 256 + b.val) := by
    unfold lit0t
    rw [hx]
    rfl
  rw [e, level1, half1_eq _ _ (by omega)]
  by_cases hb : b.val < 128
  · rw [if_pos (by omega), mod1_0, show (a.val * 256 + b.val) % 128 = b.val by omega, leaf1_0 ⟨b.val, hb⟩]
    exact if_congr (by show 1 = 0 + b.val / 64 ↔ 1 = b.val / 64; omega) rfl rfl
  · rw [if_neg (by omega), mod1_1, show (a.val * 256 + b.val) % 128 = b.val - 128 by omega, leaf1_1 ⟨b.val - 128, by omega⟩]
    exact if_congr (by show 1 = 2 + (b.val - 128) / 64 ↔ 1 = b.val / 64; omega) rfl rfl

/-- The table's rows of head 2, in halves of a row, by the number of the half. -/
def half2 (y i : Nat) : BitVec 16 := match y with
  | 0 => lit0t0_256 i
  | 1 => lit0t0_257 i
  | 2 => lit0t0_258 i
  | 3 => lit0t0_259 i
  | 4 => lit0t0_260 i
  | 5 => lit0t0_261 i
  | 6 => lit0t0_262 i
  | 7 => lit0t0_263 i
  | 8 => lit0t0_264 i
  | 9 => lit0t0_265 i
  | 10 => lit0t0_266 i
  | 11 => lit0t0_267 i
  | 12 => lit0t0_268 i
  | 13 => lit0t0_269 i
  | 14 => lit0t0_270 i
  | 15 => lit0t0_271 i
  | 16 => lit0t0_272 i
  | 17 => lit0t0_273 i
  | 18 => lit0t0_274 i
  | 19 => lit0t0_275 i
  | 20 => lit0t0_276 i
  | 21 => lit0t0_277 i
  | 22 => lit0t0_278 i
  | 23 => lit0t0_279 i
  | 24 => lit0t0_280 i
  | 25 => lit0t0_281 i
  | 26 => lit0t0_282 i
  | 27 => lit0t0_283 i
  | 28 => lit0t0_284 i
  | 29 => lit0t0_285 i
  | 30 => lit0t0_286 i
  | 31 => lit0t0_287 i
  | 32 => lit0t0_288 i
  | 33 => lit0t0_289 i
  | 34 => lit0t0_290 i
  | 35 => lit0t0_291 i
  | 36 => lit0t0_292 i
  | 37 => lit0t0_293 i
  | 38 => lit0t0_294 i
  | 39 => lit0t0_295 i
  | 40 => lit0t0_296 i
  | 41 => lit0t0_297 i
  | 42 => lit0t0_298 i
  | 43 => lit0t0_299 i
  | 44 => lit0t0_300 i
  | 45 => lit0t0_301 i
  | 46 => lit0t0_302 i
  | 47 => lit0t0_303 i
  | 48 => lit0t0_304 i
  | 49 => lit0t0_305 i
  | 50 => lit0t0_306 i
  | 51 => lit0t0_307 i
  | 52 => lit0t0_308 i
  | 53 => lit0t0_309 i
  | 54 => lit0t0_310 i
  | 55 => lit0t0_311 i
  | 56 => lit0t0_312 i
  | 57 => lit0t0_313 i
  | 58 => lit0t0_314 i
  | 59 => lit0t0_315 i
  | 60 => lit0t0_316 i
  | 61 => lit0t0_317 i
  | 62 => lit0t0_318 i
  | 63 => lit0t0_319 i
  | 64 => lit0t0_320 i
  | 65 => lit0t0_321 i
  | 66 => lit0t0_322 i
  | 67 => lit0t0_323 i
  | 68 => lit0t0_324 i
  | 69 => lit0t0_325 i
  | 70 => lit0t0_326 i
  | 71 => lit0t0_327 i
  | 72 => lit0t0_328 i
  | 73 => lit0t0_329 i
  | 74 => lit0t0_330 i
  | 75 => lit0t0_331 i
  | 76 => lit0t0_332 i
  | 77 => lit0t0_333 i
  | 78 => lit0t0_334 i
  | 79 => lit0t0_335 i
  | 80 => lit0t0_336 i
  | 81 => lit0t0_337 i
  | 82 => lit0t0_338 i
  | 83 => lit0t0_339 i
  | 84 => lit0t0_340 i
  | 85 => lit0t0_341 i
  | 86 => lit0t0_342 i
  | 87 => lit0t0_343 i
  | 88 => lit0t0_344 i
  | 89 => lit0t0_345 i
  | 90 => lit0t0_346 i
  | 91 => lit0t0_347 i
  | 92 => lit0t0_348 i
  | 93 => lit0t0_349 i
  | 94 => lit0t0_350 i
  | 95 => lit0t0_351 i
  | 96 => lit0t0_352 i
  | 97 => lit0t0_353 i
  | 98 => lit0t0_354 i
  | 99 => lit0t0_355 i
  | 100 => lit0t0_356 i
  | 101 => lit0t0_357 i
  | 102 => lit0t0_358 i
  | 103 => lit0t0_359 i
  | 104 => lit0t0_360 i
  | 105 => lit0t0_361 i
  | 106 => lit0t0_362 i
  | 107 => lit0t0_363 i
  | 108 => lit0t0_364 i
  | 109 => lit0t0_365 i
  | 110 => lit0t0_366 i
  | 111 => lit0t0_367 i
  | 112 => lit0t0_368 i
  | 113 => lit0t0_369 i
  | 114 => lit0t0_370 i
  | 115 => lit0t0_371 i
  | 116 => lit0t0_372 i
  | 117 => lit0t0_373 i
  | 118 => lit0t0_374 i
  | 119 => lit0t0_375 i
  | 120 => lit0t0_376 i
  | 121 => lit0t0_377 i
  | 122 => lit0t0_378 i
  | 123 => lit0t0_379 i
  | 124 => lit0t0_380 i
  | 125 => lit0t0_381 i
  | 126 => lit0t0_382 i
  | 127 => lit0t0_383 i
  | _ => 0#16

theorem half2_eq (i : Nat) : ∀ y : Nat, y < 128 → half2 y i = if y % 2 = 0 then lit0t0_256 i else lit0t0_257 i
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | 16, _ => rfl
  | 17, _ => rfl
  | 18, _ => rfl
  | 19, _ => rfl
  | 20, _ => rfl
  | 21, _ => rfl
  | 22, _ => rfl
  | 23, _ => rfl
  | 24, _ => rfl
  | 25, _ => rfl
  | 26, _ => rfl
  | 27, _ => rfl
  | 28, _ => rfl
  | 29, _ => rfl
  | 30, _ => rfl
  | 31, _ => rfl
  | 32, _ => rfl
  | 33, _ => rfl
  | 34, _ => rfl
  | 35, _ => rfl
  | 36, _ => rfl
  | 37, _ => rfl
  | 38, _ => rfl
  | 39, _ => rfl
  | 40, _ => rfl
  | 41, _ => rfl
  | 42, _ => rfl
  | 43, _ => rfl
  | 44, _ => rfl
  | 45, _ => rfl
  | 46, _ => rfl
  | 47, _ => rfl
  | 48, _ => rfl
  | 49, _ => rfl
  | 50, _ => rfl
  | 51, _ => rfl
  | 52, _ => rfl
  | 53, _ => rfl
  | 54, _ => rfl
  | 55, _ => rfl
  | 56, _ => rfl
  | 57, _ => rfl
  | 58, _ => rfl
  | 59, _ => rfl
  | 60, _ => rfl
  | 61, _ => rfl
  | 62, _ => rfl
  | 63, _ => rfl
  | 64, _ => rfl
  | 65, _ => rfl
  | 66, _ => rfl
  | 67, _ => rfl
  | 68, _ => rfl
  | 69, _ => rfl
  | 70, _ => rfl
  | 71, _ => rfl
  | 72, _ => rfl
  | 73, _ => rfl
  | 74, _ => rfl
  | 75, _ => rfl
  | 76, _ => rfl
  | 77, _ => rfl
  | 78, _ => rfl
  | 79, _ => rfl
  | 80, _ => rfl
  | 81, _ => rfl
  | 82, _ => rfl
  | 83, _ => rfl
  | 84, _ => rfl
  | 85, _ => rfl
  | 86, _ => rfl
  | 87, _ => rfl
  | 88, _ => rfl
  | 89, _ => rfl
  | 90, _ => rfl
  | 91, _ => rfl
  | 92, _ => rfl
  | 93, _ => rfl
  | 94, _ => rfl
  | 95, _ => rfl
  | 96, _ => rfl
  | 97, _ => rfl
  | 98, _ => rfl
  | 99, _ => rfl
  | 100, _ => rfl
  | 101, _ => rfl
  | 102, _ => rfl
  | 103, _ => rfl
  | 104, _ => rfl
  | 105, _ => rfl
  | 106, _ => rfl
  | 107, _ => rfl
  | 108, _ => rfl
  | 109, _ => rfl
  | 110, _ => rfl
  | 111, _ => rfl
  | 112, _ => rfl
  | 113, _ => rfl
  | 114, _ => rfl
  | 115, _ => rfl
  | 116, _ => rfl
  | 117, _ => rfl
  | 118, _ => rfl
  | 119, _ => rfl
  | 120, _ => rfl
  | 121, _ => rfl
  | 122, _ => rfl
  | 123, _ => rfl
  | 124, _ => rfl
  | 125, _ => rfl
  | 126, _ => rfl
  | 127, _ => rfl
  | y + 128, h => absurd h (by omega)

theorem level2 (i : Nat) : lit0t1_2 i = half2 (i / 128 % 128) i := rfl

theorem leaf2_0 : ∀ z : Fin 128, lit0t0_256 z.val = if 2 = 0 + z.val / 64 then 0x3C80#16 else 0x0000#16 := by
  decide +kernel

theorem mod2_0 (i : Nat) : lit0t0_256 i = lit0t0_256 (i % 128) := by
  unfold lit0t0_256
  rw [Nat.mod_mod]

theorem leaf2_1 : ∀ z : Fin 128, lit0t0_257 z.val = if 2 = 2 + z.val / 64 then 0x3C80#16 else 0x0000#16 := by
  decide +kernel

theorem mod2_1 (i : Nat) : lit0t0_257 i = lit0t0_257 (i % 128) := by
  unfold lit0t0_257
  rw [Nat.mod_mod]

theorem rows2 (a b : Fin 256) (h : a.val / 64 = 2) : lit0t (a.val * 256 + b.val) = if 2 = b.val / 64 then 0x3C80#16 else 0x0000#16 := by
  have hx : (a.val * 256 + b.val) / 16384 = 2 := by omega
  have e : lit0t (a.val * 256 + b.val) = lit0t1_2 (a.val * 256 + b.val) := by
    unfold lit0t
    rw [hx]
    rfl
  rw [e, level2, half2_eq _ _ (by omega)]
  by_cases hb : b.val < 128
  · rw [if_pos (by omega), mod2_0, show (a.val * 256 + b.val) % 128 = b.val by omega, leaf2_0 ⟨b.val, hb⟩]
    exact if_congr (by show 2 = 0 + b.val / 64 ↔ 2 = b.val / 64; omega) rfl rfl
  · rw [if_neg (by omega), mod2_1, show (a.val * 256 + b.val) % 128 = b.val - 128 by omega, leaf2_1 ⟨b.val - 128, by omega⟩]
    exact if_congr (by show 2 = 2 + (b.val - 128) / 64 ↔ 2 = b.val / 64; omega) rfl rfl

/-- The table's rows of head 3, in halves of a row, by the number of the half. -/
def half3 (y i : Nat) : BitVec 16 := match y with
  | 0 => lit0t0_384 i
  | 1 => lit0t0_385 i
  | 2 => lit0t0_386 i
  | 3 => lit0t0_387 i
  | 4 => lit0t0_388 i
  | 5 => lit0t0_389 i
  | 6 => lit0t0_390 i
  | 7 => lit0t0_391 i
  | 8 => lit0t0_392 i
  | 9 => lit0t0_393 i
  | 10 => lit0t0_394 i
  | 11 => lit0t0_395 i
  | 12 => lit0t0_396 i
  | 13 => lit0t0_397 i
  | 14 => lit0t0_398 i
  | 15 => lit0t0_399 i
  | 16 => lit0t0_400 i
  | 17 => lit0t0_401 i
  | 18 => lit0t0_402 i
  | 19 => lit0t0_403 i
  | 20 => lit0t0_404 i
  | 21 => lit0t0_405 i
  | 22 => lit0t0_406 i
  | 23 => lit0t0_407 i
  | 24 => lit0t0_408 i
  | 25 => lit0t0_409 i
  | 26 => lit0t0_410 i
  | 27 => lit0t0_411 i
  | 28 => lit0t0_412 i
  | 29 => lit0t0_413 i
  | 30 => lit0t0_414 i
  | 31 => lit0t0_415 i
  | 32 => lit0t0_416 i
  | 33 => lit0t0_417 i
  | 34 => lit0t0_418 i
  | 35 => lit0t0_419 i
  | 36 => lit0t0_420 i
  | 37 => lit0t0_421 i
  | 38 => lit0t0_422 i
  | 39 => lit0t0_423 i
  | 40 => lit0t0_424 i
  | 41 => lit0t0_425 i
  | 42 => lit0t0_426 i
  | 43 => lit0t0_427 i
  | 44 => lit0t0_428 i
  | 45 => lit0t0_429 i
  | 46 => lit0t0_430 i
  | 47 => lit0t0_431 i
  | 48 => lit0t0_432 i
  | 49 => lit0t0_433 i
  | 50 => lit0t0_434 i
  | 51 => lit0t0_435 i
  | 52 => lit0t0_436 i
  | 53 => lit0t0_437 i
  | 54 => lit0t0_438 i
  | 55 => lit0t0_439 i
  | 56 => lit0t0_440 i
  | 57 => lit0t0_441 i
  | 58 => lit0t0_442 i
  | 59 => lit0t0_443 i
  | 60 => lit0t0_444 i
  | 61 => lit0t0_445 i
  | 62 => lit0t0_446 i
  | 63 => lit0t0_447 i
  | 64 => lit0t0_448 i
  | 65 => lit0t0_449 i
  | 66 => lit0t0_450 i
  | 67 => lit0t0_451 i
  | 68 => lit0t0_452 i
  | 69 => lit0t0_453 i
  | 70 => lit0t0_454 i
  | 71 => lit0t0_455 i
  | 72 => lit0t0_456 i
  | 73 => lit0t0_457 i
  | 74 => lit0t0_458 i
  | 75 => lit0t0_459 i
  | 76 => lit0t0_460 i
  | 77 => lit0t0_461 i
  | 78 => lit0t0_462 i
  | 79 => lit0t0_463 i
  | 80 => lit0t0_464 i
  | 81 => lit0t0_465 i
  | 82 => lit0t0_466 i
  | 83 => lit0t0_467 i
  | 84 => lit0t0_468 i
  | 85 => lit0t0_469 i
  | 86 => lit0t0_470 i
  | 87 => lit0t0_471 i
  | 88 => lit0t0_472 i
  | 89 => lit0t0_473 i
  | 90 => lit0t0_474 i
  | 91 => lit0t0_475 i
  | 92 => lit0t0_476 i
  | 93 => lit0t0_477 i
  | 94 => lit0t0_478 i
  | 95 => lit0t0_479 i
  | 96 => lit0t0_480 i
  | 97 => lit0t0_481 i
  | 98 => lit0t0_482 i
  | 99 => lit0t0_483 i
  | 100 => lit0t0_484 i
  | 101 => lit0t0_485 i
  | 102 => lit0t0_486 i
  | 103 => lit0t0_487 i
  | 104 => lit0t0_488 i
  | 105 => lit0t0_489 i
  | 106 => lit0t0_490 i
  | 107 => lit0t0_491 i
  | 108 => lit0t0_492 i
  | 109 => lit0t0_493 i
  | 110 => lit0t0_494 i
  | 111 => lit0t0_495 i
  | 112 => lit0t0_496 i
  | 113 => lit0t0_497 i
  | 114 => lit0t0_498 i
  | 115 => lit0t0_499 i
  | 116 => lit0t0_500 i
  | 117 => lit0t0_501 i
  | 118 => lit0t0_502 i
  | 119 => lit0t0_503 i
  | 120 => lit0t0_504 i
  | 121 => lit0t0_505 i
  | 122 => lit0t0_506 i
  | 123 => lit0t0_507 i
  | 124 => lit0t0_508 i
  | 125 => lit0t0_509 i
  | 126 => lit0t0_510 i
  | 127 => lit0t0_511 i
  | _ => 0#16

theorem half3_eq (i : Nat) : ∀ y : Nat, y < 128 → half3 y i = if y % 2 = 0 then lit0t0_384 i else lit0t0_385 i
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | 16, _ => rfl
  | 17, _ => rfl
  | 18, _ => rfl
  | 19, _ => rfl
  | 20, _ => rfl
  | 21, _ => rfl
  | 22, _ => rfl
  | 23, _ => rfl
  | 24, _ => rfl
  | 25, _ => rfl
  | 26, _ => rfl
  | 27, _ => rfl
  | 28, _ => rfl
  | 29, _ => rfl
  | 30, _ => rfl
  | 31, _ => rfl
  | 32, _ => rfl
  | 33, _ => rfl
  | 34, _ => rfl
  | 35, _ => rfl
  | 36, _ => rfl
  | 37, _ => rfl
  | 38, _ => rfl
  | 39, _ => rfl
  | 40, _ => rfl
  | 41, _ => rfl
  | 42, _ => rfl
  | 43, _ => rfl
  | 44, _ => rfl
  | 45, _ => rfl
  | 46, _ => rfl
  | 47, _ => rfl
  | 48, _ => rfl
  | 49, _ => rfl
  | 50, _ => rfl
  | 51, _ => rfl
  | 52, _ => rfl
  | 53, _ => rfl
  | 54, _ => rfl
  | 55, _ => rfl
  | 56, _ => rfl
  | 57, _ => rfl
  | 58, _ => rfl
  | 59, _ => rfl
  | 60, _ => rfl
  | 61, _ => rfl
  | 62, _ => rfl
  | 63, _ => rfl
  | 64, _ => rfl
  | 65, _ => rfl
  | 66, _ => rfl
  | 67, _ => rfl
  | 68, _ => rfl
  | 69, _ => rfl
  | 70, _ => rfl
  | 71, _ => rfl
  | 72, _ => rfl
  | 73, _ => rfl
  | 74, _ => rfl
  | 75, _ => rfl
  | 76, _ => rfl
  | 77, _ => rfl
  | 78, _ => rfl
  | 79, _ => rfl
  | 80, _ => rfl
  | 81, _ => rfl
  | 82, _ => rfl
  | 83, _ => rfl
  | 84, _ => rfl
  | 85, _ => rfl
  | 86, _ => rfl
  | 87, _ => rfl
  | 88, _ => rfl
  | 89, _ => rfl
  | 90, _ => rfl
  | 91, _ => rfl
  | 92, _ => rfl
  | 93, _ => rfl
  | 94, _ => rfl
  | 95, _ => rfl
  | 96, _ => rfl
  | 97, _ => rfl
  | 98, _ => rfl
  | 99, _ => rfl
  | 100, _ => rfl
  | 101, _ => rfl
  | 102, _ => rfl
  | 103, _ => rfl
  | 104, _ => rfl
  | 105, _ => rfl
  | 106, _ => rfl
  | 107, _ => rfl
  | 108, _ => rfl
  | 109, _ => rfl
  | 110, _ => rfl
  | 111, _ => rfl
  | 112, _ => rfl
  | 113, _ => rfl
  | 114, _ => rfl
  | 115, _ => rfl
  | 116, _ => rfl
  | 117, _ => rfl
  | 118, _ => rfl
  | 119, _ => rfl
  | 120, _ => rfl
  | 121, _ => rfl
  | 122, _ => rfl
  | 123, _ => rfl
  | 124, _ => rfl
  | 125, _ => rfl
  | 126, _ => rfl
  | 127, _ => rfl
  | y + 128, h => absurd h (by omega)

theorem level3 (i : Nat) : lit0t1_3 i = half3 (i / 128 % 128) i := rfl

theorem leaf3_0 : ∀ z : Fin 128, lit0t0_384 z.val = if 3 = 0 + z.val / 64 then 0x3C80#16 else 0x0000#16 := by
  decide +kernel

theorem mod3_0 (i : Nat) : lit0t0_384 i = lit0t0_384 (i % 128) := by
  unfold lit0t0_384
  rw [Nat.mod_mod]

theorem leaf3_1 : ∀ z : Fin 128, lit0t0_385 z.val = if 3 = 2 + z.val / 64 then 0x3C80#16 else 0x0000#16 := by
  decide +kernel

theorem mod3_1 (i : Nat) : lit0t0_385 i = lit0t0_385 (i % 128) := by
  unfold lit0t0_385
  rw [Nat.mod_mod]

theorem rows3 (a b : Fin 256) (h : a.val / 64 = 3) : lit0t (a.val * 256 + b.val) = if 3 = b.val / 64 then 0x3C80#16 else 0x0000#16 := by
  have hx : (a.val * 256 + b.val) / 16384 = 3 := by omega
  have e : lit0t (a.val * 256 + b.val) = lit0t1_3 (a.val * 256 + b.val) := by
    unfold lit0t
    rw [hx]
    rfl
  rw [e, level3, half3_eq _ _ (by omega)]
  by_cases hb : b.val < 128
  · rw [if_pos (by omega), mod3_0, show (a.val * 256 + b.val) % 128 = b.val by omega, leaf3_0 ⟨b.val, hb⟩]
    exact if_congr (by show 3 = 0 + b.val / 64 ↔ 3 = b.val / 64; omega) rfl rfl
  · rw [if_neg (by omega), mod3_1, show (a.val * 256 + b.val) % 128 = b.val - 128 by omega, leaf3_1 ⟨b.val - 128, by omega⟩]
    exact if_congr (by show 3 = 2 + (b.val - 128) / 64 ↔ 3 = b.val / 64; omega) rfl rfl

/-- The whole table. -/
theorem table (a b : Fin 256) : lit0t (a.val * 256 + b.val) = if a.val / 64 = b.val / 64 then 0x3C80#16 else 0x0000#16 := by
  have h : a.val / 64 = 0 ∨ a.val / 64 = 1 ∨ a.val / 64 = 2 ∨ a.val / 64 = 3 := by omega
  rcases h with h | h | h | h
  · rw [rows0 a b h, h]
  · rw [rows1 a b h, h]
  · rw [rows2 a b h, h]
  · rw [rows3 a b h, h]

end Cert.ProjectNormIdeal.Value
-- ==== Proof.ProjectNormClaims.lean ====
/- The claim about the first layer's projection kernel of the prompts: its five results are its reference's where the queries are finite. -/
module

public import proofs.«01_k».proof.Defs
public import proofs.«01_k».proof.Proof.Gen.Pre_queries_finite
public import proofs.«01_k».proof.Proof.ProjectNormValue
public import proofs.«01_k».proof.Proof.ProjectNormTable
public import Idealize.ShloMosaic.Lib.Claim

@[expose] public section

set_option maxRecDepth 16384

noncomputable section

namespace Cert.ProjectNormIdeal.Value

open Idealize.ShloMosaic Idealize.ShloMosaic.TcCoe Idealize.SL.Sem
open Cert.ProjectNormIdeal Cert.ProjectNormIdeal.Gen
open Idealize.ShloMosaic.Pointwise

/-- Keys or values turned from positions last to position by position and head by head. -/
def turned (X : FVec Ideal S4x1024x512 .f32) : FVec Ideal S1x4x512x16x64 .f32 :=
  broadcastInDim S1x4x512x16x64 ![1, 2, 3, 4] bcast_S4x512x16x64_S1x4x512x16x64_1_2_3_4
    (transpose S4x512x16x64 [0, 3, 1, 2] (shapeCast S4x16x64x512 X shapeCasts_S4x1024x512_S4x16x64x512) transposes_S4x16x64x512_S4x512x16x64_0_3_1_2)

theorem turned_apply (X : FVec Ideal S4x1024x512 .f32) (a : Fin 1) (b : Fin 4) (s : Fin 512) (h : Fin 16) (d : Fin 64) :
    turned X (ix5 a b s h d) = X (ix3 b ⟨h.val * 64 + d.val, by omega⟩ s) := by
  pointwise [turned]

theorem turned_keys (a0 : FVec Ideal S4x8192x1024 .f32) (a1 : FVec Ideal S1024 .f32) (a2 : FVec Ideal S4x6144 .f32) (a4 : FVec Ideal S1024x3072 .f32) (a6 : FVec Ideal S64 .f32) :
    turned (nKL a0 a1 a2 a4 a6) = nK a0 a1 a2 a4 a6 := by
  funext i
  rw [eq_ix5 (n0 := 1) (n1 := 4) (n2 := 512) (n3 := 16) (n4 := 64) i]
  exact turned_apply _ _ _ _ _ _

theorem turned_values (a0 : FVec Ideal S4x8192x1024 .f32) (a1 : FVec Ideal S1024 .f32) (a2 : FVec Ideal S4x6144 .f32) (a4 : FVec Ideal S1024x3072 .f32) :
    turned (nVL a0 a1 a2 a4) = nV a0 a1 a2 a4 := by
  funext i
  rw [eq_ix5 (n0 := 1) (n1 := 4) (n2 := 512) (n3 := 16) (n4 := 64) i]
  exact turned_apply _ _ _ _ _ _

variable (m : (ℓ : Loc nD τ sig) → Buf (Elt Ideal) ℓ) (c : Dev nD)

theorem tail_main_v21 (W : Valuation τ sig (Elt Ideal)) : StableHlo.after hostOps1 W (Proc.tc.devRef main_v21) = turned (W (Proc.tc.devRef main_v18_3)) := by
  simp only [hostOps1]
  after_results
  rfl

theorem tail_main_v24 (W : Valuation τ sig (Elt Ideal)) : StableHlo.after hostOps1 W (Proc.tc.devRef main_v24) = turned (W (Proc.tc.devRef main_v18_4)) := by
  simp only [hostOps1]
  after_results
  rfl

theorem exit12 : Pipeline.withArrays spec0 c (V0 m c) (fun w => (dats m 0 c).arrAt w cfg0.N) (Proc.tc.devRef main_v18_3) = (dats m 0 c).arrAt 12 cfg0.N :=
  Pipeline.withArrays_arr_shared spec0 c (V0 m c) (fun w => (dats m 0 c).arrAt w cfg0.N)
    ((dats m 0 c).arrAt_sharedIn sharedIn0 (V0 m c) (A_eq m c) cfg0.N) 12

theorem exit13 : Pipeline.withArrays spec0 c (V0 m c) (fun w => (dats m 0 c).arrAt w cfg0.N) (Proc.tc.devRef main_v18_4) = (dats m 0 c).arrAt 13 cfg0.N :=
  Pipeline.withArrays_arr_shared spec0 c (V0 m c) (fun w => (dats m 0 c).arrAt w cfg0.N)
    ((dats m 0 c).arrAt_sharedIn sharedIn0 (V0 m c) (A_eq m c) cfg0.N) 13

/-- The keys, position by position; -/
theorem last21 : Pipeline.afterTail₀ cfgs (dats m) 0 (V0 m) [hostOps1] c main_v21 = nK (arg0 m c) (arg1 m c) (arg2 m c) (arg4 m c) (arg6 m c) :=
  (tail_main_v21 _).trans ((congrArg turned ((exit12 m c).trans (final12 m c))).trans (turned_keys _ _ _ _ _))

/-- and the values. -/
theorem last24 : Pipeline.afterTail₀ cfgs (dats m) 0 (V0 m) [hostOps1] c main_v24 = nV (arg0 m c) (arg1 m c) (arg2 m c) (arg4 m c) :=
  (tail_main_v24 _).trans ((congrArg turned ((exit13 m c).trans (final13 m c))).trans (turned_values _ _ _ _))

/-- The table of the heads, as the kernel is given it. -/
theorem V_table (k j : Fin 256) : (V m c (Pipeline.arrRef spec0 8) : S256x256.Idx → EReal) (ix2 k j) =
    if k.val / 64 = j.val / 64 then ((1 / 64 : ℝ) : EReal) else 0 := by
  have e : (V m c (Pipeline.arrRef spec0 8) : S256x256.Idx → EReal) (ix2 k j) = Ideal.ofBits FTy.bf16 (lit0t (k.val * 256 + j.val)) := by
    show StableHlo.after hostOps0 (fun b => m (c, b)) (Proc.tc.devRef (Pipeline.arrRef spec0 8)) (ix2 k j) = _
    simp only [hostOps0]
    entry_read
    exact congrArg (fun z => Ideal.ofBits FTy.bf16 (lit0t z)) (Shape.rowMajor_val_two (d := ![256, 256]) (ix2 k j))
  rw [e, table]
  split
  · exact bits_64th
  · exact bits_0

end Cert.ProjectNormIdeal.Value

namespace Cert.Proof.ProjectNorm

open Idealize.ShloMosaic Idealize.ShloMosaic.TcCoe Idealize.SL.Sem
open Idealize.ShloMosaic.Pointwise
open Cert.ProjectNormIdeal.Value

/-- A number whose magnitude is below the format's infinity is real. -/
theorem real_of (x : EReal) (h : Ideal.cmp .olt (max x (-x)) (Ideal.ofBits FTy.f32 0x7F800000#32) = 1#1) : Real' x := by
  rw [bits_top] at h
  refine Real'.of_abs ?_
  have e : BitVec.ofBool (decide (max x (-x) < ⊤)) = 1#1 := h
  by_contra hn
  rw [decide_eq_false hn] at e
  exact absurd e (by decide)

/-- Where the precondition is one everywhere, the queries' projection is real. -/
theorem queries_real (a0 a1 a2 a3 a4 a5 a6)
    (h : (Cert.Pre_queries_finite.fn (F := Ideal) a0 a1 a2 a3 a4 a5 a6).1 = (fun _ => 1#1)
      ∧ (Cert.Pre_queries_finite.fn (F := Ideal) a0 a1 a2 a3 a4 a5 a6).2.1 = (fun _ => 1#1)
      ∧ (Cert.Pre_queries_finite.fn (F := Ideal) a0 a1 a2 a3 a4 a5 a6).2.2.1 = (fun _ => 1#1)
      ∧ (Cert.Pre_queries_finite.fn (F := Ideal) a0 a1 a2 a3 a4 a5 a6).2.2.2 = (fun _ => 1#1))
    (b : Fin 4) (s : Fin 8192) (n : Fin 1024) : Real' (nOut a0 a1 a2 a4 b s ⟨n.val, by omega⟩) := by
  obtain ⟨h0, h1, h2, h3⟩ := h
  refine Real'.proj (Real'.row (fun k => ?_) (fun k => ?_) (fun k => ?_)) (fun k => ?_)
  · exact real_of _ (congrFun h0 (ix3 b s k))
  · exact real_of _ (congrFun h1 (ix1 k))
  · refine real_of _ ((Eq.symm ?_).trans (congrFun h2 (ix2 b k)))
    unfold Cert.Pre_queries_finite.fn
    pointwise []
    rfl
  · refine real_of _ ((Eq.symm ?_).trans (congrFun h3 (ix2 k n)))
    unfold Cert.Pre_queries_finite.fn
    pointwise []
    rfl

theorem real_of_pre (m : (ℓ : Loc Cert.ProjectNormIdeal.nD Cert.ProjectNormIdeal.τ Cert.ProjectNormIdeal.sig) → Buf (Elt Ideal) ℓ) (h : Cert.Pre_ProjectNormIdeal_queries_finite m) (c : Dev Cert.ProjectNormIdeal.nD)
    (b : Fin 4) (s : Fin 8192) (n : Fin 1024) : Real' (nOut (arg0 m c) (arg1 m c) (arg2 m c) (arg4 m c) b s ⟨n.val, by omega⟩) :=
  queries_real _ _ _ _ _ _ _ (h c) b s n

/-- The kernel runs to its five results. -/
theorem kernel_run (m : (ℓ : Loc Cert.ProjectNormIdeal.nD Cert.ProjectNormIdeal.τ Cert.ProjectNormIdeal.sig) → Buf (Elt Ideal) ℓ) (g) (h : Cert.Pre_ProjectNormIdeal_queries_finite m) :
    θ_run Cert.ProjectNormIdeal.defs (onTc (τ := Cert.ProjectNormIdeal.τ) Cert.ProjectNormIdeal.main) ⟨m, fun _ => 0, g⟩ fun r =>
      ∀ c : Dev Cert.ProjectNormIdeal.nD,
        r.2.mem ((c.tc : Thread Cert.ProjectNormIdeal.nD Cert.ProjectNormIdeal.τ).loc Cert.ProjectNormIdeal.main_v18_0) = nQ (arg0 m c) (arg1 m c) (arg2 m c) (arg4 m c) (arg5 m c)
        ∧ r.2.mem ((c.tc : Thread Cert.ProjectNormIdeal.nD Cert.ProjectNormIdeal.τ).loc Cert.ProjectNormIdeal.main_v18_1) = nKT (arg0 m c) (arg1 m c) (arg2 m c) (arg4 m c) (arg6 m c)
        ∧ r.2.mem ((c.tc : Thread Cert.ProjectNormIdeal.nD Cert.ProjectNormIdeal.τ).loc Cert.ProjectNormIdeal.main_v18_2) = nVT (arg0 m c) (arg1 m c) (arg2 m c) (arg4 m c)
        ∧ r.2.mem ((c.tc : Thread Cert.ProjectNormIdeal.nD Cert.ProjectNormIdeal.τ).loc Cert.ProjectNormIdeal.main_v21) = nK (arg0 m c) (arg1 m c) (arg2 m c) (arg4 m c) (arg6 m c)
        ∧ r.2.mem ((c.tc : Thread Cert.ProjectNormIdeal.nD Cert.ProjectNormIdeal.τ).loc Cert.ProjectNormIdeal.main_v24) = nV (arg0 m c) (arg1 m c) (arg2 m c) (arg4 m c) :=
  (θ_run Cert.ProjectNormIdeal.defs _ _).mono (fun _ hr c => ⟨((hr c).1 9).trans (final9 m c (real_of_pre m h c) (V_table m c)), ((hr c).1 10).trans (final10 m c),
    ((hr c).1 11).trans (final11 m c),
    ((hr c).2 Cert.ProjectNormIdeal.main_v21 (Pipeline.mem_restRefs_of Cert.ProjectNormIdeal.main_v21 (by decide) (by decide))).trans (last21 m c),
    ((hr c).2 Cert.ProjectNormIdeal.main_v24 (Pipeline.mem_restRefs_of Cert.ProjectNormIdeal.main_v24 (by decide) (by decide))).trans (last24 m c)⟩)
    (Cert.ProjectNormIdeal.Gen.run_main m g)

theorem algebraic : Cert.algebraic_ProjectNormIdeal_ProjectNormReferenceIdeal_pre_queries_finite := by
  intro m g m' g' hpre hagree
  refine ⟨fun c => nQ (arg0 m c) (arg1 m c) (arg2 m c) (arg4 m c) (arg5 m c), fun c => nKT (arg0 m c) (arg1 m c) (arg2 m c) (arg4 m c) (arg6 m c), fun c => nVT (arg0 m c) (arg1 m c) (arg2 m c) (arg4 m c), fun c => nK (arg0 m c) (arg1 m c) (arg2 m c) (arg4 m c) (arg6 m c), fun c => nV (arg0 m c) (arg1 m c) (arg2 m c) (arg4 m c), ?_, ?_⟩
  · exact (θ_run Cert.ProjectNormIdeal.defs _ _).mono (fun r h c => ⟨(h.1 c).1, (h.1 c).2.1, (h.1 c).2.2.1, (h.1 c).2.2.2.1, (h.1 c).2.2.2.2, h.2 c⟩)
      (θ_run_and (kernel_run m g hpre) (Cert.ProjectNormIdeal.Gen.unchanged m g))
  · refine (θ_run Cert.ProjectNormReferenceIdeal.defs _ _).mono (fun r h c => ⟨(h c).1.trans ?_, (h c).2.1.trans ?_, (h c).2.2.1.trans ?_,
      (h c).2.2.2.1.trans ?_, (h c).2.2.2.2.1.trans ?_, (h c).2.2.2.2.2⟩) (Cert.ProjectNormReferenceIdeal.Value.run m' g')
    · obtain ⟨h0, h1, h2, _, h4, h5, h6⟩ := hagree c
      unfold Cert.ProjectNormReferenceIdeal.Value.res_main_v64
      rw [h0, h1, h2, h4, h5]
      exact nQ_eq _ _ _ _ _
    · obtain ⟨h0, h1, h2, _, h4, h5, h6⟩ := hagree c
      unfold Cert.ProjectNormReferenceIdeal.Value.res_main_v67
      rw [h0, h1, h2, h4, h6]
      exact nKT_eq _ _ _ _ _
    · obtain ⟨h0, h1, h2, _, h4, h5, h6⟩ := hagree c
      rw [h0, h1, h2, h4]
      exact nVT_eq _ _ _ _
    · obtain ⟨h0, h1, h2, _, h4, h5, h6⟩ := hagree c
      unfold Cert.ProjectNormReferenceIdeal.Value.res_main_v72
      rw [h0, h1, h2, h4, h6]
      exact nK_eq _ _ _ _ _
    · obtain ⟨h0, h1, h2, _, h4, h5, h6⟩ := hagree c
      rw [h0, h1, h2, h4]
      exact nV_eq _ _ _ _

end Cert.Proof.ProjectNorm
-- ==== Proof.lean ====
/- The certificate: the frames of all programs, and the values of the expert, dense and projection kernels. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Dense.Frame
public import proofs.«01_k».proof.Proof.Gen.DenseIdeal.Frame
public import proofs.«01_k».proof.Proof.Gen.DenseReferenceIdeal.Run
public import proofs.«01_k».proof.Proof.Gen.Project.Frame
public import proofs.«01_k».proof.Proof.Gen.ProjectIdeal.Frame
public import proofs.«01_k».proof.Proof.Gen.ProjectReferenceIdeal.Run
public import proofs.«01_k».proof.Proof.Gen.ProjectSample.Frame
public import proofs.«01_k».proof.Proof.Gen.ProjectSampleIdeal.Frame
public import proofs.«01_k».proof.Proof.Gen.ProjectSampleReferenceIdeal.Run
public import proofs.«01_k».proof.Proof.Gen.ProjectNorm.Frame
public import proofs.«01_k».proof.Proof.Gen.ProjectNormIdeal.Frame
public import proofs.«01_k».proof.Proof.Gen.ProjectNormReferenceIdeal.Run
public import proofs.«01_k».proof.Proof.Gen.Pre_queries_finite
public import proofs.«01_k».proof.Proof.ExpertClaims
public import proofs.«01_k».proof.Proof.DenseClaims
public import proofs.«01_k».proof.Proof.ProjectClaims
public import proofs.«01_k».proof.Proof.ProjectSampleClaims
public import proofs.«01_k».proof.Proof.ProjectNormClaims
public import Idealize.ShloMosaic.Adequacy
public import Idealize.ShloMosaic.Init

@[expose] public section

noncomputable section

namespace Cert.Proof

open Idealize.ShloMosaic Idealize.ShloMosaic.TcCoe Idealize.SL.Sem

theorem band_frame_bits : Cert.quiescent_Kernel := fun m g _ => Cert.Kernel.Gen.frame m g

theorem band_frame_ideal : Cert.quiescent_KernelIdeal := fun m g _ => Cert.KernelIdeal.Gen.frame m g

theorem band_frame_reference : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

theorem dense_frame_bits : Cert.quiescent_Dense := fun m g _ => Cert.Dense.Gen.frame m g

theorem dense_frame_ideal : Cert.quiescent_DenseIdeal := fun m g _ => Cert.DenseIdeal.Gen.frame m g

theorem dense_frame_reference : Cert.quiescent_DenseReferenceIdeal := fun m g _ =>
  (θ_run Cert.DenseReferenceIdeal.defs _ _).mono
    (fun r h => ⟨fun c => (h c).2.2.2.2, sem_eq_zero_of_no_sems (by decide) r.2⟩) (Cert.DenseReferenceIdeal.Value.run m g)

theorem project_frame_bits : Cert.quiescent_Project := fun m g _ => Cert.Project.Gen.frame m g

theorem project_frame_ideal : Cert.quiescent_ProjectIdeal := fun m g _ => Cert.ProjectIdeal.Gen.frame m g

theorem project_frame_reference : Cert.quiescent_ProjectReferenceIdeal := fun m g _ =>
  (θ_run Cert.ProjectReferenceIdeal.defs _ _).mono
    (fun r h => ⟨fun c => (h c).2.2.2.2.2, sem_eq_zero_of_no_sems (by decide) r.2⟩) (Cert.ProjectReferenceIdeal.Value.run m g)

theorem project_sample_frame_bits : Cert.quiescent_ProjectSample := fun m g _ => Cert.ProjectSample.Gen.frame m g

theorem project_sample_frame_ideal : Cert.quiescent_ProjectSampleIdeal := fun m g _ => Cert.ProjectSampleIdeal.Gen.frame m g

theorem project_sample_frame_reference : Cert.quiescent_ProjectSampleReferenceIdeal := fun m g _ =>
  (θ_run Cert.ProjectSampleReferenceIdeal.defs _ _).mono
    (fun r h => ⟨fun c => (h c).2.2.2.2, sem_eq_zero_of_no_sems (by decide) r.2⟩) (Cert.ProjectSampleReferenceIdeal.Value.run m g)

theorem project_norm_frame_bits : Cert.quiescent_ProjectNorm := fun m g _ => Cert.ProjectNorm.Gen.frame m g

theorem project_norm_frame_ideal : Cert.quiescent_ProjectNormIdeal := fun m g _ => Cert.ProjectNormIdeal.Gen.frame m g

theorem project_norm_frame_ideal_pre : Cert.quiescent_ProjectNormIdeal_pre_queries_finite := fun m g _ => Cert.ProjectNormIdeal.Gen.frame m g

theorem project_norm_frame_reference : Cert.quiescent_ProjectNormReferenceIdeal := fun m g _ =>
  (θ_run Cert.ProjectNormReferenceIdeal.defs _ _).mono
    (fun r h => ⟨fun c => (h c).2.2.2.2.2, sem_eq_zero_of_no_sems (by decide) r.2⟩) (Cert.ProjectNormReferenceIdeal.Value.run m g)

theorem project_norm_frame_reference_pre : Cert.quiescent_ProjectNormReferenceIdeal_pre_queries_finite := fun m g _ =>
  project_norm_frame_reference m g trivial

theorem claim : Cert.Claim :=
  ⟨Cert.Kernel.Gen.facts, Cert.KernelIdeal.Gen.facts, Cert.ReferenceIdeal.Gen.facts, Cert.Expert.Gen.facts,
    Cert.ExpertIdeal.Gen.facts, Cert.ExpertReferenceIdeal.Gen.facts, Cert.Dense.Gen.facts, Cert.DenseIdeal.Gen.facts,
    Cert.DenseReferenceIdeal.Gen.facts, Cert.Project.Gen.facts, Cert.ProjectIdeal.Gen.facts, Cert.ProjectReferenceIdeal.Gen.facts,
    Cert.ProjectSample.Gen.facts, Cert.ProjectSampleIdeal.Gen.facts, Cert.ProjectSampleReferenceIdeal.Gen.facts,
    Cert.ProjectNorm.Gen.facts, Cert.ProjectNormIdeal.Gen.facts, Cert.ProjectNormReferenceIdeal.Gen.facts,
    Cert.Pre_experts_in_range.Gen.facts, Cert.Pre_queries_finite.Gen.facts,
    band_frame_bits, band_frame_ideal, band_frame_reference,
    Expert.frame_bits, Expert.frame_ideal, Expert.frame_reference, Expert.frame_reference_pre,
    dense_frame_bits, dense_frame_ideal, dense_frame_reference,
    project_frame_bits, project_frame_ideal, project_frame_reference,
    project_sample_frame_bits, project_sample_frame_ideal, project_sample_frame_reference,
    project_norm_frame_bits, project_norm_frame_ideal, project_norm_frame_ideal_pre, project_norm_frame_reference, project_norm_frame_reference_pre,
    trivial, trivial, Expert.algebraic, trivial, Dense.algebraic, trivial, Project.algebraic, trivial, ProjectSample.algebraic,
    trivial, ProjectNorm.algebraic⟩

end Cert.Proof

end
